-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Half (m : (ℓ : Loc Cert.Half.nD Cert.Half.τ Cert.Half.sig) → Buf (Elt Bits) ℓ) : Prop :=
  True

def Pre_HalfIdeal (m : (ℓ : Loc Cert.HalfIdeal.nD Cert.HalfIdeal.τ Cert.HalfIdeal.sig) → Buf (Elt Ideal) ℓ) : Prop :=
  True

def Pre_HalfReferenceIdeal (m : (ℓ : Loc Cert.HalfReferenceIdeal.nD Cert.HalfReferenceIdeal.τ Cert.HalfReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5))
      ∧ r.2.sem = fun _ => 0)

def quiescent_Half [hHalf : Cert.Half.Facts] : Prop :=
  ∀ (m : (ℓ : Loc Cert.Half.nD Cert.Half.τ Cert.Half.sig) → Buf (Elt Bits) ℓ) (g : Dev Cert.Half.nD → PrngReg), Pre_Half m →
    θ_run (Cert.Half.defs (F := Bits)) (onTc (τ := Cert.Half.τ) (Cert.Half.main (F := Bits))) ⟨m, fun _ => 0, g⟩ (fun r => (∀ c : Dev Cert.Half.nD,
      r.2.mem ((c.tc : Thread Cert.Half.nD Cert.Half.τ).loc Cert.Half.main_arg0) = m ((c.tc : Thread Cert.Half.nD Cert.Half.τ).loc Cert.Half.main_arg0)
      ∧ r.2.mem ((c.tc : Thread Cert.Half.nD Cert.Half.τ).loc Cert.Half.main_arg1) = m ((c.tc : Thread Cert.Half.nD Cert.Half.τ).loc Cert.Half.main_arg1)
      ∧ r.2.mem ((c.tc : Thread Cert.Half.nD Cert.Half.τ).loc Cert.Half.main_arg2) = m ((c.tc : Thread Cert.Half.nD Cert.Half.τ).loc Cert.Half.main_arg2)
      ∧ r.2.mem ((c.tc : Thread Cert.Half.nD Cert.Half.τ).loc Cert.Half.main_arg3) = m ((c.tc : Thread Cert.Half.nD Cert.Half.τ).loc Cert.Half.main_arg3))
      ∧ r.2.sem = fun _ => 0)

def quiescent_HalfIdeal [hHalfIdeal : Cert.HalfIdeal.Facts] : Prop :=
  ∀ (m : (ℓ : Loc Cert.HalfIdeal.nD Cert.HalfIdeal.τ Cert.HalfIdeal.sig) → Buf (Elt Ideal) ℓ) (g : Dev Cert.HalfIdeal.nD → PrngReg), Pre_HalfIdeal m →
    θ_run (Cert.HalfIdeal.defs (F := Ideal)) (onTc (τ := Cert.HalfIdeal.τ) (Cert.HalfIdeal.main (F := Ideal))) ⟨m, fun _ => 0, g⟩ (fun r => (∀ c : Dev Cert.HalfIdeal.nD,
      r.2.mem ((c.tc : Thread Cert.HalfIdeal.nD Cert.HalfIdeal.τ).loc Cert.HalfIdeal.main_arg0) = m ((c.tc : Thread Cert.HalfIdeal.nD Cert.HalfIdeal.τ).loc Cert.HalfIdeal.main_arg0)
      ∧ r.2.mem ((c.tc : Thread Cert.HalfIdeal.nD Cert.HalfIdeal.τ).loc Cert.HalfIdeal.main_arg1) = m ((c.tc : Thread Cert.HalfIdeal.nD Cert.HalfIdeal.τ).loc Cert.HalfIdeal.main_arg1)
      ∧ r.2.mem ((c.tc : Thread Cert.HalfIdeal.nD Cert.HalfIdeal.τ).loc Cert.HalfIdeal.main_arg2) = m ((c.tc : Thread Cert.HalfIdeal.nD Cert.HalfIdeal.τ).loc Cert.HalfIdeal.main_arg2)
      ∧ r.2.mem ((c.tc : Thread Cert.HalfIdeal.nD Cert.HalfIdeal.τ).loc Cert.HalfIdeal.main_arg3) = m ((c.tc : Thread Cert.HalfIdeal.nD Cert.HalfIdeal.τ).loc Cert.HalfIdeal.main_arg3))
      ∧ r.2.sem = fun _ => 0)

def quiescent_HalfReferenceIdeal [hHalfReferenceIdeal : Cert.HalfReferenceIdeal.Facts] : Prop :=
  ∀ (m : (ℓ : Loc Cert.HalfReferenceIdeal.nD Cert.HalfReferenceIdeal.τ Cert.HalfReferenceIdeal.sig) → Buf (Elt Ideal) ℓ) (g : Dev Cert.HalfReferenceIdeal.nD → PrngReg), Pre_HalfReferenceIdeal m →
    θ_run (Cert.HalfReferenceIdeal.defs (F := Ideal)) (onTc (τ := Cert.HalfReferenceIdeal.τ) (Cert.HalfReferenceIdeal.main (F := Ideal))) ⟨m, fun _ => 0, g⟩ (fun r => (∀ c : Dev Cert.HalfReferenceIdeal.nD,
      r.2.mem ((c.tc : Thread Cert.HalfReferenceIdeal.nD Cert.HalfReferenceIdeal.τ).loc Cert.HalfReferenceIdeal.main_arg0) = m ((c.tc : Thread Cert.HalfReferenceIdeal.nD Cert.HalfReferenceIdeal.τ).loc Cert.HalfReferenceIdeal.main_arg0)
      ∧ r.2.mem ((c.tc : Thread Cert.HalfReferenceIdeal.nD Cert.HalfReferenceIdeal.τ).loc Cert.HalfReferenceIdeal.main_arg1) = m ((c.tc : Thread Cert.HalfReferenceIdeal.nD Cert.HalfReferenceIdeal.τ).loc Cert.HalfReferenceIdeal.main_arg1)
      ∧ r.2.mem ((c.tc : Thread Cert.HalfReferenceIdeal.nD Cert.HalfReferenceIdeal.τ).loc Cert.HalfReferenceIdeal.main_arg2) = m ((c.tc : Thread Cert.HalfReferenceIdeal.nD Cert.HalfReferenceIdeal.τ).loc Cert.HalfReferenceIdeal.main_arg2)
      ∧ r.2.mem ((c.tc : Thread Cert.HalfReferenceIdeal.nD Cert.HalfReferenceIdeal.τ).loc Cert.HalfReferenceIdeal.main_arg3) = m ((c.tc : Thread Cert.HalfReferenceIdeal.nD Cert.HalfReferenceIdeal.τ).loc Cert.HalfReferenceIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v187) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v7)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v7) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v31) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5))

def preserves_Half_HalfIdeal : Prop :=
  True

def algebraic_HalfIdeal_HalfReferenceIdeal [hHalfIdeal : Cert.HalfIdeal.Facts] [hHalfReferenceIdeal : Cert.HalfReferenceIdeal.Facts] : Prop :=
  ∀ (m : (ℓ : Loc Cert.HalfIdeal.nD Cert.HalfIdeal.τ Cert.HalfIdeal.sig) → Buf (Elt Ideal) ℓ) (g : Dev Cert.HalfIdeal.nD → PrngReg)
    (m' : (ℓ : Loc Cert.HalfReferenceIdeal.nD Cert.HalfReferenceIdeal.τ Cert.HalfReferenceIdeal.sig) → Buf (Elt Ideal) ℓ) (g' : Dev Cert.HalfReferenceIdeal.nD → PrngReg), Pre_HalfIdeal m →
    (∀ c : Dev Cert.HalfIdeal.nD,
      m' ((c.tc : Thread Cert.HalfReferenceIdeal.nD Cert.HalfReferenceIdeal.τ).loc Cert.HalfReferenceIdeal.main_arg0) = m ((c.tc : Thread Cert.HalfIdeal.nD Cert.HalfIdeal.τ).loc Cert.HalfIdeal.main_arg0)
      ∧ m' ((c.tc : Thread Cert.HalfReferenceIdeal.nD Cert.HalfReferenceIdeal.τ).loc Cert.HalfReferenceIdeal.main_arg1) = m ((c.tc : Thread Cert.HalfIdeal.nD Cert.HalfIdeal.τ).loc Cert.HalfIdeal.main_arg1)
      ∧ m' ((c.tc : Thread Cert.HalfReferenceIdeal.nD Cert.HalfReferenceIdeal.τ).loc Cert.HalfReferenceIdeal.main_arg2) = m ((c.tc : Thread Cert.HalfIdeal.nD Cert.HalfIdeal.τ).loc Cert.HalfIdeal.main_arg2)
      ∧ m' ((c.tc : Thread Cert.HalfReferenceIdeal.nD Cert.HalfReferenceIdeal.τ).loc Cert.HalfReferenceIdeal.main_arg3) = m ((c.tc : Thread Cert.HalfIdeal.nD Cert.HalfIdeal.τ).loc Cert.HalfIdeal.main_arg3)) →
    ∃ (v0 : (c : Dev Cert.HalfIdeal.nD) → Buf (Elt Ideal) ((c.tc : Thread Cert.HalfIdeal.nD Cert.HalfIdeal.τ).loc Cert.HalfIdeal.main_v2)),
      θ_run (Cert.HalfIdeal.defs (F := Ideal)) (onTc (τ := Cert.HalfIdeal.τ) (Cert.HalfIdeal.main (F := Ideal))) ⟨m, fun _ => 0, g⟩ (fun r => ∀ c : Dev Cert.HalfIdeal.nD,
          r.2.mem ((c.tc : Thread Cert.HalfIdeal.nD Cert.HalfIdeal.τ).loc Cert.HalfIdeal.main_v2) = v0 c
          ∧ r.2.mem ((c.tc : Thread Cert.HalfIdeal.nD Cert.HalfIdeal.τ).loc Cert.HalfIdeal.main_arg0) = m ((c.tc : Thread Cert.HalfIdeal.nD Cert.HalfIdeal.τ).loc Cert.HalfIdeal.main_arg0)
          ∧ r.2.mem ((c.tc : Thread Cert.HalfIdeal.nD Cert.HalfIdeal.τ).loc Cert.HalfIdeal.main_arg1) = m ((c.tc : Thread Cert.HalfIdeal.nD Cert.HalfIdeal.τ).loc Cert.HalfIdeal.main_arg1)
          ∧ r.2.mem ((c.tc : Thread Cert.HalfIdeal.nD Cert.HalfIdeal.τ).loc Cert.HalfIdeal.main_arg2) = m ((c.tc : Thread Cert.HalfIdeal.nD Cert.HalfIdeal.τ).loc Cert.HalfIdeal.main_arg2)
          ∧ r.2.mem ((c.tc : Thread Cert.HalfIdeal.nD Cert.HalfIdeal.τ).loc Cert.HalfIdeal.main_arg3) = m ((c.tc : Thread Cert.HalfIdeal.nD Cert.HalfIdeal.τ).loc Cert.HalfIdeal.main_arg3))
      ∧ θ_run (Cert.HalfReferenceIdeal.defs (F := Ideal)) (onTc (τ := Cert.HalfReferenceIdeal.τ) (Cert.HalfReferenceIdeal.main (F := Ideal))) ⟨m', fun _ => 0, g'⟩ (fun r => ∀ c : Dev Cert.HalfReferenceIdeal.nD,
          r.2.mem ((c.tc : Thread Cert.HalfReferenceIdeal.nD Cert.HalfReferenceIdeal.τ).loc Cert.HalfReferenceIdeal.main_v28) = v0 c
          ∧ r.2.mem ((c.tc : Thread Cert.HalfReferenceIdeal.nD Cert.HalfReferenceIdeal.τ).loc Cert.HalfReferenceIdeal.main_arg0) = m' ((c.tc : Thread Cert.HalfReferenceIdeal.nD Cert.HalfReferenceIdeal.τ).loc Cert.HalfReferenceIdeal.main_arg0)
          ∧ r.2.mem ((c.tc : Thread Cert.HalfReferenceIdeal.nD Cert.HalfReferenceIdeal.τ).loc Cert.HalfReferenceIdeal.main_arg1) = m' ((c.tc : Thread Cert.HalfReferenceIdeal.nD Cert.HalfReferenceIdeal.τ).loc Cert.HalfReferenceIdeal.main_arg1)
          ∧ r.2.mem ((c.tc : Thread Cert.HalfReferenceIdeal.nD Cert.HalfReferenceIdeal.τ).loc Cert.HalfReferenceIdeal.main_arg2) = m' ((c.tc : Thread Cert.HalfReferenceIdeal.nD Cert.HalfReferenceIdeal.τ).loc Cert.HalfReferenceIdeal.main_arg2)
          ∧ r.2.mem ((c.tc : Thread Cert.HalfReferenceIdeal.nD Cert.HalfReferenceIdeal.τ).loc Cert.HalfReferenceIdeal.main_arg3) = m' ((c.tc : Thread Cert.HalfReferenceIdeal.nD Cert.HalfReferenceIdeal.τ).loc Cert.HalfReferenceIdeal.main_arg3))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v16_0)) (v1 : (c : Dev Cert.ProjIdeal.nD) → Buf (Elt Ideal) ((c.tc : Thread Cert.ProjIdeal.nD Cert.ProjIdeal.τ).loc Cert.ProjIdeal.main_v16_1)) (v2 : (c : Dev Cert.ProjIdeal.nD) → Buf (Elt Ideal) ((c.tc : Thread Cert.ProjIdeal.nD Cert.ProjIdeal.τ).loc Cert.ProjIdeal.main_v16_2)) (v3 : (c : Dev Cert.ProjIdeal.nD) → Buf (Elt Ideal) ((c.tc : Thread Cert.ProjIdeal.nD Cert.ProjIdeal.τ).loc Cert.ProjIdeal.main_v16_3)) (v4 : (c : Dev Cert.ProjIdeal.nD) → Buf (Elt Ideal) ((c.tc : Thread Cert.ProjIdeal.nD Cert.ProjIdeal.τ).loc Cert.ProjIdeal.main_v16_4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v16_0) = v0 c
          ∧ r.2.mem ((c.tc : Thread Cert.ProjIdeal.nD Cert.ProjIdeal.τ).loc Cert.ProjIdeal.main_v16_1) = v1 c
          ∧ r.2.mem ((c.tc : Thread Cert.ProjIdeal.nD Cert.ProjIdeal.τ).loc Cert.ProjIdeal.main_v16_2) = v2 c
          ∧ r.2.mem ((c.tc : Thread Cert.ProjIdeal.nD Cert.ProjIdeal.τ).loc Cert.ProjIdeal.main_v16_3) = v3 c
          ∧ r.2.mem ((c.tc : Thread Cert.ProjIdeal.nD Cert.ProjIdeal.τ).loc Cert.ProjIdeal.main_v16_4) = v4 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v29) = v0 c
          ∧ r.2.mem ((c.tc : Thread Cert.ProjReferenceIdeal.nD Cert.ProjReferenceIdeal.τ).loc Cert.ProjReferenceIdeal.main_v31) = v1 c
          ∧ r.2.mem ((c.tc : Thread Cert.ProjReferenceIdeal.nD Cert.ProjReferenceIdeal.τ).loc Cert.ProjReferenceIdeal.main_v34) = v2 c
          ∧ r.2.mem ((c.tc : Thread Cert.ProjReferenceIdeal.nD Cert.ProjReferenceIdeal.τ).loc Cert.ProjReferenceIdeal.main_v37) = v3 c
          ∧ r.2.mem ((c.tc : Thread Cert.ProjReferenceIdeal.nD Cert.ProjReferenceIdeal.τ).loc Cert.ProjReferenceIdeal.main_v39) = v4 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def Claim : Prop :=
  ∃ (hKernel : Cert.Kernel.Facts) (hKernelIdeal : Cert.KernelIdeal.Facts) (hReferenceIdeal : Cert.ReferenceIdeal.Facts) (hMix : Cert.Mix.Facts) (hMixIdeal : Cert.MixIdeal.Facts) (hMixReferenceIdeal : Cert.MixReferenceIdeal.Facts) (hHalf : Cert.Half.Facts) (hHalfIdeal : Cert.HalfIdeal.Facts) (hHalfReferenceIdeal : Cert.HalfReferenceIdeal.Facts) (hProj : Cert.Proj.Facts) (hProjIdeal : Cert.ProjIdeal.Facts) (hProjReferenceIdeal : Cert.ProjReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Mix (hMix := hMix)
    ∧ quiescent_MixIdeal (hMixIdeal := hMixIdeal)
    ∧ quiescent_MixReferenceIdeal (hMixReferenceIdeal := hMixReferenceIdeal)
    ∧ quiescent_Half (hHalf := hHalf)
    ∧ quiescent_HalfIdeal (hHalfIdeal := hHalfIdeal)
    ∧ quiescent_HalfReferenceIdeal (hHalfReferenceIdeal := hHalfReferenceIdeal)
    ∧ quiescent_Proj (hProj := hProj)
    ∧ quiescent_ProjIdeal (hProjIdeal := hProjIdeal)
    ∧ quiescent_ProjReferenceIdeal (hProjReferenceIdeal := hProjReferenceIdeal)
    ∧ preserves_Kernel_KernelIdeal
    ∧ algebraic_KernelIdeal_ReferenceIdeal (hKernelIdeal := hKernelIdeal) (hReferenceIdeal := hReferenceIdeal)
    ∧ preserves_Mix_MixIdeal
    ∧ algebraic_MixIdeal_MixReferenceIdeal (hMixIdeal := hMixIdeal) (hMixReferenceIdeal := hMixReferenceIdeal)
    ∧ preserves_Half_HalfIdeal
    ∧ algebraic_HalfIdeal_HalfReferenceIdeal (hHalfIdeal := hHalfIdeal) (hHalfReferenceIdeal := hHalfReferenceIdeal)
    ∧ preserves_Proj_ProjIdeal
    ∧ algebraic_ProjIdeal_ProjReferenceIdeal (hProjIdeal := hProjIdeal) (hProjReferenceIdeal := hProjReferenceIdeal)
-- ==== Kernel.lean ====
abbrev S4x4096x4x4x64 : Shape := ⟨5, ![4, 4096, 4, 4, 64]⟩
abbrev S4x4096x3x4x4 : Shape := ⟨5, ![4, 4096, 3, 4, 4]⟩
abbrev S4x255x4x64 : Shape := ⟨4, ![4, 255, 4, 64]⟩
abbrev S4x4096x4x64 : Shape := ⟨4, ![4, 4096, 4, 64]⟩
abbrev S16384x1024 : Shape := ⟨2, ![16384, 1024]⟩
abbrev S_ : Shape := ⟨0, ![]⟩
abbrev S1024x16384 : Shape := ⟨2, ![1024, 16384]⟩
abbrev S16384x48 : Shape := ⟨2, ![16384, 48]⟩
abbrev S48x16384 : Shape := ⟨2, ![48, 16384]⟩
abbrev S4x256x4x64 : Shape := ⟨4, ![4, 256, 4, 64]⟩
abbrev S4x4x256x64 : Shape := ⟨4, ![4, 4, 256, 64]⟩
abbrev S4x4x64x256 : Shape := ⟨4, ![4, 4, 64, 256]⟩
abbrev S16384x128 : Shape := ⟨2, ![16384, 128]⟩
abbrev S16384x256 : Shape := ⟨2, ![16384, 256]⟩
abbrev S1x16384x256 : Shape := ⟨3, ![1, 16384, 256]⟩
abbrev S2x16384x256 : Shape := ⟨3, ![2, 16384, 256]⟩
abbrev S256x16384 : Shape := ⟨2, ![256, 16384]⟩
abbrev S3x4x4x16384 : Shape := ⟨4, ![3, 4, 4, 16384]⟩
abbrev S256x512 : Shape := ⟨2, ![256, 512]⟩
abbrev S3x1x4x512 : Shape := ⟨4, ![3, 1, 4, 512]⟩
abbrev S1x1x256x64 : Shape := ⟨4, ![1, 1, 256, 64]⟩
abbrev S1x1x64x256 : Shape := ⟨4, ![1, 1, 64, 256]⟩
abbrev S1x4096x256 : Shape := ⟨3, ![1, 4096, 256]⟩
abbrev S64x4096 : Shape := ⟨2, ![64, 4096]⟩
abbrev S4096x128 : Shape := ⟨2, ![4096, 128]⟩
abbrev S64x512 : Shape := ⟨2, ![64, 512]⟩
abbrev S64x2048 : Shape := ⟨2, ![64, 2048]⟩
abbrev S128x2048 : Shape := ⟨2, ![128, 2048]⟩
abbrev S1x512 : Shape := ⟨2, ![1, 512]⟩
abbrev S1x2048 : Shape := ⟨2, ![1, 2048]⟩
abbrev S256x1 : Shape := ⟨2, ![256, 1]⟩
abbrev S256x2048 : Shape := ⟨2, ![256, 2048]⟩
abbrev S256x64 : Shape := ⟨2, ![256, 64]⟩
abbrev S64x256 : Shape := ⟨2, ![64, 256]⟩
abbrev S16x256 : Shape := ⟨2, ![16, 256]⟩
abbrev S144x256 : Shape := ⟨2, ![144, 256]⟩
abbrev S144x2048 : Shape := ⟨2, ![144, 2048]⟩
abbrev S2048 : Shape := ⟨1, ![2048]⟩
abbrev S1x1x2048 : Shape := ⟨3, ![1, 1, 2048]⟩
abbrev S1 : Shape := ⟨1, ![1]⟩
abbrev S1x1x1 : Shape := ⟨3, ![1, 1, 1]⟩
abbrev S64x1 : Shape := ⟨2, ![64, 1]⟩
abbrev S8x1 : Shape := ⟨2, ![8, 1]⟩
abbrev S8x512 : Shape := ⟨2, ![8, 512]⟩
abbrev S16x512 : Shape := ⟨2, ![16, 512]⟩
abbrev S24x512 : Shape := ⟨2, ![24, 512]⟩
abbrev S32x512 : Shape := ⟨2, ![32, 512]⟩
abbrev S40x512 : Shape := ⟨2, ![40, 512]⟩
abbrev S1x256 : Shape := ⟨2, ![1, 256]⟩
abbrev S1x1024 : Shape := ⟨2, ![1, 1024]⟩
abbrev S256x256 : Shape := ⟨2, ![256, 256]⟩
abbrev S256x1024 : Shape := ⟨2, ![256, 1024]⟩
abbrev S128x256 : Shape := ⟨2, ![128, 256]⟩
abbrev S128x1024 : Shape := ⟨2, ![128, 1024]⟩
abbrev S80x2048 : Shape := ⟨2, ![80, 2048]⟩
abbrev S1x512x256 : Shape := ⟨3, ![1, 512, 256]⟩
abbrev S512x256 : Shape := ⟨2, ![512, 256]⟩
abbrev S512x2048 : Shape := ⟨2, ![512, 2048]⟩
abbrev S80x512 : Shape := ⟨2, ![80, 512]⟩
abbrev S1x256x256 : Shape := ⟨3, ![1, 256, 256]⟩
abbrev S80x256 : Shape := ⟨2, ![80, 256]⟩
abbrev S80x1024 : Shape := ⟨2, ![80, 1024]⟩
abbrev S1024 : Shape := ⟨1, ![1024]⟩
abbrev S256x128 : Shape := ⟨2, ![256, 128]⟩
abbrev S1x1x1x512 : Shape := ⟨4, ![1, 1, 1, 512]⟩

abbrev nBuf : Space → Nat
  | .hbm => 97
  | .vmem => 18
  | .smem => 0
  | _ => 0

abbrev bufTy : (tb : Table) → Fin (tcTables nBuf tb) → BufTy
  | .hbm, ⟨0, _⟩ => ⟨S4x4096x4x4x64, .f32⟩
  | .hbm, ⟨1, _⟩ => ⟨S4x4096x3x4x4, .f32⟩
  | .hbm, ⟨2, _⟩ => ⟨S4x255x4x64, .f32⟩
  | .hbm, ⟨3, _⟩ => ⟨S4x255x4x64, .f32⟩
  | .hbm, ⟨4, _⟩ => ⟨S4x4096x4x64, .f32⟩
  | .hbm, ⟨5, _⟩ => ⟨S4x4096x4x64, .f32⟩
  | .hbm, ⟨6, _⟩ => ⟨S4x4096x4x64, .f32⟩
  | .hbm, ⟨7, _⟩ => ⟨S4x4096x4x64, .f32⟩
  | .hbm, ⟨8, _⟩ => ⟨S16384x1024, .f32⟩
  | .hbm, ⟨9, _⟩ => ⟨S_, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S1024x16384, .f32⟩
  | .hbm, ⟨14, _⟩ => ⟨S1024x16384, .bf16⟩
  | .hbm, ⟨15, _⟩ => ⟨S16384x48, .f32⟩
  | .hbm, ⟨16, _⟩ => ⟨S48x16384, .f32⟩
  | .hbm, ⟨17, _⟩ => ⟨S_, .i32⟩
  | .hbm, ⟨18, _⟩ => ⟨S_, .f32⟩
  | .hbm, ⟨19, _⟩ => ⟨S4x256x4x64, .f32⟩
  | .hbm, ⟨20, _⟩ => ⟨S4x4x256x64, .f32⟩
  | .hbm, ⟨21, _⟩ => ⟨S4x4x256x64, .bf16⟩
  | .hbm, ⟨22, _⟩ => ⟨S_, .i32⟩
  | .hbm, ⟨23, _⟩ => ⟨S_, .f32⟩
  | .hbm, ⟨24, _⟩ => ⟨S4x256x4x64, .f32⟩
  | .hbm, ⟨25, _⟩ => ⟨S4x4x64x256, .f32⟩
  | .hbm, ⟨26, _⟩ => ⟨S4x4x64x256, .bf16⟩
  | .hbm, ⟨27, _⟩ => ⟨S16384x128, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S16384x128, .i32⟩
  | .hbm, ⟨35, _⟩ => ⟨S16384x128, .i32⟩
  | .hbm, ⟨36, _⟩ => ⟨S_, .i32⟩
  | .hbm, ⟨37, _⟩ => ⟨S16384x128, .i32⟩
  | .hbm, ⟨38, _⟩ => ⟨S16384x128, .i1⟩
  | .hbm, ⟨39, _⟩ => ⟨S_, .i32⟩
  | .hbm, ⟨40, _⟩ => ⟨S16384x128, .i32⟩
  | .hbm, ⟨41, _⟩ => ⟨S16384x128, .i1⟩
  | .hbm, ⟨42, _⟩ => ⟨S_, .i32⟩
  | .hbm, ⟨43, _⟩ => ⟨S_, .i1⟩
  | .hbm, ⟨44, _⟩ => ⟨S16384x128, .i1⟩
  | .hbm, ⟨45, _⟩ => ⟨S16384x128, .i1⟩
  | .hbm, ⟨46, _⟩ => ⟨S16384x128, .i1⟩
  | .hbm, ⟨47, _⟩ => ⟨S16384x128, .i32⟩
  | .hbm, ⟨48, _⟩ => ⟨S16384x128, .i32⟩
  | .hbm, ⟨49, _⟩ => ⟨S16384x128, .i32⟩
  | .hbm, ⟨50, _⟩ => ⟨S16384x128, .i32⟩
  | .hbm, ⟨51, _⟩ => ⟨S_, .i32⟩
  | .hbm, ⟨52, _⟩ => ⟨S_, .i32⟩
  | .hbm, ⟨53, _⟩ => ⟨S16384x128, .i32⟩
  | .hbm, ⟨54, _⟩ => ⟨S16384x128, .i32⟩
  | .hbm, ⟨55, _⟩ => ⟨S16384x128, .i32⟩
  | .hbm, ⟨56, _⟩ => ⟨S_, .i32⟩
  | .hbm, ⟨57, _⟩ => ⟨S16384x128, .i32⟩
  | .hbm, ⟨58, _⟩ => ⟨S16384x128, .i1⟩
  | .hbm, ⟨59, _⟩ => ⟨S16384x128, .i32⟩
  | .hbm, ⟨60, _⟩ => ⟨S16384x128, .i32⟩
  | .hbm, ⟨61, _⟩ => ⟨S_, .i32⟩
  | .hbm, ⟨62, _⟩ => ⟨S16384x128, .i32⟩
  | .hbm, ⟨63, _⟩ => ⟨S16384x128, .i1⟩
  | .hbm, ⟨64, _⟩ => ⟨S16384x128, .i1⟩
  | .hbm, ⟨65, _⟩ => ⟨S_, .i32⟩
  | .hbm, ⟨66, _⟩ => ⟨S16384x128, .i32⟩
  | .hbm, ⟨67, _⟩ => ⟨S16384x128, .i32⟩
  | .hbm, ⟨68, _⟩ => ⟨S16384x128, .i32⟩
  | .hbm, ⟨69, _⟩ => ⟨S16384x128, .i1⟩
  | .hbm, ⟨70, _⟩ => ⟨S_, .f32⟩
  | .hbm, ⟨71, _⟩ => ⟨S_, .f32⟩
  | .hbm, ⟨72, _⟩ => ⟨S16384x128, .f32⟩
  | .hbm, ⟨73, _⟩ => ⟨S16384x128, .f32⟩
  | .hbm, ⟨74, _⟩ => ⟨S16384x128, .f32⟩
  | .hbm, ⟨75, _⟩ => ⟨S16384x256, .f32⟩
  | .hbm, ⟨76, _⟩ => ⟨S16384x128, .f32⟩
  | .hbm, ⟨77, _⟩ => ⟨S16384x128, .f32⟩
  | .hbm, ⟨78, _⟩ => ⟨S16384x256, .f32⟩
  | .hbm, ⟨79, _⟩ => ⟨S16384x256, .bf16⟩
  | .hbm, ⟨80, _⟩ => ⟨S16384x128, .f32⟩
  | .hbm, ⟨81, _⟩ => ⟨S16384x128, .f32⟩
  | .hbm, ⟨82, _⟩ => ⟨S16384x256, .f32⟩
  | .hbm, ⟨83, _⟩ => ⟨S16384x256, .bf16⟩
  | .hbm, ⟨84, _⟩ => ⟨S1x16384x256, .bf16⟩
  | .hbm, ⟨85, _⟩ => ⟨S1x16384x256, .bf16⟩
  | .hbm, ⟨86, _⟩ => ⟨S2x16384x256, .bf16⟩
  | .hbm, ⟨87, _⟩ => ⟨S16384x256, .f32⟩
  | .hbm, ⟨88, _⟩ => ⟨S256x16384, .f32⟩
  | .hbm, ⟨89, _⟩ => ⟨S256x16384, .bf16⟩
  | .hbm, ⟨90, _⟩ => ⟨S16384x256, .f32⟩
  | .hbm, ⟨91, _⟩ => ⟨S16384x256, .bf16⟩
  | .hbm, ⟨92, _⟩ => ⟨S16384x256, .f32⟩
  | .hbm, ⟨93, _⟩ => ⟨S256x16384, .f32⟩
  | .hbm, ⟨94, _⟩ => ⟨S256x16384, .bf16⟩
  | .hbm, ⟨95, _⟩ => ⟨S3x4x4x16384, .f32⟩
  | .hbm, ⟨96, _⟩ => ⟨S1024x16384, .bf16⟩
  | .local _ .vmem, ⟨0, _⟩ => ⟨S256x512, .bf16⟩
  | .local _ .vmem, ⟨1, _⟩ => ⟨S256x512, .bf16⟩
  | .local _ .vmem, ⟨2, _⟩ => ⟨S3x1x4x512, .f32⟩
  | .local _ .vmem, ⟨3, _⟩ => ⟨S3x1x4x512, .f32⟩
  | .local _ .vmem, ⟨4, _⟩ => ⟨S1x1x256x64, .bf16⟩
  | .local _ .vmem, ⟨5, _⟩ => ⟨S1x1x256x64, .bf16⟩
  | .local _ .vmem, ⟨6, _⟩ => ⟨S1x1x64x256, .bf16⟩
  | .local _ .vmem, ⟨7, _⟩ => ⟨S1x1x64x256, .bf16⟩
  | .local _ .vmem, ⟨8, _⟩ => ⟨S1x4096x256, .bf16⟩
  | .local _ .vmem, ⟨9, _⟩ => ⟨S1x4096x256, .bf16⟩
  | .local _ .vmem, ⟨10, _⟩ => ⟨S64x4096, .bf16⟩
  | .local _ .vmem, ⟨11, _⟩ => ⟨S64x4096, .bf16⟩
  | .local _ .vmem, ⟨12, _⟩ => ⟨S4096x128, .bf16⟩
  | .local _ .vmem, ⟨13, _⟩ => ⟨S4096x128, .bf16⟩
  | .local _ .vmem, ⟨14, _⟩ => ⟨S64x4096, .bf16⟩
  | .local _ .vmem, ⟨15, _⟩ => ⟨S64x4096, .bf16⟩
  | .local _ .vmem, ⟨16, _⟩ => ⟨S256x512, .bf16⟩
  | .local _ .vmem, ⟨17, _⟩ => ⟨S256x512, .bf16⟩
  | _, _ => ⟨S4x4096x4x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_call0_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_call2_v0 : Ref sig .tc := ⟨.hbm, 29, rfl⟩
abbrev main_call2_c : Ref sig .tc := ⟨.hbm, 30, rfl⟩
abbrev main_call2_v1 : Ref sig .tc := ⟨.hbm, 31, rfl⟩
abbrev main_call2_c_0 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_c_1 : Ref sig .tc := ⟨.hbm, 36, rfl⟩
abbrev main_call2_v5 : Ref sig .tc := ⟨.hbm, 37, rfl⟩
abbrev main_call2_v6 : Ref sig .tc := ⟨.hbm, 38, rfl⟩
abbrev main_call2_c_2 : Ref sig .tc := ⟨.hbm, 39, rfl⟩
abbrev main_call2_v7 : Ref sig .tc := ⟨.hbm, 40, rfl⟩
abbrev main_call2_v8 : Ref sig .tc := ⟨.hbm, 41, rfl⟩
abbrev main_call2_c_3 : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_call2_v12 : Ref sig .tc := ⟨.hbm, 46, rfl⟩
abbrev main_call2_v13 : Ref sig .tc := ⟨.hbm, 47, rfl⟩
abbrev main_call2_v14 : Ref sig .tc := ⟨.hbm, 48, rfl⟩
abbrev main_v15 : Ref sig .tc := ⟨.hbm, 49, rfl⟩
abbrev main_v16 : Ref sig .tc := ⟨.hbm, 50, rfl⟩
abbrev main_c_2 : Ref sig .tc := ⟨.hbm, 51, rfl⟩
abbrev main_call3_v0 : Ref sig .tc := ⟨.hbm, 52, rfl⟩
abbrev main_call3_v1 : Ref sig .tc := ⟨.hbm, 53, rfl⟩
abbrev main_call3_v2 : Ref sig .tc := ⟨.hbm, 54, rfl⟩
abbrev main_call3_v3 : Ref sig .tc := ⟨.hbm, 55, rfl⟩
abbrev main_call3_v4 : Ref sig .tc := ⟨.hbm, 56, rfl⟩
abbrev main_call3_v5 : Ref sig .tc := ⟨.hbm, 57, rfl⟩
abbrev main_call3_v6 : Ref sig .tc := ⟨.hbm, 58, rfl⟩
abbrev main_call3_v7 : Ref sig .tc := ⟨.hbm, 59, rfl⟩
abbrev main_call3_v8 : Ref sig .tc := ⟨.hbm, 60, rfl⟩
abbrev main_call3_c : Ref sig .tc := ⟨.hbm, 61, rfl⟩
abbrev main_call3_v9 : Ref sig .tc := ⟨.hbm, 62, rfl⟩
abbrev main_call3_v10 : Ref sig .tc := ⟨.hbm, 63, rfl⟩
abbrev main_call3_v11 : Ref sig .tc := ⟨.hbm, 64, rfl⟩
abbrev main_call3_c_0 : Ref sig .tc := ⟨.hbm, 65, rfl⟩
abbrev main_call3_v12 : Ref sig .tc := ⟨.hbm, 66, rfl⟩
abbrev main_call3_v13 : Ref sig .tc := ⟨.hbm, 67, rfl⟩
abbrev main_v17 : Ref sig .tc := ⟨.hbm, 68, rfl⟩
abbrev main_v18 : Ref sig .tc := ⟨.hbm, 69, rfl⟩
abbrev main_cst_3 : Ref sig .tc := ⟨.hbm, 70, rfl⟩
abbrev main_cst_4 : Ref sig .tc := ⟨.hbm, 71, rfl⟩
abbrev main_call4_v0 : Ref sig .tc := ⟨.hbm, 72, rfl⟩
abbrev main_call4_v1 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 4, 8], ![false, false, false]⟩

@[reducible] def k0_t1_loop (i : grid0.Coords) : Scf.Loop 32 :=
  let c0_i32_58 : BitVec 32 := 0#32
  let arg2 : BitVec 32 := BitVec.ofNat 32 (i 2).val
  let c512_i32 : BitVec 32 := 512#32
  let v11 : BitVec 32 := Scalar.muli arg2 c512_i32
  let c0_i32_48 : BitVec 32 := 0#32
  let v167 : BitVec 1 := Scalar.cmpi .sgt v11 c0_i32_48
  let v168 : BitVec 32 := Scalar.extui v167
  let c0_i32_49 : BitVec 32 := 0#32
  let v169 : BitVec 1 := Scalar.cmpi .slt v11 c0_i32_49
  let v170 : BitVec 32 := Scalar.extui v169
  let v171 : BitVec 32 := Scalar.subi v168 v170
  let c512_i32_47 : BitVec 32 := 512#32
  let c0_i32_50 : BitVec 32 := 0#32
  let v172 : BitVec 1 := Scalar.cmpi .sgt c512_i32_47 c0_i32_50
  let v173 : BitVec 32 := Scalar.extui v172
  let c0_i32_51 : BitVec 32 := 0#32
  let v174 : BitVec 1 := Scalar.cmpi .slt c512_i32_47 c0_i32_51
  let v175 : BitVec 32 := Scalar.extui v174
  let v176 : BitVec 32 := Scalar.subi v173 v175
  let v177 : BitVec 1 := Scalar.cmpi .ne v171 v176
  let v178 : BitVec 32 := Scalar.remsi v11 c512_i32_47
  let c0_i32_52 : BitVec 32 := 0#32
  let v179 : BitVec 1 := Scalar.cmpi .ne v178 c0_i32_52
  let v180 : BitVec 1 := Scalar.andi v177 v179
  let v166 : BitVec 32 := Scalar.divsi v11 c512_i32_47
  let c1_i32_53 : BitVec 32 := 1#32
  let v181 : BitVec 32 := Scalar.subi v166 c1_i32_53
  let v182 : BitVec 32 := Scalar.select v180 v181 v166
  let v217 : BitVec 32 := Scalar.subi v182 c0_i32_58
  let c1_i32_59 : BitVec 32 := 1#32
  let v219 : BitVec 32 := Scalar.divsi v217 c1_i32_59
  let v220 : BitVec 32 := Scalar.muli v219 c1_i32_59
  let v221 : BitVec 32 := Scalar.addi c0_i32_58 v220
  let c1_i32_60 : BitVec 32 := 1#32
  ⟨c0_i32_58, v221, c1_i32_60⟩
def k0_mult1 (i : grid0.Coords) (k0_t1 : Fin (k0_t1_loop i).trips) : BitVec 32 :=
  let c0_i32_58 : BitVec 32 := 0#32
  let c1_i32_60 : BitVec 32 := 1#32
  let arg12 : BitVec 32 := Scf.iv c0_i32_58 c1_i32_60 k0_t1
  let c512_i32_171 : BitVec 32 := 512#32
  let v750 : BitVec 32 := Scalar.muli arg12 c512_i32_171
  v750
def k0_off1 (i : grid0.Coords) (k0_t1 : Fin (k0_t1_loop i).trips) : Fin 3 → Nat :=
  let c0_172 : Index := 0#32
  let c0_i32_58 : BitVec 32 := 0#32
  let c1_i32_60 : BitVec 32 := 1#32
  let arg12 : BitVec 32 := Scf.iv c0_i32_58 c1_i32_60 k0_t1
  let c512_i32_171 : BitVec 32 := 512#32
  let v750 : BitVec 32 := Scalar.muli arg12 c512_i32_171
  let v751 : BitVec 32 := v750
  let v752 : Index := Scalar.indexCast v751
  let c0_173 : Index := 0#32
  ![0, v752.toNat, 0]
def k0_mult2 (i : grid0.Coords) (k0_t1 : Fin (k0_t1_loop i).trips) : BitVec 32 :=
  let c0_i32_58 : BitVec 32 := 0#32
  let c1_i32_60 : BitVec 32 := 1#32
  let arg12 : BitVec 32 := Scf.iv c0_i32_58 c1_i32_60 k0_t1
  let c512_i32_175 : BitVec 32 := 512#32
  let v756 : BitVec 32 := Scalar.muli arg12 c512_i32_175
  v756
def k0_off2 (i : grid0.Coords) (k0_t1 : Fin (k0_t1_loop i).trips) : Fin 2 → Nat :=
  let c0_176 : Index := 0#32
  let c0_i32_58 : BitVec 32 := 0#32
  let c1_i32_60 : BitVec 32 := 1#32
  let arg12 : BitVec 32 := Scf.iv c0_i32_58 c1_i32_60 k0_t1
  let c512_i32_175 : BitVec 32 := 512#32
  let v756 : BitVec 32 := Scalar.muli arg12 c512_i32_175
  let v757 : BitVec 32 := v756
  let v758 : Index := Scalar.indexCast v757
  ![0, v758.toNat]
@[reducible] def k0_t2_loop (i : grid0.Coords) : Scf.Loop 32 :=
  let c0_i32_58 : BitVec 32 := 0#32
  let arg2 : BitVec 32 := BitVec.ofNat 32 (i 2).val
  let c512_i32 : BitVec 32 := 512#32
  let v11 : BitVec 32 := Scalar.muli arg2 c512_i32
  let c0_i32_48 : BitVec 32 := 0#32
  let v167 : BitVec 1 := Scalar.cmpi .sgt v11 c0_i32_48
  let v168 : BitVec 32 := Scalar.extui v167
  let c0_i32_49 : BitVec 32 := 0#32
  let v169 : BitVec 1 := Scalar.cmpi .slt v11 c0_i32_49
  let v170 : BitVec 32 := Scalar.extui v169
  let v171 : BitVec 32 := Scalar.subi v168 v170
  let c512_i32_47 : BitVec 32 := 512#32
  let c0_i32_50 : BitVec 32 := 0#32
  let v172 : BitVec 1 := Scalar.cmpi .sgt c512_i32_47 c0_i32_50
  let v173 : BitVec 32 := Scalar.extui v172
  let c0_i32_51 : BitVec 32 := 0#32
  let v174 : BitVec 1 := Scalar.cmpi .slt c512_i32_47 c0_i32_51
  let v175 : BitVec 32 := Scalar.extui v174
  let v176 : BitVec 32 := Scalar.subi v173 v175
  let v177 : BitVec 1 := Scalar.cmpi .ne v171 v176
  let v178 : BitVec 32 := Scalar.remsi v11 c512_i32_47
  let c0_i32_52 : BitVec 32 := 0#32
  let v179 : BitVec 1 := Scalar.cmpi .ne v178 c0_i32_52
  let v180 : BitVec 1 := Scalar.andi v177 v179
  let v166 : BitVec 32 := Scalar.divsi v11 c512_i32_47
  let c1_i32_53 : BitVec 32 := 1#32
  let v181 : BitVec 32 := Scalar.subi v166 c1_i32_53
  let v182 : BitVec 32 := Scalar.select v180 v181 v166
  let v217 : BitVec 32 := Scalar.subi v182 c0_i32_58
  let c1_i32_59 : BitVec 32 := 1#32
  let v219 : BitVec 32 := Scalar.divsi v217 c1_i32_59
  let v220 : BitVec 32 := Scalar.muli v219 c1_i32_59
  let v221 : BitVec 32 := Scalar.addi c0_i32_58 v220
  let v218 : BitVec 32 := Scalar.addi c0_i32_58 v217
  let c1_i32_61 : BitVec 32 := 1#32
  ⟨v221, v218, c1_i32_61⟩
def k0_mult3 (i : grid0.Coords) (k0_t2 : Fin (k0_t2_loop i).trips) : BitVec 32 :=
  let c0_i32_58 : BitVec 32 := 0#32
  let arg2 : BitVec 32 := BitVec.ofNat 32 (i 2).val
  let c512_i32 : BitVec 32 := 512#32
  let v11 : BitVec 32 := Scalar.muli arg2 c512_i32
  let c0_i32_48 : BitVec 32 := 0#32
  let v167 : BitVec 1 := Scalar.cmpi .sgt v11 c0_i32_48
  let v168 : BitVec 32 := Scalar.extui v167
  let c0_i32_49 : BitVec 32 := 0#32
  let v169 : BitVec 1 := Scalar.cmpi .slt v11 c0_i32_49
  let v170 : BitVec 32 := Scalar.extui v169
  let v171 : BitVec 32 := Scalar.subi v168 v170
  let c512_i32_47 : BitVec 32 := 512#32
  let c0_i32_50 : BitVec 32 := 0#32
  let v172 : BitVec 1 := Scalar.cmpi .sgt c512_i32_47 c0_i32_50
  let v173 : BitVec 32 := Scalar.extui v172
  let c0_i32_51 : BitVec 32 := 0#32
  let v174 : BitVec 1 := Scalar.cmpi .slt c512_i32_47 c0_i32_51
  let v175 : BitVec 32 := Scalar.extui v174
  let v176 : BitVec 32 := Scalar.subi v173 v175
  let v177 : BitVec 1 := Scalar.cmpi .ne v171 v176
  let v178 : BitVec 32 := Scalar.remsi v11 c512_i32_47
  let c0_i32_52 : BitVec 32 := 0#32
  let v179 : BitVec 1 := Scalar.cmpi .ne v178 c0_i32_52
  let v180 : BitVec 1 := Scalar.andi v177 v179
  let v166 : BitVec 32 := Scalar.divsi v11 c512_i32_47
  let c1_i32_53 : BitVec 32 := 1#32
  let v181 : BitVec 32 := Scalar.subi v166 c1_i32_53
  let v182 : BitVec 32 := Scalar.select v180 v181 v166
  let v217 : BitVec 32 := Scalar.subi v182 c0_i32_58
  let c1_i32_59 : BitVec 32 := 1#32
  let v219 : BitVec 32 := Scalar.divsi v217 c1_i32_59
  let v220 : BitVec 32 := Scalar.muli v219 c1_i32_59
  let v221 : BitVec 32 := Scalar.addi c0_i32_58 v220
  let c1_i32_61 : BitVec 32 := 1#32
  let arg12 : BitVec 32 := Scf.iv v221 c1_i32_61 k0_t2
  let c512_i32_171 : BitVec 32 := 512#32
  let v750 : BitVec 32 := Scalar.muli arg12 c512_i32_171
  v750
def k0_off3 (i : grid0.Coords) (k0_t2 : Fin (k0_t2_loop i).trips) : Fin 3 → Nat :=
  let c0_172 : Index := 0#32
  let c0_i32_58 : BitVec 32 := 0#32
  let arg2 : BitVec 32 := BitVec.ofNat 32 (i 2).val
  let c512_i32 : BitVec 32 := 512#32
  let v11 : BitVec 32 := Scalar.muli arg2 c512_i32
  let c0_i32_48 : BitVec 32 := 0#32
  let v167 : BitVec 1 := Scalar.cmpi .sgt v11 c0_i32_48
  let v168 : BitVec 32 := Scalar.extui v167
  let c0_i32_49 : BitVec 32 := 0#32
  let v169 : BitVec 1 := Scalar.cmpi .slt v11 c0_i32_49
  let v170 : BitVec 32 := Scalar.extui v169
  let v171 : BitVec 32 := Scalar.subi v168 v170
  let c512_i32_47 : BitVec 32 := 512#32
  let c0_i32_50 : BitVec 32 := 0#32
  let v172 : BitVec 1 := Scalar.cmpi .sgt c512_i32_47 c0_i32_50
  let v173 : BitVec 32 := Scalar.extui v172
  let c0_i32_51 : BitVec 32 := 0#32
  let v174 : BitVec 1 := Scalar.cmpi .slt c512_i32_47 c0_i32_51
  let v175 : BitVec 32 := Scalar.extui v174
  let v176 : BitVec 32 := Scalar.subi v173 v175
  let v177 : BitVec 1 := Scalar.cmpi .ne v171 v176
  let v178 : BitVec 32 := Scalar.remsi v11 c512_i32_47
  let c0_i32_52 : BitVec 32 := 0#32
  let v179 : BitVec 1 := Scalar.cmpi .ne v178 c0_i32_52
  let v180 : BitVec 1 := Scalar.andi v177 v179
  let v166 : BitVec 32 := Scalar.divsi v11 c512_i32_47
  let c1_i32_53 : BitVec 32 := 1#32
  let v181 : BitVec 32 := Scalar.subi v166 c1_i32_53
  let v182 : BitVec 32 := Scalar.select v180 v181 v166
  let v217 : BitVec 32 := Scalar.subi v182 c0_i32_58
  let c1_i32_59 : BitVec 32 := 1#32
  let v219 : BitVec 32 := Scalar.divsi v217 c1_i32_59
  let v220 : BitVec 32 := Scalar.muli v219 c1_i32_59
  let v221 : BitVec 32 := Scalar.addi c0_i32_58 v220
  let c1_i32_61 : BitVec 32 := 1#32
  let arg12 : BitVec 32 := Scf.iv v221 c1_i32_61 k0_t2
  let c512_i32_171 : BitVec 32 := 512#32
  let v750 : BitVec 32 := Scalar.muli arg12 c512_i32_171
  let v751 : BitVec 32 := v750
  let v752 : Index := Scalar.indexCast v751
  let c0_173 : Index := 0#32
  ![0, v752.toNat, 0]
def k0_mult4 (i : grid0.Coords) (k0_t2 : Fin (k0_t2_loop i).trips) : BitVec 32 :=
  let c0_i32_58 : BitVec 32 := 0#32
  let arg2 : BitVec 32 := BitVec.ofNat 32 (i 2).val
  let c512_i32 : BitVec 32 := 512#32
  let v11 : BitVec 32 := Scalar.muli arg2 c512_i32
  let c0_i32_48 : BitVec 32 := 0#32
  let v167 : BitVec 1 := Scalar.cmpi .sgt v11 c0_i32_48
  let v168 : BitVec 32 := Scalar.extui v167
  let c0_i32_49 : BitVec 32 := 0#32
  let v169 : BitVec 1 := Scalar.cmpi .slt v11 c0_i32_49
  let v170 : BitVec 32 := Scalar.extui v169
  let v171 : BitVec 32 := Scalar.subi v168 v170
  let c512_i32_47 : BitVec 32 := 512#32
  let c0_i32_50 : BitVec 32 := 0#32
  let v172 : BitVec 1 := Scalar.cmpi .sgt c512_i32_47 c0_i32_50
  let v173 : BitVec 32 := Scalar.extui v172
  let c0_i32_51 : BitVec 32 := 0#32
  let v174 : BitVec 1 := Scalar.cmpi .slt c512_i32_47 c0_i32_51
  let v175 : BitVec 32 := Scalar.extui v174
  let v176 : BitVec 32 := Scalar.subi v173 v175
  let v177 : BitVec 1 := Scalar.cmpi .ne v171 v176
  let v178 : BitVec 32 := Scalar.remsi v11 c512_i32_47
  let c0_i32_52 : BitVec 32 := 0#32
  let v179 : BitVec 1 := Scalar.cmpi .ne v178 c0_i32_52
  let v180 : BitVec 1 := Scalar.andi v177 v179
  let v166 : BitVec 32 := Scalar.divsi v11 c512_i32_47
  let c1_i32_53 : BitVec 32 := 1#32
  let v181 : BitVec 32 := Scalar.subi v166 c1_i32_53
  let v182 : BitVec 32 := Scalar.select v180 v181 v166
  let v217 : BitVec 32 := Scalar.subi v182 c0_i32_58
  let c1_i32_59 : BitVec 32 := 1#32
  let v219 : BitVec 32 := Scalar.divsi v217 c1_i32_59
  let v220 : BitVec 32 := Scalar.muli v219 c1_i32_59
  let v221 : BitVec 32 := Scalar.addi c0_i32_58 v220
  let c1_i32_61 : BitVec 32 := 1#32
  let arg12 : BitVec 32 := Scf.iv v221 c1_i32_61 k0_t2
  let c512_i32_175 : BitVec 32 := 512#32
  let v756 : BitVec 32 := Scalar.muli arg12 c512_i32_175
  v756
def k0_off4 (i : grid0.Coords) (k0_t2 : Fin (k0_t2_loop i).trips) : Fin 2 → Nat :=
  let c0_176 : Index := 0#32
  let c0_i32_58 : BitVec 32 := 0#32
  let arg2 : BitVec 32 := BitVec.ofNat 32 (i 2).val
  let c512_i32 : BitVec 32 := 512#32
  let v11 : BitVec 32 := Scalar.muli arg2 c512_i32
  let c0_i32_48 : BitVec 32 := 0#32
  let v167 : BitVec 1 := Scalar.cmpi .sgt v11 c0_i32_48
  let v168 : BitVec 32 := Scalar.extui v167
  let c0_i32_49 : BitVec 32 := 0#32
  let v169 : BitVec 1 := Scalar.cmpi .slt v11 c0_i32_49
  let v170 : BitVec 32 := Scalar.extui v169
  let v171 : BitVec 32 := Scalar.subi v168 v170
  let c512_i32_47 : BitVec 32 := 512#32
  let c0_i32_50 : BitVec 32 := 0#32
  let v172 : BitVec 1 := Scalar.cmpi .sgt c512_i32_47 c0_i32_50
  let v173 : BitVec 32 := Scalar.extui v172
  let c0_i32_51 : BitVec 32 := 0#32
  let v174 : BitVec 1 := Scalar.cmpi .slt c512_i32_47 c0_i32_51
  let v175 : BitVec 32 := Scalar.extui v174
  let v176 : BitVec 32 := Scalar.subi v173 v175
  let v177 : BitVec 1 := Scalar.cmpi .ne v171 v176
  let v178 : BitVec 32 := Scalar.remsi v11 c512_i32_47
  let c0_i32_52 : BitVec 32 := 0#32
  let v179 : BitVec 1 := Scalar.cmpi .ne v178 c0_i32_52
  let v180 : BitVec 1 := Scalar.andi v177 v179
  let v166 : BitVec 32 := Scalar.divsi v11 c512_i32_47
  let c1_i32_53 : BitVec 32 := 1#32
  let v181 : BitVec 32 := Scalar.subi v166 c1_i32_53
  let v182 : BitVec 32 := Scalar.select v180 v181 v166
  let v217 : BitVec 32 := Scalar.subi v182 c0_i32_58
  let c1_i32_59 : BitVec 32 := 1#32
  let v219 : BitVec 32 := Scalar.divsi v217 c1_i32_59
  let v220 : BitVec 32 := Scalar.muli v219 c1_i32_59
  let v221 : BitVec 32 := Scalar.addi c0_i32_58 v220
  let c1_i32_61 : BitVec 32 := 1#32
  let arg12 : BitVec 32 := Scf.iv v221 c1_i32_61 k0_t2
  let c512_i32_175 : BitVec 32 := 512#32
  let v756 : BitVec 32 := Scalar.muli arg12 c512_i32_175
  let v757 : BitVec 32 := v756
  let v758 : Index := Scalar.indexCast v757
  ![0, v758.toNat]
def k0_mult5 (i : grid0.Coords) : BitVec 32 :=
  let arg2 : BitVec 32 := BitVec.ofNat 32 (i 2).val
  let c512_i32 : BitVec 32 := 512#32
  let v11 : BitVec 32 := Scalar.muli arg2 c512_i32
  let c0_i32_62 : BitVec 32 := 0#32
  let v224 : BitVec 32 := Scalar.addi v11 c0_i32_62
  v224
def k0_off5 (i : grid0.Coords) (c0_i32_62 : BitVec 32) : Fin 3 → Nat :=
  let c0_63 : Index := 0#32
  let arg2 : BitVec 32 := BitVec.ofNat 32 (i 2).val
  let c512_i32 : BitVec 32 := 512#32
  let v11 : BitVec 32 := Scalar.muli arg2 c512_i32
  let v224 : BitVec 32 := Scalar.addi v11 c0_i32_62
  let v232 : BitVec 32 := v224
  let v233 : Index := Scalar.indexCast v232
  let c0_64 : Index := 0#32
  ![0, v233.toNat, 0]
def k0_mult6 (i : grid0.Coords) : BitVec 32 :=
  let arg2 : BitVec 32 := BitVec.ofNat 32 (i 2).val
  let c512_i32 : BitVec 32 := 512#32
  let v11 : BitVec 32 := Scalar.muli arg2 c512_i32
  let c0_i32_62 : BitVec 32 := 0#32
  let v224 : BitVec 32 := Scalar.addi v11 c0_i32_62
  v224
def k0_off6 (i : grid0.Coords) (c0_i32_62 : BitVec 32) : Fin 2 → Nat :=
  let c0_67 : Index := 0#32
  let arg2 : BitVec 32 := BitVec.ofNat 32 (i 2).val
  let c512_i32 : BitVec 32 := 512#32
  let v11 : BitVec 32 := Scalar.muli arg2 c512_i32
  let v224 : BitVec 32 := Scalar.addi v11 c0_i32_62
  let v239 : BitVec 32 := v224
  let v240 : Index := Scalar.indexCast v239
  ![0, v240.toNat]
def k0_mult7 (i : grid0.Coords) : BitVec 32 :=
  let arg2 : BitVec 32 := BitVec.ofNat 32 (i 2).val
  let c512_i32 : BitVec 32 := 512#32
  let v11 : BitVec 32 := Scalar.muli arg2 c512_i32
  let c256_i32 : BitVec 32 := 256#32
  let v225 : BitVec 32 := Scalar.addi v11 c256_i32
  v225
def k0_mult8 (i : grid0.Coords) : BitVec 32 :=
  let arg2 : BitVec 32 := BitVec.ofNat 32 (i 2).val
  let c512_i32 : BitVec 32 := 512#32
  let v11 : BitVec 32 := Scalar.muli arg2 c512_i32
  let c256_i32 : BitVec 32 := 256#32
  let v225 : BitVec 32 := Scalar.addi v11 c256_i32
  v225
def k0_mult9 (i : grid0.Coords) : BitVec 32 :=
  let arg2 : BitVec 32 := BitVec.ofNat 32 (i 2).val
  let c512_i32 : BitVec 32 := 512#32
  let v11 : BitVec 32 := Scalar.muli arg2 c512_i32
  let c512_i32_77 : BitVec 32 := 512#32
  let v356 : BitVec 32 := Scalar.subi v11 c512_i32_77
  let c0_i32_78 : BitVec 32 := 0#32
  let v357 : BitVec 32 := Scalar.maxsi v356 c0_i32_78
  let c256_i32_79 : BitVec 32 := 256#32
  let v358 : BitVec 32 := Scalar.addi v357 c256_i32_79
  v358
def k0_off7 (i : grid0.Coords) (c256_i32_79 : BitVec 32) : Fin 2 → Nat :=
  let arg2 : BitVec 32 := BitVec.ofNat 32 (i 2).val
  let c512_i32 : BitVec 32 := 512#32
  let v11 : BitVec 32 := Scalar.muli arg2 c512_i32
  let c512_i32_77 : BitVec 32 := 512#32
  let v356 : BitVec 32 := Scalar.subi v11 c512_i32_77
  let c0_i32_78 : BitVec 32 := 0#32
  let v357 : BitVec 32 := Scalar.maxsi v356 c0_i32_78
  let v358 : BitVec 32 := Scalar.addi v357 c256_i32_79
  let v371 : BitVec 32 := v358
  let v372 : Index := Scalar.indexCast v371
  let c0_83 : Index := 0#32
  ![v372.toNat, 0]
def k0_mult10 (i : grid0.Coords) : BitVec 32 :=
  let arg2 : BitVec 32 := BitVec.ofNat 32 (i 2).val
  let c512_i32 : BitVec 32 := 512#32
  let v11 : BitVec 32 := Scalar.muli arg2 c512_i32
  let c512_i32_77 : BitVec 32 := 512#32
  let v356 : BitVec 32 := Scalar.subi v11 c512_i32_77
  let c0_i32_78 : BitVec 32 := 0#32
  let v357 : BitVec 32 := Scalar.maxsi v356 c0_i32_78
  let c256_i32_79 : BitVec 32 := 256#32
  let v358 : BitVec 32 := Scalar.addi v357 c256_i32_79
  v358
def k0_off8 (i : grid0.Coords) (c256_i32_79 : BitVec 32) : Fin 2 → Nat :=
  let c0_86 : Index := 0#32
  let arg2 : BitVec 32 := BitVec.ofNat 32 (i 2).val
  let c512_i32 : BitVec 32 := 512#32
  let v11 : BitVec 32 := Scalar.muli arg2 c512_i32
  let c512_i32_77 : BitVec 32 := 512#32
  let v356 : BitVec 32 := Scalar.subi v11 c512_i32_77
  let c0_i32_78 : BitVec 32 := 0#32
  let v357 : BitVec 32 := Scalar.maxsi v356 c0_i32_78
  let v358 : BitVec 32 := Scalar.addi v357 c256_i32_79
  let v378 : BitVec 32 := v358
  let v379 : Index := Scalar.indexCast v378
  ![0, v379.toNat]
def k0_mult11 (i : grid0.Coords) : BitVec 32 :=
  let arg2 : BitVec 32 := BitVec.ofNat 32 (i 2).val
  let c512_i32 : BitVec 32 := 512#32
  let v11 : BitVec 32 := Scalar.muli arg2 c512_i32
  let c512_i32_77 : BitVec 32 := 512#32
  let v356 : BitVec 32 := Scalar.subi v11 c512_i32_77
  let c0_i32_78 : BitVec 32 := 0#32
  let v357 : BitVec 32 := Scalar.maxsi v356 c0_i32_78
  let c0_i32_80 : BitVec 32 := 0#32
  let v359 : BitVec 32 := Scalar.addi v357 c0_i32_80
  v359
def k0_mult12 (i : grid0.Coords) : BitVec 32 :=
  let arg2 : BitVec 32 := BitVec.ofNat 32 (i 2).val
  let c512_i32 : BitVec 32 := 512#32
  let v11 : BitVec 32 := Scalar.muli arg2 c512_i32
  let c512_i32_77 : BitVec 32 := 512#32
  let v356 : BitVec 32 := Scalar.subi v11 c512_i32_77
  let c0_i32_78 : BitVec 32 := 0#32
  let v357 : BitVec 32 := Scalar.maxsi v356 c0_i32_78
  let c0_i32_80 : BitVec 32 := 0#32
  let v359 : BitVec 32 := Scalar.addi v357 c0_i32_80
  v359
def k0_mult13 (i : grid0.Coords) : BitVec 32 :=
  let arg2 : BitVec 32 := BitVec.ofNat 32 (i 2).val
  let c512_i32 : BitVec 32 := 512#32
  let v11 : BitVec 32 := Scalar.muli arg2 c512_i32
  let c0_i32_97 : BitVec 32 := 0#32
  let v514 : BitVec 32 := Scalar.addi v11 c0_i32_97
  v514
def k0_off9 (i : grid0.Coords) (c0_i32_97 : BitVec 32) : Fin 2 → Nat :=
  let arg2 : BitVec 32 := BitVec.ofNat 32 (i 2).val
  let c512_i32 : BitVec 32 := 512#32
  let v11 : BitVec 32 := Scalar.muli arg2 c512_i32
  let v514 : BitVec 32 := Scalar.addi v11 c0_i32_97
  let v522 : BitVec 32 := v514
  let v523 : Index := Scalar.indexCast v522
  let c0_99 : Index := 0#32
  ![v523.toNat, 0]
def k0_mult14 (i : grid0.Coords) : BitVec 32 :=
  let arg2 : BitVec 32 := BitVec.ofNat 32 (i 2).val
  let c512_i32 : BitVec 32 := 512#32
  let v11 : BitVec 32 := Scalar.muli arg2 c512_i32
  let c0_i32_97 : BitVec 32 := 0#32
  let v514 : BitVec 32 := Scalar.addi v11 c0_i32_97
  v514
def k0_mult15 (i : grid0.Coords) : BitVec 32 :=
  let arg2 : BitVec 32 := BitVec.ofNat 32 (i 2).val
  let c512_i32 : BitVec 32 := 512#32
  let v11 : BitVec 32 := Scalar.muli arg2 c512_i32
  let c256_i32_98 : BitVec 32 := 256#32
  let v515 : BitVec 32 := Scalar.addi v11 c256_i32_98
  v515
def k0_mult16 (i : grid0.Coords) : BitVec 32 :=
  let arg2 : BitVec 32 := BitVec.ofNat 32 (i 2).val
  let c512_i32 : BitVec 32 := 512#32
  let v11 : BitVec 32 := Scalar.muli arg2 c512_i32
  let c256_i32_98 : BitVec 32 := 256#32
  let v515 : BitVec 32 := Scalar.addi v11 c256_i32_98
  v515
@[reducible] def k0_t3_loop (i : grid0.Coords) : Scf.Loop 32 :=
  let c0_i32_171 : BitVec 32 := 0#32
  let arg2 : BitVec 32 := BitVec.ofNat 32 (i 2).val
  let c512_i32 : BitVec 32 := 512#32
  let v11 : BitVec 32 := Scalar.muli arg2 c512_i32
  let c0_i32_48 : BitVec 32 := 0#32
  let v167 : BitVec 1 := Scalar.cmpi .sgt v11 c0_i32_48
  let v168 : BitVec 32 := Scalar.extui v167
  let c0_i32_49 : BitVec 32 := 0#32
  let v169 : BitVec 1 := Scalar.cmpi .slt v11 c0_i32_49
  let v170 : BitVec 32 := Scalar.extui v169
  let v171 : BitVec 32 := Scalar.subi v168 v170
  let c512_i32_47 : BitVec 32 := 512#32
  let c0_i32_50 : BitVec 32 := 0#32
  let v172 : BitVec 1 := Scalar.cmpi .sgt c512_i32_47 c0_i32_50
  let v173 : BitVec 32 := Scalar.extui v172
  let c0_i32_51 : BitVec 32 := 0#32
  let v174 : BitVec 1 := Scalar.cmpi .slt c512_i32_47 c0_i32_51
  let v175 : BitVec 32 := Scalar.extui v174
  let v176 : BitVec 32 := Scalar.subi v173 v175
  let v177 : BitVec 1 := Scalar.cmpi .ne v171 v176
  let v178 : BitVec 32 := Scalar.remsi v11 c512_i32_47
  let c0_i32_52 : BitVec 32 := 0#32
  let v179 : BitVec 1 := Scalar.cmpi .ne v178 c0_i32_52
  let v180 : BitVec 1 := Scalar.andi v177 v179
  let v166 : BitVec 32 := Scalar.divsi v11 c512_i32_47
  let c1_i32_53 : BitVec 32 := 1#32
  let v181 : BitVec 32 := Scalar.subi v166 c1_i32_53
  let v182 : BitVec 32 := Scalar.select v180 v181 v166
  let v750 : BitVec 32 := Scalar.subi v182 c0_i32_171
  let c1_i32_172 : BitVec 32 := 1#32
  let v752 : BitVec 32 := Scalar.divsi v750 c1_i32_172
  let v753 : BitVec 32 := Scalar.muli v752 c1_i32_172
  let v754 : BitVec 32 := Scalar.addi c0_i32_171 v753
  let c1_i32_173 : BitVec 32 := 1#32
  ⟨c0_i32_171, v754, c1_i32_173⟩
def k0_mult17 (i : grid0.Coords) (k0_t3 : Fin (k0_t3_loop i).trips) : BitVec 32 :=
  let c0_i32_171 : BitVec 32 := 0#32
  let c1_i32_173 : BitVec 32 := 1#32
  let arg12 : BitVec 32 := Scf.iv c0_i32_171 c1_i32_173 k0_t3
  let c512_i32_225 : BitVec 32 := 512#32
  let v1047 : BitVec 32 := Scalar.muli arg12 c512_i32_225
  v1047
def k0_off10 (i : grid0.Coords) (k0_t3 : Fin (k0_t3_loop i).trips) : Fin 3 → Nat :=
  let c0_226 : Index := 0#32
  let c0_i32_171 : BitVec 32 := 0#32
  let c1_i32_173 : BitVec 32 := 1#32
  let arg12 : BitVec 32 := Scf.iv c0_i32_171 c1_i32_173 k0_t3
  let c512_i32_225 : BitVec 32 := 512#32
  let v1047 : BitVec 32 := Scalar.muli arg12 c512_i32_225
  let v1048 : BitVec 32 := v1047
  let v1049 : Index := Scalar.indexCast v1048
  let c0_227 : Index := 0#32
  ![0, v1049.toNat, 0]
def k0_mult18 (i : grid0.Coords) (k0_t3 : Fin (k0_t3_loop i).trips) : BitVec 32 :=
  let c0_i32_171 : BitVec 32 := 0#32
  let c1_i32_173 : BitVec 32 := 1#32
  let arg12 : BitVec 32 := Scf.iv c0_i32_171 c1_i32_173 k0_t3
  let c512_i32_229 : BitVec 32 := 512#32
  let v1053 : BitVec 32 := Scalar.muli arg12 c512_i32_229
  v1053
def k0_off11 (i : grid0.Coords) (k0_t3 : Fin (k0_t3_loop i).trips) : Fin 2 → Nat :=
  let c0_230 : Index := 0#32
  let c0_i32_171 : BitVec 32 := 0#32
  let c1_i32_173 : BitVec 32 := 1#32
  let arg12 : BitVec 32 := Scf.iv c0_i32_171 c1_i32_173 k0_t3
  let c512_i32_229 : BitVec 32 := 512#32
  let v1053 : BitVec 32 := Scalar.muli arg12 c512_i32_229
  let v1054 : BitVec 32 := v1053
  let v1055 : Index := Scalar.indexCast v1054
  ![0, v1055.toNat]
@[reducible] def k0_t4_loop (i : grid0.Coords) : Scf.Loop 32 :=
  let c0_i32_171 : BitVec 32 := 0#32
  let arg2 : BitVec 32 := BitVec.ofNat 32 (i 2).val
  let c512_i32 : BitVec 32 := 512#32
  let v11 : BitVec 32 := Scalar.muli arg2 c512_i32
  let c0_i32_48 : BitVec 32 := 0#32
  let v167 : BitVec 1 := Scalar.cmpi .sgt v11 c0_i32_48
  let v168 : BitVec 32 := Scalar.extui v167
  let c0_i32_49 : BitVec 32 := 0#32
  let v169 : BitVec 1 := Scalar.cmpi .slt v11 c0_i32_49
  let v170 : BitVec 32 := Scalar.extui v169
  let v171 : BitVec 32 := Scalar.subi v168 v170
  let c512_i32_47 : BitVec 32 := 512#32
  let c0_i32_50 : BitVec 32 := 0#32
  let v172 : BitVec 1 := Scalar.cmpi .sgt c512_i32_47 c0_i32_50
  let v173 : BitVec 32 := Scalar.extui v172
  let c0_i32_51 : BitVec 32 := 0#32
  let v174 : BitVec 1 := Scalar.cmpi .slt c512_i32_47 c0_i32_51
  let v175 : BitVec 32 := Scalar.extui v174
  let v176 : BitVec 32 := Scalar.subi v173 v175
  let v177 : BitVec 1 := Scalar.cmpi .ne v171 v176
  let v178 : BitVec 32 := Scalar.remsi v11 c512_i32_47
  let c0_i32_52 : BitVec 32 := 0#32
  let v179 : BitVec 1 := Scalar.cmpi .ne v178 c0_i32_52
  let v180 : BitVec 1 := Scalar.andi v177 v179
  let v166 : BitVec 32 := Scalar.divsi v11 c512_i32_47
  let c1_i32_53 : BitVec 32 := 1#32
  let v181 : BitVec 32 := Scalar.subi v166 c1_i32_53
  let v182 : BitVec 32 := Scalar.select v180 v181 v166
  let v750 : BitVec 32 := Scalar.subi v182 c0_i32_171
  let c1_i32_172 : BitVec 32 := 1#32
  let v752 : BitVec 32 := Scalar.divsi v750 c1_i32_172
  let v753 : BitVec 32 := Scalar.muli v752 c1_i32_172
  let v754 : BitVec 32 := Scalar.addi c0_i32_171 v753
  let v751 : BitVec 32 := Scalar.addi c0_i32_171 v750
  let c1_i32_174 : BitVec 32 := 1#32
  ⟨v754, v751, c1_i32_174⟩
def k0_mult19 (i : grid0.Coords) (k0_t4 : Fin (k0_t4_loop i).trips) : BitVec 32 :=
  let c0_i32_171 : BitVec 32 := 0#32
  let arg2 : BitVec 32 := BitVec.ofNat 32 (i 2).val
  let c512_i32 : BitVec 32 := 512#32
  let v11 : BitVec 32 := Scalar.muli arg2 c512_i32
  let c0_i32_48 : BitVec 32 := 0#32
  let v167 : BitVec 1 := Scalar.cmpi .sgt v11 c0_i32_48
  let v168 : BitVec 32 := Scalar.extui v167
  let c0_i32_49 : BitVec 32 := 0#32
  let v169 : BitVec 1 := Scalar.cmpi .slt v11 c0_i32_49
  let v170 : BitVec 32 := Scalar.extui v169
  let v171 : BitVec 32 := Scalar.subi v168 v170
  let c512_i32_47 : BitVec 32 := 512#32
  let c0_i32_50 : BitVec 32 := 0#32
  let v172 : BitVec 1 := Scalar.cmpi .sgt c512_i32_47 c0_i32_50
  let v173 : BitVec 32 := Scalar.extui v172
  let c0_i32_51 : BitVec 32 := 0#32
  let v174 : BitVec 1 := Scalar.cmpi .slt c512_i32_47 c0_i32_51
  let v175 : BitVec 32 := Scalar.extui v174
  let v176 : BitVec 32 := Scalar.subi v173 v175
  let v177 : BitVec 1 := Scalar.cmpi .ne v171 v176
  let v178 : BitVec 32 := Scalar.remsi v11 c512_i32_47
  let c0_i32_52 : BitVec 32 := 0#32
  let v179 : BitVec 1 := Scalar.cmpi .ne v178 c0_i32_52
  let v180 : BitVec 1 := Scalar.andi v177 v179
  let v166 : BitVec 32 := Scalar.divsi v11 c512_i32_47
  let c1_i32_53 : BitVec 32 := 1#32
  let v181 : BitVec 32 := Scalar.subi v166 c1_i32_53
  let v182 : BitVec 32 := Scalar.select v180 v181 v166
  let v750 : BitVec 32 := Scalar.subi v182 c0_i32_171
  let c1_i32_172 : BitVec 32 := 1#32
  let v752 : BitVec 32 := Scalar.divsi v750 c1_i32_172
  let v753 : BitVec 32 := Scalar.muli v752 c1_i32_172
  let v754 : BitVec 32 := Scalar.addi c0_i32_171 v753
  let c1_i32_174 : BitVec 32 := 1#32
  let arg12 : BitVec 32 := Scf.iv v754 c1_i32_174 k0_t4
  let c512_i32_225 : BitVec 32 := 512#32
  let v1047 : BitVec 32 := Scalar.muli arg12 c512_i32_225
  v1047
def k0_off12 (i : grid0.Coords) (k0_t4 : Fin (k0_t4_loop i).trips) : Fin 3 → Nat :=
  let c0_226 : Index := 0#32
  let c0_i32_171 : BitVec 32 := 0#32
  let arg2 : BitVec 32 := BitVec.ofNat 32 (i 2).val
  let c512_i32 : BitVec 32 := 512#32
  let v11 : BitVec 32 := Scalar.muli arg2 c512_i32
  let c0_i32_48 : BitVec 32 := 0#32
  let v167 : BitVec 1 := Scalar.cmpi .sgt v11 c0_i32_48
  let v168 : BitVec 32 := Scalar.extui v167
  let c0_i32_49 : BitVec 32 := 0#32
  let v169 : BitVec 1 := Scalar.cmpi .slt v11 c0_i32_49
  let v170 : BitVec 32 := Scalar.extui v169
  let v171 : BitVec 32 := Scalar.subi v168 v170
  let c512_i32_47 : BitVec 32 := 512#32
  let c0_i32_50 : BitVec 32 := 0#32
  let v172 : BitVec 1 := Scalar.cmpi .sgt c512_i32_47 c0_i32_50
  let v173 : BitVec 32 := Scalar.extui v172
  let c0_i32_51 : BitVec 32 := 0#32
  let v174 : BitVec 1 := Scalar.cmpi .slt c512_i32_47 c0_i32_51
  let v175 : BitVec 32 := Scalar.extui v174
  let v176 : BitVec 32 := Scalar.subi v173 v175
  let v177 : BitVec 1 := Scalar.cmpi .ne v171 v176
  let v178 : BitVec 32 := Scalar.remsi v11 c512_i32_47
  let c0_i32_52 : BitVec 32 := 0#32
  let v179 : BitVec 1 := Scalar.cmpi .ne v178 c0_i32_52
  let v180 : BitVec 1 := Scalar.andi v177 v179
  let v166 : BitVec 32 := Scalar.divsi v11 c512_i32_47
  let c1_i32_53 : BitVec 32 := 1#32
  let v181 : BitVec 32 := Scalar.subi v166 c1_i32_53
  let v182 : BitVec 32 := Scalar.select v180 v181 v166
  let v750 : BitVec 32 := Scalar.subi v182 c0_i32_171
  let c1_i32_172 : BitVec 32 := 1#32
  let v752 : BitVec 32 := Scalar.divsi v750 c1_i32_172
  let v753 : BitVec 32 := Scalar.muli v752 c1_i32_172
  let v754 : BitVec 32 := Scalar.addi c0_i32_171 v753
  let c1_i32_174 : BitVec 32 := 1#32
  let arg12 : BitVec 32 := Scf.iv v754 c1_i32_174 k0_t4
  let c512_i32_225 : BitVec 32 := 512#32
  let v1047 : BitVec 32 := Scalar.muli arg12 c512_i32_225
  let v1048 : BitVec 32 := v1047
  let v1049 : Index := Scalar.indexCast v1048
  let c0_227 : Index := 0#32
  ![0, v1049.toNat, 0]
def k0_mult20 (i : grid0.Coords) (k0_t4 : Fin (k0_t4_loop i).trips) : BitVec 32 :=
  let c0_i32_171 : BitVec 32 := 0#32
  let arg2 : BitVec 32 := BitVec.ofNat 32 (i 2).val
  let c512_i32 : BitVec 32 := 512#32
  let v11 : BitVec 32 := Scalar.muli arg2 c512_i32
  let c0_i32_48 : BitVec 32 := 0#32
  let v167 : BitVec 1 := Scalar.cmpi .sgt v11 c0_i32_48
  let v168 : BitVec 32 := Scalar.extui v167
  let c0_i32_49 : BitVec 32 := 0#32
  let v169 : BitVec 1 := Scalar.cmpi .slt v11 c0_i32_49
  let v170 : BitVec 32 := Scalar.extui v169
  let v171 : BitVec 32 := Scalar.subi v168 v170
  let c512_i32_47 : BitVec 32 := 512#32
  let c0_i32_50 : BitVec 32 := 0#32
  let v172 : BitVec 1 := Scalar.cmpi .sgt c512_i32_47 c0_i32_50
  let v173 : BitVec 32 := Scalar.extui v172
  let c0_i32_51 : BitVec 32 := 0#32
  let v174 : BitVec 1 := Scalar.cmpi .slt c512_i32_47 c0_i32_51
  let v175 : BitVec 32 := Scalar.extui v174
  let v176 : BitVec 32 := Scalar.subi v173 v175
  let v177 : BitVec 1 := Scalar.cmpi .ne v171 v176
  let v178 : BitVec 32 := Scalar.remsi v11 c512_i32_47
  let c0_i32_52 : BitVec 32 := 0#32
  let v179 : BitVec 1 := Scalar.cmpi .ne v178 c0_i32_52
  let v180 : BitVec 1 := Scalar.andi v177 v179
  let v166 : BitVec 32 := Scalar.divsi v11 c512_i32_47
  let c1_i32_53 : BitVec 32 := 1#32
  let v181 : BitVec 32 := Scalar.subi v166 c1_i32_53
  let v182 : BitVec 32 := Scalar.select v180 v181 v166
  let v750 : BitVec 32 := Scalar.subi v182 c0_i32_171
  let c1_i32_172 : BitVec 32 := 1#32
  let v752 : BitVec 32 := Scalar.divsi v750 c1_i32_172
  let v753 : BitVec 32 := Scalar.muli v752 c1_i32_172
  let v754 : BitVec 32 := Scalar.addi c0_i32_171 v753
  let c1_i32_174 : BitVec 32 := 1#32
  let arg12 : BitVec 32 := Scf.iv v754 c1_i32_174 k0_t4
  let c512_i32_229 : BitVec 32 := 512#32
  let v1053 : BitVec 32 := Scalar.muli arg12 c512_i32_229
  v1053
def k0_off13 (i : grid0.Coords) (k0_t4 : Fin (k0_t4_loop i).trips) : Fin 2 → Nat :=
  let c0_230 : Index := 0#32
  let c0_i32_171 : BitVec 32 := 0#32
  let arg2 : BitVec 32 := BitVec.ofNat 32 (i 2).val
  let c512_i32 : BitVec 32 := 512#32
  let v11 : BitVec 32 := Scalar.muli arg2 c512_i32
  let c0_i32_48 : BitVec 32 := 0#32
  let v167 : BitVec 1 := Scalar.cmpi .sgt v11 c0_i32_48
  let v168 : BitVec 32 := Scalar.extui v167
  let c0_i32_49 : BitVec 32 := 0#32
  let v169 : BitVec 1 := Scalar.cmpi .slt v11 c0_i32_49
  let v170 : BitVec 32 := Scalar.extui v169
  let v171 : BitVec 32 := Scalar.subi v168 v170
  let c512_i32_47 : BitVec 32 := 512#32
  let c0_i32_50 : BitVec 32 := 0#32
  let v172 : BitVec 1 := Scalar.cmpi .sgt c512_i32_47 c0_i32_50
  let v173 : BitVec 32 := Scalar.extui v172
  let c0_i32_51 : BitVec 32 := 0#32
  let v174 : BitVec 1 := Scalar.cmpi .slt c512_i32_47 c0_i32_51
  let v175 : BitVec 32 := Scalar.extui v174
  let v176 : BitVec 32 := Scalar.subi v173 v175
  let v177 : BitVec 1 := Scalar.cmpi .ne v171 v176
  let v178 : BitVec 32 := Scalar.remsi v11 c512_i32_47
  let c0_i32_52 : BitVec 32 := 0#32
  let v179 : BitVec 1 := Scalar.cmpi .ne v178 c0_i32_52
  let v180 : BitVec 1 := Scalar.andi v177 v179
  let v166 : BitVec 32 := Scalar.divsi v11 c512_i32_47
  let c1_i32_53 : BitVec 32 := 1#32
  let v181 : BitVec 32 := Scalar.subi v166 c1_i32_53
  let v182 : BitVec 32 := Scalar.select v180 v181 v166
  let v750 : BitVec 32 := Scalar.subi v182 c0_i32_171
  let c1_i32_172 : BitVec 32 := 1#32
  let v752 : BitVec 32 := Scalar.divsi v750 c1_i32_172
  let v753 : BitVec 32 := Scalar.muli v752 c1_i32_172
  let v754 : BitVec 32 := Scalar.addi c0_i32_171 v753
  let c1_i32_174 : BitVec 32 := 1#32
  let arg12 : BitVec 32 := Scf.iv v754 c1_i32_174 k0_t4
  let c512_i32_229 : BitVec 32 := 512#32
  let v1053 : BitVec 32 := Scalar.muli arg12 c512_i32_229
  let v1054 : BitVec 32 := v1053
  let v1055 : Index := Scalar.indexCast v1054
  ![0, v1055.toNat]
def k0_mult21 (i : grid0.Coords) : BitVec 32 :=
  let arg2 : BitVec 32 := BitVec.ofNat 32 (i 2).val
  let c512_i32 : BitVec 32 := 512#32
  let v11 : BitVec 32 := Scalar.muli arg2 c512_i32
  let c0_i32_175 : BitVec 32 := 0#32
  let v757 : BitVec 32 := Scalar.addi v11 c0_i32_175
  v757
def k0_off14 (i : grid0.Coords) (c0_i32_175 : BitVec 32) : Fin 3 → Nat :=
  let c0_177 : Index := 0#32
  let arg2 : BitVec 32 := BitVec.ofNat 32 (i 2).val
  let c512_i32 : BitVec 32 := 512#32
  let v11 : BitVec 32 := Scalar.muli arg2 c512_i32
  let v757 : BitVec 32 := Scalar.addi v11 c0_i32_175
  let v765 : BitVec 32 := v757
  let v766 : Index := Scalar.indexCast v765
  let c0_178 : Index := 0#32
  ![0, v766.toNat, 0]
def k0_mult22 (i : grid0.Coords) : BitVec 32 :=
  let arg2 : BitVec 32 := BitVec.ofNat 32 (i 2).val
  let c512_i32 : BitVec 32 := 512#32
  let v11 : BitVec 32 := Scalar.muli arg2 c512_i32
  let c0_i32_175 : BitVec 32 := 0#32
  let v757 : BitVec 32 := Scalar.addi v11 c0_i32_175
  v757
def k0_off15 (i : grid0.Coords) (c0_i32_175 : BitVec 32) : Fin 2 → Nat :=
  let c0_181 : Index := 0#32
  let arg2 : BitVec 32 := BitVec.ofNat 32 (i 2).val
  let c512_i32 : BitVec 32 := 512#32
  let v11 : BitVec 32 := Scalar.muli arg2 c512_i32
  let v757 : BitVec 32 := Scalar.addi v11 c0_i32_175
  let v772 : BitVec 32 := v757
  let v773 : Index := Scalar.indexCast v772
  ![0, v773.toNat]
def k0_mult23 (i : grid0.Coords) : BitVec 32 :=
  let arg2 : BitVec 32 := BitVec.ofNat 32 (i 2).val
  let c512_i32 : BitVec 32 := 512#32
  let v11 : BitVec 32 := Scalar.muli arg2 c512_i32
  let c256_i32_176 : BitVec 32 := 256#32
  let v758 : BitVec 32 := Scalar.addi v11 c256_i32_176
  v758
def k0_mult24 (i : grid0.Coords) : BitVec 32 :=
  let arg2 : BitVec 32 := BitVec.ofNat 32 (i 2).val
  let c512_i32 : BitVec 32 := 512#32
  let v11 : BitVec 32 := Scalar.muli arg2 c512_i32
  let c256_i32_176 : BitVec 32 := 256#32
  let v758 : BitVec 32 := Scalar.addi v11 c256_i32_176
  v758
def k0_mult25 (i : grid0.Coords) : BitVec 32 :=
  let arg2 : BitVec 32 := BitVec.ofNat 32 (i 2).val
  let c512_i32 : BitVec 32 := 512#32
  let v11 : BitVec 32 := Scalar.muli arg2 c512_i32
  let c512_i32_191 : BitVec 32 := 512#32
  let v845 : BitVec 32 := Scalar.subi v11 c512_i32_191
  let c0_i32_192 : BitVec 32 := 0#32
  let v846 : BitVec 32 := Scalar.maxsi v845 c0_i32_192
  let c256_i32_193 : BitVec 32 := 256#32
  let v847 : BitVec 32 := Scalar.addi v846 c256_i32_193
  v847
def k0_off16 (i : grid0.Coords) (c256_i32_193 : BitVec 32) : Fin 2 → Nat :=
  let arg2 : BitVec 32 := BitVec.ofNat 32 (i 2).val
  let c512_i32 : BitVec 32 := 512#32
  let v11 : BitVec 32 := Scalar.muli arg2 c512_i32
  let c512_i32_191 : BitVec 32 := 512#32
  let v845 : BitVec 32 := Scalar.subi v11 c512_i32_191
  let c0_i32_192 : BitVec 32 := 0#32
  let v846 : BitVec 32 := Scalar.maxsi v845 c0_i32_192
  let v847 : BitVec 32 := Scalar.addi v846 c256_i32_193
  let v860 : BitVec 32 := v847
  let v861 : Index := Scalar.indexCast v860
  let c0_197 : Index := 0#32
  ![v861.toNat, 0]
def k0_mult26 (i : grid0.Coords) : BitVec 32 :=
  let arg2 : BitVec 32 := BitVec.ofNat 32 (i 2).val
  let c512_i32 : BitVec 32 := 512#32
  let v11 : BitVec 32 := Scalar.muli arg2 c512_i32
  let c512_i32_191 : BitVec 32 := 512#32
  let v845 : BitVec 32 := Scalar.subi v11 c512_i32_191
  let c0_i32_192 : BitVec 32 := 0#32
  let v846 : BitVec 32 := Scalar.maxsi v845 c0_i32_192
  let c256_i32_193 : BitVec 32 := 256#32
  let v847 : BitVec 32 := Scalar.addi v846 c256_i32_193
  v847
def k0_off17 (i : grid0.Coords) (c256_i32_193 : BitVec 32) : Fin 2 → Nat :=
  let c0_200 : Index := 0#32
  let arg2 : BitVec 32 := BitVec.ofNat 32 (i 2).val
  let c512_i32 : BitVec 32 := 512#32
  let v11 : BitVec 32 := Scalar.muli arg2 c512_i32
  let c512_i32_191 : BitVec 32 := 512#32
  let v845 : BitVec 32 := Scalar.subi v11 c512_i32_191
  let c0_i32_192 : BitVec 32 := 0#32
  let v846 : BitVec 32 := Scalar.maxsi v845 c0_i32_192
  let v847 : BitVec 32 := Scalar.addi v846 c256_i32_193
  let v867 : BitVec 32 := v847
  let v868 : Index := Scalar.indexCast v867
  ![0, v868.toNat]
def k0_mult27 (i : grid0.Coords) : BitVec 32 :=
  let arg2 : BitVec 32 := BitVec.ofNat 32 (i 2).val
  let c512_i32 : BitVec 32 := 512#32
  let v11 : BitVec 32 := Scalar.muli arg2 c512_i32
  let c512_i32_191 : BitVec 32 := 512#32
  let v845 : BitVec 32 := Scalar.subi v11 c512_i32_191
  let c0_i32_192 : BitVec 32 := 0#32
  let v846 : BitVec 32 := Scalar.maxsi v845 c0_i32_192
  let c0_i32_194 : BitVec 32 := 0#32
  let v848 : BitVec 32 := Scalar.addi v846 c0_i32_194
  v848
def k0_mult28 (i : grid0.Coords) : BitVec 32 :=
  let arg2 : BitVec 32 := BitVec.ofNat 32 (i 2).val
  let c512_i32 : BitVec 32 := 512#32
  let v11 : BitVec 32 := Scalar.muli arg2 c512_i32
  let c512_i32_191 : BitVec 32 := 512#32
  let v845 : BitVec 32 := Scalar.subi v11 c512_i32_191
  let c0_i32_192 : BitVec 32 := 0#32
  let v846 : BitVec 32 := Scalar.maxsi v845 c0_i32_192
  let c0_i32_194 : BitVec 32 := 0#32
  let v848 : BitVec 32 := Scalar.addi v846 c0_i32_194
  v848
def k0_mult29 (i : grid0.Coords) : BitVec 32 :=
  let arg2 : BitVec 32 := BitVec.ofNat 32 (i 2).val
  let c512_i32 : BitVec 32 := 512#32
  let v11 : BitVec 32 := Scalar.muli arg2 c512_i32
  let c0_i32_211 : BitVec 32 := 0#32
  let v959 : BitVec 32 := Scalar.addi v11 c0_i32_211
  v959
def k0_off18 (i : grid0.Coords) (c0_i32_211 : BitVec 32) : Fin 2 → Nat :=
  let arg2 : BitVec 32 := BitVec.ofNat 32 (i 2).val
  let c512_i32 : BitVec 32 := 512#32
  let v11 : BitVec 32 := Scalar.muli arg2 c512_i32
  let v959 : BitVec 32 := Scalar.addi v11 c0_i32_211
  let v967 : BitVec 32 := v959
  let v968 : Index := Scalar.indexCast v967
  let c0_213 : Index := 0#32
  ![v968.toNat, 0]
def k0_mult30 (i : grid0.Coords) : BitVec 32 :=
  let arg2 : BitVec 32 := BitVec.ofNat 32 (i 2).val
  let c512_i32 : BitVec 32 := 512#32
  let v11 : BitVec 32 := Scalar.muli arg2 c512_i32
  let c0_i32_211 : BitVec 32 := 0#32
  let v959 : BitVec 32 := Scalar.addi v11 c0_i32_211
  v959
def k0_mult31 (i : grid0.Coords) : BitVec 32 :=
  let arg2 : BitVec 32 := BitVec.ofNat 32 (i 2).val
  let c512_i32 : BitVec 32 := 512#32
  let v11 : BitVec 32 := Scalar.muli arg2 c512_i32
  let c256_i32_212 : BitVec 32 := 256#32
  let v960 : BitVec 32 := Scalar.addi v11 c256_i32_212
  v960
def k0_mult32 (i : grid0.Coords) : BitVec 32 :=
  let arg2 : BitVec 32 := BitVec.ofNat 32 (i 2).val
  let c512_i32 : BitVec 32 := 512#32
  let v11 : BitVec 32 := Scalar.muli arg2 c512_i32
  let c256_i32_212 : BitVec 32 := 256#32
  let v960 : BitVec 32 := Scalar.addi v11 c256_i32_212
  v960
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![arg1.toNat, v1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  let c0_i32_1 : BitVec 32 := 0#32
  ![c0_i32.toNat, arg1.toNat, c0_i32_0.toNat, v1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg0.toNat, c0_i32_4.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg0.toNat, v16.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![arg1.toNat, v1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S3x1x4x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x256x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x64x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S64x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S64x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x4096x4x4x64 : Shape := ⟨5, ![4, 4096, 4, 4, 64]⟩
abbrev S4x4096x3x4x4 : Shape := ⟨5, ![4, 4096, 3, 4, 4]⟩
abbrev S4x255x4x64 : Shape := ⟨4, ![4, 255, 4, 64]⟩
abbrev S4x4096x4x64 : Shape := ⟨4, ![4, 4096, 4, 64]⟩
abbrev S4096 : Shape := ⟨1, ![4096]⟩
abbrev S255 : Shape := ⟨1, ![255]⟩
abbrev S_ : Shape := ⟨0, ![]⟩
abbrev S4x4x255x4096x4 : Shape := ⟨5, ![4, 4, 255, 4096, 4]⟩
abbrev S4x4096x4x4x255 : Shape := ⟨5, ![4, 4096, 4, 4, 255]⟩
abbrev S1x255 : Shape := ⟨2, ![1, 255]⟩
abbrev S4096x1 : Shape := ⟨2, ![4096, 1]⟩
abbrev S4096x255 : Shape := ⟨2, ![4096, 255]⟩
abbrev S1x4096x1x1x255 : Shape := ⟨5, ![1, 4096, 1, 1, 255]⟩
abbrev S4x4096x4x4 : Shape := ⟨4, ![4, 4096, 4, 4]⟩
abbrev S4x4096x4x4x1 : Shape := ⟨5, ![4, 4096, 4, 4, 1]⟩
abbrev S4x4x64x4096x4 : Shape := ⟨5, ![4, 4, 64, 4096, 4]⟩
abbrev S64 : Shape := ⟨1, ![64]⟩
abbrev S255x1 : Shape := ⟨2, ![255, 1]⟩
abbrev S1x64 : Shape := ⟨2, ![1, 64]⟩
abbrev S255x64 : Shape := ⟨2, ![255, 64]⟩
abbrev S4096x64 : Shape := ⟨2, ![4096, 64]⟩
abbrev S1x4096x1x64 : Shape := ⟨4, ![1, 4096, 1, 64]⟩
abbrev S4x4096x4x16 : Shape := ⟨4, ![4, 4096, 4, 16]⟩
abbrev S4x4096x4x1x16 : Shape := ⟨5, ![4, 4096, 4, 1, 16]⟩
abbrev S64x1 : Shape := ⟨2, ![64, 1]⟩
abbrev S1x1x1x64x1 : Shape := ⟨5, ![1, 1, 1, 64, 1]⟩
abbrev S4x4096x4x64x16 : Shape := ⟨5, ![4, 4096, 4, 64, 16]⟩
abbrev S4x4096x4x64x1 : Shape := ⟨5, ![4, 4096, 4, 64, 1]⟩
abbrev S4x4096x4x64x64 : Shape := ⟨5, ![4, 4096, 4, 64, 64]⟩
abbrev S4x4096x4x4096 : Shape := ⟨4, ![4, 4096, 4, 4096]⟩
abbrev S1x4096 : Shape := ⟨2, ![1, 4096]⟩
abbrev S4096x4096 : Shape := ⟨2, ![4096, 4096]⟩
abbrev S1x4096x1x4096 : Shape := ⟨4, ![1, 4096, 1, 4096]⟩
abbrev S4x4x4096x4096x4 : Shape := ⟨5, ![4, 4, 4096, 4096, 4]⟩
abbrev S4x4096x4x4x4096 : Shape := ⟨5, ![4, 4096, 4, 4, 4096]⟩
abbrev S4x4096x4x1x4096 : Shape := ⟨5, ![4, 4096, 4, 1, 4096]⟩
abbrev S1x4096x1x1x4096 : Shape := ⟨5, ![1, 4096, 1, 1, 4096]⟩
abbrev S4x4096x1x4x4 : Shape := ⟨5, ![4, 4096, 1, 4, 4]⟩
abbrev S16384x1024 : Shape := ⟨2, ![16384, 1024]⟩
abbrev S1024x16384 : Shape := ⟨2, ![1024, 16384]⟩

abbrev nBuf : Space → Nat
  | .hbm => 237
  | .vmem => 0
  | .smem => 0
  | _ => 0

abbrev hbmTy0_0 (i : Nat) : BufTy := match i % 128 with
  | 0 => ⟨S4x4096x4x4x64, .f32⟩
  | 1 => ⟨S4x4096x3x4x4, .f32⟩
  | 2 => ⟨S4x255x4x64, .f32⟩
  | 3 => ⟨S4x255x4x64, .f32⟩
  | 4 => ⟨S4x4096x4x64, .f32⟩
  | 5 => ⟨S4x4096x4x64, .f32⟩
  | 6 => ⟨S4x4096x4x64, .f32⟩
  | 7 => ⟨S4x4096x4x64, .f32⟩
  | 8 => ⟨S4096, .i32⟩
  | 9 => ⟨S255, .i32⟩
  | 10 => ⟨S_, .i32⟩
  | 11 => ⟨S255, .i32⟩
  | 12 => ⟨S255, .i32⟩
  | 13 => ⟨S4x4x255x4096x4, .f32⟩
  | 14 => ⟨S4x4096x4x4x255, .f32⟩
  | 15 => ⟨S1x255, .i32⟩
  | 16 => ⟨S_, .i32⟩
  | 17 => ⟨S1x255, .i32⟩
  | 18 => ⟨S1x255, .i32⟩
  | 19 => ⟨S_, .i32⟩
  | 20 => ⟨S1x255, .i32⟩
  | 21 => ⟨S1x255, .i32⟩
  | 22 => ⟨S4096x1, .i32⟩
  | 23 => ⟨S4096x255, .i32⟩
  | 24 => ⟨S4096x255, .i32⟩
  | 25 => ⟨S4096x255, .i1⟩
  | 26 => ⟨S1x4096x1x1x255, .i1⟩
  | 27 => ⟨S4x4096x4x4x255, .i1⟩
  | 28 => ⟨S_, .f32⟩
  | 29 => ⟨S4x4096x4x4x255, .f32⟩
  | 30 => ⟨S4x4096x4x4x255, .f32⟩
  | 31 => ⟨S_, .f32⟩
  | 32 => ⟨S4x4096x4x4, .f32⟩
  | 33 => ⟨S4x4096x4x4x1, .f32⟩
  | 34 => ⟨S4x4096x4x4x255, .f32⟩
  | 35 => ⟨S4x4096x4x4x255, .f32⟩
  | 36 => ⟨S4x4096x4x4x255, .f32⟩
  | 37 => ⟨S_, .f32⟩
  | 38 => ⟨S4x4096x4x4x255, .f32⟩
  | 39 => ⟨S4x4096x4x4x255, .f32⟩
  | 40 => ⟨S_, .f32⟩
  | 41 => ⟨S4x4096x4x4, .f32⟩
  | 42 => ⟨S4x4096x4x4x1, .f32⟩
  | 43 => ⟨S_, .f32⟩
  | 44 => ⟨S4x4096x4x4x1, .f32⟩
  | 45 => ⟨S4x4096x4x4x1, .i1⟩
  | 46 => ⟨S_, .f32⟩
  | 47 => ⟨S4x4096x4x4x1, .f32⟩
  | 48 => ⟨S4x4096x4x4x1, .f32⟩
  | 49 => ⟨S4x4096x4x4x255, .f32⟩
  | 50 => ⟨S4x4096x4x4x255, .f32⟩
  | 51 => ⟨S4x4x64x4096x4, .f32⟩
  | 52 => ⟨S4x4096x4x4x64, .f32⟩
  | 53 => ⟨S64, .i32⟩
  | 54 => ⟨S_, .i32⟩
  | 55 => ⟨S64, .i32⟩
  | 56 => ⟨S64, .i32⟩
  | 57 => ⟨S255x1, .i32⟩
  | 58 => ⟨S1x64, .i32⟩
  | 59 => ⟨S_, .i32⟩
  | 60 => ⟨S1x64, .i32⟩
  | 61 => ⟨S1x64, .i32⟩
  | 62 => ⟨S255x64, .i32⟩
  | 63 => ⟨S255x64, .i32⟩
  | 64 => ⟨S255x64, .i1⟩
  | 65 => ⟨S255x1, .i32⟩
  | 66 => ⟨S_, .i32⟩
  | 67 => ⟨S255x1, .i32⟩
  | 68 => ⟨S255x1, .i32⟩
  | 69 => ⟨S1x64, .i32⟩
  | 70 => ⟨S255x64, .i32⟩
  | 71 => ⟨S255x64, .i32⟩
  | 72 => ⟨S255x64, .i1⟩
  | 73 => ⟨S255x64, .i1⟩
  | 74 => ⟨S255x64, .f32⟩
  | 75 => ⟨S4x4096x4x4x64, .f32⟩
  | 76 => ⟨S_, .f32⟩
  | 77 => ⟨S4x4096x4x64, .f32⟩
  | 78 => ⟨S1x64, .i32⟩
  | 79 => ⟨S4096x1, .i32⟩
  | 80 => ⟨S4096x64, .i32⟩
  | 81 => ⟨S4096x64, .i32⟩
  | 82 => ⟨S4096x64, .i1⟩
  | 83 => ⟨S_, .i32⟩
  | 84 => ⟨S4096, .i32⟩
  | 85 => ⟨S4096, .i32⟩
  | 86 => ⟨S4096x1, .i32⟩
  | 87 => ⟨S1x64, .i32⟩
  | 88 => ⟨S_, .i32⟩
  | 89 => ⟨S1x64, .i32⟩
  | 90 => ⟨S1x64, .i1⟩
  | 91 => ⟨S1x64, .i32⟩
  | 92 => ⟨S4096x64, .i32⟩
  | 93 => ⟨S4096x64, .i32⟩
  | 94 => ⟨S4096x64, .i1⟩
  | 95 => ⟨S4096x64, .i1⟩
  | 96 => ⟨S4096x64, .i1⟩
  | 97 => ⟨S1x64, .i32⟩
  | 98 => ⟨S_, .i32⟩
  | 99 => ⟨S4096x1, .i32⟩
  | 100 => ⟨S4096x1, .i32⟩
  | 101 => ⟨S4096x64, .i32⟩
  | 102 => ⟨S4096x64, .i32⟩
  | 103 => ⟨S4096x64, .i1⟩
  | 104 => ⟨S4096x64, .i1⟩
  | 105 => ⟨S4096x64, .i1⟩
  | 106 => ⟨S1x4096x1x64, .i1⟩
  | 107 => ⟨S1x4096x1x64, .i1⟩
  | 108 => ⟨S_, .f32⟩
  | 109 => ⟨S_, .f32⟩
  | 110 => ⟨S4x4096x4x64, .i1⟩
  | 111 => ⟨S4x4096x4x64, .f32⟩
  | 112 => ⟨S4x4096x4x64, .f32⟩
  | 113 => ⟨S_, .f32⟩
  | 114 => ⟨S_, .f32⟩
  | 115 => ⟨S4x4096x4x64, .i1⟩
  | 116 => ⟨S4x4096x4x64, .f32⟩
  | 117 => ⟨S4x4096x4x64, .f32⟩
  | 118 => ⟨S4x4096x4x16, .f32⟩
  | 119 => ⟨S4x4096x4x16, .i32⟩
  | 120 => ⟨S4x4096x4x1x16, .i32⟩
  | 121 => ⟨S64x1, .i32⟩
  | 122 => ⟨S1x1x1x64x1, .i32⟩
  | 123 => ⟨S4x4096x4x64x16, .i32⟩
  | 124 => ⟨S4x4096x4x64x16, .i32⟩
  | 125 => ⟨S4x4096x4x64x16, .i1⟩
  | 126 => ⟨S_, .f32⟩
  | 127 => ⟨S4x4096x4x16, .f32⟩
  | _ => ⟨S4x4096x4x4x64, .f32⟩

abbrev hbmTy0_1 (i : Nat) : BufTy := match i % 128 with
  | 0 => ⟨S4x4096x4x16, .i1⟩
  | 1 => ⟨S4x4096x4x1x16, .i1⟩
  | 2 => ⟨S4x4096x4x64x16, .i1⟩
  | 3 => ⟨S4x4096x4x64x16, .i1⟩
  | 4 => ⟨S_, .i1⟩
  | 5 => ⟨S4x4096x4x64, .i1⟩
  | 6 => ⟨S4x4096x4x64x1, .i1⟩
  | 7 => ⟨S4x4096x4x64x64, .i1⟩
  | 8 => ⟨S4x4096x4x4096, .i1⟩
  | 9 => ⟨S1x4096, .i32⟩
  | 10 => ⟨S4096x1, .i32⟩
  | 11 => ⟨S4096x4096, .i32⟩
  | 12 => ⟨S4096x4096, .i32⟩
  | 13 => ⟨S4096x4096, .i1⟩
  | 14 => ⟨S1x4096x1x4096, .i1⟩
  | 15 => ⟨S4x4096x4x4096, .i1⟩
  | 16 => ⟨S4x4096x4x4096, .i1⟩
  | 17 => ⟨S4x4x4096x4096x4, .f32⟩
  | 18 => ⟨S4x4096x4x4x4096, .f32⟩
  | 19 => ⟨S4x4096x4x1x4096, .i1⟩
  | 20 => ⟨S4x4096x4x4x4096, .i1⟩
  | 21 => ⟨S_, .f32⟩
  | 22 => ⟨S4x4096x4x4x4096, .f32⟩
  | 23 => ⟨S4x4096x4x4x4096, .f32⟩
  | 24 => ⟨S_, .f32⟩
  | 25 => ⟨S4x4096x4x4, .f32⟩
  | 26 => ⟨S4x4096x4x4x1, .f32⟩
  | 27 => ⟨S4x4096x4x4x4096, .f32⟩
  | 28 => ⟨S4x4096x4x4x4096, .f32⟩
  | 29 => ⟨S4x4096x4x4x4096, .f32⟩
  | 30 => ⟨S_, .f32⟩
  | 31 => ⟨S4x4096x4x4x4096, .f32⟩
  | 32 => ⟨S4x4096x4x4x4096, .f32⟩
  | 33 => ⟨S_, .f32⟩
  | 34 => ⟨S4x4096x4x4, .f32⟩
  | 35 => ⟨S4x4096x4x4x1, .f32⟩
  | 36 => ⟨S_, .f32⟩
  | 37 => ⟨S4x4096x4x4x1, .f32⟩
  | 38 => ⟨S4x4096x4x4x1, .i1⟩
  | 39 => ⟨S_, .f32⟩
  | 40 => ⟨S4x4096x4x4x1, .f32⟩
  | 41 => ⟨S4x4096x4x4x1, .f32⟩
  | 42 => ⟨S4x4096x4x4x4096, .f32⟩
  | 43 => ⟨S4x4096x4x4x4096, .f32⟩
  | 44 => ⟨S4x4x64x4096x4, .f32⟩
  | 45 => ⟨S4x4096x4x4x64, .f32⟩
  | 46 => ⟨S1x4096, .i32⟩
  | 47 => ⟨S4096x1, .i32⟩
  | 48 => ⟨S4096x4096, .i32⟩
  | 49 => ⟨S4096x4096, .i32⟩
  | 50 => ⟨S4096x4096, .i1⟩
  | 51 => ⟨S1x4096, .i32⟩
  | 52 => ⟨S4096x1, .i32⟩
  | 53 => ⟨S_, .i32⟩
  | 54 => ⟨S4096x1, .i32⟩
  | 55 => ⟨S4096x1, .i32⟩
  | 56 => ⟨S4096x4096, .i32⟩
  | 57 => ⟨S4096x4096, .i32⟩
  | 58 => ⟨S4096x4096, .i1⟩
  | 59 => ⟨S4096x4096, .i1⟩
  | 60 => ⟨S4x4x4096x4096x4, .f32⟩
  | 61 => ⟨S4x4096x4x4x4096, .f32⟩
  | 62 => ⟨S1x4096x1x1x4096, .i1⟩
  | 63 => ⟨S4x4096x4x4x4096, .i1⟩
  | 64 => ⟨S_, .f32⟩
  | 65 => ⟨S4x4096x4x4x4096, .f32⟩
  | 66 => ⟨S4x4096x4x4x4096, .f32⟩
  | 67 => ⟨S_, .f32⟩
  | 68 => ⟨S4x4096x4x4, .f32⟩
  | 69 => ⟨S4x4096x4x4x1, .f32⟩
  | 70 => ⟨S4x4096x4x4x4096, .f32⟩
  | 71 => ⟨S4x4096x4x4x4096, .f32⟩
  | 72 => ⟨S4x4096x4x4x4096, .f32⟩
  | 73 => ⟨S_, .f32⟩
  | 74 => ⟨S4x4096x4x4x4096, .f32⟩
  | 75 => ⟨S4x4096x4x4x4096, .f32⟩
  | 76 => ⟨S_, .f32⟩
  | 77 => ⟨S4x4096x4x4, .f32⟩
  | 78 => ⟨S4x4096x4x4x1, .f32⟩
  | 79 => ⟨S_, .f32⟩
  | 80 => ⟨S4x4096x4x4x1, .f32⟩
  | 81 => ⟨S4x4096x4x4x1, .i1⟩
  | 82 => ⟨S_, .f32⟩
  | 83 => ⟨S4x4096x4x4x1, .f32⟩
  | 84 => ⟨S4x4096x4x4x1, .f32⟩
  | 85 => ⟨S4x4096x4x4x4096, .f32⟩
  | 86 => ⟨S4x4096x4x4x4096, .f32⟩
  | 87 => ⟨S4x4x64x4096x4, .f32⟩
  | 88 => ⟨S4x4096x4x4x64, .f32⟩
  | 89 => ⟨S4x4096x1x4x4, .f32⟩
  | 90 => ⟨S4x4096x4x4, .f32⟩
  | 91 => ⟨S4x4096x4x4x1, .f32⟩
  | 92 => ⟨S4x4096x4x4x64, .f32⟩
  | 93 => ⟨S4x4096x4x4x64, .f32⟩
  | 94 => ⟨S4x4096x1x4x4, .f32⟩
  | 95 => ⟨S4x4096x4x4, .f32⟩
  | 96 => ⟨S4x4096x4x4x1, .f32⟩
  | 97 => ⟨S4x4096x4x4x64, .f32⟩
  | 98 => ⟨S4x4096x4x4x64, .f32⟩
  | 99 => ⟨S4x4096x4x4x64, .f32⟩
  | 100 => ⟨S4x4096x1x4x4, .f32⟩
  | 101 => ⟨S4x4096x4x4, .f32⟩
  | 102 => ⟨S4x4096x4x4x1, .f32⟩
  | 103 => ⟨S4x4096x4x4x64, .f32⟩
  | 104 => ⟨S4x4096x4x4x64, .f32⟩
  | 105 => ⟨S4x4096x4x4x64, .f32⟩
  | 106 => ⟨S16384x1024, .f32⟩
  | 107 => ⟨S1024x16384, .f32⟩
  | 108 => ⟨S1024x16384, .bf16⟩
  | _ => ⟨S4x4096x4x4x64, .f32⟩

abbrev hbmTy (i : Nat) : BufTy := match i / 128 with
  | 0 => hbmTy0_0 i
  | 1 => hbmTy0_1 i
  | _ => ⟨S4x4096x4x4x64, .f32⟩

abbrev bufTy : (tb : Table) → Fin (tcTables nBuf tb) → BufTy
  | .hbm, ⟨i, _⟩ => hbmTy i
  | _, _ => ⟨S4x4096x4x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_c_11 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_c_12 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_c_13 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_14 : Ref sig .tc := ⟨.hbm, 108, rfl⟩
abbrev main_call0_v0 : Ref sig .tc := ⟨.hbm, 109, rfl⟩
abbrev main_call0_v1 : Ref sig .tc := ⟨.hbm, 110, rfl⟩
abbrev main_call0_v2 : Ref sig .tc := ⟨.hbm, 111, rfl⟩
abbrev main_v84 : Ref sig .tc := ⟨.hbm, 112, rfl⟩
abbrev main_cst_15 : Ref sig .tc := ⟨.hbm, 113, rfl⟩
abbrev main_call1_v0 : Ref sig .tc := ⟨.hbm, 114, rfl⟩
abbrev main_call1_v1 : Ref sig .tc := ⟨.hbm, 115, rfl⟩
abbrev main_call1_v2 : Ref sig .tc := ⟨.hbm, 116, rfl⟩
abbrev main_v85 : Ref sig .tc := ⟨.hbm, 117, rfl⟩
abbrev main_values : Ref sig .tc := ⟨.hbm, 118, rfl⟩
abbrev main_indices : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_16 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_c_17 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_cst_18 : Ref sig .tc := ⟨.hbm, 149, rfl⟩
abbrev main_v113 : Ref sig .tc := ⟨.hbm, 150, rfl⟩
abbrev main_v114 : Ref sig .tc := ⟨.hbm, 151, rfl⟩
abbrev main_cst_19 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_cst_20 : Ref sig .tc := ⟨.hbm, 158, rfl⟩
abbrev main_v120 : Ref sig .tc := ⟨.hbm, 159, rfl⟩
abbrev main_v121 : Ref sig .tc := ⟨.hbm, 160, rfl⟩
abbrev main_cst_21 : Ref sig .tc := ⟨.hbm, 161, rfl⟩
abbrev main_v122 : Ref sig .tc := ⟨.hbm, 162, rfl⟩
abbrev main_v123 : Ref sig .tc := ⟨.hbm, 163, rfl⟩
abbrev main_cst_22 : Ref sig .tc := ⟨.hbm, 164, rfl⟩
abbrev main_v124 : Ref sig .tc := ⟨.hbm, 165, rfl⟩
abbrev main_v125 : Ref sig .tc := ⟨.hbm, 166, rfl⟩
abbrev main_cst_23 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_c_24 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_cst_25 : Ref sig .tc := ⟨.hbm, 192, rfl⟩
abbrev main_v149 : Ref sig .tc := ⟨.hbm, 193, rfl⟩
abbrev main_v150 : Ref sig .tc := ⟨.hbm, 194, rfl⟩
abbrev main_cst_26 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_cst_27 : Ref sig .tc := ⟨.hbm, 201, rfl⟩
abbrev main_v156 : Ref sig .tc := ⟨.hbm, 202, rfl⟩
abbrev main_v157 : Ref sig .tc := ⟨.hbm, 203, rfl⟩
abbrev main_cst_28 : Ref sig .tc := ⟨.hbm, 204, rfl⟩
abbrev main_v158 : Ref sig .tc := ⟨.hbm, 205, rfl⟩
abbrev main_v159 : Ref sig .tc := ⟨.hbm, 206, rfl⟩
abbrev main_cst_29 : Ref sig .tc := ⟨.hbm, 207, rfl⟩
abbrev main_v160 : Ref sig .tc := ⟨.hbm, 208, rfl⟩
abbrev main_v161 : Ref sig .tc := ⟨.hbm, 209, rfl⟩
abbrev main_cst_30 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩

abbrev nD : Nat := 1
abbrev τ : Topo := Topo.v7x

variable {F : FTy → Type} [FloatOps F]
-- ==== Mix.lean ====
abbrev S4x4096x1024 : Shape := ⟨3, ![4, 4096, 1024]⟩
abbrev S1x1024x1024 : Shape := ⟨3, ![1, 1024, 1024]⟩
abbrev S2x2x1024 : Shape := ⟨3, ![2, 2, 1024]⟩
abbrev S2x2x1024x5632 : Shape := ⟨4, ![2, 2, 1024, 5632]⟩
abbrev S2x2x2816x1024 : Shape := ⟨4, ![2, 2, 2816, 1024]⟩
abbrev S2x2x1x1024 : Shape := ⟨4, ![2, 2, 1, 1024]⟩
abbrev S16384x1024 : Shape := ⟨2, ![16384, 1024]⟩
abbrev S1024x16384 : Shape := ⟨2, ![1024, 16384]⟩
abbrev S1024x1024 : Shape := ⟨2, ![1024, 1024]⟩
abbrev S512x1024 : Shape := ⟨2, ![512, 1024]⟩
abbrev S1x1x1x1024 : Shape := ⟨4, ![1, 1, 1, 1024]⟩
abbrev S1x1x1024x5632 : Shape := ⟨4, ![1, 1, 1024, 5632]⟩
abbrev S1x1x2816x1024 : Shape := ⟨4, ![1, 1, 2816, 1024]⟩
abbrev S1024x512 : Shape := ⟨2, ![1024, 512]⟩
abbrev S512x2816 : Shape := ⟨2, ![512, 2816]⟩
abbrev S1x1024 : Shape := ⟨2, ![1, 1024]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S1x1x2816x256 : Shape := ⟨4, ![1, 1, 2816, 256]⟩
abbrev S2816x256 : Shape := ⟨2, ![2816, 256]⟩

abbrev nBuf : Space → Nat
  | .hbm => 14
  | .vmem => 11
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S1x1024x1024, .f32⟩
  | .hbm, ⟨3, _⟩ => ⟨S2x2x1024, .f32⟩
  | .hbm, ⟨4, _⟩ => ⟨S2x2x1024x5632, .f32⟩
  | .hbm, ⟨5, _⟩ => ⟨S2x2x2816x1024, .f32⟩
  | .hbm, ⟨6, _⟩ => ⟨S2x2x1x1024, .f32⟩
  | .hbm, ⟨7, _⟩ => ⟨S16384x1024, .f32⟩
  | .hbm, ⟨8, _⟩ => ⟨S1024x16384, .f32⟩
  | .hbm, ⟨9, _⟩ => ⟨S1024x16384, .bf16⟩
  | .hbm, ⟨10, _⟩ => ⟨S16384x1024, .f32⟩
  | .hbm, ⟨11, _⟩ => ⟨S1024x1024, .f32⟩
  | .hbm, ⟨12, _⟩ => ⟨S1024x1024, .bf16⟩
  | .hbm, ⟨13, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1x1024, .f32⟩
  | .local _ .vmem, ⟨3, _⟩ => ⟨S1x1x1024x5632, .f32⟩
  | .local _ .vmem, ⟨4, _⟩ => ⟨S1x1x2816x1024, .f32⟩
  | .local _ .vmem, ⟨5, _⟩ => ⟨S1024x512, .bf16⟩
  | .local _ .vmem, ⟨6, _⟩ => ⟨S1024x512, .bf16⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | .local _ .vmem, ⟨10, _⟩ => ⟨S512x2816, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_2 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_3 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x2816x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MixReferenceIdeal.lean ====
abbrev S4x4096x1024 : Shape := ⟨3, ![4, 4096, 1024]⟩
abbrev S1x1024x1024 : Shape := ⟨3, ![1, 1024, 1024]⟩
abbrev S2x2x1024 : Shape := ⟨3, ![2, 2, 1024]⟩
abbrev S2x2x1024x5632 : Shape := ⟨4, ![2, 2, 1024, 5632]⟩
abbrev S2x2x2816x1024 : Shape := ⟨4, ![2, 2, 2816, 1024]⟩
abbrev S1024x1024 : Shape := ⟨2, ![1024, 1024]⟩
abbrev S1x1x1024 : Shape := ⟨3, ![1, 1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S4x4096x5632 : Shape := ⟨3, ![4, 4096, 5632]⟩
abbrev S4x4096x2816 : Shape := ⟨3, ![4, 4096, 2816]⟩
abbrev S16384x1024 : Shape := ⟨2, ![16384, 1024]⟩

abbrev nBuf : Space → Nat
  | .hbm => 50
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S1x1024x1024, .f32⟩
  | .hbm, ⟨3, _⟩ => ⟨S2x2x1024, .f32⟩
  | .hbm, ⟨4, _⟩ => ⟨S2x2x1024x5632, .f32⟩
  | .hbm, ⟨5, _⟩ => ⟨S2x2x2816x1024, .f32⟩
  | .hbm, ⟨6, _⟩ => ⟨S1024x1024, .f32⟩
  | .hbm, ⟨7, _⟩ => ⟨S4x4096x1024, .f32⟩
  | .hbm, ⟨8, _⟩ => ⟨S4x4096x1024, .f32⟩
  | .hbm, ⟨9, _⟩ => ⟨S1x1x1024, .f32⟩
  | .hbm, ⟨10, _⟩ => ⟨S1024, .f32⟩
  | .hbm, ⟨11, _⟩ => ⟨S4x4096x1024, .f32⟩
  | .hbm, ⟨12, _⟩ => ⟨S_, .f32⟩
  | .hbm, ⟨13, _⟩ => ⟨S4x4096, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S4x4096x1, .f32⟩
  | .hbm, ⟨22, _⟩ => ⟨S4x4096x1024, .f32⟩
  | .hbm, ⟨23, _⟩ => ⟨S4x4096x1024, .f32⟩
  | .hbm, ⟨24, _⟩ => ⟨S1x1x1024, .f32⟩
  | .hbm, ⟨25, _⟩ => ⟨S4x4096x1024, .f32⟩
  | .hbm, ⟨26, _⟩ => ⟨S4x4096x1024, .f32⟩
  | .hbm, ⟨27, _⟩ => ⟨S1x1x1024x5632, .f32⟩
  | .hbm, ⟨28, _⟩ => ⟨S1024x5632, .f32⟩
  | .hbm, ⟨29, _⟩ => ⟨S1x1x2816x1024, .f32⟩
  | .hbm, ⟨30, _⟩ => ⟨S2816x1024, .f32⟩
  | .hbm, ⟨31, _⟩ => ⟨S4x4096x5632, .f32⟩
  | .hbm, ⟨32, _⟩ => ⟨S4x4096x2816, .f32⟩
  | .hbm, ⟨33, _⟩ => ⟨S4x4096x2816, .f32⟩
  | .hbm, ⟨34, _⟩ => ⟨S4x4096x2816, .f32⟩
  | .hbm, ⟨35, _⟩ => ⟨S4x4096x2816, .f32⟩
  | .hbm, ⟨36, _⟩ => ⟨S_, .f32⟩
  | .hbm, ⟨37, _⟩ => ⟨S4x4096x2816, .f32⟩
  | .hbm, ⟨38, _⟩ => ⟨S4x4096x2816, .f32⟩
  | .hbm, ⟨39, _⟩ => ⟨S_, .f32⟩
  | .hbm, ⟨40, _⟩ => ⟨S4x4096x2816, .f32⟩
  | .hbm, ⟨41, _⟩ => ⟨S4x4096x2816, .f32⟩
  | .hbm, ⟨42, _⟩ => ⟨S4x4096x2816, .f32⟩
  | .hbm, ⟨43, _⟩ => ⟨S4x4096x2816, .f32⟩
  | .hbm, ⟨44, _⟩ => ⟨S4x4096x1024, .f32⟩
  | .hbm, ⟨45, _⟩ => ⟨S_, .f32⟩
  | .hbm, ⟨46, _⟩ => ⟨S4x4096x1024, .f32⟩
  | .hbm, ⟨47, _⟩ => ⟨S4x4096x1024, .f32⟩
  | .hbm, ⟨48, _⟩ => ⟨S4x4096x1024, .f32⟩
  | .hbm, ⟨49, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]
-- ==== Half.lean ====
abbrev S4x4096x1024 : Shape := ⟨3, ![4, 4096, 1024]⟩
abbrev S2x2x1024 : Shape := ⟨3, ![2, 2, 1024]⟩
abbrev S2x2x1024x5632 : Shape := ⟨4, ![2, 2, 1024, 5632]⟩
abbrev S2x2x2816x1024 : Shape := ⟨4, ![2, 2, 2816, 1024]⟩
abbrev S2x2x1x1024 : Shape := ⟨4, ![2, 2, 1, 1024]⟩
abbrev S16384x1024 : Shape := ⟨2, ![16384, 1024]⟩
abbrev S512x1024 : Shape := ⟨2, ![512, 1024]⟩
abbrev S1x1x1x1024 : Shape := ⟨4, ![1, 1, 1, 1024]⟩
abbrev S1x1x1024x5632 : Shape := ⟨4, ![1, 1, 1024, 5632]⟩
abbrev S1x1x2816x1024 : Shape := ⟨4, ![1, 1, 2816, 1024]⟩
abbrev S512x2816 : Shape := ⟨2, ![512, 2816]⟩
abbrev S1x1024 : Shape := ⟨2, ![1, 1024]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S1x1x2816x256 : Shape := ⟨4, ![1, 1, 2816, 256]⟩
abbrev S2816x256 : Shape := ⟨2, ![2816, 256]⟩

abbrev nBuf : Space → Nat
  | .hbm => 7
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S2x2x1024, .f32⟩
  | .hbm, ⟨2, _⟩ => ⟨S2x2x1024x5632, .f32⟩
  | .hbm, ⟨3, _⟩ => ⟨S2x2x2816x1024, .f32⟩
  | .hbm, ⟨4, _⟩ => ⟨S2x2x1x1024, .f32⟩
  | .hbm, ⟨5, _⟩ => ⟨S16384x1024, .f32⟩
  | .hbm, ⟨6, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1x1024, .f32⟩
  | .local _ .vmem, ⟨3, _⟩ => ⟨S1x1x1024x5632, .f32⟩
  | .local _ .vmem, ⟨4, _⟩ => ⟨S1x1x2816x1024, .f32⟩
  | .local _ .vmem, ⟨5, _⟩ => ⟨S512x1024, .f32⟩
  | .local _ .vmem, ⟨6, _⟩ => ⟨S512x1024, .f32⟩
  | .local _ .vmem, ⟨7, _⟩ => ⟨S512x2816, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_2 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_3 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x2816x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== HalfReferenceIdeal.lean ====
abbrev S4x4096x1024 : Shape := ⟨3, ![4, 4096, 1024]⟩
abbrev S2x2x1024 : Shape := ⟨3, ![2, 2, 1024]⟩
abbrev S2x2x1024x5632 : Shape := ⟨4, ![2, 2, 1024, 5632]⟩
abbrev S2x2x2816x1024 : Shape := ⟨4, ![2, 2, 2816, 1024]⟩
abbrev S1x1x1024 : Shape := ⟨3, ![1, 1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S4x4096x5632 : Shape := ⟨3, ![4, 4096, 5632]⟩
abbrev S4x4096x2816 : Shape := ⟨3, ![4, 4096, 2816]⟩
abbrev S16384x1024 : Shape := ⟨2, ![16384, 1024]⟩

abbrev nBuf : Space → Nat
  | .hbm => 45
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S2x2x1024, .f32⟩
  | .hbm, ⟨2, _⟩ => ⟨S2x2x1024x5632, .f32⟩
  | .hbm, ⟨3, _⟩ => ⟨S2x2x2816x1024, .f32⟩
  | .hbm, ⟨4, _⟩ => ⟨S1x1x1024, .f32⟩
  | .hbm, ⟨5, _⟩ => ⟨S1024, .f32⟩
  | .hbm, ⟨6, _⟩ => ⟨S4x4096x1024, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x1024, .f32⟩
  | .hbm, ⟨18, _⟩ => ⟨S4x4096x1024, .f32⟩
  | .hbm, ⟨19, _⟩ => ⟨S1x1x1024, .f32⟩
  | .hbm, ⟨20, _⟩ => ⟨S4x4096x1024, .f32⟩
  | .hbm, ⟨21, _⟩ => ⟨S4x4096x1024, .f32⟩
  | .hbm, ⟨22, _⟩ => ⟨S1x1x1024x5632, .f32⟩
  | .hbm, ⟨23, _⟩ => ⟨S1024x5632, .f32⟩
  | .hbm, ⟨24, _⟩ => ⟨S1x1x2816x1024, .f32⟩
  | .hbm, ⟨25, _⟩ => ⟨S2816x1024, .f32⟩
  | .hbm, ⟨26, _⟩ => ⟨S4x4096x5632, .f32⟩
  | .hbm, ⟨27, _⟩ => ⟨S4x4096x2816, .f32⟩
  | .hbm, ⟨28, _⟩ => ⟨S4x4096x2816, .f32⟩
  | .hbm, ⟨29, _⟩ => ⟨S4x4096x2816, .f32⟩
  | .hbm, ⟨30, _⟩ => ⟨S4x4096x2816, .f32⟩
  | .hbm, ⟨31, _⟩ => ⟨S_, .f32⟩
  | .hbm, ⟨32, _⟩ => ⟨S4x4096x2816, .f32⟩
  | .hbm, ⟨33, _⟩ => ⟨S4x4096x2816, .f32⟩
  | .hbm, ⟨34, _⟩ => ⟨S_, .f32⟩
  | .hbm, ⟨35, _⟩ => ⟨S4x4096x2816, .f32⟩
  | .hbm, ⟨36, _⟩ => ⟨S4x4096x2816, .f32⟩
  | .hbm, ⟨37, _⟩ => ⟨S4x4096x2816, .f32⟩
  | .hbm, ⟨38, _⟩ => ⟨S4x4096x2816, .f32⟩
  | .hbm, ⟨39, _⟩ => ⟨S4x4096x1024, .f32⟩
  | .hbm, ⟨40, _⟩ => ⟨S_, .f32⟩
  | .hbm, ⟨41, _⟩ => ⟨S4x4096x1024, .f32⟩
  | .hbm, ⟨42, _⟩ => ⟨S4x4096x1024, .f32⟩
  | .hbm, ⟨43, _⟩ => ⟨S4x4096x1024, .f32⟩
  | .hbm, ⟨44, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Proj.lean ====
abbrev S4x4096x1024 : Shape := ⟨3, ![4, 4096, 1024]⟩
abbrev S2x1024 : Shape := ⟨2, ![2, 1024]⟩
abbrev S1x1024x3088 : Shape := ⟨3, ![1, 1024, 3088]⟩
abbrev S16384x1024 : Shape := ⟨2, ![16384, 1024]⟩
abbrev S1x1024 : Shape := ⟨2, ![1, 1024]⟩
abbrev S1024 : Shape := ⟨1, ![1024]⟩
abbrev S1024x3088 : Shape := ⟨2, ![1024, 3088]⟩
abbrev S1024x512 : Shape := ⟨2, ![1024, 512]⟩
abbrev S1024x1024 : Shape := ⟨2, ![1024, 1024]⟩
abbrev S1024x8 : Shape := ⟨2, ![1024, 8]⟩
abbrev S_ : Shape := ⟨0, ![]⟩
abbrev S1024x120 : Shape := ⟨2, ![1024, 120]⟩
abbrev S1024x3328 : Shape := ⟨2, ![1024, 3328]⟩
abbrev S512x16384 : Shape := ⟨2, ![512, 16384]⟩
abbrev S16384x512 : Shape := ⟨2, ![16384, 512]⟩
abbrev S1024x16384 : Shape := ⟨2, ![1024, 16384]⟩
abbrev S256x16384 : Shape := ⟨2, ![256, 16384]⟩
abbrev S512x1024 : Shape := ⟨2, ![512, 1024]⟩
abbrev S512x512 : Shape := ⟨2, ![512, 512]⟩
abbrev S256x512 : Shape := ⟨2, ![256, 512]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 26
  | .vmem => 14
  | .smem => 0
  | _ => 0

abbrev bufTy : (tb : Table) → Fin (tcTables nBuf tb) → BufTy
  | .hbm, ⟨0, _⟩ => ⟨S4x4096x1024, .f32⟩
  | .hbm, ⟨1, _⟩ => ⟨S2x1024, .f32⟩
  | .hbm, ⟨2, _⟩ => ⟨S1x1024x3088, .f32⟩
  | .hbm, ⟨3, _⟩ => ⟨S16384x1024, .f32⟩
  | .hbm, ⟨4, _⟩ => ⟨S1x1024, .f32⟩
  | .hbm, ⟨5, _⟩ => ⟨S1024, .f32⟩
  | .hbm, ⟨6, _⟩ => ⟨S1024x3088, .f32⟩
  | .hbm, ⟨7, _⟩ => ⟨S1024x512, .f32⟩
  | .hbm, ⟨8, _⟩ => ⟨S1024x512, .f32⟩
  | .hbm, ⟨9, _⟩ => ⟨S1024x1024, .f32⟩
  | .hbm, ⟨10, _⟩ => ⟨S1024x8, .f32⟩
  | .hbm, ⟨11, _⟩ => ⟨S1024x8, .f32⟩
  | .hbm, ⟨12, _⟩ => ⟨S1024x1024, .f32⟩
  | .hbm, ⟨13, _⟩ => ⟨S_, .f32⟩
  | .hbm, ⟨14, _⟩ => ⟨S1024x120, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x3328, .f32⟩
  | .hbm, ⟨19, _⟩ => ⟨S1024x3328, .bf16⟩
  | .hbm, ⟨20, _⟩ => ⟨S1x1024, .f32⟩
  | .hbm, ⟨21, _⟩ => ⟨S512x16384, .bf16⟩
  | .hbm, ⟨22, _⟩ => ⟨S16384x512, .bf16⟩
  | .hbm, ⟨23, _⟩ => ⟨S1024x16384, .bf16⟩
  | .hbm, ⟨24, _⟩ => ⟨S1024x16384, .bf16⟩
  | .hbm, ⟨25, _⟩ => ⟨S256x16384, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3328, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S256x512, .f32⟩
  | .local _ .vmem, ⟨13, _⟩ => ⟨S256x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16_0 : Ref sig .tc := ⟨.hbm, 21, rfl⟩
abbrev main_v16_1 : Ref sig .tc := ⟨.hbm, 22, rfl⟩
abbrev main_v16_2 : Ref sig .tc := ⟨.hbm, 23, rfl⟩
abbrev main_v16_3 : Ref sig .tc := ⟨.hbm, 24, rfl⟩
abbrev main_v16_4 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3328 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ProjReferenceIdeal.lean ====
abbrev S4x4096x1024 : Shape := ⟨3, ![4, 4096, 1024]⟩
abbrev S2x1024 : Shape := ⟨2, ![2, 1024]⟩
abbrev S1x1024x3088 : Shape := ⟨3, ![1, 1024, 3088]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x3088 : Shape := ⟨2, ![1024, 3088]⟩
abbrev S4x4096x3088 : Shape := ⟨3, ![4, 4096, 3088]⟩
abbrev S4x4096x512 : Shape := ⟨3, ![4, 4096, 512]⟩
abbrev S4x4096x8 : Shape := ⟨3, ![4, 4096, 8]⟩
abbrev S4x4096x120 : Shape := ⟨3, ![4, 4096, 120]⟩
abbrev S4x4096x256 : Shape := ⟨3, ![4, 4096, 256]⟩
abbrev S16384x512 : Shape := ⟨2, ![16384, 512]⟩
abbrev S512x16384 : Shape := ⟨2, ![512, 16384]⟩
abbrev S16384x1024 : Shape := ⟨2, ![16384, 1024]⟩
abbrev S1024x16384 : Shape := ⟨2, ![1024, 16384]⟩
abbrev S16384x256 : Shape := ⟨2, ![16384, 256]⟩
abbrev S256x16384 : Shape := ⟨2, ![256, 16384]⟩

abbrev nBuf : Space → Nat
  | .hbm => 48
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S2x1024, .f32⟩
  | .hbm, ⟨2, _⟩ => ⟨S1x1024x3088, .f32⟩
  | .hbm, ⟨3, _⟩ => ⟨S1x1024, .f32⟩
  | .hbm, ⟨4, _⟩ => ⟨S1024, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S1024x3088, .f32⟩
  | .hbm, ⟨22, _⟩ => ⟨S4x4096x3088, .f32⟩
  | .hbm, ⟨23, _⟩ => ⟨S4x4096x512, .f32⟩
  | .hbm, ⟨24, _⟩ => ⟨S4x4096x512, .f32⟩
  | .hbm, ⟨25, _⟩ => ⟨S4x4096x1024, .f32⟩
  | .hbm, ⟨26, _⟩ => ⟨S4x4096x8, .f32⟩
  | .hbm, ⟨27, _⟩ => ⟨S4x4096x8, .f32⟩
  | .hbm, ⟨28, _⟩ => ⟨S4x4096x1024, .f32⟩
  | .hbm, ⟨29, _⟩ => ⟨S_, .f32⟩
  | .hbm, ⟨30, _⟩ => ⟨S4x4096x512, .f32⟩
  | .hbm, ⟨31, _⟩ => ⟨S4x4096x512, .f32⟩
  | .hbm, ⟨32, _⟩ => ⟨S_, .f32⟩
  | .hbm, ⟨33, _⟩ => ⟨S4x4096x120, .f32⟩
  | .hbm, ⟨34, _⟩ => ⟨S4x4096x256, .f32⟩
  | .hbm, ⟨35, _⟩ => ⟨S16384x512, .f32⟩
  | .hbm, ⟨36, _⟩ => ⟨S512x16384, .f32⟩
  | .hbm, ⟨37, _⟩ => ⟨S512x16384, .bf16⟩
  | .hbm, ⟨38, _⟩ => ⟨S16384x512, .f32⟩
  | .hbm, ⟨39, _⟩ => ⟨S16384x512, .bf16⟩
  | .hbm, ⟨40, _⟩ => ⟨S16384x1024, .f32⟩
  | .hbm, ⟨41, _⟩ => ⟨S1024x16384, .f32⟩
  | .hbm, ⟨42, _⟩ => ⟨S1024x16384, .bf16⟩
  | .hbm, ⟨43, _⟩ => ⟨S16384x1024, .f32⟩
  | .hbm, ⟨44, _⟩ => ⟨S1024x16384, .f32⟩
  | .hbm, ⟨45, _⟩ => ⟨S1024x16384, .bf16⟩
  | .hbm, ⟨46, _⟩ => ⟨S16384x256, .f32⟩
  | .hbm, ⟨47, _⟩ => ⟨S256x16384, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩

abbrev nD : Nat := 1
abbrev τ : Topo := Topo.v7x

variable {F : FTy → Type} [FloatOps F]
-- ==== Proof.Kernel.Rank2.lean ====
module

public import proofs.«01_k».proof.Proof.Kernel.Rank

@[expose] public section

noncomputable section

namespace Cert.Kernel.Hand

open Idealize.ShloMosaic Idealize.SL.Sem Gen

variable {F : FTy → Type} [FloatOps F]

set_option maxHeartbeats 4000000 in
/-- The switch over the query tile: which blocks of keys are kept. -/
theorem part261_eq (i : grid0.Coords) (arg3 : Memref sig .tc .vmem S256x512 .bf16) (harg3 : arg3.IsWhole) (arg4 : Memref sig .tc .vmem S3x1x4x512 .f32) (harg4 : arg4.IsWhole) (arg5 : Memref sig .tc .vmem S1x1x256x64 .bf16) (harg5 : arg5.IsWhole) (arg6 : Memref sig .tc .vmem S1x1x64x256 .bf16) (harg6 : arg6.IsWhole) (arg7 : Memref sig .tc .vmem S1x4096x256 .bf16) (harg7 : arg7.IsWhole) (arg8 : Memref sig .tc .vmem S64x4096 .bf16) (harg8 : arg8.IsWhole) (arg9 : Memref sig .tc .vmem S4096x128 .bf16) (harg9 : arg9.IsWhole) (arg10 : Memref sig .tc .vmem S64x4096 .bf16) (harg10 : arg10.IsWhole) (arg11 : Memref sig .tc .vmem S256x512 .bf16) (harg11 : arg11.IsWhole)  (n : Fin 8) (v11 : BitVec 32) (v24 : FVec F S128x2048 .bf16) (v27 : IVec S1x512 32) (v103 : FVec F S64x512 .f32) (v104 : IVec S64x1 32) (v109 : IVec S64x512 1) (v111 : IVec S1x512 32) (v125 : IVec S1x512 1) (v126 : IVec S1x512 32) :
    k0_part261 i arg3 harg3 arg4 harg4 arg5 harg5 arg6 harg6 arg7 harg7 arg8 harg8 arg9 harg9 arg10 harg10 arg11 harg11 (BitVec.ofNat 32 n.val) v11 v24 v27 v103 v104 v109 v111 v125 v126
      = pure ⟨k0_pay2234 v24 (keepAt v109 (k0_pay2225 v27 v103 v104 v109 v111 v125 v126) n), k0_pay2235 (F := F), 512#32, Scalar.divsi v11 512#32,
          Scalar.subi (Scalar.extui (Scalar.cmpi .sgt v11 0#32)) (Scalar.extui (Scalar.cmpi .slt v11 0#32)), 0#32⟩ := by
  generalize hs : k0_pay2225 v27 v103 v104 v109 v111 v125 v126 = sc
  rw [k0_part261_eq_skeleton]
  unfold k0_part261_skel
  rw [hs]
  fin_cases n <;> dsimp only <;> repeat (first | rw [dif_pos (by decide)] | rw [dif_neg (by decide)])
  all_goals rfl

end Cert.Kernel.Hand
-- ==== Proof.KernelIdeal.Rank.lean ====
module

public import proofs.«01_k».proof.Proof.Gen.KernelIdeal.Skeleton

@[expose] public section

noncomputable section

namespace Cert.KernelIdeal.Hand

open Idealize.ShloMosaic Idealize.SL.Sem Gen

variable {F : FTy → Type} [FloatOps F] [Named F]

theorem row_in : ∀ i : Fin 64, S64x512.Slices ![i.val, 0] S1x512 := by decide
theorem group_in : ∀ v : Fin 8, S64x512.Slices ![8 * v.val, 0] S8x512 := by decide

/-- Row `i` of the scores, on eight rows. -/
def rowOf (sc : FVec F S64x512 .f32) (i : Fin 64) : FVec F S8x512 .f32 :=
  broadcastTo S8x512 (shapeCast S1x512 (extractStridedSlice S1x512 ![i.val, 0] sc (row_in i)) shapeCasts_S1x512_S1x512) broadcasts_S1x512_S8x512

/-- The eight rows of the scores from row `8 v`. -/
def groupOf (sc : FVec F S64x512 .f32) (v : Fin 8) : FVec F S8x512 .f32 :=
  extractStridedSlice S8x512 ![8 * v.val, 0] sc (group_in v)

/-- One where the comparison holds, else zero. -/
def bit (b : IVec S8x512 1) : FVec F S8x512 .f32 :=
  select b (broadcast S8x512 (Scalar.ofBits .f32 0x3F800000#32)) (broadcast S8x512 (Scalar.ofBits .f32 0x00000000#32))

/-- What row `i` adds to the counts of group `v`: one where row `i` ranks before the group's row. -/
def beats (sc : FVec F S64x512 .f32) (v : Fin 8) (i : Fin 64) : FVec F S8x512 .f32 :=
  cond (Nat.blt i.val (8 * v.val)) (bit (cmpf .oge (rowOf sc i) (groupOf sc v)))
    (cond (Nat.ble (8 * v.val + 7) i.val) (bit (cmpf .ogt (rowOf sc i) (groupOf sc v)))
      (select (broadcastTo S8x512 (shapeCast S8x1 (cmpi .sgt (iota .tc S8x1 32 [0] iota_S8x1_d0_w32)
          (broadcast S8x1 (BitVec.ofNat 32 (i.val - 8 * v.val)))) shapeCasts_S8x1_S8x1) broadcasts_S8x1_S8x512)
        (bit (cmpf .oge (rowOf sc i) (groupOf sc v))) (bit (cmpf .ogt (rowOf sc i) (groupOf sc v)))))

/-- How many of the first `n` rows rank before each row of group `v`. -/
def countOf (sc : FVec F S64x512 .f32) (v : Fin 8) : (n : ℕ) → n ≤ 64 → FVec F S8x512 .f32
  | 0, _ => broadcast S8x512 (Scalar.ofBits .f32 0x00000000#32)
  | n + 1, h => addf (countOf sc v n (Nat.le_of_succ_le h)) (beats sc v ⟨n, h⟩)

/-- Zero for the rows of group `v` that fewer than sixteen of the first `n` rows beat, else minus one. -/
def keepOf (sc : FVec F S64x512 .f32) (n : ℕ) (h : n ≤ 64) (v : Fin 8) : FVec F S8x512 .f32 :=
  select (cmpf .olt (countOf sc v n h) (broadcast S8x512 (Scalar.ofBits .f32 0x41800000#32)))
    (broadcast S8x512 (Scalar.ofBits .f32 0x00000000#32)) (broadcast S8x512 (Scalar.ofBits .f32 0xBF800000#32))

/-- Minus one on rows that are never kept. -/
def never (s : Shape) : FVec F s .f32 := broadcast s (Scalar.ofBits .f32 0xBF800000#32)

/-- The blocks of keys that query tile `n` keeps, as zero for kept and minus one for not: every valid block while no more
    than sixteen are visible, else the best sixteen of the visible ones. -/
def keepAt (valid : IVec S64x512 1) (sc : FVec F S64x512 .f32) : Fin 8 → FVec F S64x512 .f32
  | ⟨0, _⟩ => select valid (broadcast S64x512 (Scalar.ofBits .f32 0x00000000#32)) (broadcast S64x512 (Scalar.ofBits .f32 0xBF800000#32))
  | ⟨1, _⟩ => select valid (broadcast S64x512 (Scalar.ofBits .f32 0x00000000#32)) (broadcast S64x512 (Scalar.ofBits .f32 0xBF800000#32))
  | ⟨2, _⟩ => concatenate S64x512 0 [⟨S8x512, keepOf sc 24 (by decide) 0⟩, ⟨S8x512, keepOf sc 24 (by decide) 1⟩, ⟨S8x512, keepOf sc 24 (by decide) 2⟩, ⟨S40x512, never S40x512⟩]
    concatenates_S8x512_S8x512_S8x512_S40x512_S64x512_d0
  | ⟨3, _⟩ => concatenate S64x512 0 [⟨S8x512, keepOf sc 32 (by decide) 0⟩, ⟨S8x512, keepOf sc 32 (by decide) 1⟩, ⟨S8x512, keepOf sc 32 (by decide) 2⟩, ⟨S8x512, keepOf sc 32 (by decide) 3⟩, ⟨S32x512, never S32x512⟩]
    concatenates_S8x512_S8x512_S8x512_S8x512_S32x512_S64x512_d0
  | ⟨4, _⟩ => concatenate S64x512 0 [⟨S8x512, keepOf sc 40 (by decide) 0⟩, ⟨S8x512, keepOf sc 40 (by decide) 1⟩, ⟨S8x512, keepOf sc 40 (by decide) 2⟩, ⟨S8x512, keepOf sc 40 (by decide) 3⟩, ⟨S8x512, keepOf sc 40 (by decide) 4⟩, ⟨S24x512, never S24x512⟩]
    concatenates_S8x512_S8x512_S8x512_S8x512_S8x512_S24x512_S64x512_d0
  | ⟨5, _⟩ => concatenate S64x512 0 [⟨S8x512, keepOf sc 48 (by decide) 0⟩, ⟨S8x512, keepOf sc 48 (by decide) 1⟩, ⟨S8x512, keepOf sc 48 (by decide) 2⟩, ⟨S8x512, keepOf sc 48 (by decide) 3⟩, ⟨S8x512, keepOf sc 48 (by decide) 4⟩, ⟨S8x512, keepOf sc 48 (by decide) 5⟩, ⟨S16x512, never S16x512⟩]
    concatenates_S8x512_S8x512_S8x512_S8x512_S8x512_S8x512_S16x512_S64x512_d0
  | ⟨6, _⟩ => concatenate S64x512 0 [⟨S8x512, keepOf sc 56 (by decide) 0⟩, ⟨S8x512, keepOf sc 56 (by decide) 1⟩, ⟨S8x512, keepOf sc 56 (by decide) 2⟩, ⟨S8x512, keepOf sc 56 (by decide) 3⟩, ⟨S8x512, keepOf sc 56 (by decide) 4⟩, ⟨S8x512, keepOf sc 56 (by decide) 5⟩, ⟨S8x512, keepOf sc 56 (by decide) 6⟩, ⟨S8x512, never S8x512⟩]
    concatenates_S8x512_S8x512_S8x512_S8x512_S8x512_S8x512_S8x512_S8x512_S64x512_d0
  | ⟨7, _⟩ => concatenate S64x512 0 [⟨S8x512, keepOf sc 64 (by decide) 0⟩, ⟨S8x512, keepOf sc 64 (by decide) 1⟩, ⟨S8x512, keepOf sc 64 (by decide) 2⟩, ⟨S8x512, keepOf sc 64 (by decide) 3⟩, ⟨S8x512, keepOf sc 64 (by decide) 4⟩, ⟨S8x512, keepOf sc 64 (by decide) 5⟩, ⟨S8x512, keepOf sc 64 (by decide) 6⟩, ⟨S8x512, keepOf sc 64 (by decide) 7⟩]
    concatenates_S8x512_S8x512_S8x512_S8x512_S8x512_S8x512_S8x512_S8x512_S64x512_d0

end Cert.KernelIdeal.Hand
-- ==== Proof.KernelIdeal.Stage.lean ====
module

public import proofs.«01_k».proof.Proof.KernelIdeal.Rank
public import Idealize.ShloMosaic.Lib.Pipeline.FrameBody

@[expose] public section

noncomputable section

/-! The kernel's stages as functions of arrays: what one tile of keys does to the running softmax, the columns' two halves,
    and the masks. -/

namespace Cert.KernelIdeal.Hand

open Idealize.ShloMosaic Idealize.SL.Sem Gen

/-- `k` rows by `n` columns. -/
abbrev M2 (k n : ℕ) : Shape := ⟨2, ![k, n]⟩

theorem reduces_rows (k n : ℕ) : (M2 k n).Reduces [0] ⟨1, ![n]⟩ := ⟨rfl, Nat.one_pos, fun x => by fin_cases x; rfl⟩
theorem casts_row (n : ℕ) : (⟨1, ![n]⟩ : Shape).ShapeCasts (M2 1 n) := by
  unfold Shape.ShapeCasts; rw [Shape.numel, Shape.numel]; simp
theorem broadcasts_row (k n : ℕ) : (M2 1 n).Broadcasts (M2 k n) :=
  ⟨Nat.le_refl 2, fun x => by fin_cases x <;> first | exact .inl rfl | exact .inr fun _ => rfl⟩
theorem broadcasts_col (k n : ℕ) : (M2 k 1).Broadcasts (M2 k n) :=
  ⟨Nat.le_refl 2, fun x => by fin_cases x <;> first | exact .inl rfl | exact .inr fun _ => rfl⟩
theorem slices_cols (r w n o : ℕ) (h : o + w ≤ n) : (M2 r n).Slices ![0, o] (M2 r w) :=
  ⟨rfl, fun x => by fin_cases x; exact (Nat.zero_add r).le; exact h⟩
theorem concat_cols4 (r : ℕ) : Shape.Concatenates [M2 r 256, M2 r 256, M2 r 256, M2 r 256] (M2 r 1024) 1 := by
  refine ⟨by simp, ?_, rfl⟩
  intro s hs
  simp only [List.mem_cons, List.mem_nil_iff, or_false, or_self] at hs
  subst hs
  exact ⟨rfl, fun b hb => by fin_cases b <;> first | rfl | exact absurd rfl hb⟩
theorem concat_cols8 (r : ℕ) :
    Shape.Concatenates [M2 r 256, M2 r 256, M2 r 256, M2 r 256, M2 r 256, M2 r 256, M2 r 256, M2 r 256] (M2 r 2048) 1 := by
  refine ⟨by simp, ?_, rfl⟩
  intro s hs
  simp only [List.mem_cons, List.mem_nil_iff, or_false, or_self] at hs
  subst hs
  exact ⟨rfl, fun b hb => by fin_cases b <;> first | rfl | exact absurd rfl hb⟩
theorem concat_rows2 (a b n : ℕ) : Shape.Concatenates [M2 a n, M2 b n] (M2 (a + b) n) 0 := by
  refine ⟨by simp, ?_, rfl⟩
  intro s hs
  simp only [List.mem_cons, List.mem_nil_iff, or_false] at hs
  rcases hs with rfl | rfl <;> exact ⟨rfl, fun b hb => by fin_cases b <;> first | rfl | exact absurd rfl hb⟩

section Columns
variable {α : Type}

/-- The left (`p = 0`) or right (`p = 1`) half of each of the four heads' columns. -/
def colHalf {r : ℕ} (p : Fin 2) (x : (M2 r 2048).Idx → α) : (M2 r 1024).Idx → α :=
  concatenate (M2 r 1024) 1
    [⟨M2 r 256, extractStridedSlice (M2 r 256) ![0, 256 * p.val] x (slices_cols r 256 2048 _ (by omega))⟩,
     ⟨M2 r 256, extractStridedSlice (M2 r 256) ![0, 512 + 256 * p.val] x (slices_cols r 256 2048 _ (by omega))⟩,
     ⟨M2 r 256, extractStridedSlice (M2 r 256) ![0, 1024 + 256 * p.val] x (slices_cols r 256 2048 _ (by omega))⟩,
     ⟨M2 r 256, extractStridedSlice (M2 r 256) ![0, 1536 + 256 * p.val] x (slices_cols r 256 2048 _ (by omega))⟩]
    (concat_cols4 r)

/-- The columns with the given left and right halves. -/
def colMerge {r : ℕ} (lo hi : (M2 r 1024).Idx → α) : (M2 r 2048).Idx → α :=
  concatenate (M2 r 2048) 1
    [⟨M2 r 256, extractStridedSlice (M2 r 256) ![0, 0] lo (slices_cols r 256 1024 0 (by omega))⟩,
     ⟨M2 r 256, extractStridedSlice (M2 r 256) ![0, 0] hi (slices_cols r 256 1024 0 (by omega))⟩,
     ⟨M2 r 256, extractStridedSlice (M2 r 256) ![0, 256] lo (slices_cols r 256 1024 256 (by omega))⟩,
     ⟨M2 r 256, extractStridedSlice (M2 r 256) ![0, 256] hi (slices_cols r 256 1024 256 (by omega))⟩,
     ⟨M2 r 256, extractStridedSlice (M2 r 256) ![0, 512] lo (slices_cols r 256 1024 512 (by omega))⟩,
     ⟨M2 r 256, extractStridedSlice (M2 r 256) ![0, 512] hi (slices_cols r 256 1024 512 (by omega))⟩,
     ⟨M2 r 256, extractStridedSlice (M2 r 256) ![0, 768] lo (slices_cols r 256 1024 768 (by omega))⟩,
     ⟨M2 r 256, extractStridedSlice (M2 r 256) ![0, 768] hi (slices_cols r 256 1024 768 (by omega))⟩]
    (concat_cols8 r)

end Columns

variable {F : FTy → Type} [FloatOps F] [Named F]

/-- The product of two matrices, from zero. -/
def mm {M K N : ℕ} (a : FVec F (M2 M K) .bf16) (b : FVec F (M2 K N) .bf16) : FVec F (M2 M N) .f32 :=
  matmul (DotDims.plain M K N) none a b (constant (M2 M N) .f32 0x00000000#32)

/-- Each column's largest entry. -/
def colMax {k n : ℕ} (s : FVec F (M2 k n) .f32) : FVec F (M2 1 n) .f32 :=
  shapeCast (M2 1 n) (multiReduction .maximumf [0] ⟨1, ![n]⟩ s 0xFF800000#32 (reduces_rows k n) (.inl rfl) rfl) (casts_row n)

/-- A row repeated on `k` rows. -/
def rep {n : ℕ} (k : ℕ) (x : FVec F (M2 1 n) .f32) : FVec F (M2 k n) .f32 := broadcastTo (M2 k n) x (broadcasts_row k n)

/-- The exponentials of the scores above a row. -/
def weights {k n : ℕ} (s : FVec F (M2 k n) .f32) (m : FVec F (M2 1 n) .f32) : FVec F (M2 k n) .bf16 :=
  truncf .bf16 (exp2 (subf s (rep k m))) bitsLt_bf16_f32

/-- The running values of the first softmax: the shift, the sums, the largest excess over the shift, the largest score. -/
abbrev Fast (F : FTy → Type) (n : ℕ) : Type :=
  FVec F (M2 1 n) .f32 × FVec F (M2 80 n) .f32 × FVec F (M2 1 n) .f32 × FVec F (M2 1 n) .f32

/-- The running values of the second softmax: the shift, the sums. -/
abbrev Slow (F : FTy → Type) (n : ℕ) : Type := FVec F (M2 1 n) .f32 × FVec F (M2 80 n) .f32

/-- A tile of the first softmax: the sums are taken at the old shift, then scaled to the new one. -/
def fastTile {k n : ℕ} (s : FVec F (M2 k n) .f32) (va : FVec F (M2 80 k) .bf16) (c : Fast F n) : Fast F n :=
  (maximumf c.1 (colMax s),
   mulf (addf c.2.1 (mm va (weights s c.1))) (rep 80 (exp2 (subf c.1 (maximumf c.1 (colMax s))))),
   maximumf c.2.2.1 (subf (colMax s) c.1),
   maximumf c.2.2.2 (colMax s))

/-- A tile of the second softmax: the sums are taken at the new shift. -/
def slowTile {k n : ℕ} (s : FVec F (M2 k n) .f32) (va : FVec F (M2 80 k) .bf16) (c : Slow F n) : Slow F n :=
  (maximumf c.1 (colMax s),
   addf (mulf (rep 80 (exp2 (subf c.1 (maximumf c.1 (colMax s))))) c.2)
     (mm va (weights s (maximumf c.1 (colMax s)))))

/-- Half of the columns of the running values. -/
def fastHalf (p : Fin 2) (c : Fast F 2048) : Fast F 1024 := (colHalf p c.1, colHalf p c.2.1, colHalf p c.2.2.1, colHalf p c.2.2.2)
def fastMerge (a b : Fast F 1024) : Fast F 2048 :=
  (colMerge a.1 b.1, colMerge a.2.1 b.2.1, colMerge a.2.2.1 b.2.2.1, colMerge a.2.2.2 b.2.2.2)
def slowHalf (p : Fin 2) (c : Slow F 2048) : Slow F 1024 := (colHalf p c.1, colHalf p c.2)
def slowMerge (a b : Slow F 1024) : Slow F 2048 := (colMerge a.1 b.1, colMerge a.2 b.2)

/-- A tile whose second half of keys only the right halves of the columns see. -/
def fastDiag (s : FVec F (M2 256 2048) .f32) (va : FVec F (M2 80 256) .bf16) (s' : FVec F (M2 256 1024) .f32) (va' : FVec F (M2 80 256) .bf16)
    (c : Fast F 2048) : Fast F 2048 :=
  fastMerge (fastHalf 0 (fastTile s va c)) (fastTile s' va' (fastHalf 1 (fastTile s va c)))
def slowDiag (s : FVec F (M2 256 2048) .f32) (va : FVec F (M2 80 256) .bf16) (s' : FVec F (M2 256 1024) .f32) (va' : FVec F (M2 80 256) .bf16)
    (c : Slow F 2048) : Slow F 2048 :=
  slowMerge (slowHalf 0 (slowTile s va c)) (slowTile s' va' (slowHalf 1 (slowTile s va c)))

/-- A tile whose first half of keys only the left halves of the columns see. -/
def fastPrev (s : FVec F (M2 256 2048) .f32) (va : FVec F (M2 80 256) .bf16) (s' : FVec F (M2 256 1024) .f32) (va' : FVec F (M2 80 256) .bf16)
    (c : Fast F 2048) : Fast F 2048 :=
  fastMerge (fastTile s' va' (fastHalf 0 (fastTile s va c))) (fastHalf 1 (fastTile s va c))
def slowPrev (s : FVec F (M2 256 2048) .f32) (va : FVec F (M2 80 256) .bf16) (s' : FVec F (M2 256 1024) .f32) (va' : FVec F (M2 80 256) .bf16)
    (c : Slow F 2048) : Slow F 2048 :=
  slowMerge (slowTile s' va' (slowHalf 0 (slowTile s va c))) (slowHalf 1 (slowTile s va c))

/-- The scores where the mask holds, else the mask's constant. -/
def masked {k n : ℕ} (vis : IVec (M2 k n) 1) (s : FVec F (M2 k n) .f32) : FVec F (M2 k n) .f32 :=
  select vis s (broadcast (M2 k n) (Named.named κ "mask" 0xF149F2CA#32))

/-- The positions of 256 keys from `r`. -/
def keyPos (r : BitVec 32) : IVec (M2 256 1) 32 := addi (broadcast S256x1 r) (iota .tc S256x1 32 [0] iota_S256x1_d0_w32)

/-- Keys at or before the query. -/
def causal {n : ℕ} (r : BitVec 32) (tp : IVec (M2 1 n) 32) : IVec (M2 256 n) 1 :=
  cmpi .sle (broadcastTo (M2 256 n) (keyPos r) (broadcasts_col 256 n)) (broadcastTo (M2 256 n) tp (broadcasts_row 256 n))

/-- Keys less than 512 before the query, where the query's tile has a tile before it. -/
def recent {n : ℕ} (s0 r : BitVec 32) (tp : IVec (M2 1 n) 32) : IVec (M2 256 n) 1 :=
  andi (cmpi .slt (subi (broadcastTo (M2 256 n) tp (broadcasts_row 256 n)) (broadcastTo (M2 256 n) (keyPos r) (broadcasts_col 256 n)))
    (broadcast (M2 256 n) 512#32)) (broadcast (M2 256 n) (Scalar.cmpi .sge s0 512#32))

/-- Values with the row of ones below. -/
def withOnes {n : ℕ} (ones : FVec F (M2 16 n) .bf16) (v : FVec F (M2 64 n) .bf16) : FVec F (M2 80 n) .bf16 :=
  concatenate (M2 80 n) 0 [⟨M2 64 n, v⟩, ⟨M2 16 n, ones⟩] (concat_rows2 64 16 n)

/-- The arrays that one point of the grid reads. -/
structure Ins (F : FTy → Type) where
  q : Vec F S256x512 .bf16
  gate : Vec F S3x1x4x512 .f32
  kc : Vec F S1x1x256x64 .bf16
  vc : Vec F S1x1x64x256 .bf16
  ks : Vec F S1x4096x256 .bf16
  vs : Vec F S64x4096 .bf16
  kw : Vec F S4096x128 .bf16
  vw : Vec F S64x4096 .bf16

section Point
variable (i : grid0.Coords) (X : Ins F)

/-- The first position of the queries. -/
def s0 : BitVec 32 := Scalar.muli (BitVec.ofNat 32 (i 2).val) 512#32

def qHead (r : Fin 4) : Vec F S64x512 .bf16 := View.ld X.q (Rect.unit (s := S256x512) ![64 * r.val, 0] S64x512.size (by decide +revert))

/-- The four heads' queries side by side. -/
def qAll : FVec F S64x2048 .bf16 := k0_pay2204 (qHead X 0) (qHead X 1) (qHead X 2) (qHead X 3)
/-- The same at the rows of this head of a pair of key heads. -/
def qPair : FVec F S128x2048 .bf16 := k0_pay2205 i (qHead X 0) (qHead X 1) (qHead X 2) (qHead X 3)

def kcAll : Vec F S1x1x256x64 .bf16 :=
  View.ld X.kc (Rect.unit (s := S1x1x256x64) ![0, 0, 0, 0] S1x1x256x64.size inb_S1x1x256x64_S1x1x256x64_0_0_0_0)
def vcAll : Vec F S1x1x64x256 .bf16 :=
  View.ld X.vc (Rect.unit (s := S1x1x64x256) ![0, 0, 0, 0] S1x1x64x256.size inb_S1x1x64x256_S1x1x64x256_0_0_0_0)

/-- The scores of the compressed keys. -/
def cScore : FVec F S256x2048 .f32 := k0_pay2209 (qAll X) (k0_pay2208 i) (kcAll X)
def hasC : IVec S1x2048 1 := k0_pay2210 (k0_pay2207 i)

/-- The compressed branch above the blocks' importances. -/
def cOut : FVec F S128x2048 .f32 :=
  if Scalar.cmpi .ne (Scalar.extui (Scalar.cmpf .ogt (k0_pay2217 (cScore i X) (hasC i)) (Scalar.ofBits .f32 0x42700000#32)) : BitVec 32) 0#32 = 1#1 then
    k0_pay2218 (cScore i X) (hasC i) (k0_pay2211 (vcAll X))
  else k0_pay2215 (hasC i) (k0_pay2213 (qAll X) (k0_pay2208 i) (kcAll X) (vcAll X)) (k0_pay2214 (qAll X) (k0_pay2208 i) (kcAll X) (vcAll X))
    (Scalar.ofBits .f32 0x00000000#32)

/-- The blocks' scores. -/
def bScore : FVec F S64x512 .f32 :=
  k0_pay2225 (k0_pay2206 i) (k0_pay2220 (cOut i X)) (iota .tc S64x1 32 [0] iota_S64x1_d0_w32) (k0_pay2221 (k0_pay2206 i))
    (k0_pay2222 (k0_pay2206 i)) (k0_pay2223 (k0_pay2206 i)) k0_pay2224

/-- The queries above the kept blocks' rows. -/
def qSel : FVec F S256x2048 .bf16 := k0_pay2234 (qPair i X) (keepAt (k0_pay2221 (k0_pay2206 i)) (bScore i X) (i 2))

def tp : IVec S1x2048 32 := k0_pay2207 i

/-- The tile of keys `k` of the selected branch, before the queries' own. -/
def ksTile (k : Fin (k0_t1_loop i).trips) : FVec F S512x256 .bf16 :=
  shapeCast S512x256 (View.ld X.ks (Rect.unit (s := S1x4096x256) (k0_off1 i k) S1x512x256.size (k0_off1_inb i k))) shapeCasts_S1x512x256_S512x256
def vsTile (k : Fin (k0_t1_loop i).trips) : FVec F S80x512 .bf16 :=
  withOnes k0_pay2235 (shapeCast S64x512 (View.ld X.vs (Rect.unit (s := S64x4096) (k0_off2 i k) S64x512.size (k0_off2_inb i k))) shapeCasts_S64x512_S64x512)

/-- 256 keys of the selected branch, at the half `r` of the queries' own tile. -/
def ksHalf (off : Fin 3 → ℕ) (h : ∀ a, off a + S1x256x256.size a ≤ S1x4096x256.size a) : FVec F S256x256 .bf16 :=
  shapeCast S256x256 (View.ld X.ks (Rect.unit (s := S1x4096x256) off S1x256x256.size h)) shapeCasts_S1x256x256_S256x256
def vHalf (v : Vec F S64x4096 .bf16) (off : Fin 2 → ℕ) (h : ∀ a, off a + S64x256.size a ≤ S64x4096.size a) : FVec F S80x256 .bf16 :=
  withOnes k0_pay2236 (shapeCast S64x256 (View.ld v (Rect.unit (s := S64x4096) off S64x256.size h)) shapeCasts_S64x256_S64x256)
def kwHalf (off : Fin 2 → ℕ) (h : ∀ a, off a + S256x128.size a ≤ S4096x128.size a) : FVec F S256x128 .bf16 :=
  shapeCast S256x128 (View.ld X.kw (Rect.unit (s := S4096x128) off S256x128.size h)) shapeCasts_S256x128_S256x128

def fastInit : Fast F 2048 := (k0_pay2242, k0_pay2243, k0_pay2244, k0_pay2244)
def slowInit : Slow F 2048 := (k0_pay2244, k0_pay2243)

/-- The first softmax's values before tile `n` of the selected branch. -/
def fastLoop (n : ℕ) : Fast F 2048 :=
  Nat.rec fastInit (fun k c => if h : k < (k0_t1_loop i).trips then fastTile (mm (ksTile i X ⟨k, h⟩) (qSel i X)) (vsTile i X ⟨k, h⟩) c else c) n
def slowLoop (n : ℕ) : Slow F 2048 :=
  Nat.rec slowInit (fun k c => if h : k < (k0_t1_loop i).trips then slowTile (mm (ksTile i X ⟨k, h⟩) (qSel i X)) (vsTile i X ⟨k, h⟩) c else c) n

/-- The scores and values of the halves of the queries' own tile, selected branch. -/
def selS (r : Fin 2) : FVec F S256x2048 .f32 :=
  masked (causal (Scalar.addi (s0 i) (BitVec.ofNat 32 (256 * r.val))) (tp i)) (mm (ksHalf X (k0_off5 i (BitVec.ofNat 32 (256 * r.val))) (k0_off5_inb i r)) (qSel i X))
def selS' (r : Fin 2) : FVec F S256x1024 .f32 :=
  masked (causal (Scalar.addi (s0 i) (BitVec.ofNat 32 (256 * r.val))) (colHalf 1 (tp i)))
    (mm (ksHalf X (k0_off5 i (BitVec.ofNat 32 (256 * r.val))) (k0_off5_inb i r)) (colHalf 1 (qSel i X)))
def selV (r : Fin 2) : FVec F S80x256 .bf16 := vHalf X.vs (k0_off6 i (BitVec.ofNat 32 (256 * r.val))) (k0_off6_inb i r)

def winS (r : Fin 2) : FVec F S256x2048 .f32 :=
  masked (causal (Scalar.addi (s0 i) (BitVec.ofNat 32 (256 * r.val))) (tp i)) (mm (kwHalf X (k0_off9 i (BitVec.ofNat 32 (256 * r.val))) (k0_off9_inb i r)) (qPair i X))
def winS' (r : Fin 2) : FVec F S256x1024 .f32 :=
  masked (causal (Scalar.addi (s0 i) (BitVec.ofNat 32 (256 * r.val))) (colHalf 1 (tp i)))
    (mm (kwHalf X (k0_off9 i (BitVec.ofNat 32 (256 * r.val))) (k0_off9_inb i r)) (colHalf 1 (qPair i X)))
def winV (r : Fin 2) : FVec F S80x256 .bf16 := vHalf X.vw (k0_off6 i (BitVec.ofNat 32 (256 * r.val))) (k0_off6_inb i r)

/-- The first position of the tile before the queries'. -/
def sPrev : BitVec 32 := Scalar.maxsi (Scalar.subi (s0 i) 512#32) 0#32
def preS (r : Fin 2) : FVec F S256x2048 .f32 :=
  masked (recent (s0 i) (Scalar.addi (sPrev i) (BitVec.ofNat 32 (256 * r.val))) (tp i)) (mm (kwHalf X (k0_off7 i (BitVec.ofNat 32 (256 * r.val))) (k0_off7_inb i r)) (qPair i X))
def preS' (r : Fin 2) : FVec F S256x1024 .f32 :=
  masked (recent (s0 i) (Scalar.addi (sPrev i) (BitVec.ofNat 32 (256 * r.val))) (colHalf 0 (tp i)))
    (mm (kwHalf X (k0_off7 i (BitVec.ofNat 32 (256 * r.val))) (k0_off7_inb i r)) (colHalf 0 (qPair i X)))
def preV (r : Fin 2) : FVec F S80x256 .bf16 := vHalf X.vw (k0_off8 i (BitVec.ofNat 32 (256 * r.val))) (k0_off8_inb i r)

def fastSel : Fast F 2048 := fastDiag (selS i X 0) (selV i X 0) (selS' i X 1) (selV i X 1) (fastLoop i X (k0_t1_loop i).trips)
def slowSel : Slow F 2048 := slowDiag (selS i X 0) (selV i X 0) (selS' i X 1) (selV i X 1) (slowLoop i X (k0_t1_loop i).trips)
def fastWin : Fast F 2048 :=
  fastDiag (winS i X 0) (winV i X 0) (winS' i X 1) (winV i X 1) (fastPrev (preS i X 1) (preV i X 1) (preS' i X 0) (preV i X 0) fastInit)
def slowWin : Slow F 2048 :=
  slowDiag (winS i X 0) (winV i X 0) (winS' i X 1) (winV i X 1) (slowPrev (preS i X 1) (preV i X 1) (preS' i X 0) (preV i X 0) slowInit)

/-- The largest of a row. -/
def rowMax (x : FVec F S1x2048 .f32) : FVec F S1x1x1 .f32 :=
  shapeCast S1x1x1 (multiReduction .maximumf [1, 2] S1 (shapeCast S1x1x2048 x shapeCasts_S1x2048_S1x1x2048) 0xFF800000#32 reduces_S1x1x2048_S1 (.inl rfl) rfl) shapeCasts_S1_S1x1x1

/-- How far the first softmax's shifts lag behind, or its scores fall short. -/
def excess : F .f32 := k0_pay2327 (fastSel i X).2.2.2 (fastWin i X).2.2.2 (rowMax (maximumf (fastSel i X).2.2.1 (fastWin i X).2.2.1))

/-- The sums of the two branches, by the second softmax where the first isn't safe. -/
def sums : FVec F S80x2048 .f32 × FVec F S80x2048 .f32 :=
  if Scalar.cmpi .ne (Scalar.extui (Scalar.cmpf .ogt (excess i X) (Scalar.ofBits .f32 0x42700000#32)) : BitVec 32) 0#32 = 1#1 then
    ((slowSel i X).2, (slowWin i X).2)
  else ((fastSel i X).2.1, (fastWin i X).2.1)

/-- The gate `b` of the head `r`. -/
def gateOf (b : Fin 3) (r : Fin 4) : Vec F S1x1x1x512 .f32 :=
  View.ld X.gate (Rect.unit (s := S3x1x4x512) ![b.val, 0, r.val, 0] S1x1x1x512.size (by decide +revert))

/-- The result, one head. -/
def head0 : FVec F S64x512 .bf16 :=
  k0_pay2331 (k0_pay2219 (cOut i X)) (sums i X).1 (sums i X).2 (gateOf X 0 0) (gateOf X 1 0) (gateOf X 2 0)
def head1 : FVec F S64x512 .bf16 :=
  k0_pay2332 (k0_pay2219 (cOut i X)) (k0_pay2329 (sums i X).1) (k0_pay2330 (sums i X).2) (gateOf X 0 1) (gateOf X 1 1) (gateOf X 2 1)
def head2 : FVec F S64x512 .bf16 :=
  k0_pay2334 (k0_pay2330 (sums i X).2) (k0_pay2333 (k0_pay2219 (cOut i X)) (k0_pay2329 (sums i X).1) (gateOf X 0 2) (gateOf X 1 2)) (gateOf X 2 2)
def head3 : FVec F S64x512 .bf16 :=
  k0_pay2335 (k0_pay2219 (cOut i X)) (k0_pay2329 (sums i X).1) (k0_pay2330 (sums i X).2) (gateOf X 0 3) (gateOf X 1 3) (gateOf X 2 3)

end Point

end Cert.KernelIdeal.Hand
-- ==== Proof.KernelIdeal.Rank2.lean ====
module

public import proofs.«01_k».proof.Proof.KernelIdeal.Rank

@[expose] public section

noncomputable section

namespace Cert.KernelIdeal.Hand

open Idealize.ShloMosaic Idealize.SL.Sem Gen

variable {F : FTy → Type} [FloatOps F] [Named F]

set_option maxHeartbeats 4000000 in
/-- The switch over the query tile: which blocks of keys are kept. -/
theorem part261_eq (i : grid0.Coords) (arg3 : Memref sig .tc .vmem S256x512 .bf16) (harg3 : arg3.IsWhole) (arg4 : Memref sig .tc .vmem S3x1x4x512 .f32) (harg4 : arg4.IsWhole) (arg5 : Memref sig .tc .vmem S1x1x256x64 .bf16) (harg5 : arg5.IsWhole) (arg6 : Memref sig .tc .vmem S1x1x64x256 .bf16) (harg6 : arg6.IsWhole) (arg7 : Memref sig .tc .vmem S1x4096x256 .bf16) (harg7 : arg7.IsWhole) (arg8 : Memref sig .tc .vmem S64x4096 .bf16) (harg8 : arg8.IsWhole) (arg9 : Memref sig .tc .vmem S4096x128 .bf16) (harg9 : arg9.IsWhole) (arg10 : Memref sig .tc .vmem S64x4096 .bf16) (harg10 : arg10.IsWhole) (arg11 : Memref sig .tc .vmem S256x512 .bf16) (harg11 : arg11.IsWhole)  (n : Fin 8) (v11 : BitVec 32) (v24 : FVec F S128x2048 .bf16) (v27 : IVec S1x512 32) (v103 : FVec F S64x512 .f32) (v104 : IVec S64x1 32) (v109 : IVec S64x512 1) (v111 : IVec S1x512 32) (v125 : IVec S1x512 1) (v126 : IVec S1x512 32) :
    k0_part261 i arg3 harg3 arg4 harg4 arg5 harg5 arg6 harg6 arg7 harg7 arg8 harg8 arg9 harg9 arg10 harg10 arg11 harg11 (BitVec.ofNat 32 n.val) v11 v24 v27 v103 v104 v109 v111 v125 v126
      = pure ⟨k0_pay2234 v24 (keepAt v109 (k0_pay2225 v27 v103 v104 v109 v111 v125 v126) n), k0_pay2235 (F := F), 512#32, Scalar.divsi v11 512#32,
          Scalar.subi (Scalar.extui (Scalar.cmpi .sgt v11 0#32)) (Scalar.extui (Scalar.cmpi .slt v11 0#32)), 0#32⟩ := by
  generalize hs : k0_pay2225 v27 v103 v104 v109 v111 v125 v126 = sc
  rw [k0_part261_eq_skeleton]
  unfold k0_part261_skel
  rw [hs]
  fin_cases n <;> dsimp only <;> repeat (first | rw [dif_pos (by decide)] | rw [dif_neg (by decide)])
  all_goals rfl

end Cert.KernelIdeal.Hand
-- ==== Proof.KernelIdeal.Run.lean ====
module

public import proofs.«01_k».proof.Proof.KernelIdeal.Stage
public import proofs.«01_k».proof.Proof.KernelIdeal.Rank2
public import proofs.«01_k».proof.Proof.Gen.KernelIdeal.Frame
public import proofs.«01_k».proof.Proof.Gen.KernelIdeal.Loops

@[expose] public section

set_option maxHeartbeats 4000000

noncomputable section

/-! What the parts of the kernel's body do: each reads the arrays and gives the stage's values. -/

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

/-- The program `p`, run holding `R`, gives `v` and `R` back. -/
def Gives {α : Type} (c : Dev nD) (E : Set ℕ) (R : sProp 𝕄) (p : Prog (TpuEff nD τ sig (Elt F) Λ₀ .tc) α) (v : α) : Prop :=
  R ⊢ wp frame (wpE (defs₀ (F := F)) Variants.none (c : Thread nD τ) none) E p (fun r => iprop(⌜r = v⌝ ∗ R))

/-- A program that only returns. -/
theorem gives_pure {α : Type} {c : Dev nD} {E : Set ℕ} {R : sProp 𝕄} (v : α) : Gives c E R (pure v) v := by
  unfold Gives
  refine .trans ?_ (le_wp_ret _ _ _ v _)
  iintro H
  isplitr
  · ipureintro; rfl
  · iexact H

/-- One program after another. -/
theorem gives_bind {α β : Type} {c : Dev nD} {E : Set ℕ} {R P : sProp 𝕄} {p : Prog (TpuEff nD τ sig (Elt F) Λ₀ .tc) α}
    {k : α → Prog (TpuEff nD τ sig (Elt F) Λ₀ .tc) β} {v : α} {Q : β → sProp 𝕄} (h : Gives c E R p v)
    (h' : iprop(R ∗ P) ⊢ wp frame (wpE (defs₀ (F := F)) Variants.none (c : Thread nD τ) none) E (k v) Q) :
    iprop(R ∗ P) ⊢ wp frame (wpE (defs₀ (F := F)) Variants.none (c : Thread nD τ) none) E (p >>= k) Q := by
  rw [wp_bind]
  refine (sep_mono h .rfl).trans ((wp_frame_r _ _ _).trans (wp_mono _ _ _ fun a => ?_))
  iintro ⟨⟨%e, HR⟩, HP⟩
  subst e
  iapply h'
  isplitl [HR]
  · iexact HR
  · iexact HP

/-- The same, where the second gives a value too. -/
theorem gives_then {α β : Type} {c : Dev nD} {E : Set ℕ} {R : sProp 𝕄} {p : Prog (TpuEff nD τ sig (Elt F) Λ₀ .tc) α}
    {k : α → Prog (TpuEff nD τ sig (Elt F) Λ₀ .tc) β} {v : α} {w : β} (h : Gives c E R p v) (h' : Gives c E R (k v) w) :
    Gives c E R (p >>= k) w := by
  unfold Gives at h h' ⊢
  rw [wp_bind]
  refine h.trans (wp_mono _ _ _ fun a => ?_)
  iintro ⟨%e, HR⟩
  subst e
  iapply h'
  iexact HR

variable (c : Dev nD) (E : Set ℕ) (i : grid0.Coords) (arg3 : Memref sig .tc .vmem S256x512 .bf16) (harg3 : arg3.IsWhole) (arg4 : Memref sig .tc .vmem S3x1x4x512 .f32) (harg4 : arg4.IsWhole) (arg5 : Memref sig .tc .vmem S1x1x256x64 .bf16) (harg5 : arg5.IsWhole) (arg6 : Memref sig .tc .vmem S1x1x64x256 .bf16) (harg6 : arg6.IsWhole) (arg7 : Memref sig .tc .vmem S1x4096x256 .bf16) (harg7 : arg7.IsWhole) (arg8 : Memref sig .tc .vmem S64x4096 .bf16) (harg8 : arg8.IsWhole) (arg9 : Memref sig .tc .vmem S4096x128 .bf16) (harg9 : arg9.IsWhole) (arg10 : Memref sig .tc .vmem S64x4096 .bf16) (harg10 : arg10.IsWhole) (arg11 : Memref sig .tc .vmem S256x512 .bf16) (harg11 : arg11.IsWhole)

/-- The eight arrays a point reads, held. -/
abbrev Res (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) : sProp 𝕄 :=
  iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10))

variable (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty)

/-- Their contents. -/
abbrev ins : Ins F := ⟨arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10⟩

section Values
variable (X : Ins F)

/-- The first softmax after the first half of the queries' own tile, selected branch. -/
def fa : Fast F 2048 := fastTile (selS i X 0) (selV i X 0) (fastLoop i X (k0_t1_loop i).trips)
/-- The second half of it. -/
def fb : Fast F 1024 := fastTile (selS' i X 1) (selV i X 1) (fastHalf 1 (fa i X))
/-- The window branch after the second half of the tile before. -/
def fp : Fast F 2048 := fastTile (preS i X 1) (preV i X 1) fastInit
def fw : Fast F 2048 := fastPrev (preS i X 1) (preV i X 1) (preS' i X 0) (preV i X 0) fastInit
def fd : Fast F 2048 := fastTile (winS i X 0) (winV i X 0) (fw i X)
/-- The same for the second softmax. -/
def sa : Slow F 2048 := slowTile (selS i X 0) (selV i X 0) (slowLoop i X (k0_t1_loop i).trips)
def sp : Slow F 2048 := slowTile (preS i X 1) (preV i X 1) slowInit
def sw : Slow F 2048 := slowPrev (preS i X 1) (preV i X 1) (preS' i X 0) (preV i X 0) slowInit
def sd : Slow F 2048 := slowTile (winS i X 0) (winV i X 0) (sw i X)

end Values

theorem part258_gives : Gives c E (Res c arg3 arg4 arg5 arg6 arg7 arg8 arg9 arg10 f3 f4 f5 f6 f7 f8 f9 f10) (k0_part258 (F := F) i arg3 harg3 arg4 harg4 arg5 harg5 arg6 harg6 arg7 harg7 arg8 harg8 arg9 harg9 arg10 harg10 arg11 harg11 )
    ⟨BitVec.ofNat 32 (i 2).val, s0 i, qAll (ins arg3 arg4 arg5 arg6 arg7 arg8 arg9 arg10 f3 f4 f5 f6 f7 f8 f9 f10), qPair i (ins arg3 arg4 arg5 arg6 arg7 arg8 arg9 arg10 f3 f4 f5 f6 f7 f8 f9 f10), k0_pay2206 i, tp i, k0_pay2208 i⟩ := by
  unfold Gives Res
  rw [k0_part258_eq_skeleton]
  unfold k0_part258_skel
  iintro ⟨H3, H4, H5, H6, H7, H8, H9, H10⟩
  sl_exec
  sl_step
  sl_close

theorem part259_gives : Gives c E (Res c arg3 arg4 arg5 arg6 arg7 arg8 arg9 arg10 f3 f4 f5 f6 f7 f8 f9 f10) (k0_part259 (F := F) i arg3 harg3 arg4 harg4 arg5 harg5 arg6 harg6 arg7 harg7 arg8 harg8 arg9 harg9 arg10 harg10 arg11 harg11 (qAll (ins arg3 arg4 arg5 arg6 arg7 arg8 arg9 arg10 f3 f4 f5 f6 f7 f8 f9 f10)) (tp i) (k0_pay2208 i))
    ⟨cScore i (ins arg3 arg4 arg5 arg6 arg7 arg8 arg9 arg10 f3 f4 f5 f6 f7 f8 f9 f10), hasC i, k0_pay2211 (vcAll (ins arg3 arg4 arg5 arg6 arg7 arg8 arg9 arg10 f3 f4 f5 f6 f7 f8 f9 f10)), k0_pay2213 (qAll (ins arg3 arg4 arg5 arg6 arg7 arg8 arg9 arg10 f3 f4 f5 f6 f7 f8 f9 f10)) (k0_pay2208 i) (kcAll (ins arg3 arg4 arg5 arg6 arg7 arg8 arg9 arg10 f3 f4 f5 f6 f7 f8 f9 f10)) (vcAll (ins arg3 arg4 arg5 arg6 arg7 arg8 arg9 arg10 f3 f4 f5 f6 f7 f8 f9 f10)), k0_pay2214 (qAll (ins arg3 arg4 arg5 arg6 arg7 arg8 arg9 arg10 f3 f4 f5 f6 f7 f8 f9 f10)) (k0_pay2208 i) (kcAll (ins arg3 arg4 arg5 arg6 arg7 arg8 arg9 arg10 f3 f4 f5 f6 f7 f8 f9 f10)) (vcAll (ins arg3 arg4 arg5 arg6 arg7 arg8 arg9 arg10 f3 f4 f5 f6 f7 f8 f9 f10)), Scalar.ofBits .f32 0x00000000#32⟩ := by
  unfold Gives Res
  rw [k0_part259_eq_skeleton]
  unfold k0_part259_skel
  iintro ⟨H3, H4, H5, H6, H7, H8, H9, H10⟩
  sl_exec
  sl_step
  sl_close

theorem part260_gives : Gives c E (Res c arg3 arg4 arg5 arg6 arg7 arg8 arg9 arg10 f3 f4 f5 f6 f7 f8 f9 f10) (k0_part260 (F := F) i arg3 harg3 arg4 harg4 arg5 harg5 arg6 harg6 arg7 harg7 arg8 harg8 arg9 harg9 arg10 harg10 arg11 harg11 (k0_pay2206 i) (cScore i (ins arg3 arg4 arg5 arg6 arg7 arg8 arg9 arg10 f3 f4 f5 f6 f7 f8 f9 f10)) (hasC i) (k0_pay2211 (vcAll (ins arg3 arg4 arg5 arg6 arg7 arg8 arg9 arg10 f3 f4 f5 f6 f7 f8 f9 f10))) (k0_pay2213 (qAll (ins arg3 arg4 arg5 arg6 arg7 arg8 arg9 arg10 f3 f4 f5 f6 f7 f8 f9 f10)) (k0_pay2208 i) (kcAll (ins arg3 arg4 arg5 arg6 arg7 arg8 arg9 arg10 f3 f4 f5 f6 f7 f8 f9 f10)) (vcAll (ins arg3 arg4 arg5 arg6 arg7 arg8 arg9 arg10 f3 f4 f5 f6 f7 f8 f9 f10))) (k0_pay2214 (qAll (ins arg3 arg4 arg5 arg6 arg7 arg8 arg9 arg10 f3 f4 f5 f6 f7 f8 f9 f10)) (k0_pay2208 i) (kcAll (ins arg3 arg4 arg5 arg6 arg7 arg8 arg9 arg10 f3 f4 f5 f6 f7 f8 f9 f10)) (vcAll (ins arg3 arg4 arg5 arg6 arg7 arg8 arg9 arg10 f3 f4 f5 f6 f7 f8 f9 f10))) (Scalar.ofBits .f32 0x00000000#32))
    ⟨k0_pay2219 (cOut i (ins arg3 arg4 arg5 arg6 arg7 arg8 arg9 arg10 f3 f4 f5 f6 f7 f8 f9 f10)), k0_pay2220 (cOut i (ins arg3 arg4 arg5 arg6 arg7 arg8 arg9 arg10 f3 f4 f5 f6 f7 f8 f9 f10)), iota .tc S64x1 32 [0] iota_S64x1_d0_w32, k0_pay2221 (k0_pay2206 i), k0_pay2222 (k0_pay2206 i), k0_pay2223 (k0_pay2206 i), k0_pay2224⟩ := by
  rw [k0_part260_eq_skeleton]
  unfold k0_part260_skel cOut
  by_cases h : Scalar.cmpi .ne (Scalar.extui (Scalar.cmpf .ogt (k0_pay2217 (cScore i (ins arg3 arg4 arg5 arg6 arg7 arg8 arg9 arg10 f3 f4 f5 f6 f7 f8 f9 f10)) (hasC i)) (Scalar.ofBits .f32 0x42700000#32)) : BitVec 32) 0#32 = 1#1
  · simp only [if_pos h]
    exact gives_pure _
  · simp only [if_neg h]
    exact gives_pure _

theorem part261_gives : Gives c E (Res c arg3 arg4 arg5 arg6 arg7 arg8 arg9 arg10 f3 f4 f5 f6 f7 f8 f9 f10) (k0_part261 (F := F) i arg3 harg3 arg4 harg4 arg5 harg5 arg6 harg6 arg7 harg7 arg8 harg8 arg9 harg9 arg10 harg10 arg11 harg11 (BitVec.ofNat 32 (i 2).val) (s0 i) (qPair i (ins arg3 arg4 arg5 arg6 arg7 arg8 arg9 arg10 f3 f4 f5 f6 f7 f8 f9 f10)) (k0_pay2206 i) (k0_pay2220 (cOut i (ins arg3 arg4 arg5 arg6 arg7 arg8 arg9 arg10 f3 f4 f5 f6 f7 f8 f9 f10))) (iota .tc S64x1 32 [0] iota_S64x1_d0_w32) (k0_pay2221 (k0_pay2206 i)) (k0_pay2222 (k0_pay2206 i)) (k0_pay2223 (k0_pay2206 i)) k0_pay2224)
    ⟨qSel i (ins arg3 arg4 arg5 arg6 arg7 arg8 arg9 arg10 f3 f4 f5 f6 f7 f8 f9 f10), k0_pay2235, 512#32, Scalar.divsi (s0 i) 512#32, Scalar.subi (Scalar.extui (Scalar.cmpi .sgt (s0 i) 0#32)) (Scalar.extui (Scalar.cmpi .slt (s0 i) 0#32)), 0#32⟩ := by
  rw [show BitVec.ofNat 32 (i 2).val = BitVec.ofNat 32 (show Fin 8 from i 2).val from rfl, part261_eq]
  exact gives_pure _

theorem part262_gives : ∃ n n' : BitVec 32, Gives c E (Res c arg3 arg4 arg5 arg6 arg7 arg8 arg9 arg10 f3 f4 f5 f6 f7 f8 f9 f10) (k0_part262 (F := F) i arg3 harg3 arg4 harg4 arg5 harg5 arg6 harg6 arg7 harg7 arg8 harg8 arg9 harg9 arg10 harg10 arg11 harg11 (s0 i) (qPair i (ins arg3 arg4 arg5 arg6 arg7 arg8 arg9 arg10 f3 f4 f5 f6 f7 f8 f9 f10)) (tp i) (qSel i (ins arg3 arg4 arg5 arg6 arg7 arg8 arg9 arg10 f3 f4 f5 f6 f7 f8 f9 f10)) 512#32 (Scalar.divsi (s0 i) 512#32) (Scalar.subi (Scalar.extui (Scalar.cmpi .sgt (s0 i) 0#32)) (Scalar.extui (Scalar.cmpi .slt (s0 i) 0#32))) 0#32)
    ⟨n, k0_pay2236, colHalf 0 (tp i), colHalf 1 (tp i), colHalf 1 (qSel i (ins arg3 arg4 arg5 arg6 arg7 arg8 arg9 arg10 f3 f4 f5 f6 f7 f8 f9 f10)), colHalf 0 (qPair i (ins arg3 arg4 arg5 arg6 arg7 arg8 arg9 arg10 f3 f4 f5 f6 f7 f8 f9 f10)), colHalf 1 (qPair i (ins arg3 arg4 arg5 arg6 arg7 arg8 arg9 arg10 f3 f4 f5 f6 f7 f8 f9 f10)), k0_pay2242, k0_pay2243, k0_pay2244, 0#32, n', 1#32⟩ := by
  rw [k0_part262_eq_skeleton]
  exact ⟨_, _, gives_pure _⟩

/-- The loop over the selected branch's tiles, first softmax. -/
theorem loop1_eq (n' : BitVec 32) (n : ℕ) :
    st_k0_t1 (F := F) Variants.none c none i arg3 harg3 arg4 harg4 arg5 harg5 arg6 harg6 arg7 harg7 arg8 harg8 arg9 harg9 arg10 harg10 arg11 harg11 (s0 i) (tp i) (qSel i (ins arg3 arg4 arg5 arg6 arg7 arg8 arg9 arg10 f3 f4 f5 f6 f7 f8 f9 f10)) k0_pay2235 k0_pay2236 (colHalf 1 (tp i)) k0_pay2242 k0_pay2243 k0_pay2244 0#32 n' 1#32 f7 f8 fastInit n = fastLoop i (ins arg3 arg4 arg5 arg6 arg7 arg8 arg9 arg10 f3 f4 f5 f6 f7 f8 f9 f10) n := by
  induction n with
  | zero => rfl
  | succ n ih =>
    rw [st_k0_t1.eq_2]
    unfold st_k0_t1Step tripR_k0_t1 trip_k0_t1
    rw [ih]
    rfl

/-- A loop of no trips. -/
theorem loop2_trips : (k0_t2_loop i).trips = 0 := by revert i; decide +kernel
theorem loop4_trips : (k0_t4_loop i).trips = 0 := by revert i; decide +kernel

/-- The loop over the selected branch's tiles, second softmax. -/
theorem loop3_eq (n : BitVec 32) (k : ℕ) :
    st_k0_t3 (F := F) Variants.none c none i arg3 harg3 arg4 harg4 arg5 harg5 arg6 harg6 arg7 harg7 arg8 harg8 arg9 harg9 arg10 harg10 arg11 harg11 (s0 i) (tp i) (qSel i (ins arg3 arg4 arg5 arg6 arg7 arg8 arg9 arg10 f3 f4 f5 f6 f7 f8 f9 f10)) k0_pay2235 n k0_pay2236 (colHalf 1 (tp i)) k0_pay2243 k0_pay2244 f7 f8 slowInit k = slowLoop i (ins arg3 arg4 arg5 arg6 arg7 arg8 arg9 arg10 f3 f4 f5 f6 f7 f8 f9 f10) k := by
  induction k with
  | zero => rfl
  | succ k ih =>
    rw [st_k0_t3.eq_2]
    unfold st_k0_t3Step tripR_k0_t3 trip_k0_t3
    rw [ih]
    rfl

theorem loop12_eq (n' : BitVec 32) :
    st_k0_t2 (F := F) Variants.none c none i arg3 harg3 arg4 harg4 arg5 harg5 arg6 harg6 arg7 harg7 arg8 harg8 arg9 harg9 arg10 harg10 arg11 harg11 (s0 i) (tp i) (qSel i (ins arg3 arg4 arg5 arg6 arg7 arg8 arg9 arg10 f3 f4 f5 f6 f7 f8 f9 f10)) k0_pay2235 k0_pay2236 (colHalf 1 (tp i)) k0_pay2242 k0_pay2243 k0_pay2244 0#32 n' 1#32 f7 f8
      (st_k0_t1 (F := F) Variants.none c none i arg3 harg3 arg4 harg4 arg5 harg5 arg6 harg6 arg7 harg7 arg8 harg8 arg9 harg9 arg10 harg10 arg11 harg11 (s0 i) (tp i) (qSel i (ins arg3 arg4 arg5 arg6 arg7 arg8 arg9 arg10 f3 f4 f5 f6 f7 f8 f9 f10)) k0_pay2235 k0_pay2236 (colHalf 1 (tp i)) k0_pay2242 k0_pay2243 k0_pay2244 0#32 n' 1#32 f7 f8 fastInit (k0_t1_loop i).trips)
      (k0_t2_loop i).trips = fastLoop i (ins arg3 arg4 arg5 arg6 arg7 arg8 arg9 arg10 f3 f4 f5 f6 f7 f8 f9 f10) (k0_t1_loop i).trips := by
  rw [loop2_trips, st_k0_t2_zero]
  exact loop1_eq ..

theorem loop34_eq (n : BitVec 32) :
    st_k0_t4 (F := F) Variants.none c none i arg3 harg3 arg4 harg4 arg5 harg5 arg6 harg6 arg7 harg7 arg8 harg8 arg9 harg9 arg10 harg10 arg11 harg11 (s0 i) (tp i) (qSel i (ins arg3 arg4 arg5 arg6 arg7 arg8 arg9 arg10 f3 f4 f5 f6 f7 f8 f9 f10)) k0_pay2235 n k0_pay2236 (colHalf 1 (tp i)) k0_pay2243 k0_pay2244 f7 f8
      (st_k0_t3 (F := F) Variants.none c none i arg3 harg3 arg4 harg4 arg5 harg5 arg6 harg6 arg7 harg7 arg8 harg8 arg9 harg9 arg10 harg10 arg11 harg11 (s0 i) (tp i) (qSel i (ins arg3 arg4 arg5 arg6 arg7 arg8 arg9 arg10 f3 f4 f5 f6 f7 f8 f9 f10)) k0_pay2235 n k0_pay2236 (colHalf 1 (tp i)) k0_pay2243 k0_pay2244 f7 f8 slowInit (k0_t3_loop i).trips)
      (k0_t4_loop i).trips = slowLoop i (ins arg3 arg4 arg5 arg6 arg7 arg8 arg9 arg10 f3 f4 f5 f6 f7 f8 f9 f10) (k0_t1_loop i).trips := by
  rw [loop4_trips, st_k0_t4_zero]
  exact loop3_eq ..

theorem part263_gives (n : BitVec 32) : Gives c E (Res c arg3 arg4 arg5 arg6 arg7 arg8 arg9 arg10 f3 f4 f5 f6 f7 f8 f9 f10) (k0_part263 (F := F) i arg3 harg3 arg4 harg4 arg5 harg5 arg6 harg6 arg7 harg7 arg8 harg8 arg9 harg9 arg10 harg10 arg11 harg11 (s0 i) (tp i) (qSel i (ins arg3 arg4 arg5 arg6 arg7 arg8 arg9 arg10 f3 f4 f5 f6 f7 f8 f9 f10)) k0_pay2235 k0_pay2236 (colHalf 1 (tp i)) k0_pay2242 k0_pay2243 k0_pay2244 0#32 n 1#32)
    ⟨Scalar.addi (s0 i) 256#32, (fa i (ins arg3 arg4 arg5 arg6 arg7 arg8 arg9 arg10 f3 f4 f5 f6 f7 f8 f9 f10)).1, (fa i (ins arg3 arg4 arg5 arg6 arg7 arg8 arg9 arg10 f3 f4 f5 f6 f7 f8 f9 f10)).2.1, (fa i (ins arg3 arg4 arg5 arg6 arg7 arg8 arg9 arg10 f3 f4 f5 f6 f7 f8 f9 f10)).2.2.1, (fa i (ins arg3 arg4 arg5 arg6 arg7 arg8 arg9 arg10 f3 f4 f5 f6 f7 f8 f9 f10)).2.2.2, (causal (Scalar.addi (s0 i) 256#32) (colHalf 1 (tp i))), (ksHalf (ins arg3 arg4 arg5 arg6 arg7 arg8 arg9 arg10 f3 f4 f5 f6 f7 f8 f9 f10) (k0_off5 i 256#32) (k0_off5_inb i 1))⟩ := by
  unfold Gives Res fa
  rw [k0_part263_eq_skeleton, ← loop12_eq c i arg3 harg3 arg4 harg4 arg5 harg5 arg6 harg6 arg7 harg7 arg8 harg8 arg9 harg9 arg10 harg10 arg11 harg11 f3 f4 f5 f6 f7 f8 f9 f10 n]
  unfold k0_part263_skel
  iintro ⟨H3, H4, H5, H6, H7, H8, H9, H10⟩
  sl_exec
  sl_step
  sl_close

theorem part264_gives : Gives c E (Res c arg3 arg4 arg5 arg6 arg7 arg8 arg9 arg10 f3 f4 f5 f6 f7 f8 f9 f10) (k0_part264 (F := F) i arg3 harg3 arg4 harg4 arg5 harg5 arg6 harg6 arg7 harg7 arg8 harg8 arg9 harg9 arg10 harg10 arg11 harg11 k0_pay2236 (colHalf 1 (qSel i (ins arg3 arg4 arg5 arg6 arg7 arg8 arg9 arg10 f3 f4 f5 f6 f7 f8 f9 f10))) (Scalar.addi (s0 i) 256#32) (fa i (ins arg3 arg4 arg5 arg6 arg7 arg8 arg9 arg10 f3 f4 f5 f6 f7 f8 f9 f10)).1 (fa i (ins arg3 arg4 arg5 arg6 arg7 arg8 arg9 arg10 f3 f4 f5 f6 f7 f8 f9 f10)).2.1 (fa i (ins arg3 arg4 arg5 arg6 arg7 arg8 arg9 arg10 f3 f4 f5 f6 f7 f8 f9 f10)).2.2.1 (fa i (ins arg3 arg4 arg5 arg6 arg7 arg8 arg9 arg10 f3 f4 f5 f6 f7 f8 f9 f10)).2.2.2 (causal (Scalar.addi (s0 i) 256#32) (colHalf 1 (tp i))) (ksHalf (ins arg3 arg4 arg5 arg6 arg7 arg8 arg9 arg10 f3 f4 f5 f6 f7 f8 f9 f10) (k0_off5 i 256#32) (k0_off5_inb i 1)))
    ⟨(fb i (ins arg3 arg4 arg5 arg6 arg7 arg8 arg9 arg10 f3 f4 f5 f6 f7 f8 f9 f10)).2.1, (fb i (ins arg3 arg4 arg5 arg6 arg7 arg8 arg9 arg10 f3 f4 f5 f6 f7 f8 f9 f10)).2.2.1, (fb i (ins arg3 arg4 arg5 arg6 arg7 arg8 arg9 arg10 f3 f4 f5 f6 f7 f8 f9 f10)).2.2.2, colHalf 0 (fa i (ins arg3 arg4 arg5 arg6 arg7 arg8 arg9 arg10 f3 f4 f5 f6 f7 f8 f9 f10)).2.1, colHalf 0 (fa i (ins arg3 arg4 arg5 arg6 arg7 arg8 arg9 arg10 f3 f4 f5 f6 f7 f8 f9 f10)).2.2.1, k0_pay2273 (fa i (ins arg3 arg4 arg5 arg6 arg7 arg8 arg9 arg10 f3 f4 f5 f6 f7 f8 f9 f10)).2.2.2⟩ := by
  unfold Gives Res
  rw [k0_part264_eq_skeleton]
  unfold k0_part264_skel
  iintro ⟨H3, H4, H5, H6, H7, H8, H9, H10⟩
  sl_exec
  sl_step
  sl_close

theorem part265_gives : Gives c E (Res c arg3 arg4 arg5 arg6 arg7 arg8 arg9 arg10 f3 f4 f5 f6 f7 f8 f9 f10) (k0_part265 (F := F) i arg3 harg3 arg4 harg4 arg5 harg5 arg6 harg6 arg7 harg7 arg8 harg8 arg9 harg9 arg10 harg10 arg11 harg11 (s0 i) (qPair i (ins arg3 arg4 arg5 arg6 arg7 arg8 arg9 arg10 f3 f4 f5 f6 f7 f8 f9 f10)) (tp i) (fa i (ins arg3 arg4 arg5 arg6 arg7 arg8 arg9 arg10 f3 f4 f5 f6 f7 f8 f9 f10)).2.2.2 (fb i (ins arg3 arg4 arg5 arg6 arg7 arg8 arg9 arg10 f3 f4 f5 f6 f7 f8 f9 f10)).2.1 (fb i (ins arg3 arg4 arg5 arg6 arg7 arg8 arg9 arg10 f3 f4 f5 f6 f7 f8 f9 f10)).2.2.1 (fb i (ins arg3 arg4 arg5 arg6 arg7 arg8 arg9 arg10 f3 f4 f5 f6 f7 f8 f9 f10)).2.2.2 (colHalf 0 (fa i (ins arg3 arg4 arg5 arg6 arg7 arg8 arg9 arg10 f3 f4 f5 f6 f7 f8 f9 f10)).2.1) (colHalf 0 (fa i (ins arg3 arg4 arg5 arg6 arg7 arg8 arg9 arg10 f3 f4 f5 f6 f7 f8 f9 f10)).2.2.1) (k0_pay2273 (fa i (ins arg3 arg4 arg5 arg6 arg7 arg8 arg9 arg10 f3 f4 f5 f6 f7 f8 f9 f10)).2.2.2))
    ⟨(fastSel i (ins arg3 arg4 arg5 arg6 arg7 arg8 arg9 arg10 f3 f4 f5 f6 f7 f8 f9 f10)).2.1, (fastSel i (ins arg3 arg4 arg5 arg6 arg7 arg8 arg9 arg10 f3 f4 f5 f6 f7 f8 f9 f10)).2.2.1, (fastSel i (ins arg3 arg4 arg5 arg6 arg7 arg8 arg9 arg10 f3 f4 f5 f6 f7 f8 f9 f10)).2.2.2, Scalar.addi (sPrev i) 256#32, Scalar.addi (sPrev i) 0#32, (recent (s0 i) (Scalar.addi (sPrev i) 256#32) (tp i)), (mm (kwHalf (ins arg3 arg4 arg5 arg6 arg7 arg8 arg9 arg10 f3 f4 f5 f6 f7 f8 f9 f10) (k0_off7 i 256#32) (k0_off7_inb i 1)) (qPair i (ins arg3 arg4 arg5 arg6 arg7 arg8 arg9 arg10 f3 f4 f5 f6 f7 f8 f9 f10))), (Named.named κ "mask" 0xF149F2CA#32)⟩ := by
  unfold Gives Res
  rw [k0_part265_eq_skeleton]
  unfold k0_part265_skel
  iintro ⟨H3, H4, H5, H6, H7, H8, H9, H10⟩
  sl_exec
  sl_step
  sl_close

theorem part266_gives : Gives c E (Res c arg3 arg4 arg5 arg6 arg7 arg8 arg9 arg10 f3 f4 f5 f6 f7 f8 f9 f10) (k0_part266 (F := F) i arg3 harg3 arg4 harg4 arg5 harg5 arg6 harg6 arg7 harg7 arg8 harg8 arg9 harg9 arg10 harg10 arg11 harg11 (s0 i) k0_pay2236 (colHalf 0 (tp i)) (colHalf 0 (qPair i (ins arg3 arg4 arg5 arg6 arg7 arg8 arg9 arg10 f3 f4 f5 f6 f7 f8 f9 f10))) k0_pay2242 k0_pay2243 k0_pay2244 (Scalar.addi (sPrev i) 256#32) (Scalar.addi (sPrev i) 0#32) (recent (s0 i) (Scalar.addi (sPrev i) 256#32) (tp i)) (mm (kwHalf (ins arg3 arg4 arg5 arg6 arg7 arg8 arg9 arg10 f3 f4 f5 f6 f7 f8 f9 f10) (k0_off7 i 256#32) (k0_off7_inb i 1)) (qPair i (ins arg3 arg4 arg5 arg6 arg7 arg8 arg9 arg10 f3 f4 f5 f6 f7 f8 f9 f10))) (Named.named κ "mask" 0xF149F2CA#32))
    ⟨(fp i (ins arg3 arg4 arg5 arg6 arg7 arg8 arg9 arg10 f3 f4 f5 f6 f7 f8 f9 f10)).1, (fp i (ins arg3 arg4 arg5 arg6 arg7 arg8 arg9 arg10 f3 f4 f5 f6 f7 f8 f9 f10)).2.1, (fp i (ins arg3 arg4 arg5 arg6 arg7 arg8 arg9 arg10 f3 f4 f5 f6 f7 f8 f9 f10)).2.2.1, (fp i (ins arg3 arg4 arg5 arg6 arg7 arg8 arg9 arg10 f3 f4 f5 f6 f7 f8 f9 f10)).2.2.2, preS' i (ins arg3 arg4 arg5 arg6 arg7 arg8 arg9 arg10 f3 f4 f5 f6 f7 f8 f9 f10) 0, preV i (ins arg3 arg4 arg5 arg6 arg7 arg8 arg9 arg10 f3 f4 f5 f6 f7 f8 f9 f10) 0, colHalf 0 (fp i (ins arg3 arg4 arg5 arg6 arg7 arg8 arg9 arg10 f3 f4 f5 f6 f7 f8 f9 f10)).1⟩ := by
  unfold Gives Res
  rw [k0_part266_eq_skeleton]
  unfold k0_part266_skel
  iintro ⟨H3, H4, H5, H6, H7, H8, H9, H10⟩
  sl_exec
  sl_step
  sl_close

theorem part267_gives : Gives c E (Res c arg3 arg4 arg5 arg6 arg7 arg8 arg9 arg10 f3 f4 f5 f6 f7 f8 f9 f10) (k0_part267 (F := F) i arg3 harg3 arg4 harg4 arg5 harg5 arg6 harg6 arg7 harg7 arg8 harg8 arg9 harg9 arg10 harg10 arg11 harg11 (fp i (ins arg3 arg4 arg5 arg6 arg7 arg8 arg9 arg10 f3 f4 f5 f6 f7 f8 f9 f10)).1 (fp i (ins arg3 arg4 arg5 arg6 arg7 arg8 arg9 arg10 f3 f4 f5 f6 f7 f8 f9 f10)).2.1 (fp i (ins arg3 arg4 arg5 arg6 arg7 arg8 arg9 arg10 f3 f4 f5 f6 f7 f8 f9 f10)).2.2.1 (fp i (ins arg3 arg4 arg5 arg6 arg7 arg8 arg9 arg10 f3 f4 f5 f6 f7 f8 f9 f10)).2.2.2 (preS' i (ins arg3 arg4 arg5 arg6 arg7 arg8 arg9 arg10 f3 f4 f5 f6 f7 f8 f9 f10) 0) (preV i (ins arg3 arg4 arg5 arg6 arg7 arg8 arg9 arg10 f3 f4 f5 f6 f7 f8 f9 f10) 0) (colHalf 0 (fp i (ins arg3 arg4 arg5 arg6 arg7 arg8 arg9 arg10 f3 f4 f5 f6 f7 f8 f9 f10)).1))
    ⟨(fastTile (preS' i (ins arg3 arg4 arg5 arg6 arg7 arg8 arg9 arg10 f3 f4 f5 f6 f7 f8 f9 f10) 0) (preV i (ins arg3 arg4 arg5 arg6 arg7 arg8 arg9 arg10 f3 f4 f5 f6 f7 f8 f9 f10) 0) (fastHalf 0 (fp i (ins arg3 arg4 arg5 arg6 arg7 arg8 arg9 arg10 f3 f4 f5 f6 f7 f8 f9 f10)))).2.1, (fastTile (preS' i (ins arg3 arg4 arg5 arg6 arg7 arg8 arg9 arg10 f3 f4 f5 f6 f7 f8 f9 f10) 0) (preV i (ins arg3 arg4 arg5 arg6 arg7 arg8 arg9 arg10 f3 f4 f5 f6 f7 f8 f9 f10) 0) (fastHalf 0 (fp i (ins arg3 arg4 arg5 arg6 arg7 arg8 arg9 arg10 f3 f4 f5 f6 f7 f8 f9 f10)))).2.2.1, (fastTile (preS' i (ins arg3 arg4 arg5 arg6 arg7 arg8 arg9 arg10 f3 f4 f5 f6 f7 f8 f9 f10) 0) (preV i (ins arg3 arg4 arg5 arg6 arg7 arg8 arg9 arg10 f3 f4 f5 f6 f7 f8 f9 f10) 0) (fastHalf 0 (fp i (ins arg3 arg4 arg5 arg6 arg7 arg8 arg9 arg10 f3 f4 f5 f6 f7 f8 f9 f10)))).2.2.2, colHalf 1 (fp i (ins arg3 arg4 arg5 arg6 arg7 arg8 arg9 arg10 f3 f4 f5 f6 f7 f8 f9 f10)).1, colHalf 1 (fp i (ins arg3 arg4 arg5 arg6 arg7 arg8 arg9 arg10 f3 f4 f5 f6 f7 f8 f9 f10)).2.1, colHalf 1 (fp i (ins arg3 arg4 arg5 arg6 arg7 arg8 arg9 arg10 f3 f4 f5 f6 f7 f8 f9 f10)).2.2.1, colHalf 1 (fp i (ins arg3 arg4 arg5 arg6 arg7 arg8 arg9 arg10 f3 f4 f5 f6 f7 f8 f9 f10)).2.2.2, k0_pay2297 (preS' i (ins arg3 arg4 arg5 arg6 arg7 arg8 arg9 arg10 f3 f4 f5 f6 f7 f8 f9 f10) 0) (colHalf 0 (fp i (ins arg3 arg4 arg5 arg6 arg7 arg8 arg9 arg10 f3 f4 f5 f6 f7 f8 f9 f10)).1), k0_pay2298 (fp i (ins arg3 arg4 arg5 arg6 arg7 arg8 arg9 arg10 f3 f4 f5 f6 f7 f8 f9 f10)).1, k0_pay2299 (preS' i (ins arg3 arg4 arg5 arg6 arg7 arg8 arg9 arg10 f3 f4 f5 f6 f7 f8 f9 f10) 0) (colHalf 0 (fp i (ins arg3 arg4 arg5 arg6 arg7 arg8 arg9 arg10 f3 f4 f5 f6 f7 f8 f9 f10)).1), k0_pay2300 (fp i (ins arg3 arg4 arg5 arg6 arg7 arg8 arg9 arg10 f3 f4 f5 f6 f7 f8 f9 f10)).1, k0_pay2301 (preS' i (ins arg3 arg4 arg5 arg6 arg7 arg8 arg9 arg10 f3 f4 f5 f6 f7 f8 f9 f10) 0) (colHalf 0 (fp i (ins arg3 arg4 arg5 arg6 arg7 arg8 arg9 arg10 f3 f4 f5 f6 f7 f8 f9 f10)).1), k0_pay2302 (fp i (ins arg3 arg4 arg5 arg6 arg7 arg8 arg9 arg10 f3 f4 f5 f6 f7 f8 f9 f10)).1, k0_pay2303 (preS' i (ins arg3 arg4 arg5 arg6 arg7 arg8 arg9 arg10 f3 f4 f5 f6 f7 f8 f9 f10) 0) (colHalf 0 (fp i (ins arg3 arg4 arg5 arg6 arg7 arg8 arg9 arg10 f3 f4 f5 f6 f7 f8 f9 f10)).1)⟩ := by
  rw [k0_part267_eq_skeleton]
  exact gives_pure _

theorem part268_gives : Gives c E (Res c arg3 arg4 arg5 arg6 arg7 arg8 arg9 arg10 f3 f4 f5 f6 f7 f8 f9 f10) (k0_part268 (F := F) i arg3 harg3 arg4 harg4 arg5 harg5 arg6 harg6 arg7 harg7 arg8 harg8 arg9 harg9 arg10 harg10 arg11 harg11 (s0 i) (qPair i (ins arg3 arg4 arg5 arg6 arg7 arg8 arg9 arg10 f3 f4 f5 f6 f7 f8 f9 f10)) (tp i) k0_pay2236 ((fastTile (preS' i (ins arg3 arg4 arg5 arg6 arg7 arg8 arg9 arg10 f3 f4 f5 f6 f7 f8 f9 f10) 0) (preV i (ins arg3 arg4 arg5 arg6 arg7 arg8 arg9 arg10 f3 f4 f5 f6 f7 f8 f9 f10) 0) (fastHalf 0 (fp i (ins arg3 arg4 arg5 arg6 arg7 arg8 arg9 arg10 f3 f4 f5 f6 f7 f8 f9 f10)))).2.1) ((fastTile (preS' i (ins arg3 arg4 arg5 arg6 arg7 arg8 arg9 arg10 f3 f4 f5 f6 f7 f8 f9 f10) 0) (preV i (ins arg3 arg4 arg5 arg6 arg7 arg8 arg9 arg10 f3 f4 f5 f6 f7 f8 f9 f10) 0) (fastHalf 0 (fp i (ins arg3 arg4 arg5 arg6 arg7 arg8 arg9 arg10 f3 f4 f5 f6 f7 f8 f9 f10)))).2.2.1) ((fastTile (preS' i (ins arg3 arg4 arg5 arg6 arg7 arg8 arg9 arg10 f3 f4 f5 f6 f7 f8 f9 f10) 0) (preV i (ins arg3 arg4 arg5 arg6 arg7 arg8 arg9 arg10 f3 f4 f5 f6 f7 f8 f9 f10) 0) (fastHalf 0 (fp i (ins arg3 arg4 arg5 arg6 arg7 arg8 arg9 arg10 f3 f4 f5 f6 f7 f8 f9 f10)))).2.2.2) (colHalf 1 (fp i (ins arg3 arg4 arg5 arg6 arg7 arg8 arg9 arg10 f3 f4 f5 f6 f7 f8 f9 f10)).1) (colHalf 1 (fp i (ins arg3 arg4 arg5 arg6 arg7 arg8 arg9 arg10 f3 f4 f5 f6 f7 f8 f9 f10)).2.1) (colHalf 1 (fp i (ins arg3 arg4 arg5 arg6 arg7 arg8 arg9 arg10 f3 f4 f5 f6 f7 f8 f9 f10)).2.2.1) (colHalf 1 (fp i (ins arg3 arg4 arg5 arg6 arg7 arg8 arg9 arg10 f3 f4 f5 f6 f7 f8 f9 f10)).2.2.2) (k0_pay2297 (preS' i (ins arg3 arg4 arg5 arg6 arg7 arg8 arg9 arg10 f3 f4 f5 f6 f7 f8 f9 f10) 0) (colHalf 0 (fp i (ins arg3 arg4 arg5 arg6 arg7 arg8 arg9 arg10 f3 f4 f5 f6 f7 f8 f9 f10)).1)) (k0_pay2298 (fp i (ins arg3 arg4 arg5 arg6 arg7 arg8 arg9 arg10 f3 f4 f5 f6 f7 f8 f9 f10)).1) (k0_pay2299 (preS' i (ins arg3 arg4 arg5 arg6 arg7 arg8 arg9 arg10 f3 f4 f5 f6 f7 f8 f9 f10) 0) (colHalf 0 (fp i (ins arg3 arg4 arg5 arg6 arg7 arg8 arg9 arg10 f3 f4 f5 f6 f7 f8 f9 f10)).1)) (k0_pay2300 (fp i (ins arg3 arg4 arg5 arg6 arg7 arg8 arg9 arg10 f3 f4 f5 f6 f7 f8 f9 f10)).1) (k0_pay2301 (preS' i (ins arg3 arg4 arg5 arg6 arg7 arg8 arg9 arg10 f3 f4 f5 f6 f7 f8 f9 f10) 0) (colHalf 0 (fp i (ins arg3 arg4 arg5 arg6 arg7 arg8 arg9 arg10 f3 f4 f5 f6 f7 f8 f9 f10)).1)) (k0_pay2302 (fp i (ins arg3 arg4 arg5 arg6 arg7 arg8 arg9 arg10 f3 f4 f5 f6 f7 f8 f9 f10)).1) (k0_pay2303 (preS' i (ins arg3 arg4 arg5 arg6 arg7 arg8 arg9 arg10 f3 f4 f5 f6 f7 f8 f9 f10) 0) (colHalf 0 (fp i (ins arg3 arg4 arg5 arg6 arg7 arg8 arg9 arg10 f3 f4 f5 f6 f7 f8 f9 f10)).1)))
    ⟨(fw i (ins arg3 arg4 arg5 arg6 arg7 arg8 arg9 arg10 f3 f4 f5 f6 f7 f8 f9 f10)).1, (fw i (ins arg3 arg4 arg5 arg6 arg7 arg8 arg9 arg10 f3 f4 f5 f6 f7 f8 f9 f10)).2.1, (fw i (ins arg3 arg4 arg5 arg6 arg7 arg8 arg9 arg10 f3 f4 f5 f6 f7 f8 f9 f10)).2.2.1, (fw i (ins arg3 arg4 arg5 arg6 arg7 arg8 arg9 arg10 f3 f4 f5 f6 f7 f8 f9 f10)).2.2.2, Scalar.addi (s0 i) 256#32, winS i (ins arg3 arg4 arg5 arg6 arg7 arg8 arg9 arg10 f3 f4 f5 f6 f7 f8 f9 f10) 0, winV i (ins arg3 arg4 arg5 arg6 arg7 arg8 arg9 arg10 f3 f4 f5 f6 f7 f8 f9 f10) 0, weights (winS i (ins arg3 arg4 arg5 arg6 arg7 arg8 arg9 arg10 f3 f4 f5 f6 f7 f8 f9 f10) 0) (fw i (ins arg3 arg4 arg5 arg6 arg7 arg8 arg9 arg10 f3 f4 f5 f6 f7 f8 f9 f10)).1⟩ := by
  unfold Gives Res
  rw [k0_part268_eq_skeleton]
  unfold k0_part268_skel
  iintro ⟨H3, H4, H5, H6, H7, H8, H9, H10⟩
  sl_exec
  sl_step
  sl_close

theorem part269_gives : Gives c E (Res c arg3 arg4 arg5 arg6 arg7 arg8 arg9 arg10 f3 f4 f5 f6 f7 f8 f9 f10) (k0_part269 (F := F) i arg3 harg3 arg4 harg4 arg5 harg5 arg6 harg6 arg7 harg7 arg8 harg8 arg9 harg9 arg10 harg10 arg11 harg11 k0_pay2236 (colHalf 1 (tp i)) (colHalf 1 (qPair i (ins arg3 arg4 arg5 arg6 arg7 arg8 arg9 arg10 f3 f4 f5 f6 f7 f8 f9 f10))) (fw i (ins arg3 arg4 arg5 arg6 arg7 arg8 arg9 arg10 f3 f4 f5 f6 f7 f8 f9 f10)).1 (fw i (ins arg3 arg4 arg5 arg6 arg7 arg8 arg9 arg10 f3 f4 f5 f6 f7 f8 f9 f10)).2.1 (fw i (ins arg3 arg4 arg5 arg6 arg7 arg8 arg9 arg10 f3 f4 f5 f6 f7 f8 f9 f10)).2.2.1 (fw i (ins arg3 arg4 arg5 arg6 arg7 arg8 arg9 arg10 f3 f4 f5 f6 f7 f8 f9 f10)).2.2.2 (Scalar.addi (s0 i) 256#32) (winS i (ins arg3 arg4 arg5 arg6 arg7 arg8 arg9 arg10 f3 f4 f5 f6 f7 f8 f9 f10) 0) (winV i (ins arg3 arg4 arg5 arg6 arg7 arg8 arg9 arg10 f3 f4 f5 f6 f7 f8 f9 f10) 0) (weights (winS i (ins arg3 arg4 arg5 arg6 arg7 arg8 arg9 arg10 f3 f4 f5 f6 f7 f8 f9 f10) 0) (fw i (ins arg3 arg4 arg5 arg6 arg7 arg8 arg9 arg10 f3 f4 f5 f6 f7 f8 f9 f10)).1))
    ⟨(fd i (ins arg3 arg4 arg5 arg6 arg7 arg8 arg9 arg10 f3 f4 f5 f6 f7 f8 f9 f10)).2.1, (fd i (ins arg3 arg4 arg5 arg6 arg7 arg8 arg9 arg10 f3 f4 f5 f6 f7 f8 f9 f10)).2.2.1, (fd i (ins arg3 arg4 arg5 arg6 arg7 arg8 arg9 arg10 f3 f4 f5 f6 f7 f8 f9 f10)).2.2.2, winS' i (ins arg3 arg4 arg5 arg6 arg7 arg8 arg9 arg10 f3 f4 f5 f6 f7 f8 f9 f10) 1, winV i (ins arg3 arg4 arg5 arg6 arg7 arg8 arg9 arg10 f3 f4 f5 f6 f7 f8 f9 f10) 1, colHalf 1 (fd i (ins arg3 arg4 arg5 arg6 arg7 arg8 arg9 arg10 f3 f4 f5 f6 f7 f8 f9 f10)).1, colHalf 1 (fd i (ins arg3 arg4 arg5 arg6 arg7 arg8 arg9 arg10 f3 f4 f5 f6 f7 f8 f9 f10)).2.1, colHalf 1 (fd i (ins arg3 arg4 arg5 arg6 arg7 arg8 arg9 arg10 f3 f4 f5 f6 f7 f8 f9 f10)).2.2.1, colHalf 1 (fd i (ins arg3 arg4 arg5 arg6 arg7 arg8 arg9 arg10 f3 f4 f5 f6 f7 f8 f9 f10)).2.2.2, weights (winS' i (ins arg3 arg4 arg5 arg6 arg7 arg8 arg9 arg10 f3 f4 f5 f6 f7 f8 f9 f10) 1) (colHalf 1 (fd i (ins arg3 arg4 arg5 arg6 arg7 arg8 arg9 arg10 f3 f4 f5 f6 f7 f8 f9 f10)).1)⟩ := by
  unfold Gives Res
  rw [k0_part269_eq_skeleton]
  unfold k0_part269_skel
  iintro ⟨H3, H4, H5, H6, H7, H8, H9, H10⟩
  sl_exec
  sl_step
  sl_close

theorem part270_gives : Gives c E (Res c arg3 arg4 arg5 arg6 arg7 arg8 arg9 arg10 f3 f4 f5 f6 f7 f8 f9 f10) (k0_part270 (F := F) i arg3 harg3 arg4 harg4 arg5 harg5 arg6 harg6 arg7 harg7 arg8 harg8 arg9 harg9 arg10 harg10 arg11 harg11 (fastSel i (ins arg3 arg4 arg5 arg6 arg7 arg8 arg9 arg10 f3 f4 f5 f6 f7 f8 f9 f10)).2.2.1 ((fd i (ins arg3 arg4 arg5 arg6 arg7 arg8 arg9 arg10 f3 f4 f5 f6 f7 f8 f9 f10)).2.1) ((fd i (ins arg3 arg4 arg5 arg6 arg7 arg8 arg9 arg10 f3 f4 f5 f6 f7 f8 f9 f10)).2.2.1) ((fd i (ins arg3 arg4 arg5 arg6 arg7 arg8 arg9 arg10 f3 f4 f5 f6 f7 f8 f9 f10)).2.2.2) (winS' i (ins arg3 arg4 arg5 arg6 arg7 arg8 arg9 arg10 f3 f4 f5 f6 f7 f8 f9 f10) 1) (winV i (ins arg3 arg4 arg5 arg6 arg7 arg8 arg9 arg10 f3 f4 f5 f6 f7 f8 f9 f10) 1) (colHalf 1 (fd i (ins arg3 arg4 arg5 arg6 arg7 arg8 arg9 arg10 f3 f4 f5 f6 f7 f8 f9 f10)).1) (colHalf 1 (fd i (ins arg3 arg4 arg5 arg6 arg7 arg8 arg9 arg10 f3 f4 f5 f6 f7 f8 f9 f10)).2.1) (colHalf 1 (fd i (ins arg3 arg4 arg5 arg6 arg7 arg8 arg9 arg10 f3 f4 f5 f6 f7 f8 f9 f10)).2.2.1) (colHalf 1 (fd i (ins arg3 arg4 arg5 arg6 arg7 arg8 arg9 arg10 f3 f4 f5 f6 f7 f8 f9 f10)).2.2.2) (weights (winS' i (ins arg3 arg4 arg5 arg6 arg7 arg8 arg9 arg10 f3 f4 f5 f6 f7 f8 f9 f10) 1) (colHalf 1 (fd i (ins arg3 arg4 arg5 arg6 arg7 arg8 arg9 arg10 f3 f4 f5 f6 f7 f8 f9 f10)).1)))
    ⟨(fastWin i (ins arg3 arg4 arg5 arg6 arg7 arg8 arg9 arg10 f3 f4 f5 f6 f7 f8 f9 f10)).2.1, (fastWin i (ins arg3 arg4 arg5 arg6 arg7 arg8 arg9 arg10 f3 f4 f5 f6 f7 f8 f9 f10)).2.2.2, rowMax (maximumf (fastSel i (ins arg3 arg4 arg5 arg6 arg7 arg8 arg9 arg10 f3 f4 f5 f6 f7 f8 f9 f10)).2.2.1 (fastWin i (ins arg3 arg4 arg5 arg6 arg7 arg8 arg9 arg10 f3 f4 f5 f6 f7 f8 f9 f10)).2.2.1)⟩ := by
  rw [k0_part270_eq_skeleton]
  exact gives_pure _

theorem part253_gives (n : BitVec 32) : Gives c E (Res c arg3 arg4 arg5 arg6 arg7 arg8 arg9 arg10 f3 f4 f5 f6 f7 f8 f9 f10) (k0_part253 (F := F) i arg3 harg3 arg4 harg4 arg5 harg5 arg6 harg6 arg7 harg7 arg8 harg8 arg9 harg9 arg10 harg10 arg11 harg11 (s0 i) (tp i) (qSel i (ins arg3 arg4 arg5 arg6 arg7 arg8 arg9 arg10 f3 f4 f5 f6 f7 f8 f9 f10)) k0_pay2235 n k0_pay2236 (colHalf 1 (tp i)) k0_pay2243 k0_pay2244)
    ⟨Scalar.addi (s0 i) 256#32, (sa i (ins arg3 arg4 arg5 arg6 arg7 arg8 arg9 arg10 f3 f4 f5 f6 f7 f8 f9 f10)).1, (sa i (ins arg3 arg4 arg5 arg6 arg7 arg8 arg9 arg10 f3 f4 f5 f6 f7 f8 f9 f10)).2, (causal (Scalar.addi (s0 i) 256#32) (colHalf 1 (tp i))), Scalar.addi (s0 i) 256#32⟩ := by
  unfold Gives Res sa
  rw [k0_part253_eq_skeleton, ← loop34_eq c i arg3 harg3 arg4 harg4 arg5 harg5 arg6 harg6 arg7 harg7 arg8 harg8 arg9 harg9 arg10 harg10 arg11 harg11 f3 f4 f5 f6 f7 f8 f9 f10 n]
  unfold k0_part253_skel
  iintro ⟨H3, H4, H5, H6, H7, H8, H9, H10⟩
  sl_exec
  sl_step
  sl_close

theorem part254_gives : Gives c E (Res c arg3 arg4 arg5 arg6 arg7 arg8 arg9 arg10 f3 f4 f5 f6 f7 f8 f9 f10) (k0_part254 (F := F) i arg3 harg3 arg4 harg4 arg5 harg5 arg6 harg6 arg7 harg7 arg8 harg8 arg9 harg9 arg10 harg10 arg11 harg11 (s0 i) k0_pay2236 (colHalf 1 (qSel i (ins arg3 arg4 arg5 arg6 arg7 arg8 arg9 arg10 f3 f4 f5 f6 f7 f8 f9 f10))) (Scalar.addi (s0 i) 256#32) (sa i (ins arg3 arg4 arg5 arg6 arg7 arg8 arg9 arg10 f3 f4 f5 f6 f7 f8 f9 f10)).1 (sa i (ins arg3 arg4 arg5 arg6 arg7 arg8 arg9 arg10 f3 f4 f5 f6 f7 f8 f9 f10)).2 (causal (Scalar.addi (s0 i) 256#32) (colHalf 1 (tp i))) (Scalar.addi (s0 i) 256#32))
    ⟨(slowSel i (ins arg3 arg4 arg5 arg6 arg7 arg8 arg9 arg10 f3 f4 f5 f6 f7 f8 f9 f10)).2, sPrev i, 256#32⟩ := by
  unfold Gives Res
  rw [k0_part254_eq_skeleton]
  unfold k0_part254_skel
  iintro ⟨H3, H4, H5, H6, H7, H8, H9, H10⟩
  sl_exec
  sl_step
  sl_close

theorem part255_gives : Gives c E (Res c arg3 arg4 arg5 arg6 arg7 arg8 arg9 arg10 f3 f4 f5 f6 f7 f8 f9 f10) (k0_part255 (F := F) i arg3 harg3 arg4 harg4 arg5 harg5 arg6 harg6 arg7 harg7 arg8 harg8 arg9 harg9 arg10 harg10 arg11 harg11 (s0 i) (qPair i (ins arg3 arg4 arg5 arg6 arg7 arg8 arg9 arg10 f3 f4 f5 f6 f7 f8 f9 f10)) (tp i) k0_pay2236 (colHalf 0 (tp i)) k0_pay2243 k0_pay2244 (sPrev i) 256#32)
    ⟨Scalar.addi (sPrev i) 0#32, (sp i (ins arg3 arg4 arg5 arg6 arg7 arg8 arg9 arg10 f3 f4 f5 f6 f7 f8 f9 f10)).1, (sp i (ins arg3 arg4 arg5 arg6 arg7 arg8 arg9 arg10 f3 f4 f5 f6 f7 f8 f9 f10)).2, (recent (s0 i) (Scalar.addi (sPrev i) 0#32) (colHalf 0 (tp i)))⟩ := by
  unfold Gives Res
  rw [k0_part255_eq_skeleton]
  unfold k0_part255_skel
  iintro ⟨H3, H4, H5, H6, H7, H8, H9, H10⟩
  sl_exec
  sl_step
  sl_close

theorem part256_gives : Gives c E (Res c arg3 arg4 arg5 arg6 arg7 arg8 arg9 arg10 f3 f4 f5 f6 f7 f8 f9 f10) (k0_part256 (F := F) i arg3 harg3 arg4 harg4 arg5 harg5 arg6 harg6 arg7 harg7 arg8 harg8 arg9 harg9 arg10 harg10 arg11 harg11 k0_pay2236 (colHalf 0 (qPair i (ins arg3 arg4 arg5 arg6 arg7 arg8 arg9 arg10 f3 f4 f5 f6 f7 f8 f9 f10))) (Scalar.addi (sPrev i) 0#32) (sp i (ins arg3 arg4 arg5 arg6 arg7 arg8 arg9 arg10 f3 f4 f5 f6 f7 f8 f9 f10)).1 (sp i (ins arg3 arg4 arg5 arg6 arg7 arg8 arg9 arg10 f3 f4 f5 f6 f7 f8 f9 f10)).2 (recent (s0 i) (Scalar.addi (sPrev i) 0#32) (colHalf 0 (tp i))))
    ⟨(slowTile (preS' i (ins arg3 arg4 arg5 arg6 arg7 arg8 arg9 arg10 f3 f4 f5 f6 f7 f8 f9 f10) 0) (preV i (ins arg3 arg4 arg5 arg6 arg7 arg8 arg9 arg10 f3 f4 f5 f6 f7 f8 f9 f10) 0) (slowHalf 0 (sp i (ins arg3 arg4 arg5 arg6 arg7 arg8 arg9 arg10 f3 f4 f5 f6 f7 f8 f9 f10)))).2, colHalf 1 (sp i (ins arg3 arg4 arg5 arg6 arg7 arg8 arg9 arg10 f3 f4 f5 f6 f7 f8 f9 f10)).2, (sw i (ins arg3 arg4 arg5 arg6 arg7 arg8 arg9 arg10 f3 f4 f5 f6 f7 f8 f9 f10)).1⟩ := by
  unfold Gives Res
  rw [k0_part256_eq_skeleton]
  unfold k0_part256_skel
  iintro ⟨H3, H4, H5, H6, H7, H8, H9, H10⟩
  sl_exec
  sl_step
  sl_close

theorem part257_gives : Gives c E (Res c arg3 arg4 arg5 arg6 arg7 arg8 arg9 arg10 f3 f4 f5 f6 f7 f8 f9 f10) (k0_part257 (F := F) i arg3 harg3 arg4 harg4 arg5 harg5 arg6 harg6 arg7 harg7 arg8 harg8 arg9 harg9 arg10 harg10 arg11 harg11 (s0 i) (qPair i (ins arg3 arg4 arg5 arg6 arg7 arg8 arg9 arg10 f3 f4 f5 f6 f7 f8 f9 f10)) (tp i) k0_pay2236 (colHalf 1 (tp i)) (slowTile (preS' i (ins arg3 arg4 arg5 arg6 arg7 arg8 arg9 arg10 f3 f4 f5 f6 f7 f8 f9 f10) 0) (preV i (ins arg3 arg4 arg5 arg6 arg7 arg8 arg9 arg10 f3 f4 f5 f6 f7 f8 f9 f10) 0) (slowHalf 0 (sp i (ins arg3 arg4 arg5 arg6 arg7 arg8 arg9 arg10 f3 f4 f5 f6 f7 f8 f9 f10)))).2 (colHalf 1 (sp i (ins arg3 arg4 arg5 arg6 arg7 arg8 arg9 arg10 f3 f4 f5 f6 f7 f8 f9 f10)).2) (sw i (ins arg3 arg4 arg5 arg6 arg7 arg8 arg9 arg10 f3 f4 f5 f6 f7 f8 f9 f10)).1)
    ⟨Scalar.addi (s0 i) 256#32, (sd i (ins arg3 arg4 arg5 arg6 arg7 arg8 arg9 arg10 f3 f4 f5 f6 f7 f8 f9 f10)).1, (sd i (ins arg3 arg4 arg5 arg6 arg7 arg8 arg9 arg10 f3 f4 f5 f6 f7 f8 f9 f10)).2, (causal (Scalar.addi (s0 i) 256#32) (colHalf 1 (tp i))), (View.ld (ins arg3 arg4 arg5 arg6 arg7 arg8 arg9 arg10 f3 f4 f5 f6 f7 f8 f9 f10).kw (Rect.unit (s := S4096x128) (k0_off18 i 256#32) S256x128.size (k0_off18_inb i 1)))⟩ := by
  unfold Gives Res
  rw [k0_part257_eq_skeleton]
  unfold k0_part257_skel
  iintro ⟨H3, H4, H5, H6, H7, H8, H9, H10⟩
  sl_exec
  sl_step
  sl_close

end Cert.KernelIdeal.Hand
-- ==== Proof.KernelIdeal.Body.lean ====
module

public import proofs.«01_k».proof.Proof.KernelIdeal.Run

@[expose] public section

set_option maxHeartbeats 4000000

noncomputable section

/-! The kernel's body: its parts one after another, and what it leaves of the result. -/

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

variable (c : Dev nD) (E : Set ℕ) (i : grid0.Coords) (arg3 : Memref sig .tc .vmem S256x512 .bf16) (harg3 : arg3.IsWhole) (arg4 : Memref sig .tc .vmem S3x1x4x512 .f32) (harg4 : arg4.IsWhole) (arg5 : Memref sig .tc .vmem S1x1x256x64 .bf16) (harg5 : arg5.IsWhole) (arg6 : Memref sig .tc .vmem S1x1x64x256 .bf16) (harg6 : arg6.IsWhole) (arg7 : Memref sig .tc .vmem S1x4096x256 .bf16) (harg7 : arg7.IsWhole) (arg8 : Memref sig .tc .vmem S64x4096 .bf16) (harg8 : arg8.IsWhole) (arg9 : Memref sig .tc .vmem S4096x128 .bf16) (harg9 : arg9.IsWhole) (arg10 : Memref sig .tc .vmem S64x4096 .bf16) (harg10 : arg10.IsWhole) (arg11 : Memref sig .tc .vmem S256x512 .bf16) (harg11 : arg11.IsWhole)
variable (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty)

theorem part271_gives (n : BitVec 32) : Gives c E (Res c arg3 arg4 arg5 arg6 arg7 arg8 arg9 arg10 f3 f4 f5 f6 f7 f8 f9 f10) (k0_part271 (F := F) i arg3 harg3 arg4 harg4 arg5 harg5 arg6 harg6 arg7 harg7 arg8 harg8 arg9 harg9 arg10 harg10 arg11 harg11 (s0 i) (qPair i (ins arg3 arg4 arg5 arg6 arg7 arg8 arg9 arg10 f3 f4 f5 f6 f7 f8 f9 f10)) (tp i) (k0_pay2219 (cOut i (ins arg3 arg4 arg5 arg6 arg7 arg8 arg9 arg10 f3 f4 f5 f6 f7 f8 f9 f10))) (qSel i (ins arg3 arg4 arg5 arg6 arg7 arg8 arg9 arg10 f3 f4 f5 f6 f7 f8 f9 f10)) k0_pay2235 n k0_pay2236 (colHalf 0 (tp i)) (colHalf 1 (tp i)) (colHalf 1 (qSel i (ins arg3 arg4 arg5 arg6 arg7 arg8 arg9 arg10 f3 f4 f5 f6 f7 f8 f9 f10))) (colHalf 0 (qPair i (ins arg3 arg4 arg5 arg6 arg7 arg8 arg9 arg10 f3 f4 f5 f6 f7 f8 f9 f10))) (colHalf 1 (qPair i (ins arg3 arg4 arg5 arg6 arg7 arg8 arg9 arg10 f3 f4 f5 f6 f7 f8 f9 f10))) k0_pay2243 k0_pay2244 (fastSel i (ins arg3 arg4 arg5 arg6 arg7 arg8 arg9 arg10 f3 f4 f5 f6 f7 f8 f9 f10)).2.1 (fastSel i (ins arg3 arg4 arg5 arg6 arg7 arg8 arg9 arg10 f3 f4 f5 f6 f7 f8 f9 f10)).2.2.2 (fastWin i (ins arg3 arg4 arg5 arg6 arg7 arg8 arg9 arg10 f3 f4 f5 f6 f7 f8 f9 f10)).2.1 (fastWin i (ins arg3 arg4 arg5 arg6 arg7 arg8 arg9 arg10 f3 f4 f5 f6 f7 f8 f9 f10)).2.2.2 (rowMax (maximumf (fastSel i (ins arg3 arg4 arg5 arg6 arg7 arg8 arg9 arg10 f3 f4 f5 f6 f7 f8 f9 f10)).2.2.1 (fastWin i (ins arg3 arg4 arg5 arg6 arg7 arg8 arg9 arg10 f3 f4 f5 f6 f7 f8 f9 f10)).2.2.1)))
    ⟨k0_pay2329 (sums i (ins arg3 arg4 arg5 arg6 arg7 arg8 arg9 arg10 f3 f4 f5 f6 f7 f8 f9 f10)).1, k0_pay2330 (sums i (ins arg3 arg4 arg5 arg6 arg7 arg8 arg9 arg10 f3 f4 f5 f6 f7 f8 f9 f10)).2, head0 i (ins arg3 arg4 arg5 arg6 arg7 arg8 arg9 arg10 f3 f4 f5 f6 f7 f8 f9 f10)⟩ := by
  rw [k0_part271_eq_skeleton]
  unfold k0_part271_skel head0
  by_cases h : Scalar.cmpi .ne (Scalar.extui (Scalar.cmpf .ogt (k0_pay2327 (fastSel i (ins arg3 arg4 arg5 arg6 arg7 arg8 arg9 arg10 f3 f4 f5 f6 f7 f8 f9 f10)).2.2.2 (fastWin i (ins arg3 arg4 arg5 arg6 arg7 arg8 arg9 arg10 f3 f4 f5 f6 f7 f8 f9 f10)).2.2.2 (rowMax (maximumf (fastSel i (ins arg3 arg4 arg5 arg6 arg7 arg8 arg9 arg10 f3 f4 f5 f6 f7 f8 f9 f10)).2.2.1 (fastWin i (ins arg3 arg4 arg5 arg6 arg7 arg8 arg9 arg10 f3 f4 f5 f6 f7 f8 f9 f10)).2.2.1))) (Scalar.ofBits .f32 0x42700000#32)) : BitVec 32) 0#32 = 1#1
  · have hs : sums i (ins arg3 arg4 arg5 arg6 arg7 arg8 arg9 arg10 f3 f4 f5 f6 f7 f8 f9 f10) = ((slowSel i (ins arg3 arg4 arg5 arg6 arg7 arg8 arg9 arg10 f3 f4 f5 f6 f7 f8 f9 f10)).2, (slowWin i (ins arg3 arg4 arg5 arg6 arg7 arg8 arg9 arg10 f3 f4 f5 f6 f7 f8 f9 f10)).2) := by
      unfold sums excess; exact if_pos h
    rw [hs]
    simp only [if_pos h]
    refine gives_then (part253_gives c E i arg3 harg3 arg4 harg4 arg5 harg5 arg6 harg6 arg7 harg7 arg8 harg8 arg9 harg9 arg10 harg10 arg11 harg11 f3 f4 f5 f6 f7 f8 f9 f10 n) ?_
    refine gives_then (part254_gives c E i arg3 harg3 arg4 harg4 arg5 harg5 arg6 harg6 arg7 harg7 arg8 harg8 arg9 harg9 arg10 harg10 arg11 harg11 f3 f4 f5 f6 f7 f8 f9 f10) ?_
    refine gives_then (part255_gives c E i arg3 harg3 arg4 harg4 arg5 harg5 arg6 harg6 arg7 harg7 arg8 harg8 arg9 harg9 arg10 harg10 arg11 harg11 f3 f4 f5 f6 f7 f8 f9 f10) ?_
    refine gives_then (part256_gives c E i arg3 harg3 arg4 harg4 arg5 harg5 arg6 harg6 arg7 harg7 arg8 harg8 arg9 harg9 arg10 harg10 arg11 harg11 f3 f4 f5 f6 f7 f8 f9 f10) ?_
    refine gives_then (part257_gives c E i arg3 harg3 arg4 harg4 arg5 harg5 arg6 harg6 arg7 harg7 arg8 harg8 arg9 harg9 arg10 harg10 arg11 harg11 f3 f4 f5 f6 f7 f8 f9 f10) ?_
    dsimp only
    unfold Gives Res
    iintro ⟨H3, H4, H5, H6, H7, H8, H9, H10⟩
    sl_exec
    sl_step
    sl_close
  · have hs : sums i (ins arg3 arg4 arg5 arg6 arg7 arg8 arg9 arg10 f3 f4 f5 f6 f7 f8 f9 f10) = ((fastSel i (ins arg3 arg4 arg5 arg6 arg7 arg8 arg9 arg10 f3 f4 f5 f6 f7 f8 f9 f10)).2.1, (fastWin i (ins arg3 arg4 arg5 arg6 arg7 arg8 arg9 arg10 f3 f4 f5 f6 f7 f8 f9 f10)).2.1) := by
      unfold sums excess; exact if_neg h
    rw [hs]
    simp only [if_neg h]
    refine gives_then (gives_pure _) ?_
    dsimp only
    unfold Gives Res
    iintro ⟨H3, H4, H5, H6, H7, H8, H9, H10⟩
    sl_exec
    sl_step
    sl_close

/-- What the body leaves in the result's block: the four heads' rows. -/
def outPieces (X : Ins F) : List (View.Piece (Elt F) S256x512 .bf16) :=
  [⟨Rect.unit (s := S256x512) ![192, 0] S64x512.size inb_S256x512_S64x512_192_0, head3 i X⟩,
    ⟨Rect.unit (s := S256x512) ![128, 0] S64x512.size inb_S256x512_S64x512_128_0, head2 i X⟩,
    ⟨Rect.unit (s := S256x512) ![64, 0] S64x512.size inb_S256x512_S64x512_64_0, head1 i X⟩,
    ⟨Rect.unit (s := S256x512) ![0, 0] S64x512.size inb_S256x512_S64x512_0_0, head0 i X⟩]

/-- The pieces cover the block. -/
theorem out_cover (X : Ins F) (y : S256x512.Idx) : ∃ p ∈ outPieces i X, y ∈ p.1.set :=
  View.cover_of_tiled (outPieces i X) S64x512.size (by rfl) y

/-- What the body leaves in the result's block. -/
def outOf (X : Ins F) : Vec F S256x512 .bf16 := View.canon (outPieces i X)

/-- The body, from its arrays, leaves the four heads in the result's block. -/
theorem body_run (K : PUnit → sProp 𝕄) (f11 : BufTy.Contents (Elt F) arg11.view.ty) :
    iprop(Res c arg3 arg4 arg5 arg6 arg7 arg8 arg9 arg10 f3 f4 f5 f6 f7 f8 f9 f10 ∗ ((arg11.view.loc (c : Thread nD τ) ↦[arg11.view.set]{fullShare} f11) ∗
      (iprop(Res c arg3 arg4 arg5 arg6 arg7 arg8 arg9 arg10 f3 f4 f5 f6 f7 f8 f9 f10 ∗ owns (c : Thread nD τ) arg11 fullShare (outOf i (ins arg3 arg4 arg5 arg6 arg7 arg8 arg9 arg10 f3 f4 f5 f6 f7 f8 f9 f10))) -∗ K ⟨⟩)))
    ⊢ wp frame (wpE (defs₀ (F := F)) Variants.none (c : Thread nD τ) none) E (cc0_nsa_attention (F := F) i arg3 harg3 arg4 harg4 arg5 harg5 arg6 harg6 arg7 harg7 arg8 harg8 arg9 harg9 arg10 harg10 arg11 harg11) K := by
  obtain ⟨n, n', h262⟩ := part262_gives c E i arg3 harg3 arg4 harg4 arg5 harg5 arg6 harg6 arg7 harg7 arg8 harg8 arg9 harg9 arg10 harg10 arg11 harg11 f3 f4 f5 f6 f7 f8 f9 f10
  rw [cc0_nsa_attention_eq_skeleton]
  unfold cc0_nsa_attention_skel
  rw [k0_part273_eq_skeleton]
  unfold k0_part273_skel
  rw [wp_bind]
  refine gives_bind (part258_gives c E i arg3 harg3 arg4 harg4 arg5 harg5 arg6 harg6 arg7 harg7 arg8 harg8 arg9 harg9 arg10 harg10 arg11 harg11 f3 f4 f5 f6 f7 f8 f9 f10) ?_
  refine gives_bind (part259_gives c E i arg3 harg3 arg4 harg4 arg5 harg5 arg6 harg6 arg7 harg7 arg8 harg8 arg9 harg9 arg10 harg10 arg11 harg11 f3 f4 f5 f6 f7 f8 f9 f10) ?_
  refine gives_bind (part260_gives c E i arg3 harg3 arg4 harg4 arg5 harg5 arg6 harg6 arg7 harg7 arg8 harg8 arg9 harg9 arg10 harg10 arg11 harg11 f3 f4 f5 f6 f7 f8 f9 f10) ?_
  refine gives_bind (part261_gives c E i arg3 harg3 arg4 harg4 arg5 harg5 arg6 harg6 arg7 harg7 arg8 harg8 arg9 harg9 arg10 harg10 arg11 harg11 f3 f4 f5 f6 f7 f8 f9 f10) ?_
  refine gives_bind h262 ?_
  refine gives_bind (part263_gives c E i arg3 harg3 arg4 harg4 arg5 harg5 arg6 harg6 arg7 harg7 arg8 harg8 arg9 harg9 arg10 harg10 arg11 harg11 f3 f4 f5 f6 f7 f8 f9 f10 n') ?_
  refine gives_bind (part264_gives c E i arg3 harg3 arg4 harg4 arg5 harg5 arg6 harg6 arg7 harg7 arg8 harg8 arg9 harg9 arg10 harg10 arg11 harg11 f3 f4 f5 f6 f7 f8 f9 f10) ?_
  refine gives_bind (part265_gives c E i arg3 harg3 arg4 harg4 arg5 harg5 arg6 harg6 arg7 harg7 arg8 harg8 arg9 harg9 arg10 harg10 arg11 harg11 f3 f4 f5 f6 f7 f8 f9 f10) ?_
  refine gives_bind (part266_gives c E i arg3 harg3 arg4 harg4 arg5 harg5 arg6 harg6 arg7 harg7 arg8 harg8 arg9 harg9 arg10 harg10 arg11 harg11 f3 f4 f5 f6 f7 f8 f9 f10) ?_
  refine gives_bind (part267_gives c E i arg3 harg3 arg4 harg4 arg5 harg5 arg6 harg6 arg7 harg7 arg8 harg8 arg9 harg9 arg10 harg10 arg11 harg11 f3 f4 f5 f6 f7 f8 f9 f10) ?_
  refine gives_bind (part268_gives c E i arg3 harg3 arg4 harg4 arg5 harg5 arg6 harg6 arg7 harg7 arg8 harg8 arg9 harg9 arg10 harg10 arg11 harg11 f3 f4 f5 f6 f7 f8 f9 f10) ?_
  refine gives_bind (part269_gives c E i arg3 harg3 arg4 harg4 arg5 harg5 arg6 harg6 arg7 harg7 arg8 harg8 arg9 harg9 arg10 harg10 arg11 harg11 f3 f4 f5 f6 f7 f8 f9 f10) ?_
  refine gives_bind (part270_gives c E i arg3 harg3 arg4 harg4 arg5 harg5 arg6 harg6 arg7 harg7 arg8 harg8 arg9 harg9 arg10 harg10 arg11 harg11 f3 f4 f5 f6 f7 f8 f9 f10) ?_
  refine gives_bind (part271_gives c E i arg3 harg3 arg4 harg4 arg5 harg5 arg6 harg6 arg7 harg7 arg8 harg8 arg9 harg9 arg10 harg10 arg11 harg11 f3 f4 f5 f6 f7 f8 f9 f10 n) ?_
  rw [k0_part272_eq_skeleton]
  unfold k0_part272_skel Res
  dsimp only
  iintro ⟨⟨H3, H4, H5, H6, H7, H8, H9, H10⟩, H11, Hk⟩
  sl_exec
  sl_step
  iapply Hk
  isplitl [H3 H4 H5 H6 H7 H8 H9 H10]
  · sl_close
  unfold owns
  iexists _
  isplitr
  swap
  · iexact H11
  ipureintro
  exact View.read_writes_eq_canon _ _ _ (out_cover i (ins arg3 arg4 arg5 arg6 arg7 arg8 arg9 arg10 f3 f4 f5 f6 f7 f8 f9 f10))

end Cert.KernelIdeal.Hand
-- ==== Proof.KernelIdeal.Frame.lean ====
module

public import proofs.«01_k».proof.Proof.KernelIdeal.Body
public import proofs.«01_k».proof.Proof.Gen.KernelIdeal.Launch
public import proofs.«01_k».proof.Proof.Gen.KernelIdeal.Points
public import proofs.«01_k».proof.Proof.Gen.KernelIdeal.Frame
public import Idealize.ShloMosaic.Lib.Ring
public import Idealize.ShloMosaic.Lib.Claim

@[expose] public section

noncomputable section

/-! The whole run: every point of the grid leaves the four heads in its block, the arguments stay, and every counter ends
    at zero. -/

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section Triple
variable (c : Dev nD) (E : Set ℕ) (i : grid0.Coords) (arg3 : Memref sig .tc .vmem S256x512 .bf16) (harg3 : arg3.IsWhole) (arg4 : Memref sig .tc .vmem S3x1x4x512 .f32) (harg4 : arg4.IsWhole) (arg5 : Memref sig .tc .vmem S1x1x256x64 .bf16) (harg5 : arg5.IsWhole) (arg6 : Memref sig .tc .vmem S1x1x64x256 .bf16) (harg6 : arg6.IsWhole) (arg7 : Memref sig .tc .vmem S1x4096x256 .bf16) (harg7 : arg7.IsWhole) (arg8 : Memref sig .tc .vmem S64x4096 .bf16) (harg8 : arg8.IsWhole) (arg9 : Memref sig .tc .vmem S4096x128 .bf16) (harg9 : arg9.IsWhole) (arg10 : Memref sig .tc .vmem S64x4096 .bf16) (harg10 : arg10.IsWhole) (arg11 : Memref sig .tc .vmem S256x512 .bf16) (harg11 : arg11.IsWhole)

/-- The body, from arrays of given contents. -/
theorem body_triple (x3 : Vec F S256x512 .bf16) (x4 : Vec F S3x1x4x512 .f32) (x5 : Vec F S1x1x256x64 .bf16) (x6 : Vec F S1x1x64x256 .bf16) (x7 : Vec F S1x4096x256 .bf16) (x8 : Vec F S64x4096 .bf16) (x9 : Vec F S4096x128 .bf16) (x10 : Vec F S64x4096 .bf16) (K : PUnit → sProp 𝕄) :
    iprop(owns (c : Thread nD τ) arg3 fullShare x3 ∗ owns (c : Thread nD τ) arg4 fullShare x4 ∗
      owns (c : Thread nD τ) arg5 fullShare x5 ∗ owns (c : Thread nD τ) arg6 fullShare x6 ∗
      owns (c : Thread nD τ) arg7 fullShare x7 ∗ owns (c : Thread nD τ) arg8 fullShare x8 ∗
      owns (c : Thread nD τ) arg9 fullShare x9 ∗ owns (c : Thread nD τ) arg10 fullShare x10 ∗
      (∃ d, owns (c : Thread nD τ) arg11 fullShare d) ∗
      (iprop(owns (c : Thread nD τ) arg3 fullShare x3 ∗ owns (c : Thread nD τ) arg4 fullShare x4 ∗
        owns (c : Thread nD τ) arg5 fullShare x5 ∗ owns (c : Thread nD τ) arg6 fullShare x6 ∗
        owns (c : Thread nD τ) arg7 fullShare x7 ∗ owns (c : Thread nD τ) arg8 fullShare x8 ∗
        owns (c : Thread nD τ) arg9 fullShare x9 ∗ owns (c : Thread nD τ) arg10 fullShare x10 ∗
        owns (c : Thread nD τ) arg11 fullShare (outOf i ⟨x3, x4, x5, x6, x7, x8, x9, x10⟩)) -∗ K ⟨⟩))
    ⊢ wp frame (wpE (defs₀ (F := F)) Variants.none (c : Thread nD τ) none) E (cc0_nsa_attention (F := F) i arg3 harg3 arg4 harg4 arg5 harg5 arg6 harg6 arg7 harg7 arg8 harg8 arg9 harg9 arg10 harg10 arg11 harg11) K := by
  unfold owns
  iintro ⟨⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%d, %f11, -, H11⟩, Hk⟩
  subst h3 h4 h5 h6 h7 h8 h9 h10
  iapply (body_run c E i arg3 harg3 arg4 harg4 arg5 harg5 arg6 harg6 arg7 harg7 arg8 harg8 arg9 harg9 arg10 harg10 arg11 harg11 f3 f4 f5 f6 f7 f8 f9 f10 K f11)
  unfold Res
  isplitl [H3 H4 H5 H6 H7 H8 H9 H10]
  · sl_close
  isplitl [H11]
  · iexact H11
  iintro ⟨⟨H3, H4, H5, H6, H7, H8, H9, H10⟩, H11⟩
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  unfold owns
  iexact H11

end Triple

variable (m : (ℓ : Loc nD τ sig) → Buf (Elt F) ℓ) (ρ : Dev nD → PrngReg)

/-- The arrays that point `t` reads. -/
def insAt (c : Dev nD) (t : Fin cfg0.N) : Ins F :=
  ⟨iblk m c 0 t, iblk m c 1 t, iblk m c 2 t, iblk m c 3 t, iblk m c 4 t, iblk m c 5 t, iblk m c 6 t, iblk m c 7 t⟩

/-- What the pipeline holds: its inputs as launched, its output's blocks as the body leaves them. -/
def dats : (p : Fin 1) → (c : Dev nD) → Dat τ (Elt F) Unit ℕ (UR sig nD τ) ℕ cfg0 c := fun _ c =>
  { A := fun w => V m c (Pipeline.arrRef spec0 w)
    q := fun _ => fullShare
    after := fun w t => match w with
      | ⟨0, _⟩ => iblk m c 0 t
      | ⟨1, _⟩ => iblk m c 1 t
      | ⟨2, _⟩ => iblk m c 2 t
      | ⟨3, _⟩ => iblk m c 3 t
      | ⟨4, _⟩ => iblk m c 4 t
      | ⟨5, _⟩ => iblk m c 5 t
      | ⟨6, _⟩ => iblk m c 6 t
      | ⟨7, _⟩ => iblk m c 7 t
      | ⟨8, _⟩ => outOf (grid0.coords t) (insAt m c t)
    owed := fun _ => 0
    Φ := fun _ => Pipeline.ΦA spec0 c }

theorem A_eq (c : Dev nD) (w) : (dats m 0 c).A w = V m c (Pipeline.arrRef spec0 w) := by dsimp only [dats]
theorem after_0 (c : Dev nD) (t) : (dats m 0 c).after 0 t = iblk m c 0 t := by dsimp only [dats]
theorem after_1 (c : Dev nD) (t) : (dats m 0 c).after 1 t = iblk m c 1 t := by dsimp only [dats]
theorem after_2 (c : Dev nD) (t) : (dats m 0 c).after 2 t = iblk m c 2 t := by dsimp only [dats]
theorem after_3 (c : Dev nD) (t) : (dats m 0 c).after 3 t = iblk m c 3 t := by dsimp only [dats]
theorem after_4 (c : Dev nD) (t) : (dats m 0 c).after 4 t = iblk m c 4 t := by dsimp only [dats]
theorem after_5 (c : Dev nD) (t) : (dats m 0 c).after 5 t = iblk m c 5 t := by dsimp only [dats]
theorem after_6 (c : Dev nD) (t) : (dats m 0 c).after 6 t = iblk m c 6 t := by dsimp only [dats]
theorem after_7 (c : Dev nD) (t) : (dats m 0 c).after 7 t = iblk m c 7 t := by dsimp only [dats]
theorem after_8 (c : Dev nD) (t) : (dats m 0 c).after 8 t = outOf (grid0.coords t) (insAt m c t) := by dsimp only [dats]
theorem before_0 (c : Dev nD) (t d) : (dats m 0 c).before 0 t d = iblk m c 0 t := before0_0_of m (dats m 0 c) (A_eq m c 0) (after_0 m c) t d
theorem before_1 (c : Dev nD) (t d) : (dats m 0 c).before 1 t d = iblk m c 1 t := before0_1_of m (dats m 0 c) (A_eq m c 1) (after_1 m c) t d
theorem before_2 (c : Dev nD) (t d) : (dats m 0 c).before 2 t d = iblk m c 2 t := before0_2_of m (dats m 0 c) (A_eq m c 2) (after_2 m c) t d
theorem before_3 (c : Dev nD) (t d) : (dats m 0 c).before 3 t d = iblk m c 3 t := before0_3_of m (dats m 0 c) (A_eq m c 3) (after_3 m c) t d
theorem before_4 (c : Dev nD) (t d) : (dats m 0 c).before 4 t d = iblk m c 4 t := before0_4_of m (dats m 0 c) (A_eq m c 4) (after_4 m c) t d
theorem before_5 (c : Dev nD) (t d) : (dats m 0 c).before 5 t d = iblk m c 5 t := before0_5_of m (dats m 0 c) (A_eq m c 5) (after_5 m c) t d
theorem before_6 (c : Dev nD) (t d) : (dats m 0 c).before 6 t d = iblk m c 6 t := before0_6_of m (dats m 0 c) (A_eq m c 6) (after_6 m c) t d
theorem before_7 (c : Dev nD) (t d) : (dats m 0 c).before 7 t d = iblk m c 7 t := before0_7_of m (dats m 0 c) (A_eq m c 7) (after_7 m c) t d

/-- The body called at a point is the kernel at the point's memrefs. -/
theorem defs₀_row (t : Fin cfg0.N) : defs₀ (F := F) .tc cfg0.body (cfg0.bodyArgs t (cfg0.slots t)) = bodyAt0 t := by
  unfold defs₀
  rw [Defs.onTc_tc]

/-- What the pipeline hands the body at a point, and what it takes back. -/
def pre (c : Dev nD) (t : Fin cfg0.N) : sProp 𝕄 :=
  iprop((dats m 0 c).Φ t.castSucc ∗ (dats m 0 c).owesAt () t.castSucc ∗
    (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)))
def post (c : Dev nD) (t : Fin cfg0.N) : sProp 𝕄 :=
  iprop((dats m 0 c).Φ t.succ ∗ (dats m 0 c).owesAt () t.succ ∗
    owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t))

set_option maxHeartbeats 4000000 in
theorem body_at (c : Dev nD) (t : Fin cfg0.N) :
    pre m c t ⊢ wp frame (wpE (defs₀ (F := F)) Variants.none (c : Thread nD τ) none) Set.univ (bodyAt0 t) (fun _ => post m c t) := by
  unfold pre post bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_triple c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body at every point, from what the pipeline hands it. -/
theorem body_obligation (c : Dev nD) : BodyObligation (dats (F := F) m 0 c) (defs₀ (F := F)) Variants.none () Set.univ := fun t => by
  rw [bigSep_W0, bigSep_W0, defs₀_row]
  exact triple_restated (body_at m c t) rfl .rfl fun _ => .rfl

set_option backward.isDefEq.respectTransparency.types false in
set_option maxHeartbeats 4000000 in
/-- The run: the arrays end at what the blocks give, and every counter at zero. -/
theorem run_quiet : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_post : θ_run defs (onTc (τ := τ) (main (F := F))) (s₀ m ρ) (Pipeline.FramePost cfgs (dats m) 0 (V m)) :=
  (θ_run defs _ _).mono (fun _ h => h.1) (run_quiet m ρ)

/-- The arguments stay. -/
theorem args_stay : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_post m ρ)

/-- The frame: the arguments stay, and every counter ends at zero. -/
theorem stays : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (args_stay m ρ) ((θ_run defs _ _).mono (fun _ h => h.2) (run_quiet m ρ))

end Cert.KernelIdeal.Hand
-- ==== Proof.KernelIdeal.Soft.lean ====
module

public import Idealize.ShloMosaic.Lib.ValueIdx
public import Idealize.ShloMosaic.PureOps.Ideal.Laws

@[expose] public section

noncomputable section

/-! Sums of exponentials over the extended reals: the running softmax, at a shift that follows the maximum and at one that lags. -/

namespace Cert.KernelIdeal.Hand

open Idealize.ShloMosaic

theorem exp2_nonneg (x : EReal) : 0 ≤ Ideal.exp2 x := by
  induction x with
  | bot => simp
  | top => simp
  | coe r => rw [Ideal.exp2_coe]; exact EReal.coe_nonneg.mpr (Real.rpow_nonneg (by norm_num) r)

theorem exp2_real (r : ℝ) : Ideal.exp2 (r : EReal) = (((2 : ℝ) ^ r : ℝ) : EReal) := rfl

theorem exp2_zero : Ideal.exp2 0 = 1 := by
  rw [← EReal.coe_zero, exp2_real, Real.rpow_zero, EReal.coe_one]

/-- A power of two at a real shift, moved to another real shift. -/
theorem exp2_shift_real (a b : ℝ) (s : EReal) :
    Ideal.exp2 ((a : EReal) - b) * Ideal.exp2 (s - a) = Ideal.exp2 (s - b) := by
  have hc : (0 : ℝ) < 2 ^ (a - b) := Real.rpow_pos_of_pos (by norm_num) _
  rw [← EReal.coe_sub, exp2_real]
  induction s with
  | bot => simp
  | top =>
    rw [EReal.top_sub_coe, EReal.top_sub_coe, Ideal.exp2_top]
    exact EReal.coe_mul_top_of_pos hc
  | coe r =>
    rw [← EReal.coe_sub, ← EReal.coe_sub, exp2_real, exp2_real, ← EReal.coe_mul, ← Real.rpow_add (by norm_num)]
    congr 2; ring

/-- A power of two at a shift above the score, moved to a higher one. -/
theorem exp2_shift {s m n : EReal} (h1 : s ≤ m) (h2 : m ≤ n) :
    Ideal.exp2 (m - n) * Ideal.exp2 (s - m) = Ideal.exp2 (s - n) := by
  induction m with
  | bot =>
    obtain rfl : s = ⊥ := le_bot_iff.mp h1
    simp
  | top =>
    obtain rfl : n = ⊤ := top_le_iff.mp h2
    have : ∀ x : EReal, x - ⊤ = ⊥ := fun x => by rw [sub_eq_add_neg, EReal.neg_top, EReal.add_bot]
    simp [this]
  | coe a =>
    induction n with
    | bot => exact absurd (le_bot_iff.mp h2) (EReal.coe_ne_bot a)
    | top =>
      have : ∀ x : EReal, x - ⊤ = ⊥ := fun x => by rw [sub_eq_add_neg, EReal.neg_top, EReal.add_bot]
      simp [this]
    | coe b => exact exp2_shift_real a b s

theorem exp2_le_one {x : EReal} (h : x ≤ 0) : Ideal.exp2 x ≤ 1 := by
  induction x with
  | bot => simp
  | top => exact absurd h (by simp)
  | coe r =>
    rw [exp2_real, ← EReal.coe_one]
    exact EReal.coe_le_coe_iff.mpr (Real.rpow_le_one_of_one_le_of_nonpos (by norm_num) (EReal.coe_nonpos.mp h))

theorem sub_nonpos' {m n : EReal} (h : m ≤ n) : m - n ≤ 0 := by
  induction n with
  | bot => obtain rfl : m = ⊥ := le_bot_iff.mp h; simp
  | top => rw [sub_eq_add_neg, EReal.neg_top, EReal.add_bot]; exact bot_le
  | coe b =>
    induction m with
    | bot => simp
    | top => exact absurd (top_le_iff.mp h) (EReal.coe_ne_top b)
    | coe a => rw [← EReal.coe_sub]; exact EReal.coe_nonpos.mpr (sub_nonpos.mpr (EReal.coe_le_coe_iff.mp h))

/-- A nonnegative finite factor goes into a sum. -/
theorem factor_sum {ι : Type} (c : EReal) (h0 : 0 ≤ c) (ht : c ≠ ⊤) (S : Finset ι) (f : ι → EReal) :
    c * ∑ p ∈ S, f p = ∑ p ∈ S, c * f p := by
  classical
  induction S using Finset.induction_on with
  | empty => simp
  | insert a S ha ih => rw [Finset.sum_insert ha, Finset.sum_insert ha, EReal.left_distrib_of_nonneg_of_ne_top h0 ht, ih]

theorem sum_factor {ι : Type} (c : EReal) (h0 : 0 ≤ c) (ht : c ≠ ⊤) (S : Finset ι) (f : ι → EReal) :
    (∑ p ∈ S, f p) * c = ∑ p ∈ S, f p * c := by
  rw [mul_comm, factor_sum c h0 ht]; exact Finset.sum_congr rfl fun p _ => mul_comm _ _

/-- The sum over a set of keys of the values times the exponentials of the scores above a shift. -/
def part (S : Finset ℕ) (s v : ℕ → EReal) (m : EReal) : EReal := ∑ p ∈ S, v p * Ideal.exp2 (s p - m)

theorem part_shift {S : Finset ℕ} {s : ℕ → EReal} (v : ℕ → EReal) {m n : EReal} (h1 : ∀ p ∈ S, s p ≤ m) (h2 : m ≤ n) :
    Ideal.exp2 (m - n) * part S s v m = part S s v n := by
  unfold part
  rw [factor_sum _ (exp2_nonneg _) (fun h => absurd (exp2_le_one (sub_nonpos' h2)) (by rw [h]; exact not_le.mpr (EReal.coe_lt_top 1)))]
  refine Finset.sum_congr rfl fun p hp => ?_
  rw [mul_left_comm, exp2_shift (h1 p hp) h2]

theorem part_shift_real (S : Finset ℕ) (s v : ℕ → EReal) (a b : ℝ) :
    Ideal.exp2 ((a : EReal) - b) * part S s v a = part S s v b := by
  unfold part
  rw [factor_sum _ (exp2_nonneg _) (by rw [← EReal.coe_sub, exp2_real]; exact EReal.coe_ne_top _)]
  refine Finset.sum_congr rfl fun p hp => ?_
  rw [mul_left_comm, exp2_shift_real]

/-- Masked keys add nothing. -/
theorem part_of_subset {S T : Finset ℕ} (h : S ⊆ T) (s v : ℕ → EReal) (m : EReal) (hb : ∀ p ∈ T, p ∉ S → s p = ⊥) :
    part S s v m = part T s v m := by
  refine Finset.sum_subset h fun p hp hn => ?_
  rw [hb p hp hn]; simp

theorem sup_of_subset {S T : Finset ℕ} (h : S ⊆ T) (s : ℕ → EReal) (hb : ∀ p ∈ T, p ∉ S → s p = ⊥) :
    S.sup s = T.sup s := by
  refine le_antisymm (Finset.sup_mono h) (Finset.sup_le fun p hp => ?_)
  by_cases hS : p ∈ S
  · exact Finset.le_sup (f := s) hS
  · rw [hb p hp hS]; exact bot_le

/-- The softmax-weighted mean of the values. -/
def norm (S : Finset ℕ) (s v : ℕ → EReal) : EReal := part S s v (S.sup s) * (part S s (fun _ => 1) (S.sup s))⁻¹

theorem part_eq_zero {S : Finset ℕ} {s : ℕ → EReal} {m : EReal} (h : part S s (fun _ => 1) m = 0) (v : ℕ → EReal) : part S s v m = 0 := by
  unfold part at h ⊢
  have h' : ∀ p ∈ S, Ideal.exp2 (s p - m) = 0 := by
    have := (Finset.sum_eq_zero_iff_of_nonneg (s := S) (f := fun p => (1 : EReal) * Ideal.exp2 (s p - m))
      (fun p _ => by show (0 : EReal) ≤ 1 * _; rw [one_mul]; exact exp2_nonneg _)).mp h
    exact fun p hp => by simpa using this p hp
  exact Finset.sum_eq_zero fun p hp => by rw [h' p hp, mul_zero]

theorem div_one (x : EReal) (h : x ≠ 0) : Ideal.div 1 x = x⁻¹ := by rw [Ideal.div, if_neg h, one_mul]

/-- The running values of the exact softmax, of one column. -/
def SlowOf (S : Finset ℕ) (s : ℕ → EReal) (V : Fin 80 → ℕ → EReal) (m : EReal) (acc : Fin 80 → EReal) : Prop :=
  m = S.sup s ∧ ∀ r, acc r = part S s (V r) m

/-- The running values of the lagging softmax, of one column: what they are as long as the lag has stayed small. -/
def FastOf (S : Finset ℕ) (s : ℕ → EReal) (V : Fin 80 → ℕ → EReal) (m : EReal) (acc : Fin 80 → EReal) (hi top : EReal) : Prop :=
  top = S.sup s ∧ (hi ≤ 60 → (∃ x : ℝ, m = x) ∧ (∀ p ∈ S, s p ≠ ⊤) ∧ ∀ r, acc r = part S s (V r) m)

theorem part_union {S T : Finset ℕ} (h : Disjoint S T) (s v : ℕ → EReal) (m : EReal) :
    part (S ∪ T) s v m = part S s v m + part T s v m := Finset.sum_union h

theorem slow_step {S T : Finset ℕ} (h : Disjoint S T) {s : ℕ → EReal} {V : Fin 80 → ℕ → EReal} {m : EReal} {acc : Fin 80 → EReal}
    (hI : SlowOf S s V m acc) :
    SlowOf (S ∪ T) s V (max m (T.sup s)) (fun r => Ideal.exp2 (m - max m (T.sup s)) * acc r + part T s (V r) (max m (T.sup s))) := by
  obtain ⟨hm, ha⟩ := hI
  refine ⟨by rw [Finset.sup_union, hm], fun r => ?_⟩
  show Ideal.exp2 (m - max m (T.sup s)) * acc r + part T s (V r) (max m (T.sup s)) = _
  rw [ha r, part_shift _ (fun p hp => by rw [hm]; exact Finset.le_sup (f := s) hp) (le_max_left _ _), part_union h]

theorem fast_step {S T : Finset ℕ} (h : Disjoint S T) {s : ℕ → EReal} {V : Fin 80 → ℕ → EReal} {m : EReal} {acc : Fin 80 → EReal}
    {hi top : EReal} (hI : FastOf S s V m acc hi top) :
    FastOf (S ∪ T) s V (max m (T.sup s)) (fun r => (acc r + part T s (V r) m) * Ideal.exp2 (m - max m (T.sup s)))
      (max hi (T.sup s - m)) (max top (T.sup s)) := by
  obtain ⟨ht, hI⟩ := hI
  refine ⟨by rw [Finset.sup_union, ht], fun hh => ?_⟩
  obtain ⟨⟨x, rfl⟩, hS, ha⟩ := hI (le_trans (le_max_left _ _) hh)
  have h2 : T.sup s - (x : EReal) ≤ 60 := le_trans (le_max_right _ _) hh
  have hT : T.sup s ≠ ⊤ := by
    intro he
    rw [he, EReal.top_sub_coe] at h2
    exact absurd (top_le_iff.mp h2) (by exact EReal.coe_ne_top 60)
  have hn : ∃ y : ℝ, max (x : EReal) (T.sup s) = y := by
    have h3 : max (x : EReal) (T.sup s) ≠ ⊤ := by
      rcases max_choice (x : EReal) (T.sup s) with he | he <;> rw [he]
      · exact EReal.coe_ne_top x
      · exact hT
    have h4 : max (x : EReal) (T.sup s) ≠ ⊥ := by
      intro he
      exact EReal.coe_ne_bot x (le_bot_iff.mp (he ▸ le_max_left _ _))
    exact ⟨_, (EReal.coe_toReal h3 h4).symm⟩
  obtain ⟨y, hy⟩ := hn
  refine ⟨⟨y, hy⟩, fun p hp => ?_, fun r => ?_⟩
  · rcases Finset.mem_union.mp hp with hp | hp
    · exact hS p hp
    · intro he
      exact hT (top_le_iff.mp (he ▸ Finset.le_sup (f := s) hp))
  · dsimp only
    rw [ha r, ← part_union h, hy, mul_comm, part_shift_real]

theorem slow_masked {S : Finset ℕ} {s : ℕ → EReal} {V : Fin 80 → ℕ → EReal} {m : EReal} {acc : Fin 80 → EReal}
    (hI : SlowOf S s V m acc) : SlowOf S s V (max m ⊥) (fun r => Ideal.exp2 (m - max m ⊥) * acc r + 0) := by
  have := slow_step (T := ∅) (Finset.disjoint_empty_right S) hI
  simpa [part] using this

theorem fast_masked {S : Finset ℕ} {s : ℕ → EReal} {V : Fin 80 → ℕ → EReal} {m : EReal} {acc : Fin 80 → EReal}
    {hi top : EReal} (hI : FastOf S s V m acc hi top) :
    FastOf S s V (max m ⊥) (fun r => (acc r + 0) * Ideal.exp2 (m - max m ⊥)) (max hi (⊥ - m)) (max top ⊥) := by
  have := fast_step (T := ∅) (Finset.disjoint_empty_right S) hI
  simpa [part] using this

theorem slow_init (s : ℕ → EReal) (V : Fin 80 → ℕ → EReal) : SlowOf ∅ s V ⊥ (fun _ => 0) := ⟨rfl, fun _ => rfl⟩
theorem fast_init (s : ℕ → EReal) (V : Fin 80 → ℕ → EReal) : FastOf ∅ s V 0 (fun _ => 0) ⊥ ⊥ :=
  ⟨rfl, fun _ => ⟨⟨0, rfl⟩, fun _ h => absurd h (Finset.notMem_empty _), fun _ => rfl⟩⟩

theorem slow_final {S : Finset ℕ} {s : ℕ → EReal} {V : Fin 80 → ℕ → EReal} {m : EReal} {acc : Fin 80 → EReal}
    (hI : SlowOf S s V m acc) (r one : Fin 80) (h1 : V one = fun _ => 1) :
    acc r * Ideal.div 1 (acc one) = norm S s (V r) := by
  obtain ⟨rfl, ha⟩ := hI
  rw [ha r, ha one, h1, norm]
  by_cases h : part S s (fun _ => 1) (S.sup s) = 0
  · rw [part_eq_zero h (V r), zero_mul, zero_mul]
  · rw [div_one _ h]

theorem fast_final {S : Finset ℕ} {s : ℕ → EReal} {V : Fin 80 → ℕ → EReal} {m : EReal} {acc : Fin 80 → EReal} {hi top : EReal}
    (hI : FastOf S s V m acc hi top) (hh : hi ≤ 60) (ht : -60 ≤ top) (r one : Fin 80) (h1 : V one = fun _ => 1) :
    acc r * Ideal.div 1 (acc one) = norm S s (V r) := by
  obtain ⟨rfl, hI⟩ := hI
  obtain ⟨⟨x, rfl⟩, hS, ha⟩ := hI hh
  have hb : S.sup s ≠ ⊥ := by
    intro he; rw [he] at ht
    exact absurd (le_bot_iff.mp ht) (by exact EReal.coe_ne_bot (-60))
  have htop : S.sup s ≠ ⊤ := by
    have : S.sup s < ⊤ := (Finset.sup_lt_iff bot_lt_top).mpr fun p hp => lt_top_iff_ne_top.mpr (hS p hp)
    exact this.ne
  obtain ⟨M, hM⟩ : ∃ M : ℝ, S.sup s = M := ⟨_, (EReal.coe_toReal htop hb).symm⟩
  rw [ha r, ha one, h1, norm, hM, ← part_shift_real S s (V r) M x, ← part_shift_real S s (fun _ => 1) M x]
  rw [← EReal.coe_sub, exp2_real]
  have hc : (0 : ℝ) < 2 ^ (M - x) := Real.rpow_pos_of_pos (by norm_num) _
  generalize (2 : ℝ) ^ (M - x) = c at hc
  by_cases h : part S s (fun _ => 1) M = 0
  · rw [part_eq_zero h (V r), mul_zero, zero_mul, zero_mul]
  · have hc' : (c : EReal) ≠ 0 := by exact_mod_cast hc.ne'
    rw [div_one _ (mul_ne_zero hc' h), EReal.mul_inv]
    have : (c : EReal) * (c : EReal)⁻¹ = 1 := by
      rw [← EReal.coe_inv, ← EReal.coe_mul, mul_inv_cancel₀ hc.ne', EReal.coe_one]
    calc (c : EReal) * part S s (V r) M * ((c : EReal)⁻¹ * (part S s (fun _ => 1) M)⁻¹)
        = ((c : EReal) * (c : EReal)⁻¹) * (part S s (V r) M * (part S s (fun _ => 1) M)⁻¹) := by
          rw [mul_mul_mul_comm]
      _ = _ := by rw [this, one_mul]

/-- The softmax-weighted mean of the values, by the exponential. -/
def attn {ι : Type} [Fintype ι] (s v : ι → EReal) : EReal :=
  (∑ p, v p * Ideal.exp (s p - Finset.univ.sup s)) * (∑ p, Ideal.exp (s p - Finset.univ.sup s))⁻¹

/-- One over the logarithm of two. -/
def perLog : EReal := ((Real.log 2)⁻¹ : ℝ)

theorem perLog_pos : (0 : ℝ) < (Real.log 2)⁻¹ := inv_pos.mpr (Real.log_pos (by norm_num))

theorem perLog_mul_top : perLog * ⊤ = ⊤ := EReal.coe_mul_top_of_pos perLog_pos
theorem perLog_mul_bot : perLog * ⊥ = ⊥ := EReal.coe_mul_bot_of_pos perLog_pos

/-- A power of two of scaled scores is the exponential of the scores. -/
theorem exp2_perLog (a b : EReal) : Ideal.exp2 (perLog * a - perLog * b) = Ideal.exp (a - b) := by
  have htop : ∀ x : EReal, x - ⊤ = ⊥ := fun x => by rw [sub_eq_add_neg, EReal.neg_top, EReal.add_bot]
  induction b with
  | top => rw [perLog_mul_top, htop, htop]; rfl
  | bot =>
    rw [perLog_mul_bot]
    induction a with
    | bot => rw [perLog_mul_bot]; simp
    | top => rw [perLog_mul_top, sub_eq_add_neg, EReal.neg_bot, EReal.top_add_top]; rfl
    | coe a => rw [perLog, ← EReal.coe_mul, EReal.coe_sub_bot, EReal.coe_sub_bot]; rfl
  | coe b =>
    induction a with
    | bot => rw [perLog_mul_bot, EReal.bot_sub, EReal.bot_sub]; rfl
    | top => rw [perLog_mul_top, perLog, ← EReal.coe_mul, EReal.top_sub_coe, EReal.top_sub_coe]; rfl
    | coe a =>
      rw [perLog, ← EReal.coe_mul, ← EReal.coe_mul, ← EReal.coe_sub, ← EReal.coe_sub, exp2_real]
      show _ = ((Real.exp (a - b) : ℝ) : EReal)
      congr 1
      rw [Real.rpow_def_of_pos (by norm_num)]
      congr 1
      have : Real.log 2 ≠ 0 := (Real.log_pos (by norm_num)).ne'
      field_simp

theorem perLog_mono {a b : EReal} (h : a ≤ b) : perLog * a ≤ perLog * b :=
  mul_le_mul_of_nonneg_left h (EReal.coe_nonneg.mpr perLog_pos.le)

theorem sup_perLog {ι : Type} (S : Finset ι) (s : ι → EReal) : S.sup (fun p => perLog * s p) = perLog * S.sup s := by
  classical
  induction S using Finset.induction_on with
  | empty => simp [perLog_mul_bot]
  | insert a S ha ih =>
    rw [Finset.sup_insert, Finset.sup_insert, ih]
    exact ((show Monotone (fun x => perLog * x) from fun _ _ h => perLog_mono h).map_sup (s a) (S.sup s)).symm

/-- The mean over the keys that a column has seen is the mean over all keys. -/
theorem norm_eq_attn {n : ℕ} {S : Finset ℕ} {s v : ℕ → EReal} {s' v' : Fin n → EReal} (hS : S ⊆ Finset.range n)
    (hb : ∀ p ∈ Finset.range n, p ∉ S → s p = ⊥) (hs : ∀ p : Fin n, s p.val = perLog * s' p) (hv : ∀ p : Fin n, v p.val = v' p) :
    norm S s v = attn s' v' := by
  unfold norm
  rw [part_of_subset hS s v _ hb, part_of_subset hS s _ _ hb, sup_of_subset hS s hb]
  have hsup : (Finset.range n).sup s = perLog * Finset.univ.sup s' := by
    rw [← sup_perLog]
    refine le_antisymm (Finset.sup_le fun p hp => ?_) (Finset.sup_le fun p _ => ?_)
    · have := Finset.le_sup (f := fun p => perLog * s' p) (Finset.mem_univ (⟨p, Finset.mem_range.mp hp⟩ : Fin n))
      rw [← hs] at this; exact this
    · rw [← hs]; exact Finset.le_sup (f := s) (Finset.mem_range.mpr p.isLt)
  unfold part attn
  rw [hsup, Finset.sum_range, Finset.sum_range]
  congr 1
  · exact Finset.sum_congr rfl fun p _ => by rw [hs, hv, exp2_perLog]
  · congr 1; exact Finset.sum_congr rfl fun p _ => by rw [hs, one_mul, exp2_perLog]

end Cert.KernelIdeal.Hand
-- ==== Proof.KernelIdeal.Cols.lean ====
module

public import proofs.«01_k».proof.Proof.KernelIdeal.Stage
public import proofs.«01_k».proof.Proof.KernelIdeal.Soft
public import Idealize.ShloMosaic.Lib.MatmulPlain
public import Idealize.ShloMosaic.Lib.Pipeline.Value
public import Idealize.ShloMosaic.Lib.Pointwise.Reshape
public import Idealize.ShloMosaic.Lib.IdealHost

@[expose] public section

noncomputable section

/-! One column of the running softmaxes: what a tile of keys does to it, and where it goes when the columns are halved and put
    together again. -/

namespace Cert.KernelIdeal.Hand

open Idealize.ShloMosaic hiding ix2 ix1 ix3 ix4
open Idealize.SL.Sem Gen ValueIdx

theorem colHalf_apply {α : Type} {r : ℕ} (p : Fin 2) (x : (M2 r 2048).Idx → α) (k : Fin r) (q : Fin 1024) (q' : Fin 2048)
    (h : q'.val = 512 * (q.val / 256) + 256 * p.val + q.val % 256) : colHalf p x (ix2 k q) = x (ix2 k q') := by
  have hq := q.isLt
  have h4 : q.val / 256 = 0 ∨ q.val / 256 = 1 ∨ q.val / 256 = 2 ∨ q.val / 256 = 3 := by omega
  have hm : q.val % 256 < 256 := Nat.mod_lt _ (by omega)
  unfold colHalf
  rcases h4 with h4 | h4 | h4 | h4
  · refine (concatenate_apply_piece 1 _ _ (ix2 k q) 0 (by simp) (M2 r 256) _ rfl rfl 0 rfl (ix2 k ⟨q.val % 256, hm⟩) ?_ ?_).trans
      (extractStridedSlice_apply _ _ _ _ (ix2 k q') ?_)
    · intro b hb; fin_cases b; · rfl
      · exact absurd rfl hb
    · show 0 + q.val % 256 = q.val; omega
    · intro b; fin_cases b
      · exact (Nat.zero_add _).symm
      · show q'.val = 256 * p.val + q.val % 256; omega
  · refine (concatenate_apply_piece 1 _ _ (ix2 k q) 1 (by simp) (M2 r 256) _ rfl rfl 256 rfl (ix2 k ⟨q.val % 256, hm⟩) ?_ ?_).trans
      (extractStridedSlice_apply _ _ _ _ (ix2 k q') ?_)
    · intro b hb; fin_cases b; · rfl
      · exact absurd rfl hb
    · show 256 + q.val % 256 = q.val; omega
    · intro b; fin_cases b
      · exact (Nat.zero_add _).symm
      · show q'.val = 512 + 256 * p.val + q.val % 256; omega
  · refine (concatenate_apply_piece 1 _ _ (ix2 k q) 2 (by simp) (M2 r 256) _ rfl rfl 512 rfl (ix2 k ⟨q.val % 256, hm⟩) ?_ ?_).trans
      (extractStridedSlice_apply _ _ _ _ (ix2 k q') ?_)
    · intro b hb; fin_cases b; · rfl
      · exact absurd rfl hb
    · show 512 + q.val % 256 = q.val; omega
    · intro b; fin_cases b
      · exact (Nat.zero_add _).symm
      · show q'.val = 1024 + 256 * p.val + q.val % 256; omega
  · refine (concatenate_apply_piece 1 _ _ (ix2 k q) 3 (by simp) (M2 r 256) _ rfl rfl 768 rfl (ix2 k ⟨q.val % 256, hm⟩) ?_ ?_).trans
      (extractStridedSlice_apply _ _ _ _ (ix2 k q') ?_)
    · intro b hb; fin_cases b; · rfl
      · exact absurd rfl hb
    · show 768 + q.val % 256 = q.val; omega
    · intro b; fin_cases b
      · exact (Nat.zero_add _).symm
      · show q'.val = 1536 + 256 * p.val + q.val % 256; omega

/-- One piece of a merge. -/
theorem colMerge_piece {α : Type} {r : ℕ} (lo hi : (M2 r 1024).Idx → α) (k : Fin r) (q : Fin 2048) (q' : Fin 1024) (n : ℕ)
    (x : (M2 r 1024).Idx → α) (o : ℕ) (ho : o + 256 ≤ 1024)
    (hn : n < 8) (hx : ([⟨M2 r 256, extractStridedSlice (M2 r 256) ![0, 0] lo (slices_cols r 256 1024 0 (by omega))⟩,
     ⟨M2 r 256, extractStridedSlice (M2 r 256) ![0, 0] hi (slices_cols r 256 1024 0 (by omega))⟩,
     ⟨M2 r 256, extractStridedSlice (M2 r 256) ![0, 256] lo (slices_cols r 256 1024 256 (by omega))⟩,
     ⟨M2 r 256, extractStridedSlice (M2 r 256) ![0, 256] hi (slices_cols r 256 1024 256 (by omega))⟩,
     ⟨M2 r 256, extractStridedSlice (M2 r 256) ![0, 512] lo (slices_cols r 256 1024 512 (by omega))⟩,
     ⟨M2 r 256, extractStridedSlice (M2 r 256) ![0, 512] hi (slices_cols r 256 1024 512 (by omega))⟩,
     ⟨M2 r 256, extractStridedSlice (M2 r 256) ![0, 768] lo (slices_cols r 256 1024 768 (by omega))⟩,
     ⟨M2 r 256, extractStridedSlice (M2 r 256) ![0, 768] hi (slices_cols r 256 1024 768 (by omega))⟩] :
       List ((s : Shape) × (s.Idx → α)))[n]'(by simpa using hn)
        = ⟨M2 r 256, extractStridedSlice (M2 r 256) ![0, o] x (slices_cols r 256 1024 o ho)⟩)
    (hq : q.val / 256 = n) (hq' : q'.val = o + q.val % 256) :
    colMerge lo hi (ix2 k q) = x (ix2 k q') := by
  have hm : q.val % 256 < 256 := Nat.mod_lt _ (by omega)
  unfold colMerge
  refine (concatenate_apply_piece 1 _ _ (ix2 k q) n (by simpa using hn) (M2 r 256) _ hx rfl (256 * n) ?_ (ix2 k ⟨q.val % 256, hm⟩) ?_ ?_).trans
      (extractStridedSlice_apply _ _ _ _ (ix2 k q') ?_)
  · interval_cases n <;> rfl
  · intro b hb; fin_cases b; · rfl
    · exact absurd rfl hb
  · show 256 * n + q.val % 256 = q.val; omega
  · intro b; fin_cases b
    · exact (Nat.zero_add _).symm
    · exact hq'

theorem colMerge_left {α : Type} {r : ℕ} (lo hi : (M2 r 1024).Idx → α) (k : Fin r) (q : Fin 2048) (q' : Fin 1024)
    (h0 : q.val % 512 < 256) (h : q'.val = 256 * (q.val / 512) + q.val % 256) : colMerge lo hi (ix2 k q) = lo (ix2 k q') := by
  have hq := q.isLt
  have h4 : q.val / 512 = 0 ∨ q.val / 512 = 1 ∨ q.val / 512 = 2 ∨ q.val / 512 = 3 := by omega
  rcases h4 with h4 | h4 | h4 | h4
  · exact colMerge_piece lo hi k q q' 0 lo 0 (by omega) (by omega) rfl (by omega) (by omega)
  · exact colMerge_piece lo hi k q q' 2 lo 256 (by omega) (by omega) rfl (by omega) (by omega)
  · exact colMerge_piece lo hi k q q' 4 lo 512 (by omega) (by omega) rfl (by omega) (by omega)
  · exact colMerge_piece lo hi k q q' 6 lo 768 (by omega) (by omega) rfl (by omega) (by omega)

theorem colMerge_right {α : Type} {r : ℕ} (lo hi : (M2 r 1024).Idx → α) (k : Fin r) (q : Fin 2048) (q' : Fin 1024)
    (h0 : 256 ≤ q.val % 512) (h : q'.val = 256 * (q.val / 512) + q.val % 256) : colMerge lo hi (ix2 k q) = hi (ix2 k q') := by
  have hq := q.isLt
  have h4 : q.val / 512 = 0 ∨ q.val / 512 = 1 ∨ q.val / 512 = 2 ∨ q.val / 512 = 3 := by omega
  rcases h4 with h4 | h4 | h4 | h4
  · exact colMerge_piece lo hi k q q' 1 hi 0 (by omega) (by omega) rfl (by omega) (by omega)
  · exact colMerge_piece lo hi k q q' 3 hi 256 (by omega) (by omega) rfl (by omega) (by omega)
  · exact colMerge_piece lo hi k q q' 5 hi 512 (by omega) (by omega) rfl (by omega) (by omega)
  · exact colMerge_piece lo hi k q q' 7 hi 768 (by omega) (by omega) rfl (by omega) (by omega)

theorem rep_apply {n : ℕ} (k : ℕ) (x : FVec Ideal (M2 1 n) .f32) (r : Fin k) (q : Fin n) : rep k x (ix2 r q) = x (ix2 0 q) := by
  refine broadcastTo_apply _ _ _ _ fun b => ?_
  fin_cases b
  · rfl
  · show q.val = if n = 1 then 0 else q.val
    split
    · have := q.isLt; omega
    · rfl

theorem mm_apply {M K N : ℕ} (a : FVec Ideal (M2 M K) .bf16) (b : FVec Ideal (M2 K N) .bf16) (r : Fin M) (q : Fin N) :
    mm a b (ix2 r q) = ∑ k : Fin K, a (ix2 r k) * b (ix2 k q) := by
  refine (Ideal.matmul_plain_apply none a b _ r q).trans ?_
  rw [constant_apply, Ideal.ofBits_zero_f32]; exact zero_add _

theorem fold_max_eq_sup {ι : Type} (S : Finset ι) (f : ι → EReal) : S.fold max ⊥ f = S.sup f := rfl

theorem colMax_apply {k n : ℕ} (s : FVec Ideal (M2 k n) .f32) (q : Fin n) :
    colMax s (ix2 0 q) = Finset.univ.sup fun r : Fin k => s (ix2 r q) := by
  unfold colMax
  refine (shapeCast_apply _ _ (ix2 0 q) (ix1 q) ?_).trans ?_
  · rw [rowMajor_val1, rowMajor_val2 _ n rfl]
    show q.val = 0 * n + q.val
    omega
  · refine (Ideal.multiReduction_maximumf_single s _ (reduces_rows k n) (.inl rfl) rfl (ix1 q)).trans ?_
    show Finset.univ.fold max (Ideal.ofBits .f32 0xFF800000#32) _ = _
    have e : Ideal.ofBits .f32 0xFF800000#32 = (⊥ : EReal) := by simp [Ideal.ofBits, Ideal.ieee]
    rw [e, fold_max_eq_sup]
    refine Finset.sup_congr rfl fun r _ => ?_
    show s _ = s _
    congr 1
    funext b; fin_cases b <;> rfl

/-- A column of the exact softmax. -/
def SlowAt {n : ℕ} (c : Slow Ideal n) (q : Fin n) (S : Finset ℕ) (s : ℕ → EReal) (V : Fin 80 → ℕ → EReal) : Prop :=
  SlowOf S s V (c.1 (ix2 0 q)) (fun r => c.2 (ix2 r q))

/-- A column of the lagging softmax. -/
def FastAt {n : ℕ} (c : Fast Ideal n) (q : Fin n) (S : Finset ℕ) (s : ℕ → EReal) (V : Fin 80 → ℕ → EReal) : Prop :=
  FastOf S s V (c.1 (ix2 0 q)) (fun r => c.2.1 (ix2 r q)) (c.2.2.1 (ix2 0 q)) (c.2.2.2 (ix2 0 q))

/-- The keys of a tile. -/
def tile (o k : ℕ) : Finset ℕ := Finset.Ico o (o + k)

theorem part_tile (o k : ℕ) (s v : ℕ → EReal) (m : EReal) :
    part (tile o k) s v m = ∑ p : Fin k, v (o + p.val) * Ideal.exp2 (s (o + p.val) - m) := by
  unfold part tile
  rw [Finset.sum_Ico_eq_sum_range, Nat.add_sub_cancel_left, Finset.sum_range]

theorem sup_tile (o k : ℕ) (s : ℕ → EReal) : (tile o k).sup s = Finset.univ.sup fun p : Fin k => s (o + p.val) := by
  unfold tile
  refine le_antisymm (Finset.sup_le fun p hp => ?_) (Finset.sup_le fun p _ => ?_)
  · rw [Finset.mem_Ico] at hp
    have := Finset.le_sup (f := fun p : Fin k => s (o + p.val)) (Finset.mem_univ ⟨p - o, by omega⟩)
    have e : o + (p - o) = p := by omega
    simpa [e] using this
  · exact Finset.le_sup (f := s) (Finset.mem_Ico.mpr ⟨by omega, by have := p.isLt; omega⟩)

theorem weights_apply {k n : ℕ} (s : FVec Ideal (M2 k n) .f32) (m : FVec Ideal (M2 1 n) .f32) (r : Fin k) (q : Fin n) :
    weights s m (ix2 r q) = Ideal.exp2 (s (ix2 r q) - m (ix2 0 q)) := by
  show Ideal.exp2 (s (ix2 r q) - rep k m (ix2 r q)) = _
  rw [rep_apply]

theorem slowTile_fst {k n : ℕ} (sc : FVec Ideal (M2 k n) .f32) (va : FVec Ideal (M2 80 k) .bf16) (c : Slow Ideal n) (q : Fin n) :
    (slowTile sc va c).1 (ix2 0 q) = max (c.1 (ix2 0 q)) (Finset.univ.sup fun r : Fin k => sc (ix2 r q)) := by
  show max (c.1 (ix2 0 q)) (colMax sc (ix2 0 q)) = _
  rw [colMax_apply]

theorem slowTile_snd {k n : ℕ} (sc : FVec Ideal (M2 k n) .f32) (va : FVec Ideal (M2 80 k) .bf16) (c : Slow Ideal n) (q : Fin n) (r : Fin 80) :
    (slowTile sc va c).2 (ix2 r q) = Ideal.exp2 (c.1 (ix2 0 q) - (slowTile sc va c).1 (ix2 0 q)) * c.2 (ix2 r q)
      + ∑ p : Fin k, va (ix2 r p) * Ideal.exp2 (sc (ix2 p q) - (slowTile sc va c).1 (ix2 0 q)) := by
  show rep 80 _ (ix2 r q) * c.2 (ix2 r q) + mm va (weights sc _) (ix2 r q) = _
  rw [rep_apply, mm_apply]
  congr 1
  exact Finset.sum_congr rfl fun p _ => by rw [weights_apply]; rfl

theorem fastTile_fst {k n : ℕ} (sc : FVec Ideal (M2 k n) .f32) (va : FVec Ideal (M2 80 k) .bf16) (c : Fast Ideal n) (q : Fin n) :
    (fastTile sc va c).1 (ix2 0 q) = max (c.1 (ix2 0 q)) (Finset.univ.sup fun r : Fin k => sc (ix2 r q)) := by
  show max (c.1 (ix2 0 q)) (colMax sc (ix2 0 q)) = _
  rw [colMax_apply]

theorem fastTile_acc {k n : ℕ} (sc : FVec Ideal (M2 k n) .f32) (va : FVec Ideal (M2 80 k) .bf16) (c : Fast Ideal n) (q : Fin n) (r : Fin 80) :
    (fastTile sc va c).2.1 (ix2 r q) = (c.2.1 (ix2 r q) + ∑ p : Fin k, va (ix2 r p) * Ideal.exp2 (sc (ix2 p q) - c.1 (ix2 0 q)))
      * Ideal.exp2 (c.1 (ix2 0 q) - (fastTile sc va c).1 (ix2 0 q)) := by
  show (c.2.1 (ix2 r q) + mm va (weights sc c.1) (ix2 r q)) * rep 80 _ (ix2 r q) = _
  rw [rep_apply, mm_apply]
  congr 2
  exact Finset.sum_congr rfl fun p _ => by rw [weights_apply]

theorem fastTile_hi {k n : ℕ} (sc : FVec Ideal (M2 k n) .f32) (va : FVec Ideal (M2 80 k) .bf16) (c : Fast Ideal n) (q : Fin n) :
    (fastTile sc va c).2.2.1 (ix2 0 q) = max (c.2.2.1 (ix2 0 q)) ((Finset.univ.sup fun r : Fin k => sc (ix2 r q)) - c.1 (ix2 0 q)) := by
  show max (c.2.2.1 (ix2 0 q)) (colMax sc (ix2 0 q) - c.1 (ix2 0 q)) = _
  rw [colMax_apply]

theorem fastTile_top {k n : ℕ} (sc : FVec Ideal (M2 k n) .f32) (va : FVec Ideal (M2 80 k) .bf16) (c : Fast Ideal n) (q : Fin n) :
    (fastTile sc va c).2.2.2 (ix2 0 q) = max (c.2.2.2 (ix2 0 q)) (Finset.univ.sup fun r : Fin k => sc (ix2 r q)) := by
  show max (c.2.2.2 (ix2 0 q)) (colMax sc (ix2 0 q)) = _
  rw [colMax_apply]

section Tile
variable {k n : ℕ} {sc : FVec Ideal (M2 k n) .f32} {va : FVec Ideal (M2 80 k) .bf16} {q : Fin n} {S : Finset ℕ} {s : ℕ → EReal}
  {V : Fin 80 → ℕ → EReal} {o : ℕ}

/-- A tile of keys that the column hasn't seen yet. -/
theorem slowTile_at {c : Slow Ideal n} (hc : SlowAt c q S s V) (hs : ∀ p : Fin k, sc (ix2 p q) = s (o + p.val))
    (hv : ∀ r p, va (ix2 r p) = V r (o + p.val)) (hd : Disjoint S (tile o k)) : SlowAt (slowTile sc va c) q (S ∪ tile o k) s V := by
  have h := slow_step hd hc
  have e : (slowTile sc va c).1 (ix2 0 q) = max (c.1 (ix2 0 q)) ((tile o k).sup s) := by
    rw [slowTile_fst, sup_tile]; simp only [hs]
  unfold SlowAt
  refine Eq.mp ?_ h
  rw [e]
  congr 1
  funext r
  rw [slowTile_snd, e, part_tile]
  simp only [hs, hv]

theorem fastTile_at {c : Fast Ideal n} (hc : FastAt c q S s V) (hs : ∀ p : Fin k, sc (ix2 p q) = s (o + p.val))
    (hv : ∀ r p, va (ix2 r p) = V r (o + p.val)) (hd : Disjoint S (tile o k)) : FastAt (fastTile sc va c) q (S ∪ tile o k) s V := by
  have h := fast_step hd hc
  have e : (fastTile sc va c).1 (ix2 0 q) = max (c.1 (ix2 0 q)) ((tile o k).sup s) := by
    rw [fastTile_fst, sup_tile]; simp only [hs]
  unfold FastAt
  refine Eq.mp ?_ h
  rw [fastTile_hi, fastTile_top]
  have e2 : (Finset.univ.sup fun r : Fin k => sc (ix2 r q)) = (tile o k).sup s := by rw [sup_tile]; simp only [hs]
  rw [e, e2]
  congr 1
  funext r
  rw [fastTile_acc, e, part_tile]
  simp only [hs, hv]

/-- A tile of keys that the column doesn't see. -/
theorem slowTile_unseen {c : Slow Ideal n} (hc : SlowAt c q S s V) (hs : ∀ p : Fin k, sc (ix2 p q) = ⊥) :
    SlowAt (slowTile sc va c) q S s V := by
  have h := slow_masked hc
  have e : (slowTile sc va c).1 (ix2 0 q) = max (c.1 (ix2 0 q)) ⊥ := by
    rw [slowTile_fst]; simp only [hs]; rw [Finset.sup_bot]
  unfold SlowAt
  refine Eq.mp ?_ h
  rw [e]
  congr 1
  funext r
  rw [slowTile_snd, e]
  simp only [hs]
  congr 1
  exact (Finset.sum_eq_zero fun p _ => by simp).symm

theorem fastTile_unseen {c : Fast Ideal n} (hc : FastAt c q S s V) (hs : ∀ p : Fin k, sc (ix2 p q) = ⊥) :
    FastAt (fastTile sc va c) q S s V := by
  have h := fast_masked hc
  have e : (fastTile sc va c).1 (ix2 0 q) = max (c.1 (ix2 0 q)) ⊥ := by
    rw [fastTile_fst]; simp only [hs]; rw [Finset.sup_bot]
  unfold FastAt
  refine Eq.mp ?_ h
  rw [fastTile_hi, fastTile_top]
  have e2 : (Finset.univ.sup fun r : Fin k => sc (ix2 r q)) = ⊥ := by simp only [hs]; rw [Finset.sup_bot]
  rw [e, e2]
  congr 1
  funext r
  rw [fastTile_acc, e]
  simp only [hs]
  congr 2
  exact (Finset.sum_eq_zero fun p _ => by simp).symm

end Tile

section Halves
variable {S : Finset ℕ} {s : ℕ → EReal} {V : Fin 80 → ℕ → EReal}

theorem slowHalf_at {c : Slow Ideal 2048} (p : Fin 2) (q : Fin 1024) (q' : Fin 2048)
    (h : q'.val = 512 * (q.val / 256) + 256 * p.val + q.val % 256) (hc : SlowAt c q' S s V) : SlowAt (slowHalf p c) q S s V := by
  unfold SlowAt slowHalf
  simp only [colHalf_apply p _ _ q q' h]; exact hc
theorem fastHalf_at {c : Fast Ideal 2048} (p : Fin 2) (q : Fin 1024) (q' : Fin 2048)
    (h : q'.val = 512 * (q.val / 256) + 256 * p.val + q.val % 256) (hc : FastAt c q' S s V) : FastAt (fastHalf p c) q S s V := by
  unfold FastAt fastHalf
  simp only [colHalf_apply p _ _ q q' h]; exact hc
theorem slowMerge_left {a b : Slow Ideal 1024} (q : Fin 2048) (q' : Fin 1024) (h0 : q.val % 512 < 256)
    (h : q'.val = 256 * (q.val / 512) + q.val % 256) (hc : SlowAt a q' S s V) : SlowAt (slowMerge a b) q S s V := by
  unfold SlowAt slowMerge
  simp only [colMerge_left _ _ _ q q' h0 h]; exact hc
theorem slowMerge_right {a b : Slow Ideal 1024} (q : Fin 2048) (q' : Fin 1024) (h0 : 256 ≤ q.val % 512)
    (h : q'.val = 256 * (q.val / 512) + q.val % 256) (hc : SlowAt b q' S s V) : SlowAt (slowMerge a b) q S s V := by
  unfold SlowAt slowMerge
  simp only [colMerge_right _ _ _ q q' h0 h]; exact hc
theorem fastMerge_left {a b : Fast Ideal 1024} (q : Fin 2048) (q' : Fin 1024) (h0 : q.val % 512 < 256)
    (h : q'.val = 256 * (q.val / 512) + q.val % 256) (hc : FastAt a q' S s V) : FastAt (fastMerge a b) q S s V := by
  unfold FastAt fastMerge
  simp only [colMerge_left _ _ _ q q' h0 h]; exact hc
theorem fastMerge_right {a b : Fast Ideal 1024} (q : Fin 2048) (q' : Fin 1024) (h0 : 256 ≤ q.val % 512)
    (h : q'.val = 256 * (q.val / 512) + q.val % 256) (hc : FastAt b q' S s V) : FastAt (fastMerge a b) q S s V := by
  unfold FastAt fastMerge
  simp only [colMerge_right _ _ _ q q' h0 h]; exact hc

end Halves

end Cert.KernelIdeal.Hand
-- ==== Proof.KernelIdeal.Branch.lean ====
module

public import proofs.«01_k».proof.Proof.KernelIdeal.Cols

@[expose] public section

noncomputable section

/-! One column through the two branches over the keys, at any scores: which keys it has seen at the end. -/

namespace Cert.KernelIdeal.Hand

open Idealize.ShloMosaic hiding ix2 ix1 ix3 ix4
open Idealize.SL.Sem Gen ValueIdx

/-- The column of a half. -/
def halfCol (q : Fin 2048) : Fin 1024 := ⟨256 * (q.val / 512) + q.val % 256, by have := q.isLt; omega⟩

theorem halfCol_left {q : Fin 2048} (h : q.val % 512 < 256) :
    q.val = 512 * ((halfCol q).val / 256) + 256 * (0 : Fin 2).val + (halfCol q).val % 256 := by
  show q.val = 512 * ((256 * (q.val / 512) + q.val % 256) / 256) + 256 * 0 + (256 * (q.val / 512) + q.val % 256) % 256
  omega
theorem halfCol_right {q : Fin 2048} (h : 256 ≤ q.val % 512) :
    q.val = 512 * ((halfCol q).val / 256) + 256 * (1 : Fin 2).val + (halfCol q).val % 256 := by
  show q.val = 512 * ((256 * (q.val / 512) + q.val % 256) / 256) + 256 * 1 + (256 * (q.val / 512) + q.val % 256) % 256
  omega

section
variable {S : Finset ℕ} {s : ℕ → EReal} {V : Fin 80 → ℕ → EReal} {o : ℕ} {q : Fin 2048}
  {sc : FVec Ideal (M2 256 2048) .f32} {va va' : FVec Ideal (M2 80 256) .bf16} {sc' : FVec Ideal (M2 256 1024) .f32}

/-- The queries' own tile: the left columns see its first half. -/
theorem slowDiag_left {c : Slow Ideal 2048} (h : q.val % 512 < 256) (hc : SlowAt c q S s V) (hs : ∀ p : Fin 256, sc (ix2 p q) = s (o + p.val))
    (hv : ∀ r p, va (ix2 r p) = V r (o + p.val)) (hd : Disjoint S (tile o 256)) :
    SlowAt (slowDiag sc va sc' va' c) q (S ∪ tile o 256) s V :=
  slowMerge_left q (halfCol q) h rfl (slowHalf_at 0 _ q (halfCol_left h) (slowTile_at hc hs hv hd))
theorem fastDiag_left {c : Fast Ideal 2048} (h : q.val % 512 < 256) (hc : FastAt c q S s V) (hs : ∀ p : Fin 256, sc (ix2 p q) = s (o + p.val))
    (hv : ∀ r p, va (ix2 r p) = V r (o + p.val)) (hd : Disjoint S (tile o 256)) :
    FastAt (fastDiag sc va sc' va' c) q (S ∪ tile o 256) s V :=
  fastMerge_left q (halfCol q) h rfl (fastHalf_at 0 _ q (halfCol_left h) (fastTile_at hc hs hv hd))

/-- … and the right columns both halves. -/
theorem slowDiag_right {c : Slow Ideal 2048} (h : 256 ≤ q.val % 512) (hc : SlowAt c q S s V) (hs : ∀ p : Fin 256, sc (ix2 p q) = s (o + p.val))
    (hv : ∀ r p, va (ix2 r p) = V r (o + p.val)) (hs' : ∀ p : Fin 256, sc' (ix2 p (halfCol q)) = s (o + 256 + p.val))
    (hv' : ∀ r p, va' (ix2 r p) = V r (o + 256 + p.val)) (hd : Disjoint S (tile o 256)) (hd' : Disjoint (S ∪ tile o 256) (tile (o + 256) 256)) :
    SlowAt (slowDiag sc va sc' va' c) q (S ∪ tile o 256 ∪ tile (o + 256) 256) s V :=
  slowMerge_right q (halfCol q) h rfl (slowTile_at (slowHalf_at 1 _ q (halfCol_right h) (slowTile_at hc hs hv hd)) hs' hv' hd')
theorem fastDiag_right {c : Fast Ideal 2048} (h : 256 ≤ q.val % 512) (hc : FastAt c q S s V) (hs : ∀ p : Fin 256, sc (ix2 p q) = s (o + p.val))
    (hv : ∀ r p, va (ix2 r p) = V r (o + p.val)) (hs' : ∀ p : Fin 256, sc' (ix2 p (halfCol q)) = s (o + 256 + p.val))
    (hv' : ∀ r p, va' (ix2 r p) = V r (o + 256 + p.val)) (hd : Disjoint S (tile o 256)) (hd' : Disjoint (S ∪ tile o 256) (tile (o + 256) 256)) :
    FastAt (fastDiag sc va sc' va' c) q (S ∪ tile o 256 ∪ tile (o + 256) 256) s V :=
  fastMerge_right q (halfCol q) h rfl (fastTile_at (fastHalf_at 1 _ q (halfCol_right h) (fastTile_at hc hs hv hd)) hs' hv' hd')

/-- The tile before: the right columns see its second half. -/
theorem slowPrev_right {c : Slow Ideal 2048} (h : 256 ≤ q.val % 512) (hc : SlowAt c q S s V) (hs : ∀ p : Fin 256, sc (ix2 p q) = s (o + 256 + p.val))
    (hv : ∀ r p, va (ix2 r p) = V r (o + 256 + p.val)) (hd : Disjoint S (tile (o + 256) 256)) :
    SlowAt (slowPrev sc va sc' va' c) q (S ∪ tile (o + 256) 256) s V :=
  slowMerge_right q (halfCol q) h rfl (slowHalf_at 1 _ q (halfCol_right h) (slowTile_at hc hs hv hd))
theorem fastPrev_right {c : Fast Ideal 2048} (h : 256 ≤ q.val % 512) (hc : FastAt c q S s V) (hs : ∀ p : Fin 256, sc (ix2 p q) = s (o + 256 + p.val))
    (hv : ∀ r p, va (ix2 r p) = V r (o + 256 + p.val)) (hd : Disjoint S (tile (o + 256) 256)) :
    FastAt (fastPrev sc va sc' va' c) q (S ∪ tile (o + 256) 256) s V :=
  fastMerge_right q (halfCol q) h rfl (fastHalf_at 1 _ q (halfCol_right h) (fastTile_at hc hs hv hd))

/-- … and the left columns both halves. -/
theorem slowPrev_left {c : Slow Ideal 2048} (h : q.val % 512 < 256) (hc : SlowAt c q S s V) (hs : ∀ p : Fin 256, sc (ix2 p q) = s (o + 256 + p.val))
    (hv : ∀ r p, va (ix2 r p) = V r (o + 256 + p.val)) (hs' : ∀ p : Fin 256, sc' (ix2 p (halfCol q)) = s (o + p.val))
    (hv' : ∀ r p, va' (ix2 r p) = V r (o + p.val)) (hd : Disjoint S (tile (o + 256) 256)) (hd' : Disjoint (S ∪ tile (o + 256) 256) (tile o 256)) :
    SlowAt (slowPrev sc va sc' va' c) q (S ∪ tile (o + 256) 256 ∪ tile o 256) s V :=
  slowMerge_left q (halfCol q) h rfl (slowTile_at (slowHalf_at 0 _ q (halfCol_left h) (slowTile_at hc hs hv hd)) hs' hv' hd')
theorem fastPrev_left {c : Fast Ideal 2048} (h : q.val % 512 < 256) (hc : FastAt c q S s V) (hs : ∀ p : Fin 256, sc (ix2 p q) = s (o + 256 + p.val))
    (hv : ∀ r p, va (ix2 r p) = V r (o + 256 + p.val)) (hs' : ∀ p : Fin 256, sc' (ix2 p (halfCol q)) = s (o + p.val))
    (hv' : ∀ r p, va' (ix2 r p) = V r (o + p.val)) (hd : Disjoint S (tile (o + 256) 256)) (hd' : Disjoint (S ∪ tile (o + 256) 256) (tile o 256)) :
    FastAt (fastPrev sc va sc' va' c) q (S ∪ tile (o + 256) 256 ∪ tile o 256) s V :=
  fastMerge_left q (halfCol q) h rfl (fastTile_at (fastHalf_at 0 _ q (halfCol_left h) (fastTile_at hc hs hv hd)) hs' hv' hd')

/-- … and nothing of it where there is none. -/
theorem slowPrev_unseen {c : Slow Ideal 2048} (hc : SlowAt c q S s V) (hs : ∀ p : Fin 256, sc (ix2 p q) = ⊥)
    (hs' : q.val % 512 < 256 → ∀ p : Fin 256, sc' (ix2 p (halfCol q)) = ⊥) : SlowAt (slowPrev sc va sc' va' c) q S s V := by
  by_cases h : q.val % 512 < 256
  · exact slowMerge_left q (halfCol q) h rfl (slowTile_unseen (slowHalf_at 0 _ q (halfCol_left h) (slowTile_unseen hc hs)) (hs' h))
  · exact slowMerge_right q (halfCol q) (by omega) rfl (slowHalf_at 1 _ q (halfCol_right (by omega)) (slowTile_unseen hc hs))
theorem fastPrev_unseen {c : Fast Ideal 2048} (hc : FastAt c q S s V) (hs : ∀ p : Fin 256, sc (ix2 p q) = ⊥)
    (hs' : q.val % 512 < 256 → ∀ p : Fin 256, sc' (ix2 p (halfCol q)) = ⊥) : FastAt (fastPrev sc va sc' va' c) q S s V := by
  by_cases h : q.val % 512 < 256
  · exact fastMerge_left q (halfCol q) h rfl (fastTile_unseen (fastHalf_at 0 _ q (halfCol_left h) (fastTile_unseen hc hs)) (hs' h))
  · exact fastMerge_right q (halfCol q) (by omega) rfl (fastHalf_at 1 _ q (halfCol_right (by omega)) (fastTile_unseen hc hs))

end

theorem fastInit_at (q : Fin 2048) (s : ℕ → EReal) (V : Fin 80 → ℕ → EReal) : FastAt (fastInit (F := Ideal)) q ∅ s V := by
  have h := fast_init s V
  have e0 : Ideal.ofBits .f32 0x00000000#32 = (0 : EReal) := Ideal.ofBits_zero_f32
  have e : Ideal.ofBits .f32 0xFF800000#32 = (⊥ : EReal) := by simp [Ideal.ofBits, Ideal.ieee]
  show FastOf ∅ s V (Ideal.ofBits .f32 0x00000000#32) (fun _ => Ideal.ofBits .f32 0x00000000#32) (Ideal.ofBits .f32 0xFF800000#32) (Ideal.ofBits .f32 0xFF800000#32)
  rw [e, e0]; exact h
theorem slowInit_at (q : Fin 2048) (s : ℕ → EReal) (V : Fin 80 → ℕ → EReal) : SlowAt (slowInit (F := Ideal)) q ∅ s V := by
  have h := slow_init s V
  have e0 : Ideal.ofBits .f32 0x00000000#32 = (0 : EReal) := Ideal.ofBits_zero_f32
  have e : Ideal.ofBits .f32 0xFF800000#32 = (⊥ : EReal) := by simp [Ideal.ofBits, Ideal.ieee]
  show SlowOf ∅ s V (Ideal.ofBits .f32 0xFF800000#32) (fun _ => Ideal.ofBits .f32 0x00000000#32)
  rw [e, e0]; exact h

theorem tile_add (n k : ℕ) : Finset.range n ∪ tile n k = Finset.range (n + k) := by
  ext p; simp only [tile, Finset.mem_union, Finset.mem_range, Finset.mem_Ico]; omega
theorem tile_disjoint (n k : ℕ) : Disjoint (Finset.range n) (tile n k) := by
  rw [Finset.disjoint_left]; intro p; simp only [tile, Finset.mem_range, Finset.mem_Ico]; omega

section Point
variable (i : grid0.Coords) (X : Ins Ideal) (q : Fin 2048) {s : ℕ → EReal} {V : Fin 80 → ℕ → EReal}

/-- Before tile `n` a column has seen the keys of the tiles before it. -/
theorem slowLoop_at (hs : ∀ (k : Fin (k0_t1_loop i).trips) (p : Fin 512), mm (ksTile i X k) (qSel i X) (ix2 p q) = s (512 * k.val + p.val))
    (hv : ∀ (k : Fin (k0_t1_loop i).trips) r (p : Fin 512), vsTile i X k (ix2 r p) = V r (512 * k.val + p.val)) (n : ℕ) (hn : n ≤ (k0_t1_loop i).trips) :
    SlowAt (slowLoop i X n) q (Finset.range (512 * n)) s V := by
  induction n with
  | zero => exact slowInit_at q s V
  | succ n ih =>
    have e : slowLoop i X (n + 1) = slowTile (mm (ksTile i X ⟨n, hn⟩) (qSel i X)) (vsTile i X ⟨n, hn⟩) (slowLoop i X n) := dif_pos (show n < _ from hn)
    rw [e, show 512 * (n + 1) = 512 * n + 512 from rfl, ← tile_add]
    exact slowTile_at (ih (Nat.le_of_lt hn)) (hs ⟨n, hn⟩) (hv ⟨n, hn⟩) (tile_disjoint _ _)
theorem fastLoop_at (hs : ∀ (k : Fin (k0_t1_loop i).trips) (p : Fin 512), mm (ksTile i X k) (qSel i X) (ix2 p q) = s (512 * k.val + p.val))
    (hv : ∀ (k : Fin (k0_t1_loop i).trips) r (p : Fin 512), vsTile i X k (ix2 r p) = V r (512 * k.val + p.val)) (n : ℕ) (hn : n ≤ (k0_t1_loop i).trips) :
    FastAt (fastLoop i X n) q (Finset.range (512 * n)) s V := by
  induction n with
  | zero => exact fastInit_at q s V
  | succ n ih =>
    have e : fastLoop i X (n + 1) = fastTile (mm (ksTile i X ⟨n, hn⟩) (qSel i X)) (vsTile i X ⟨n, hn⟩) (fastLoop i X n) := dif_pos (show n < _ from hn)
    rw [e, show 512 * (n + 1) = 512 * n + 512 from rfl, ← tile_add]
    exact fastTile_at (ih (Nat.le_of_lt hn)) (hs ⟨n, hn⟩) (hv ⟨n, hn⟩) (tile_disjoint _ _)

/-- What the selected branch reads of a column's scores and of the values. -/
structure SelReads (s : ℕ → EReal) (V : Fin 80 → ℕ → EReal) : Prop where
  trips : (k0_t1_loop i).trips = (i 2).val
  loopS : ∀ (k : Fin (k0_t1_loop i).trips) (p : Fin 512), mm (ksTile i X k) (qSel i X) (ix2 p q) = s (512 * k.val + p.val)
  loopV : ∀ (k : Fin (k0_t1_loop i).trips) r (p : Fin 512), vsTile i X k (ix2 r p) = V r (512 * k.val + p.val)
  ownS : ∀ p : Fin 256, selS i X 0 (ix2 p q) = s (512 * (i 2).val + p.val)
  ownV : ∀ r (p : Fin 256), selV i X 0 (ix2 r p) = V r (512 * (i 2).val + p.val)
  ownS' : 256 ≤ q.val % 512 → ∀ p : Fin 256, selS' i X 1 (ix2 p (halfCol q)) = s (512 * (i 2).val + 256 + p.val)
  ownV' : ∀ r (p : Fin 256), selV i X 1 (ix2 r p) = V r (512 * (i 2).val + 256 + p.val)

/-- The keys that a column of the selected branch has seen. -/
def seenS : Finset ℕ := if q.val % 512 < 256 then Finset.range (512 * (i 2).val + 256) else Finset.range (512 * (i 2).val + 512)

theorem slowSel_at (R : SelReads i X q s V) : SlowAt (slowSel i X) q (seenS i q) s V := by
  have h0 := slowLoop_at i X q R.loopS R.loopV _ le_rfl
  unfold slowSel
  rw [show Finset.range (512 * (k0_t1_loop i).trips) = Finset.range (512 * (i 2).val) by rw [R.trips]] at h0
  by_cases h : q.val % 512 < 256
  · rw [seenS, if_pos h, ← tile_add]
    exact slowDiag_left h h0 R.ownS R.ownV (tile_disjoint _ _)
  · rw [seenS, if_neg h, show 512 * (i 2).val + 512 = 512 * (i 2).val + 256 + 256 from rfl, ← tile_add, ← tile_add]
    refine slowDiag_right (by omega) h0 R.ownS R.ownV (R.ownS' (by omega)) R.ownV' (tile_disjoint _ _) ?_
    rw [tile_add]; exact tile_disjoint _ _
theorem fastSel_at (R : SelReads i X q s V) : FastAt (fastSel i X) q (seenS i q) s V := by
  have h0 := fastLoop_at i X q R.loopS R.loopV _ le_rfl
  unfold fastSel
  rw [show Finset.range (512 * (k0_t1_loop i).trips) = Finset.range (512 * (i 2).val) by rw [R.trips]] at h0
  by_cases h : q.val % 512 < 256
  · rw [seenS, if_pos h, ← tile_add]
    exact fastDiag_left h h0 R.ownS R.ownV (tile_disjoint _ _)
  · rw [seenS, if_neg h, show 512 * (i 2).val + 512 = 512 * (i 2).val + 256 + 256 from rfl, ← tile_add, ← tile_add]
    refine fastDiag_right (by omega) h0 R.ownS R.ownV (R.ownS' (by omega)) R.ownV' (tile_disjoint _ _) ?_
    rw [tile_add]; exact tile_disjoint _ _

/-- What the window's branch reads of a column's scores and of the values. -/
structure WinReads (s : ℕ → EReal) (V : Fin 80 → ℕ → EReal) : Prop where
  noneS : (i 2).val = 0 → ∀ p : Fin 256, preS i X 1 (ix2 p q) = ⊥
  noneS' : (i 2).val = 0 → q.val % 512 < 256 → ∀ p : Fin 256, preS' i X 0 (ix2 p (halfCol q)) = ⊥
  preS : 0 < (i 2).val → ∀ p : Fin 256, preS i X 1 (ix2 p q) = s (512 * ((i 2).val - 1) + 256 + p.val)
  preV : 0 < (i 2).val → ∀ r (p : Fin 256), preV i X 1 (ix2 r p) = V r (512 * ((i 2).val - 1) + 256 + p.val)
  preS' : 0 < (i 2).val → q.val % 512 < 256 → ∀ p : Fin 256, preS' i X 0 (ix2 p (halfCol q)) = s (512 * ((i 2).val - 1) + p.val)
  preV' : 0 < (i 2).val → ∀ r (p : Fin 256), Hand.preV i X 0 (ix2 r p) = V r (512 * ((i 2).val - 1) + p.val)
  ownS : ∀ p : Fin 256, winS i X 0 (ix2 p q) = s (512 * (i 2).val + p.val)
  ownV : ∀ r (p : Fin 256), winV i X 0 (ix2 r p) = V r (512 * (i 2).val + p.val)
  ownS' : 256 ≤ q.val % 512 → ∀ p : Fin 256, winS' i X 1 (ix2 p (halfCol q)) = s (512 * (i 2).val + 256 + p.val)
  ownV' : ∀ r (p : Fin 256), winV i X 1 (ix2 r p) = V r (512 * (i 2).val + 256 + p.val)

/-- The keys of the tile before that a column of the window's branch has seen. -/
def seenP : Finset ℕ :=
  if (i 2).val = 0 then ∅ else
    if q.val % 512 < 256 then ∅ ∪ tile (512 * ((i 2).val - 1) + 256) 256 ∪ tile (512 * ((i 2).val - 1)) 256
    else ∅ ∪ tile (512 * ((i 2).val - 1) + 256) 256
/-- The keys that it has seen. -/
def seenW : Finset ℕ :=
  if q.val % 512 < 256 then seenP i q ∪ tile (512 * (i 2).val) 256
  else seenP i q ∪ tile (512 * (i 2).val) 256 ∪ tile (512 * (i 2).val + 256) 256

theorem mem_seenP {p : ℕ} (h : p ∈ seenP i q) : p < 512 * (i 2).val := by
  unfold seenP at h
  split at h
  · exact absurd h (Finset.notMem_empty _)
  · split at h <;> simp only [tile, Finset.mem_union, Finset.mem_Ico, Finset.notMem_empty, false_or] at h <;> omega

theorem disjoint_pre (a b : ℕ) (h : a + 256 ≤ b ∨ b + 256 ≤ a) : Disjoint (∅ ∪ tile a 256) (tile b 256) := by
  rw [Finset.disjoint_left]; intro p; simp only [tile, Finset.mem_union, Finset.mem_Ico, Finset.notMem_empty, false_or]; omega
theorem disjoint_own : Disjoint (seenP i q) (tile (512 * (i 2).val) 256) := by
  rw [Finset.disjoint_left]; intro p hp; have := mem_seenP i q hp
  simp only [tile, Finset.mem_Ico]; omega
theorem disjoint_own' : Disjoint (seenP i q ∪ tile (512 * (i 2).val) 256) (tile (512 * (i 2).val + 256) 256) := by
  rw [Finset.disjoint_left]; intro p hp
  rcases Finset.mem_union.mp hp with hp | hp
  · have := mem_seenP i q hp; simp only [tile, Finset.mem_Ico]; omega
  · simp only [tile, Finset.mem_Ico] at hp ⊢; omega

theorem slowWin_at (R : WinReads i X q s V) : SlowAt (slowWin i X) q (seenW i q) s V := by
  have h0 : SlowAt (slowPrev (Hand.preS i X 1) (Hand.preV i X 1) (Hand.preS' i X 0) (Hand.preV i X 0) slowInit) q (seenP i q) s V := by
    by_cases hi : (i 2).val = 0
    · rw [seenP, if_pos hi]
      exact slowPrev_unseen (slowInit_at q s V) (R.noneS hi) (R.noneS' hi)
    · have hp : 0 < (i 2).val := Nat.pos_of_ne_zero hi
      rw [seenP, if_neg hi]
      by_cases h : q.val % 512 < 256
      · rw [if_pos h]
        exact slowPrev_left h (slowInit_at q s V) (R.preS hp) (R.preV hp) (R.preS' hp h) (R.preV' hp) (Finset.disjoint_empty_left _) (disjoint_pre _ _ (by omega))
      · rw [if_neg h]
        exact slowPrev_right (by omega) (slowInit_at q s V) (R.preS hp) (R.preV hp) (Finset.disjoint_empty_left _)
  unfold slowWin
  by_cases h : q.val % 512 < 256
  · rw [seenW, if_pos h]
    exact slowDiag_left h h0 R.ownS R.ownV (disjoint_own i q)
  · rw [seenW, if_neg h]
    exact slowDiag_right (by omega) h0 R.ownS R.ownV (R.ownS' (by omega)) R.ownV' (disjoint_own i q) (disjoint_own' i q)
theorem fastWin_at (R : WinReads i X q s V) : FastAt (fastWin i X) q (seenW i q) s V := by
  have h0 : FastAt (fastPrev (Hand.preS i X 1) (Hand.preV i X 1) (Hand.preS' i X 0) (Hand.preV i X 0) fastInit) q (seenP i q) s V := by
    by_cases hi : (i 2).val = 0
    · rw [seenP, if_pos hi]
      exact fastPrev_unseen (fastInit_at q s V) (R.noneS hi) (R.noneS' hi)
    · have hp : 0 < (i 2).val := Nat.pos_of_ne_zero hi
      rw [seenP, if_neg hi]
      by_cases h : q.val % 512 < 256
      · rw [if_pos h]
        exact fastPrev_left h (fastInit_at q s V) (R.preS hp) (R.preV hp) (R.preS' hp h) (R.preV' hp) (Finset.disjoint_empty_left _) (disjoint_pre _ _ (by omega))
      · rw [if_neg h]
        exact fastPrev_right (by omega) (fastInit_at q s V) (R.preS hp) (R.preV hp) (Finset.disjoint_empty_left _)
  unfold fastWin
  by_cases h : q.val % 512 < 256
  · rw [seenW, if_pos h]
    exact fastDiag_left h h0 R.ownS R.ownV (disjoint_own i q)
  · rw [seenW, if_neg h]
    exact fastDiag_right (by omega) h0 R.ownS R.ownV (R.ownS' (by omega)) R.ownV' (disjoint_own i q) (disjoint_own' i q)

end Point

end Cert.KernelIdeal.Hand
-- ==== Proof.KernelIdeal.Spec.lean ====
module

public import proofs.«01_k».proof.Proof.KernelIdeal.Soft

@[expose] public section

noncomputable section

/-! What the layer's attention is: three softmaxes over masked scores, the second one's mask the best sixteen blocks of keys. -/

namespace Cert.Spec

open Cert.KernelIdeal.Hand (attn exp2_nonneg)

/-- The arguments by their coordinates. -/
structure Args where
  q : Fin 4 → Fin 4096 → Fin 4 → Fin 4 → Fin 64 → EReal
  gate : Fin 4 → Fin 4096 → Fin 3 → Fin 4 → Fin 4 → EReal
  kc : Fin 4 → Fin 255 → Fin 4 → Fin 64 → EReal
  vc : Fin 4 → Fin 255 → Fin 4 → Fin 64 → EReal
  ks : Fin 4 → Fin 4096 → Fin 4 → Fin 64 → EReal
  vs : Fin 4 → Fin 4096 → Fin 4 → Fin 64 → EReal
  kw : Fin 4 → Fin 4096 → Fin 4 → Fin 64 → EReal
  vw : Fin 4 → Fin 4096 → Fin 4 → Fin 64 → EReal

variable (A : Args) (b : Fin 4) (t : Fin 4096) (h g : Fin 4)

/-- The scores of the compressed keys that end by the query. -/
def scoreC (c : Fin 255) : EReal := if 16 * c.val + 31 ≤ t.val then ∑ d, A.kc b c h d * A.q b t h g d else ⊥

/-- One where the compressed key `c` shares a position with the block `j`. -/
def overlap (j : Fin 64) (c : Fin 255) : EReal := if 16 * c.val < 64 * j.val + 64 ∧ 64 * j.val < 16 * c.val + 32 then 1 else 0

/-- The importance of a block of keys to a query's group of heads. -/
def imp (j : Fin 64) : EReal := ∑ g, attn (scoreC A b t h g) (overlap j)

/-- The first block, the query's and the one before it. -/
def Forced (j : Fin 64) : Prop := j.val = 0 ∨ j.val = t.val / 64 ∨ j.val + 1 = t.val / 64
instance (j : Fin 64) : Decidable (Forced t j) := by unfold Forced; infer_instance

def score (j : Fin 64) : EReal :=
  if Forced t j ∧ 64 * j.val ≤ t.val then 10000 else if 64 * j.val ≤ t.val then imp A b t h j else -1

/-- Block `i` ranks before block `j`. -/
def Before (f : Fin 64 → EReal) (i j : Fin 64) : Prop := f j < f i ∨ (f i = f j ∧ i < j)

open Classical in
/-- How many blocks rank before `j`. -/
def rank (f : Fin 64 → EReal) (j : Fin 64) : ℕ := (Finset.univ.filter fun i => Before f i j).card

/-- The best sixteen blocks, of those that begin by the query. -/
def Chosen (j : Fin 64) : Prop := rank (score A b t h) j < 16 ∧ 64 * j.val ≤ t.val

def blockOf (p : Fin 4096) : Fin 64 := ⟨p.val / 64, by have := p.isLt; omega⟩

open Classical in
def scoreS (p : Fin 4096) : EReal :=
  if Chosen A b t h (blockOf p) ∧ p.val ≤ t.val then ∑ d, A.ks b p h d * A.q b t h g d else ⊥

def scoreW (p : Fin 4096) : EReal :=
  if p.val ≤ t.val ∧ t.val < p.val + 512 then ∑ d, A.kw b p h d * A.q b t h g d else ⊥

/-- The attention. -/
def out (d : Fin 64) : EReal :=
  A.gate b t 0 h g * attn (scoreC A b t h g) (fun c => A.vc b c h d)
    + A.gate b t 1 h g * attn (scoreS A b t h g) (fun p => A.vs b p h d)
    + A.gate b t 2 h g * attn (scoreW A b t h g) (fun p => A.vw b p h d)

theorem overlap_nonneg (j : Fin 64) (c : Fin 255) : 0 ≤ overlap j c := by
  unfold overlap; split
  · exact zero_le_one
  · exact le_refl _

theorem exp_nonneg (x : EReal) : 0 ≤ Idealize.ShloMosaic.Ideal.exp x := by
  induction x with
  | bot => exact le_refl _
  | top => exact le_top
  | coe r => exact EReal.coe_nonneg.mpr (Real.exp_pos r).le

theorem attn_nonneg {ι : Type} [Fintype ι] (s v : ι → EReal) (hv : ∀ p, 0 ≤ v p) : 0 ≤ attn s v := by
  unfold attn
  refine mul_nonneg (Finset.sum_nonneg fun p _ => mul_nonneg (hv p) (exp_nonneg _)) ?_
  exact EReal.inv_nonneg_of_nonneg (Finset.sum_nonneg fun p _ => exp_nonneg _)

theorem imp_nonneg (j : Fin 64) : 0 ≤ imp A b t h j := Finset.sum_nonneg fun g _ => attn_nonneg _ _ (overlap_nonneg j)

/-- A block begins by the query exactly where its score isn't negative. -/
theorem score_nonneg_iff (j : Fin 64) : 0 ≤ score A b t h j ↔ 64 * j.val ≤ t.val := by
  unfold score
  by_cases hv : 64 * j.val ≤ t.val
  · refine ⟨fun _ => hv, fun _ => ?_⟩
    split
    · norm_num
    · exact imp_nonneg A b t h j
  · refine ⟨fun h0 => ?_, fun h => absurd h hv⟩
    rw [if_neg (fun h => hv h.2), if_neg hv] at h0
    exact absurd h0 (by norm_num)

end Cert.Spec
-- ==== Proof.KernelIdeal.Ints.lean ====
module

public import Idealize.ShloMosaic.Lib.Affine
public import Idealize.ShloMosaic.Lib.ValueIdx
public import Idealize.ShloMosaic.Lib.IdealHost
public import proofs.«01_k».proof.Proof.KernelIdeal.Soft

@[expose] public section

/-! Words as natural numbers, and comparisons as propositions. -/

namespace Cert.Words

open Idealize.ShloMosaic
open ValueIdx

variable {a b : ℕ}

theorem isNat (h : a < 2 ^ 31) : Affine.IsInt (BitVec.ofNat 32 a) (a : ℤ) := Affine.ofNat a ⟨rfl, h⟩

theorem sle_nat (ha : a < 2 ^ 31) (hb : b < 2 ^ 31) : IntOp.cmpi .sle (BitVec.ofNat 32 a) (BitVec.ofNat 32 b) = 1#1 ↔ a ≤ b :=
  ⟨fun h => by by_contra hc; exact Affine.sle_fails (isNat ha) (isNat hb) (by omega) h, fun h => Affine.sle_holds (isNat ha) (isNat hb) (by omega)⟩
theorem slt_nat (ha : a < 2 ^ 31) (hb : b < 2 ^ 31) : IntOp.cmpi .slt (BitVec.ofNat 32 a) (BitVec.ofNat 32 b) = 1#1 ↔ a < b :=
  ⟨fun h => by by_contra hc; exact Affine.slt_fails (isNat ha) (isNat hb) (by omega) h, fun h => Affine.slt_holds (isNat ha) (isNat hb) (by omega)⟩
theorem sge_nat (ha : a < 2 ^ 31) (hb : b < 2 ^ 31) : IntOp.cmpi .sge (BitVec.ofNat 32 a) (BitVec.ofNat 32 b) = 1#1 ↔ b ≤ a :=
  ⟨fun h => by by_contra hc; exact Affine.sge_fails (isNat ha) (isNat hb) (by omega) h, fun h => Affine.sge_holds (isNat ha) (isNat hb) (by omega)⟩
theorem sgt_nat (ha : a < 2 ^ 31) (hb : b < 2 ^ 31) : IntOp.cmpi .sgt (BitVec.ofNat 32 a) (BitVec.ofNat 32 b) = 1#1 ↔ b < a :=
  ⟨fun h => by by_contra hc; exact Affine.sgt_fails (isNat ha) (isNat hb) (by omega) h, fun h => Affine.sgt_holds (isNat ha) (isNat hb) (by omega)⟩
theorem eq_nat (ha : a < 2 ^ 31) (hb : b < 2 ^ 31) : IntOp.cmpi .eq (BitVec.ofNat 32 a) (BitVec.ofNat 32 b) = 1#1 ↔ a = b :=
  ⟨fun h => by by_contra hc; exact Affine.eq_fails (isNat ha) (isNat hb) (by omega) h, fun h => Affine.eq_holds (isNat ha) (isNat hb) (by omega)⟩

theorem add_nat : IntOp.addi (BitVec.ofNat 32 a) (BitVec.ofNat 32 b) = BitVec.ofNat 32 (a + b) := (BitVec.ofNat_add a b).symm
theorem mul_nat : IntOp.muli (BitVec.ofNat 32 a) (BitVec.ofNat 32 b) = BitVec.ofNat 32 (a * b) := (BitVec.ofNat_mul a b).symm
theorem sub_nat (h : b ≤ a) : IntOp.subi (BitVec.ofNat 32 a) (BitVec.ofNat 32 b) = BitVec.ofNat 32 (a - b) := by
  have e : BitVec.ofNat 32 a = BitVec.ofNat 32 (a - b) + BitVec.ofNat 32 b := by rw [← BitVec.ofNat_add]; congr 1; omega
  show BitVec.ofNat 32 a - BitVec.ofNat 32 b = _
  rw [e, BitVec.add_sub_cancel]

theorem and_one {x y : BitVec 1} : IntOp.andi x y = 1#1 ↔ x = 1#1 ∧ y = 1#1 := by revert x y; decide
theorem or_one {x y : BitVec 1} : IntOp.ori x y = 1#1 ↔ x = 1#1 ∨ y = 1#1 := by revert x y; decide

theorem select_eq {α : Type} {c : BitVec 1} {p : Prop} [Decidable p] (h : c = 1#1 ↔ p) (x y : α) : Scalar.select c x y = if p then x else y := by
  by_cases hp : p
  · rw [if_pos hp, h.mpr hp]; rfl
  · rw [if_neg hp, eq_zero_of_ne_one fun hc => hp (h.mp hc)]; rfl

/-- A comparison's bit, as a number. -/
theorem bit_real {c : BitVec 1} {p : Prop} [Decidable p] (h : c = 1#1 ↔ p) : (((c.setWidth 32).toInt : ℝ) : EReal) = if p then 1 else 0 := by
  by_cases hp : p
  · rw [if_pos hp, h.mpr hp]
    have : ((1#1 : BitVec 1).setWidth 32).toInt = 1 := by decide
    rw [this]; norm_num
  · rw [if_neg hp, eq_zero_of_ne_one fun hc => hp (h.mp hc)]
    have : ((0#1 : BitVec 1).setWidth 32).toInt = 0 := by decide
    rw [this]; norm_num

theorem ofBool_one {b : Bool} : BitVec.ofBool b = 1#1 ↔ b = true := by revert b; decide
theorem cmp_oge (x y : EReal) : Ideal.cmp .oge x y = 1#1 ↔ y ≤ x := by
  show BitVec.ofBool (decide (y ≤ x)) = 1#1 ↔ _
  rw [ofBool_one, decide_eq_true_iff]
theorem cmp_ogt (x y : EReal) : Ideal.cmp .ogt x y = 1#1 ↔ y < x := by
  show BitVec.ofBool (decide (y < x)) = 1#1 ↔ _
  rw [ofBool_one, decide_eq_true_iff]
theorem cmp_olt (x y : EReal) : Ideal.cmp .olt x y = 1#1 ↔ x < y := by
  show BitVec.ofBool (decide (x < y)) = 1#1 ↔ _
  rw [ofBool_one, decide_eq_true_iff]

/-- The branch's own test: nonzero exactly where the comparison holds. -/
theorem test_iff (c : BitVec 1) : Scalar.cmpi .ne (Scalar.extui c : BitVec 32) 0#32 = 1#1 ↔ c = 1#1 := by revert c; decide

theorem lit_one : Ideal.ofBits .f32 0x3F800000#32 = (1 : EReal) := Ideal.ofBits_one_f32
theorem lit_zero : Ideal.ofBits .f32 0x00000000#32 = (0 : EReal) := Ideal.ofBits_zero_f32
theorem lit_neg_one : Ideal.ofBits .f32 0xBF800000#32 = (-1 : EReal) := by
  simp [Ideal.ofBits, Ideal.ieee]; norm_num; exact congrArg (fun x : ℝ => (x : EReal)) (by norm_num : (8388608 : ℝ) * (1 / 8388608) = 1)
theorem lit_sixteen : Ideal.ofBits .f32 0x41800000#32 = (16 : EReal) := by
  simp [Ideal.ofBits, Ideal.ieee]; norm_num; exact congrArg (fun x : ℝ => (x : EReal)) (by norm_num : (8388608 : ℝ) * (1 / 524288) = 16)
theorem lit_sixty : Ideal.ofBits .f32 0x42700000#32 = (60 : EReal) := by
  simp [Ideal.ofBits, Ideal.ieee]; norm_num; exact congrArg (fun x : ℝ => (x : EReal)) (by norm_num : (15728640 : ℝ) * (1 / 262144) = 60)
theorem lit_first : Ideal.ofBits .f32 0x461C4000#32 = (10000 : EReal) := by
  simp [Ideal.ofBits, Ideal.ieee]; norm_num; exact congrArg (fun x : ℝ => (x : EReal)) (by norm_num : (10240000 : ℝ) * (1 / 1024) = 10000)
theorem lit_bot : Ideal.ofBits .f32 0xFF800000#32 = (⊥ : EReal) := by simp [Ideal.ofBits, Ideal.ieee]
theorem lit_top : Ideal.ofBits .f32 0x7F800000#32 = (⊤ : EReal) := by simp [Ideal.ofBits, Ideal.ieee]

end Cert.Words
-- ==== Proof.KernelIdeal.Keep.lean ====
module

public import proofs.«01_k».proof.Proof.KernelIdeal.Rank
public import proofs.«01_k».proof.Proof.KernelIdeal.Spec
public import proofs.«01_k».proof.Proof.KernelIdeal.Ints
public import Idealize.ShloMosaic.Lib.Pipeline.Value
public import Idealize.ShloMosaic.Lib.Pointwise.Reshape

@[expose] public section

noncomputable section

/-! The kernel's count of the blocks that rank before a block, and the blocks it keeps. -/

namespace Cert.KernelIdeal.Hand

open Idealize.ShloMosaic hiding ix2 ix1 ix3 ix4
open Idealize.SL.Sem Gen ValueIdx Cert.Words Cert.Spec

variable (sc : FVec Ideal S64x512 .f32)

/-- A block's score, at one query. -/
def colOf (u : Fin 512) (j : Fin 64) : EReal := sc (ix2 j u)

theorem rowOf_apply (i : Fin 64) (e : Fin 8) (u : Fin 512) : rowOf sc i (ix2 e u) = colOf sc u i := by
  unfold rowOf
  refine (broadcastTo_apply _ _ _ (ix2 (0 : Fin 1) u) ?_).trans ?_
  · intro b; fin_cases b
    · rfl
    · rfl
  rw [shapeCast_self]
  refine extractStridedSlice_apply _ _ _ _ (ix2 i u) ?_
  intro b; fin_cases b
  · exact (Nat.add_zero _).symm
  · exact (Nat.zero_add _).symm

def rowAt (v e : Fin 8) : Fin 64 := ⟨8 * v.val + e.val, by have := v.isLt; have := e.isLt; omega⟩

theorem groupOf_apply (v e : Fin 8) (u : Fin 512) : groupOf sc v (ix2 e u) = colOf sc u (rowAt v e) := by
  refine extractStridedSlice_apply _ _ _ _ (ix2 (rowAt v e) u) ?_
  intro b; fin_cases b
  · rfl
  · exact (Nat.zero_add _).symm

theorem bit_apply (b : IVec S8x512 1) (j : S8x512.Idx) {p : Prop} [Decidable p] (h : b j = 1#1 ↔ p) : bit (F := Ideal) b j = if p then 1 else 0 := by
  show Scalar.select (b j) (Ideal.ofBits .f32 0x3F800000#32) (Ideal.ofBits .f32 0x00000000#32) = _
  rw [lit_one, lit_zero]; exact select_eq h _ _

theorem bit_ge (v e : Fin 8) (i : Fin 64) (u : Fin 512) : bit (F := Ideal) (cmpf .oge (rowOf sc i) (groupOf sc v)) (ix2 e u) = if colOf sc u (rowAt v e) ≤ colOf sc u i then 1 else 0 := by
  refine bit_apply _ _ ?_
  show Ideal.cmp .oge (rowOf sc i (ix2 e u)) (groupOf sc v (ix2 e u)) = 1#1 ↔ _
  rw [cmp_oge, rowOf_apply, groupOf_apply]
theorem bit_gt (v e : Fin 8) (i : Fin 64) (u : Fin 512) : bit (F := Ideal) (cmpf .ogt (rowOf sc i) (groupOf sc v)) (ix2 e u) = if colOf sc u (rowAt v e) < colOf sc u i then 1 else 0 := by
  refine bit_apply _ _ ?_
  show Ideal.cmp .ogt (rowOf sc i (ix2 e u)) (groupOf sc v (ix2 e u)) = 1#1 ↔ _
  rw [cmp_ogt, rowOf_apply, groupOf_apply]

theorem before_lt {f : Fin 64 → EReal} {i j : Fin 64} (h : i < j) : Before f i j ↔ f j ≤ f i :=
  ⟨fun h' => h'.elim le_of_lt fun h' => h'.1.ge, fun h' => (lt_or_eq_of_le h').elim .inl fun e => .inr ⟨e.symm, h⟩⟩
theorem before_ge {f : Fin 64 → EReal} {i j : Fin 64} (h : ¬i < j) : Before f i j ↔ f j < f i :=
  ⟨fun h' => h'.elim id fun h' => absurd h'.2 h, .inl⟩

open Classical in
theorem beats_apply (v e : Fin 8) (i : Fin 64) (u : Fin 512) : beats sc v i (ix2 e u) = if Before (colOf sc u) i (rowAt v e) then 1 else 0 := by
  have hv : (rowAt v e).val = 8 * v.val + e.val := rfl
  have he := e.isLt
  have hge := bit_ge sc v e i u
  have hgt := bit_gt sc v e i u
  unfold beats
  by_cases h1 : i.val < 8 * v.val
  · have hij : i < rowAt v e := by rw [Fin.lt_def]; omega
    rw [show Nat.blt i.val (8 * v.val) = true by simpa [Nat.blt_eq] using h1, cond_true, hge]
    simp only [before_lt hij]
  · rw [show Nat.blt i.val (8 * v.val) = false by rw [Bool.eq_false_iff]; simpa [Nat.blt_eq] using h1, cond_false]
    by_cases h2 : 8 * v.val + 7 ≤ i.val
    · have hij : ¬i < rowAt v e := by rw [Fin.lt_def]; omega
      rw [show Nat.ble (8 * v.val + 7) i.val = true by simpa using h2, cond_true, hgt]
      simp only [before_ge hij]
    · rw [show Nat.ble (8 * v.val + 7) i.val = false by rw [Bool.eq_false_iff]; simpa using h2, cond_false]
      rw [select_apply, hge, hgt]
      have hs : (broadcastTo S8x512 (shapeCast S8x1 (cmpi .sgt (iota .tc S8x1 32 [0] iota_S8x1_d0_w32)
          (broadcast S8x1 (BitVec.ofNat 32 (i.val - 8 * v.val)))) shapeCasts_S8x1_S8x1) broadcasts_S8x1_S8x512) (ix2 e u) = 1#1 ↔ i < rowAt v e := by
        rw [broadcastTo_apply _ _ _ (ix2 e (0 : Fin 1)) (by
          intro b; fin_cases b
          · rfl
          · rfl), shapeCast_self]
        show IntOp.cmpi .sgt (BitVec.ofNat 32 (0 * 8 + e.val)) (BitVec.ofNat 32 (i.val - 8 * v.val)) = 1#1 ↔ _
        have := i.isLt
        rw [sgt_nat (by omega) (by omega), Fin.lt_def]; omega
      rw [select_eq hs]
      by_cases hij : i < rowAt v e
      · rw [if_pos hij]; simp only [before_lt hij]
      · rw [if_neg hij]; simp only [before_ge hij]

open Classical in
/-- How many of the first `n` blocks rank before a block. -/
def countN (f : Fin 64 → EReal) (j : Fin 64) (n : ℕ) : ℕ := (Finset.univ.filter fun i : Fin 64 => Before f i j ∧ i.val < n).card

open Classical in
theorem countN_succ (f : Fin 64 → EReal) (j : Fin 64) (n : ℕ) (h : n < 64) :
    countN f j (n + 1) = countN f j n + if Before f ⟨n, h⟩ j then 1 else 0 := by
  unfold countN
  by_cases hb : Before f ⟨n, h⟩ j
  · rw [if_pos hb, ← Finset.card_insert_of_notMem (a := (⟨n, h⟩ : Fin 64)) (by simp)]
    congr 1; ext i
    simp only [Finset.mem_filter, Finset.mem_univ, true_and, Finset.mem_insert, Fin.ext_iff]
    constructor
    · rintro ⟨h1, h2⟩
      by_cases e : i.val = n
      · exact .inl e
      · exact .inr ⟨h1, by omega⟩
    · rintro (h1 | ⟨h1, h2⟩)
      · have : i = ⟨n, h⟩ := Fin.ext h1
        exact ⟨this ▸ hb, by omega⟩
      · exact ⟨h1, by omega⟩
  · rw [if_neg hb]
    refine (congrArg Finset.card (Finset.ext fun i => ?_)).trans (Nat.add_zero _).symm
    simp only [Finset.mem_filter, Finset.mem_univ, true_and]
    constructor
    · rintro ⟨h1, h2⟩
      have : i.val ≠ n := fun e => hb ((show i = ⟨n, h⟩ from Fin.ext e) ▸ h1)
      exact ⟨h1, by omega⟩
    · rintro ⟨h1, h2⟩; exact ⟨h1, by omega⟩

theorem countOf_apply (v e : Fin 8) (u : Fin 512) (n : ℕ) (h : n ≤ 64) : countOf sc v n h (ix2 e u) = ((countN (colOf sc u) (rowAt v e) n : ℕ) : EReal) := by
  classical
  induction n with
  | zero =>
    show Ideal.ofBits .f32 0x00000000#32 = _
    rw [lit_zero]; simp [countN]
  | succ n ih =>
    show countOf sc v n _ (ix2 e u) + beats sc v ⟨n, h⟩ (ix2 e u) = _
    rw [ih, beats_apply, countN_succ _ _ _ h]
    push_cast
    split <;> simp

theorem keepOf_apply (v e : Fin 8) (u : Fin 512) (n : ℕ) (h : n ≤ 64) : keepOf sc n h v (ix2 e u) = if countN (colOf sc u) (rowAt v e) n < 16 then 0 else -1 := by
  show Scalar.select (Ideal.cmp .olt (countOf sc v n h (ix2 e u)) (Ideal.ofBits .f32 0x41800000#32)) (Ideal.ofBits .f32 0x00000000#32) (Ideal.ofBits .f32 0xBF800000#32) = _
  rw [lit_zero, lit_neg_one]
  refine select_eq ?_ _ _
  rw [cmp_olt, countOf_apply, lit_sixteen]
  exact_mod_cast Iff.rfl

/-- Blocks of negative score never rank before one that isn't, so they needn't be counted. -/
theorem countN_eq_rank {f : Fin 64 → EReal} {j : Fin 64} {n : ℕ} (hj : 0 ≤ f j) (hn : ∀ i : Fin 64, n ≤ i.val → f i < 0) : countN f j n = rank f j := by
  unfold countN rank
  congr 1; ext i
  simp only [Finset.mem_filter, Finset.mem_univ, true_and]
  refine ⟨fun h => h.1, fun h => ⟨h, ?_⟩⟩
  by_contra hc
  have hi := hn i (by omega)
  rcases h with h | ⟨h, _⟩
  · exact absurd (h.trans hi) (not_lt.mpr hj)
  · exact absurd (h ▸ hi) (not_lt.mpr hj)

/-- With at most sixteen blocks to rank, each is among the best sixteen. -/
theorem rank_lt_of_few {f : Fin 64 → EReal} {j : Fin 64} (hj : 0 ≤ f j) (hf : ∀ i : Fin 64, 16 ≤ i.val → f i < 0) : rank f j < 16 := by
  classical
  have hlt : j.val < 16 := by by_contra hc; exact absurd (hf j (by omega)) (not_lt.mpr hj)
  have h := countN_eq_rank hj hf
  have hs : countN f j 16 ≤ ((Finset.univ.filter fun i : Fin 64 => i.val < 16).erase j).card := by
    unfold countN
    refine Finset.card_le_card fun i hi => ?_
    simp only [Finset.mem_filter, Finset.mem_univ, true_and, Finset.mem_erase] at hi ⊢
    refine ⟨?_, hi.2⟩
    rintro rfl
    rcases hi.1 with h | ⟨_, h⟩ <;> exact lt_irrefl _ h
  have hc : (Finset.univ.filter fun i : Fin 64 => i.val < 16).card = 16 := by decide
  rw [Finset.card_erase_of_mem (by simp [hlt]), hc] at hs
  omega

section Concat
variable {α : Type}

/-- A concatenation of groups of eight rows, at a row of one of them. -/
theorem cat8 (xs : List ((s : Shape) × (s.Idx → α))) (h : Shape.Concatenates (xs.map (·.1)) S64x512 0) (j : Fin 64) (u : Fin 512) (k : ℕ) (hk : k < xs.length)
    (x : S8x512.Idx → α) (hx : xs[k] = ⟨S8x512, x⟩)
    (hpre : (((xs.take k).map (·.1)).map fun s => if h : s.rank = S64x512.rank then s.size ((0 : Fin 2).cast h.symm) else 0).sum = 8 * k)
    (hj : j.val / 8 = k) : concatenate S64x512 0 xs h (ix2 j u) = x (ix2 (⟨j.val % 8, Nat.mod_lt _ (by omega)⟩ : Fin 8) u) := by
  refine concatenate_apply_piece 0 xs h (ix2 j u) k hk S8x512 x hx rfl (8 * k) hpre (ix2 (⟨j.val % 8, Nat.mod_lt _ (by omega)⟩ : Fin 8) u) ?_ ?_
  · intro b hb; fin_cases b
    · exact absurd rfl hb
    · rfl
  · show 8 * k + j.val % 8 = j.val; omega
end Concat

def grp (j : Fin 64) : Fin 8 := ⟨j.val / 8, by have := j.isLt; omega⟩
def sub8 (j : Fin 64) : Fin 8 := ⟨j.val % 8, Nat.mod_lt _ (by omega)⟩

theorem rowAt_grp (j : Fin 64) : rowAt (grp j) (sub8 j) = j := Fin.ext (Nat.div_add_mod _ _)

/-- What a query tile keeps of a block in its range. -/
theorem keepAt_group (valid : IVec S64x512 1) (i : Fin 8) (hi : 2 ≤ i.val) (j : Fin 64) (u : Fin 512) (hj : j.val / 8 ≤ i.val) (hn : 8 * (i.val + 1) ≤ 64) :
    keepAt valid sc i (ix2 j u) = keepOf sc (8 * (i.val + 1)) hn (grp j) (ix2 (sub8 j) u) := by
  have e : ∀ v : Fin 8, j.val / 8 = v.val → grp j = v := fun v h => Fin.ext h
  have hc : ∃ v : Fin 8, v.val ≤ i.val ∧ j.val / 8 = v.val := ⟨grp j, hj, rfl⟩
  obtain ⟨v, hv, hjv⟩ := hc
  rw [e v hjv]
  clear hj e
  fin_cases i <;> (try (exact absurd hi (by decide))) <;> fin_cases v <;>
    first
      | (exact absurd hv (by decide))
      | (exact cat8 _ (by first | exact concatenates_S8x512_S8x512_S8x512_S40x512_S64x512_d0 | exact concatenates_S8x512_S8x512_S8x512_S8x512_S32x512_S64x512_d0 | exact concatenates_S8x512_S8x512_S8x512_S8x512_S8x512_S24x512_S64x512_d0 | exact concatenates_S8x512_S8x512_S8x512_S8x512_S8x512_S8x512_S16x512_S64x512_d0 | exact concatenates_S8x512_S8x512_S8x512_S8x512_S8x512_S8x512_S8x512_S8x512_S64x512_d0) j u _ (by simp) _ rfl rfl hjv)

theorem keepAt_few (valid : IVec S64x512 1) (i : Fin 8) (hi : i.val < 2) (j : Fin 64) (u : Fin 512) {p : Prop} [Decidable p] (hv : valid (ix2 j u) = 1#1 ↔ p) :
    keepAt valid sc i (ix2 j u) = if p then 0 else -1 := by
  have e : keepAt valid sc i = select valid (broadcast S64x512 (Scalar.ofBits .f32 0x00000000#32)) (broadcast S64x512 (Scalar.ofBits .f32 0xBF800000#32)) := by
    fin_cases i <;> first | rfl | exact absurd hi (by decide)
  rw [e]
  show Scalar.select (valid (ix2 j u)) (Ideal.ofBits .f32 0x00000000#32) (Ideal.ofBits .f32 0xBF800000#32) = _
  rw [lit_zero, lit_neg_one]
  exact select_eq hv _ _

/-- A block that begins by the query is kept exactly where fewer than sixteen rank before it. -/
theorem keepAt_apply (valid : IVec S64x512 1) (i : Fin 8) (j : Fin 64) (u : Fin 512) (hj : 64 * j.val ≤ 512 * i.val + u.val)
    (hvalid : valid (ix2 j u) = 1#1 ↔ 64 * j.val ≤ 512 * i.val + u.val)
    (hs : ∀ k : Fin 64, 0 ≤ colOf sc u k ↔ 64 * k.val ≤ 512 * i.val + u.val) :
    keepAt valid sc i (ix2 j u) = if rank (colOf sc u) j < 16 then 0 else -1 := by
  have hu := u.isLt
  have hneg : ∀ k : Fin 64, 8 * (i.val + 1) ≤ k.val → colOf sc u k < 0 := fun k hk => by
    rw [← not_le, hs]; omega
  have h0 : 0 ≤ colOf sc u j := (hs j).mpr hj
  by_cases hi : 2 ≤ i.val
  · rw [keepAt_group sc valid i hi j u (by omega) (by have := i.isLt; omega), keepOf_apply, rowAt_grp, countN_eq_rank h0 hneg]
  · rw [keepAt_few sc valid i (by omega) j u hvalid, if_pos hj, if_pos (rank_lt_of_few h0 fun k hk => hneg k (by omega))]

end Cert.KernelIdeal.Hand
-- ==== Proof.KernelIdeal.Entries.lean ====
module

public import proofs.«01_k».proof.Proof.KernelIdeal.Branch
public import proofs.«01_k».proof.Proof.KernelIdeal.Keep
public import Idealize.ShloMosaic.Lib.Pipeline.ValueKit.Tiles

@[expose] public section

noncomputable section

/-! The kernel's queries, positions, keys and values at an index, as entries of the arrays that it reads. -/

namespace Cert.KernelIdeal.Hand

open Idealize.ShloMosaic hiding ix2 ix1 ix3 ix4
open Idealize.SL.Sem Gen ValueIdx Cert.Words Cert.Spec

/-- A column's head and its query in the tile. -/
def headOf (q : Fin 2048) : Fin 4 := ⟨q.val / 512, by have := q.isLt; omega⟩
def subOf (q : Fin 2048) : Fin 512 := ⟨q.val % 512, Nat.mod_lt _ (by omega)⟩

/-- Four arrays side by side, read at a column. -/
theorem cat4 {α : Type} {r : ℕ} (a b c d : (M2 r 512).Idx → α) (h : Shape.Concatenates [M2 r 512, M2 r 512, M2 r 512, M2 r 512] (M2 r 2048) 1)
    (f : Fin 4 → (M2 r 512).Idx → α) (h0 : f 0 = a) (h1 : f 1 = b) (h2 : f 2 = c) (h3 : f 3 = d) (k : Fin r) (q : Fin 2048) :
    concatenate (M2 r 2048) 1 [⟨M2 r 512, a⟩, ⟨M2 r 512, b⟩, ⟨M2 r 512, c⟩, ⟨M2 r 512, d⟩] h (ix2 k q) = f (headOf q) (ix2 k (subOf q)) := by
  have hq := q.isLt
  have h4 : q.val / 512 = 0 ∨ q.val / 512 = 1 ∨ q.val / 512 = 2 ∨ q.val / 512 = 3 := by omega
  rcases h4 with h4 | h4 | h4 | h4
  · rw [show headOf q = 0 from Fin.ext h4, h0]
    refine concatenate_apply_piece 1 _ _ (ix2 k q) 0 (by simp) (M2 r 512) _ rfl rfl 0 rfl (ix2 k (subOf q)) ?_ ?_
    · intro b hb; fin_cases b; · rfl
      · exact absurd rfl hb
    · show 0 + q.val % 512 = q.val; omega
  · rw [show headOf q = 1 from Fin.ext h4, h1]
    refine concatenate_apply_piece 1 _ _ (ix2 k q) 1 (by simp) (M2 r 512) _ rfl rfl 512 rfl (ix2 k (subOf q)) ?_ ?_
    · intro b hb; fin_cases b; · rfl
      · exact absurd rfl hb
    · show 512 + q.val % 512 = q.val; omega
  · rw [show headOf q = 2 from Fin.ext h4, h2]
    refine concatenate_apply_piece 1 _ _ (ix2 k q) 2 (by simp) (M2 r 512) _ rfl rfl 1024 rfl (ix2 k (subOf q)) ?_ ?_
    · intro b hb; fin_cases b; · rfl
      · exact absurd rfl hb
    · show 1024 + q.val % 512 = q.val; omega
  · rw [show headOf q = 3 from Fin.ext h4, h3]
    refine concatenate_apply_piece 1 _ _ (ix2 k q) 3 (by simp) (M2 r 512) _ rfl rfl 1536 rfl (ix2 k (subOf q)) ?_ ?_
    · intro b hb; fin_cases b; · rfl
      · exact absurd rfl hb
    · show 1536 + q.val % 512 = q.val; omega

/-- Two arrays one above the other, read in the first or the second. -/
theorem stack_top {α : Type} {m k n : ℕ} {l : List ((s : Shape) × (s.Idx → α))} (x : (M2 k n).Idx → α)
    (h : Shape.Concatenates (((⟨M2 k n, x⟩ :: l : List ((s : Shape) × (s.Idx → α)))).map (·.1)) (M2 m n) 0) (e : Fin m) (q : Fin n) (e' : Fin k) (he : e.val = e'.val) :
    concatenate (M2 m n) 0 (⟨M2 k n, x⟩ :: l) h (ix2 e q) = x (ix2 e' q) := by
  refine concatenate_apply_piece 0 _ _ (ix2 e q) 0 (by simp) (M2 k n) _ rfl rfl 0 rfl (ix2 e' q) ?_ ?_
  · intro b hb; fin_cases b
    · exact absurd rfl hb
    · rfl
  · show 0 + e'.val = e.val; omega
theorem stack_second {α : Type} {m k k' n : ℕ} {l : List ((s : Shape) × (s.Idx → α))} (x : (M2 k n).Idx → α) (y : (M2 k' n).Idx → α)
    (h : Shape.Concatenates (((⟨M2 k n, x⟩ :: ⟨M2 k' n, y⟩ :: l : List ((s : Shape) × (s.Idx → α)))).map (·.1)) (M2 m n) 0) (e : Fin m) (q : Fin n) (e' : Fin k')
    (he : e.val = k + e'.val) : concatenate (M2 m n) 0 (⟨M2 k n, x⟩ :: ⟨M2 k' n, y⟩ :: l) h (ix2 e q) = y (ix2 e' q) := by
  refine concatenate_apply_piece 0 _ _ (ix2 e q) 1 (by simp) (M2 k' n) _ rfl rfl k (by simp) (ix2 e' q) ?_ ?_
  · intro b hb; fin_cases b
    · exact absurd rfl hb
    · rfl
  · show k + e'.val = e.val; omega
theorem stack_third {α : Type} {m k k' k'' n : ℕ} {l : List ((s : Shape) × (s.Idx → α))} (x : (M2 k n).Idx → α) (y : (M2 k' n).Idx → α) (z : (M2 k'' n).Idx → α)
    (h : Shape.Concatenates (((⟨M2 k n, x⟩ :: ⟨M2 k' n, y⟩ :: ⟨M2 k'' n, z⟩ :: l : List ((s : Shape) × (s.Idx → α)))).map (·.1)) (M2 m n) 0) (e : Fin m) (q : Fin n)
    (e' : Fin k'') (he : e.val = k + k' + e'.val) :
    concatenate (M2 m n) 0 (⟨M2 k n, x⟩ :: ⟨M2 k' n, y⟩ :: ⟨M2 k'' n, z⟩ :: l) h (ix2 e q) = z (ix2 e' q) := by
  refine concatenate_apply_piece 0 _ _ (ix2 e q) 2 (by simp) (M2 k'' n) _ rfl rfl (k + k') (by simp) (ix2 e' q) ?_ ?_
  · intro b hb; fin_cases b
    · exact absurd rfl hb
    · rfl
  · show k + k' + e'.val = e.val; omega

section Point
variable (i : grid0.Coords) (X : Ins Ideal)

/-- The grid point's batch, head of keys and tile of queries. -/
def batch : Fin 4 := i 0
def kvHead : Fin 4 := i 1
def qTile : Fin 8 := i 2

/-- A query's position. -/
def posOf (u : Fin 512) : Fin 4096 := ⟨512 * (qTile i).val + u.val, by have := (qTile i).isLt; have := u.isLt; omega⟩

def rowQ (g : Fin 4) (d : Fin 64) : Fin 256 := ⟨64 * g.val + d.val, by have := g.isLt; have := d.isLt; omega⟩

theorem qHead_apply (g : Fin 4) (d : Fin 64) (u : Fin 512) : qHead X g (ix2 d u) = X.q (ix2 (rowQ g d) u) := by
  refine View.ld_unit_apply_of _ _ _ _ _ (ix2 (rowQ g d) u) ?_
  intro a; fin_cases a
  · rfl
  · exact (Nat.zero_add _).symm

theorem qAll_apply (d : Fin 64) (q : Fin 2048) : qAll X (ix2 d q) = X.q (ix2 (rowQ (headOf q) d) (subOf q)) := by
  refine (cat4 _ _ _ _ concatenates_S64x512_S64x512_S64x512_S64x512_S64x2048_d1 (fun g => qHead X g) ?_ ?_ ?_ ?_ d q).trans (qHead_apply X _ _ _)
  all_goals exact (shapeCast_self _ _).symm

/-- The head of a pair that the queries belong to. -/
def odd : Fin 2 := ⟨(kvHead i).val % 2, Nat.mod_lt _ (by omega)⟩

/-- The pair's rows for a head of keys: its queries in one half, zeros in the other. -/
theorem pair_of (n : Fin 4) (a : FVec Ideal S64x2048 .bf16) :
    (have v1 := Scalar.select (Scalar.cmpi .eq 2#32 0#32) 1#32 2#32
     have v2 := Scalar.remsi (BitVec.ofNat 32 n.val) v1
     have v9 := Scalar.select (Scalar.andi (Scalar.xori (Scalar.cmpi .slt v2 0#32) (Scalar.cmpi .slt v1 0#32)) (Scalar.cmpi .ne v2 0#32)) (Scalar.addi v2 v1) v2
     Scalar.cmpi .eq v9 1#32) = BitVec.ofBool (decide (n.val % 2 = 1)) := by
  revert n; decide

theorem qPair_eq : qPair i X = concatenate S128x2048 0
    [⟨S64x2048, Scalar.select (BitVec.ofBool (decide ((kvHead i).val % 2 = 1))) (broadcast S64x2048 (FloatOps.ofBits (F := Ideal) .bf16 0x0000#16)) (qAll X)⟩,
     ⟨S64x2048, Scalar.select (BitVec.ofBool (decide ((kvHead i).val % 2 = 1))) (qAll X) (broadcast S64x2048 (FloatOps.ofBits (F := Ideal) .bf16 0x0000#16))⟩]
    concatenates_S64x2048_S64x2048_S128x2048_d0 := by
  rw [← pair_of (kvHead i) (qAll X)]
  rfl

theorem zero_bf16 : Ideal.ofBits .bf16 0x0000#16 = (0 : EReal) := by simp [Ideal.ofBits, Ideal.ieee]

theorem qPair_apply (r : Fin 2) (d : Fin 64) (e : Fin 128) (he : e.val = 64 * r.val + d.val) (q : Fin 2048) :
    qPair i X (ix2 e q) = if r = odd i then qAll X (ix2 d q) else 0 := by
  rw [qPair_eq]
  have h2 : ∀ o : Fin 2, o = 0 ∨ o = 1 := by decide
  have hc : BitVec.ofBool (decide ((kvHead i).val % 2 = 1)) = 1#1 ↔ odd i = 1 :=
    (show _ ↔ (kvHead i).val % 2 = 1 by by_cases h : (kvHead i).val % 2 = 1 <;> simp [h]).trans ⟨fun h => Fin.ext h, fun h => congrArg Fin.val h⟩
  rcases h2 r with rfl | rfl
  · refine (stack_top (m := 128) (l := [⟨S64x2048, _⟩]) _ concatenates_S64x2048_S64x2048_S128x2048_d0 e q d (by simpa using he)).trans ?_
    rw [select_eq hc]
    rcases h2 (odd i) with h | h <;> rw [h]
    · rfl
    · exact zero_bf16
  · refine (stack_second (m := 128) (l := []) _ _ concatenates_S64x2048_S64x2048_S128x2048_d0 e q d (by simpa using he)).trans ?_
    rw [select_eq hc]
    rcases h2 (odd i) with h | h <;> rw [h]
    · exact zero_bf16
    · rfl

/-- The queries above the kept blocks' rows, above zeros. -/
theorem qSel_top (e : Fin 256) (e' : Fin 128) (he : e.val = e'.val) (q : Fin 2048) : qSel i X (ix2 e q) = qPair i X (ix2 e' q) :=
  stack_top (m := 256) (l := [⟨S64x2048, _⟩, ⟨S64x2048, _⟩]) _ concatenates_S128x2048_S64x2048_S64x2048_S256x2048_d0 e q e' he
theorem qSel_keep (e : Fin 256) (j : Fin 64) (he : e.val = 128 + j.val) (q : Fin 2048) :
    qSel i X (ix2 e q) = keepAt (k0_pay2221 (k0_pay2206 i)) (bScore i X) (i 2) (ix2 j (subOf q)) := by
  refine (stack_second (m := 256) (l := [⟨S64x2048, _⟩]) _ _ concatenates_S128x2048_S64x2048_S64x2048_S256x2048_d0 e q j he).trans ?_
  exact cat4 _ _ _ _ concatenates_S64x512_S64x512_S64x512_S64x512_S64x2048_d1
    (fun _ => truncf .bf16 (keepAt (k0_pay2221 (k0_pay2206 i)) (bScore i X) (i 2)) bitsLt_bf16_f32) rfl rfl rfl rfl j q
theorem qSel_zero (e : Fin 256) (j : Fin 64) (he : e.val = 192 + j.val) (q : Fin 2048) : qSel i X (ix2 e q) = 0 :=
  (stack_third (m := 256) (l := []) _ _ _ concatenates_S128x2048_S64x2048_S64x2048_S256x2048_d0 e q j (by omega)).trans zero_bf16

/-! Positions. -/

theorem pos_apply (u : Fin 512) : k0_pay2206 i (ix2 0 u) = BitVec.ofNat 32 (posOf i u).val := by
  show IntOp.addi (IntOp.muli (BitVec.ofNat 32 (qTile i).val) (BitVec.ofNat 32 512)) (BitVec.ofNat 32 (0 * 512 + u.val)) = _
  rw [mul_nat, add_nat]
  congr 1
  show (qTile i).val * 512 + (0 * 512 + u.val) = 512 * (qTile i).val + u.val
  omega

theorem tp_apply (q : Fin 2048) : tp i (ix2 0 q) = BitVec.ofNat 32 (posOf i (subOf q)).val :=
  (cat4 (k0_pay2206 i) _ _ _ concatenates_S1x512_S1x512_S1x512_S1x512_S1x2048_d1 (fun _ => k0_pay2206 i) rfl rfl rfl rfl 0 q).trans (pos_apply i _)

theorem keyPos_apply (r : ℕ) (p : Fin 256) : keyPos (BitVec.ofNat 32 r) (ix2 p 0) = BitVec.ofNat 32 (r + p.val) := by
  show IntOp.addi (BitVec.ofNat 32 r) (BitVec.ofNat 32 (0 * 256 + p.val)) = _
  rw [add_nat]; congr 1; omega

theorem col_apply {α : Type} {k n : ℕ} (x : (M2 k 1).Idx → α) (p : Fin k) (q : Fin n) : broadcastTo (M2 k n) x (broadcasts_col k n) (ix2 p q) = x (ix2 p 0) := by
  refine broadcastTo_apply _ _ _ _ fun b => ?_
  fin_cases b
  · show p.val = if k = 1 then 0 else p.val
    split
    · have := p.isLt; omega
    · rfl
  · rfl
theorem row_apply {α : Type} {k n : ℕ} (x : (M2 1 n).Idx → α) (p : Fin k) (q : Fin n) : broadcastTo (M2 k n) x (broadcasts_row k n) (ix2 p q) = x (ix2 0 q) := by
  refine broadcastTo_apply _ _ _ _ fun b => ?_
  fin_cases b
  · rfl
  · show q.val = if n = 1 then 0 else q.val
    split
    · have := q.isLt; omega
    · rfl

theorem causal_apply {n : ℕ} (r : ℕ) (t : IVec (M2 1 n) 32) (p : Fin 256) (q : Fin n) (tv : ℕ) (ht : t (ix2 0 q) = BitVec.ofNat 32 tv)
    (hr : r < 4096) (htv : tv < 4096) : causal (BitVec.ofNat 32 r) t (ix2 p q) = 1#1 ↔ r + p.val ≤ tv := by
  have := p.isLt
  unfold causal
  show IntOp.cmpi .sle (broadcastTo (M2 256 n) (keyPos (BitVec.ofNat 32 r)) (broadcasts_col 256 n) (ix2 p q)) (broadcastTo (M2 256 n) t (broadcasts_row 256 n) (ix2 p q)) = 1#1 ↔ _
  rw [col_apply, row_apply, keyPos_apply, ht, sle_nat (by omega) (by omega)]

theorem recent_apply {n : ℕ} (s r : ℕ) (t : IVec (M2 1 n) 32) (p : Fin 256) (q : Fin n) (tv : ℕ) (ht : t (ix2 0 q) = BitVec.ofNat 32 tv)
    (hr : r + p.val ≤ tv) (hs : s < 4096) (htv : tv < 4096) :
    recent (BitVec.ofNat 32 s) (BitVec.ofNat 32 r) t (ix2 p q) = 1#1 ↔ tv < r + p.val + 512 ∧ 512 ≤ s := by
  unfold recent
  show IntOp.andi (IntOp.cmpi .slt (IntOp.subi (broadcastTo (M2 256 n) t (broadcasts_row 256 n) (ix2 p q))
    (broadcastTo (M2 256 n) (keyPos (BitVec.ofNat 32 r)) (broadcasts_col 256 n) (ix2 p q))) (BitVec.ofNat 32 512))
    (IntOp.cmpi .sge (BitVec.ofNat 32 s) (BitVec.ofNat 32 512)) = 1#1 ↔ _
  rw [and_one, col_apply, row_apply, keyPos_apply, ht, sub_nat hr, slt_nat (by omega) (by omega), sge_nat (by omega) (by omega)]
  exact and_congr (by omega) Iff.rfl
theorem recent_none {n : ℕ} (s : ℕ) (r : BitVec 32) (t : IVec (M2 1 n) 32) (p : Fin 256) (q : Fin n) (hs : s < 512) :
    ¬recent (BitVec.ofNat 32 s) r t (ix2 p q) = 1#1 := by
  unfold recent
  intro h
  have h' : IntOp.cmpi .sge (BitVec.ofNat 32 s) (BitVec.ofNat 32 512) = 1#1 := (and_one.mp h).2
  rw [sge_nat (by omega) (by omega)] at h'
  omega

theorem masked_apply {k n : ℕ} (vis : IVec (M2 k n) 1) (s : FVec Ideal (M2 k n) .f32) (p : Fin k) (q : Fin n) {P : Prop} [Decidable P]
    (h : vis (ix2 p q) = 1#1 ↔ P) : masked vis s (ix2 p q) = if P then s (ix2 p q) else ⊥ := by
  have e : (Named.named (F := Ideal) κ "mask" 0xF149F2CA#32 : Ideal .f32) = (⊥ : EReal) := IdealRules.named_const.ideal_named_scalar _ _ _ _ rfl
  show Scalar.select (vis (ix2 p q)) (s (ix2 p q)) (Named.named (F := Ideal) κ "mask" 0xF149F2CA#32) = _
  rw [e]; exact select_eq h _ _

theorem s0_eq : s0 i = BitVec.ofNat 32 (512 * (qTile i).val) := by
  show IntOp.muli (BitVec.ofNat 32 (qTile i).val) (BitVec.ofNat 32 512) = _
  rw [mul_nat, Nat.mul_comm]
theorem own_eq (r : Fin 2) : Scalar.addi (s0 i) (BitVec.ofNat 32 (256 * r.val)) = BitVec.ofNat 32 (512 * (qTile i).val + 256 * r.val) := by
  rw [s0_eq]; exact add_nat
theorem sPrev_eq : sPrev i = BitVec.ofNat 32 (512 * ((qTile i).val - 1)) := by
  unfold sPrev s0 qTile
  generalize (i 2) = n
  change Fin 8 at n
  revert n; decide
theorem prev_eq (r : Fin 2) : Scalar.addi (sPrev i) (BitVec.ofNat 32 (256 * r.val)) = BitVec.ofNat 32 (512 * ((qTile i).val - 1) + 256 * r.val) := by
  rw [sPrev_eq]; exact add_nat

theorem trips_eq : (k0_t1_loop i).trips = (i 2).val := by
  unfold k0_t1_loop
  generalize (i 2) = n
  change Fin 8 at n
  revert n; decide

theorem off1_eq (k : Fin (k0_t1_loop i).trips) : k0_off1 i k = ![0, 512 * k.val, 0] := by
  have hk : k.val < 8 := lt_of_lt_of_le k.isLt (by rw [trips_eq]; exact le_of_lt (i 2).isLt)
  have h : ∀ n : Fin 8, (Scalar.indexCast (Scalar.muli (Scf.iv 0#32 1#32 n.val) 512#32) : Index).toNat = 512 * n.val := by decide
  unfold k0_off1
  exact congrArg (fun x : ℕ => ![0, x, 0]) (h ⟨k.val, hk⟩)
theorem off2_eq (k : Fin (k0_t1_loop i).trips) : k0_off2 i k = ![0, 512 * k.val] := by
  have hk : k.val < 8 := lt_of_lt_of_le k.isLt (by rw [trips_eq]; exact le_of_lt (i 2).isLt)
  have h : ∀ n : Fin 8, (Scalar.indexCast (Scalar.muli (Scf.iv 0#32 1#32 n.val) 512#32) : Index).toNat = 512 * n.val := by decide
  unfold k0_off2
  exact congrArg (fun x : ℕ => ![0, x]) (h ⟨k.val, hk⟩)
theorem own_nat : ∀ (n : Fin 8) (r : Fin 2), (Scalar.indexCast (Scalar.addi (Scalar.muli (BitVec.ofNat 32 n.val) 512#32) (BitVec.ofNat 32 (256 * r.val))) : Index).toNat = 512 * n.val + 256 * r.val := by
  decide
theorem prev_nat : ∀ (n : Fin 8) (r : Fin 2), (Scalar.indexCast (Scalar.addi (Scalar.maxsi (Scalar.subi (Scalar.muli (BitVec.ofNat 32 n.val) 512#32) 512#32) 0#32) (BitVec.ofNat 32 (256 * r.val))) : Index).toNat = 512 * (n.val - 1) + 256 * r.val := by
  decide
theorem off5_eq (r : Fin 2) : k0_off5 i (BitVec.ofNat 32 (256 * r.val)) = ![0, 512 * (qTile i).val + 256 * r.val, 0] := by
  unfold k0_off5
  exact congrArg (fun x : ℕ => ![0, x, 0]) (own_nat (qTile i) r)
theorem off6_eq (r : Fin 2) : k0_off6 i (BitVec.ofNat 32 (256 * r.val)) = ![0, 512 * (qTile i).val + 256 * r.val] := by
  unfold k0_off6
  exact congrArg (fun x : ℕ => ![0, x]) (own_nat (qTile i) r)
theorem off9_eq (r : Fin 2) : k0_off9 i (BitVec.ofNat 32 (256 * r.val)) = ![512 * (qTile i).val + 256 * r.val, 0] := by
  unfold k0_off9
  exact congrArg (fun x : ℕ => ![x, 0]) (own_nat (qTile i) r)
theorem off7_eq (r : Fin 2) : k0_off7 i (BitVec.ofNat 32 (256 * r.val)) = ![512 * ((qTile i).val - 1) + 256 * r.val, 0] := by
  unfold k0_off7
  exact congrArg (fun x : ℕ => ![x, 0]) (prev_nat (qTile i) r)
theorem off8_eq (r : Fin 2) : k0_off8 i (BitVec.ofNat 32 (256 * r.val)) = ![0, 512 * ((qTile i).val - 1) + 256 * r.val] := by
  unfold k0_off8
  exact congrArg (fun x : ℕ => ![0, x]) (prev_nat (qTile i) r)

/-! Keys and values. -/

theorem ksTile_apply (k : Fin (k0_t1_loop i).trips) (p : Fin 512) (e : Fin 256) (p' : Fin 4096) (hp : p'.val = 512 * k.val + p.val) :
    ksTile i X k (ix2 p e) = X.ks (ix3 0 p' e) := by
  refine (shapeCast_apply _ _ (ix2 p e) (ix3 (0 : Fin 1) p e) ?_).trans (View.ld_unit_apply_of _ _ _ _ _ (ix3 0 p' e) ?_)
  · rw [rowMajor_val3 _ (512 * 256) 256 rfl rfl, rowMajor_val2 _ 256 rfl]
    show 0 * _ + p.val * 256 + e.val = p.val * 256 + e.val
    omega
  · intro a; refine Eq.trans ?_ (congrArg (· + _) (congrFun (off1_eq i k) a).symm); fin_cases a
    · rfl
    · exact hp
    · exact (Nat.zero_add _).symm

theorem ksHalf_apply (r : Fin 2) (p e : Fin 256) (p' : Fin 4096) (hp : p'.val = 512 * (qTile i).val + 256 * r.val + p.val) :
    ksHalf X (k0_off5 i (BitVec.ofNat 32 (256 * r.val))) (k0_off5_inb i r) (ix2 p e) = X.ks (ix3 0 p' e) := by
  refine (shapeCast_apply _ _ (ix2 p e) (ix3 (0 : Fin 1) p e) ?_).trans (View.ld_unit_apply_of _ _ _ _ _ (ix3 0 p' e) ?_)
  · rw [rowMajor_val3 _ (256 * 256) 256 rfl rfl, rowMajor_val2 _ 256 rfl]
    show 0 * _ + p.val * 256 + e.val = p.val * 256 + e.val
    omega
  · intro a; refine Eq.trans ?_ (congrArg (· + _) (congrFun (off5_eq i r) a).symm); fin_cases a
    · rfl
    · exact hp
    · exact (Nat.zero_add _).symm

theorem kwHalf_apply (off : Fin 2 → ℕ) (o : ℕ) (ho : off = ![o, 0]) (h : ∀ a, off a + S256x128.size a ≤ S4096x128.size a) (p : Fin 256) (e : Fin 128) (p' : Fin 4096)
    (hp : p'.val = o + p.val) : kwHalf X off h (ix2 p e) = X.kw (ix2 p' e) := by
  subst ho
  unfold kwHalf
  refine (congrFun (shapeCast_self _ _) _).trans ?_
  refine View.ld_unit_apply_of _ _ _ _ _ (ix2 p' e) ?_
  intro a; fin_cases a
  · exact hp
  · exact (Nat.zero_add _).symm

/-- The values above a row of ones. -/
def rowsOf (v : Fin 4096 → Fin 64 → EReal) (r : Fin 80) (p : ℕ) : EReal :=
  if hr : r.val < 64 then (if hp : p < 4096 then v ⟨p, hp⟩ ⟨r.val, hr⟩ else 0) else if r.val = 64 then 1 else 0

theorem rowsOf_value (v : Fin 4096 → Fin 64 → EReal) (r : Fin 80) (d : Fin 64) (hr : r.val = d.val) (p : Fin 4096) : rowsOf v r p.val = v p d := by
  have h : r.val < 64 := by have := d.isLt; omega
  unfold rowsOf
  rw [dif_pos h, dif_pos p.isLt]
  congr 1; exact Fin.ext hr
theorem rowsOf_one (v : Fin 4096 → Fin 64 → EReal) (r : Fin 80) (hr : r.val = 64) : rowsOf v r = fun _ => 1 := by
  funext p
  unfold rowsOf
  rw [dif_neg (by omega), if_pos hr]

theorem ones_row {n : ℕ} (x : FVec Ideal (M2 16 n) .bf16) (e : Fin 16) (p : Fin n)
    (h : x (ix2 e p) = ((((IntOp.cmpi .eq (BitVec.ofNat 32 (0 * 16 + e.val)) (BitVec.ofNat 32 0)).setWidth 32).toInt : ℝ) : EReal)) :
    x (ix2 e p) = if e.val = 0 then 1 else 0 := by
  have := e.isLt
  rw [h, bit_real (p := e.val = 0)]
  rw [eq_nat (by omega) (by omega)]; omega

theorem withOnes_apply {n : ℕ} (ones : FVec Ideal (M2 16 n) .bf16) (v : FVec Ideal (M2 64 n) .bf16) (p : Fin n) (p' : Fin 4096) (w : Fin 4096 → Fin 64 → EReal)
    (h1 : ∀ e : Fin 16, ones (ix2 e p) = if e.val = 0 then 1 else 0) (hv : ∀ d, v (ix2 d p) = w p' d) (r : Fin 80) :
    withOnes ones v (ix2 r p) = rowsOf w r p'.val := by
  have := r.isLt
  by_cases hr : r.val < 64
  · rw [rowsOf_value w r ⟨r.val, hr⟩ rfl, ← hv]
    exact stack_top (m := 80) (l := [⟨M2 16 n, ones⟩]) v (concat_rows2 64 16 n) r p ⟨r.val, hr⟩ rfl
  · refine (stack_second (m := 80) (l := []) v ones (concat_rows2 64 16 n) r p ⟨r.val - 64, by omega⟩ (by show r.val = 64 + (r.val - 64); omega)).trans ?_
    rw [h1]
    unfold rowsOf
    rw [dif_neg hr]
    show (if r.val - 64 = 0 then (1 : EReal) else 0) = if r.val = 64 then 1 else 0
    congr 1
    exact propext (by omega)

theorem vsTile_apply (w : Fin 4096 → Fin 64 → EReal) (hw : ∀ d p, X.vs (ix2 d p) = w p d) (k : Fin (k0_t1_loop i).trips) (r : Fin 80) (p : Fin 512) :
    vsTile i X k (ix2 r p) = rowsOf w r (512 * k.val + p.val) := by
  have hk : k.val < 8 := lt_of_lt_of_le k.isLt (by rw [trips_eq]; exact le_of_lt (i 2).isLt)
  have hp := p.isLt
  refine withOnes_apply _ _ p ⟨512 * k.val + p.val, by omega⟩ w (fun e => ones_row _ e p rfl) (fun d => ?_) r
  refine (congrFun (shapeCast_self _ _) _).trans ?_
  rw [← hw]
  refine View.ld_unit_apply_of _ _ _ _ _ (ix2 d (⟨512 * k.val + p.val, by omega⟩ : Fin 4096)) ?_
  intro a; refine Eq.trans ?_ (congrArg (· + _) (congrFun (off2_eq i k) a).symm); fin_cases a
  · exact (Nat.zero_add _).symm
  · rfl

theorem vHalf_apply (v : Vec Ideal S64x4096 .bf16) (w : Fin 4096 → Fin 64 → EReal) (hw : ∀ d p, v (ix2 d p) = w p d) (off : Fin 2 → ℕ) (o : ℕ) (ho : off = ![0, o])
    (h : ∀ a, off a + S64x256.size a ≤ S64x4096.size a) (r : Fin 80) (p : Fin 256) (hb : o + p.val < 4096) : vHalf v off h (ix2 r p) = rowsOf w r (o + p.val) := by
  subst ho
  refine withOnes_apply _ _ p ⟨o + p.val, hb⟩ w (fun e => ones_row _ e p rfl) (fun d => ?_) r
  refine (congrFun (shapeCast_self _ _) _).trans ?_
  rw [← hw]
  refine View.ld_unit_apply_of _ _ _ _ _ (ix2 d (⟨o + p.val, hb⟩ : Fin 4096)) ?_
  intro a; fin_cases a
  · exact (Nat.zero_add _).symm
  · rfl

end Point

end Cert.KernelIdeal.Hand
-- ==== Proof.KernelIdeal.Sums.lean ====
module

public import proofs.«01_k».proof.Proof.KernelIdeal.Entries

@[expose] public section

noncomputable section

/-! The kernel's selected and sliding-window sums, divided by their row of ones, are the specification's softmaxes. -/

namespace Cert.KernelIdeal.Hand

open Idealize.ShloMosaic hiding ix2 ix1 ix3 ix4
open Idealize.SL.Sem Gen ValueIdx Cert.Words Cert.Spec

/-- A head of keys in the pair that another belongs to. -/
def pairHead (h : Fin 4) (r : Fin 2) : Fin 4 := ⟨2 * (h.val / 2) + r.val, by have := h.isLt; have := r.isLt; omega⟩

/-- What a grid point's windows hold of the arguments. -/
structure Reads (A : Args) (i : grid0.Coords) (X : Ins Ideal) : Prop where
  q : ∀ (g : Fin 4) (d : Fin 64) (u : Fin 512), X.q (ix2 (rowQ g d) u) = A.q (batch i) (posOf i u) (kvHead i) g d * perLog
  gate : ∀ (k : Fin 3) (g : Fin 4) (u : Fin 512), X.gate (ix4 k 0 g u) = A.gate (batch i) (posOf i u) k (kvHead i) g
  kc : ∀ (c : Fin 256) (d : Fin 64), X.kc (ix4 0 0 c d) = if h : c.val < 255 then A.kc (batch i) ⟨c.val, h⟩ (kvHead i) d else 0
  vc : ∀ (d : Fin 64) (c : Fin 256), X.vc (ix4 0 0 d c) = if h : c.val < 255 then A.vc (batch i) ⟨c.val, h⟩ (kvHead i) d else 0
  ks : ∀ (p : Fin 4096) (r : Fin 2) (d : Fin 64) (e : Fin 256), e.val = 64 * r.val + d.val → X.ks (ix3 0 p e) = A.ks (batch i) p (pairHead (kvHead i) r) d
  blk : ∀ (p : Fin 4096) (j : Fin 128) (e : Fin 256), e.val = 128 + j.val → X.ks (ix3 0 p e) = if p.val / 64 = j.val then ⊤ else 0
  vs : ∀ (d : Fin 64) (p : Fin 4096), X.vs (ix2 d p) = A.vs (batch i) p (kvHead i) d
  kw : ∀ (p : Fin 4096) (r : Fin 2) (d : Fin 64) (e : Fin 128), e.val = 64 * r.val + d.val → X.kw (ix2 p e) = A.kw (batch i) p (pairHead (kvHead i) r) d
  vw : ∀ (d : Fin 64) (p : Fin 4096), X.vw (ix2 d p) = A.vw (batch i) p (kvHead i) d

theorem pairHead_odd (i : grid0.Coords) : pairHead (kvHead i) (odd i) = kvHead i := Fin.ext (Nat.div_add_mod _ _)

section
variable {A : Args} {i : grid0.Coords} {X : Ins Ideal} (R : Reads A i X) (q : Fin 2048)

/-- A column's scores, as exponents of two. -/
def colS (A : Args) (i : grid0.Coords) (q : Fin 2048) (p : ℕ) : EReal :=
  if h : p < 4096 then perLog * scoreS A (batch i) (posOf i (subOf q)) (kvHead i) (headOf q) ⟨p, h⟩ else ⊥
def colW (A : Args) (i : grid0.Coords) (q : Fin 2048) (p : ℕ) : EReal :=
  if h : p < 4096 then perLog * scoreW A (batch i) (posOf i (subOf q)) (kvHead i) (headOf q) ⟨p, h⟩ else ⊥
def valsS (A : Args) (i : grid0.Coords) : Fin 80 → ℕ → EReal := rowsOf fun p d => A.vs (batch i) p (kvHead i) d
def valsW (A : Args) (i : grid0.Coords) : Fin 80 → ℕ → EReal := rowsOf fun p d => A.vw (batch i) p (kvHead i) d

include R in
theorem qAll_read (d : Fin 64) : qAll X (ix2 d q) = A.q (batch i) (posOf i (subOf q)) (kvHead i) (headOf q) d * perLog := by
  rw [qAll_apply, R.q]

include R in
/-- A product with the pair's rows is the product with the queries' own half. -/
theorem pair_sum (K : Fin 128 → EReal) (k : Fin 2 → Fin 64 → EReal) (hK : ∀ (r : Fin 2) (d : Fin 64) (e : Fin 128), e.val = 64 * r.val + d.val → K e = k r d) :
    ∑ e, K e * qPair i X (ix2 e q) = perLog * ∑ d, k (odd i) d * A.q (batch i) (posOf i (subOf q)) (kvHead i) (headOf q) d := by
  have half : ∀ r : Fin 2, ∀ e : Fin 64 → Fin 128, (∀ d, (e d).val = 64 * r.val + d.val) →
      ∑ d, K (e d) * qPair i X (ix2 (e d) q) = if r = odd i then perLog * ∑ d, k (odd i) d * A.q (batch i) (posOf i (subOf q)) (kvHead i) (headOf q) d else 0 := by
    intro r e he
    split
    · next h =>
      rw [factor_sum perLog (EReal.coe_nonneg.mpr perLog_pos.le) (EReal.coe_ne_top _)]
      refine Finset.sum_congr rfl fun d _ => ?_
      rw [qPair_apply i X r d (e d) (he d), if_pos h, hK r d _ (he d), qAll_read R q d, ← h, ← mul_assoc, mul_comm]
    · next h =>
      refine Finset.sum_eq_zero fun d _ => ?_
      rw [qPair_apply i X r d (e d) (he d), if_neg h, mul_zero]
  have e2 : ∑ e, K e * qPair i X (ix2 e q) = _ := Fin.sum_univ_add (a := 64) (b := 64) (fun e => K e * qPair i X (ix2 e q))
  rw [e2, half 0 (Fin.castAdd 64) (fun d => by simp), half 1 (Fin.natAdd 64) (fun d => by simp [add_comm])]
  have h2 : odd i = 0 ∨ odd i = 1 := by generalize odd i = o; revert o; decide
  rcases h2 with h | h <;> rw [h] <;> simp

include R in
theorem own_pair (K : Fin 4096 → Fin 4 → Fin 64 → EReal) (p : Fin 4096) (row : Fin 128 → EReal)
    (hK : ∀ (r : Fin 2) (d : Fin 64) (e : Fin 128), e.val = 64 * r.val + d.val → row e = K p (pairHead (kvHead i) r) d) :
    ∑ e, row e * qPair i X (ix2 e q) = perLog * ∑ d, K p (kvHead i) d * A.q (batch i) (posOf i (subOf q)) (kvHead i) (headOf q) d := by
  rw [pair_sum R q row (fun r d => K p (pairHead (kvHead i) r) d) hK, pairHead_odd]

/-- The kept blocks: the rows that the kernel multiplies the keys' block by. -/
def Kept (A : Args) (i : grid0.Coords) (X : Ins Ideal) : Prop := ∀ (j : Fin 64) (u : Fin 512), 64 * j.val ≤ (posOf i u).val →
  (Chosen A (batch i) (posOf i u) (kvHead i) j → keepAt (k0_pay2221 (k0_pay2206 i)) (bScore i X) (i 2) (ix2 j u) = 0) ∧
  (¬Chosen A (batch i) (posOf i u) (kvHead i) j → keepAt (k0_pay2221 (k0_pay2206 i)) (bScore i X) (i 2) (ix2 j u) = -1)

include R in
/-- A key's product with the queries and the kept blocks, up to the query's position. -/
theorem key_sum (hk : Kept A i X) (p : Fin 4096) (hp : p.val ≤ (posOf i (subOf q)).val) :
    ∑ e, X.ks (ix3 0 p e) * qSel i X (ix2 e q) = colS A i q p.val := by
  have h1 : ∑ e, X.ks (ix3 0 p e) * qSel i X (ix2 e q) = _ := Fin.sum_univ_add (a := 128) (b := 128) (fun e : Fin 256 => X.ks (ix3 0 p e) * qSel i X (ix2 e q))
  have h2 : ∑ e : Fin 128, X.ks (ix3 0 p (Fin.natAdd 128 e)) * qSel i X (ix2 (Fin.natAdd 128 e) q) = _ :=
    Fin.sum_univ_add (a := 64) (b := 64) (fun e : Fin 128 => X.ks (ix3 0 p (Fin.natAdd 128 e : Fin 256)) * qSel i X (ix2 (Fin.natAdd 128 e : Fin 256) q))
  have h3 : ∑ e : Fin 128, X.ks (ix3 0 p (Fin.castAdd 128 e)) * qSel i X (ix2 (Fin.castAdd 128 e) q)
      = perLog * ∑ d, A.ks (batch i) p (kvHead i) d * A.q (batch i) (posOf i (subOf q)) (kvHead i) (headOf q) d := by
    rw [← own_pair R q (A.ks (batch i)) p (fun e => X.ks (ix3 0 p (Fin.castAdd 128 e))) (fun r d e he => R.ks p r d _ he)]
    exact Finset.sum_congr rfl fun e _ => by rw [qSel_top i X (Fin.castAdd 128 e) e rfl]
  have hb := (blockOf p).isLt
  have h4 : ∑ e : Fin 64, X.ks (ix3 0 p (Fin.natAdd 128 (Fin.castAdd 64 e))) * qSel i X (ix2 (Fin.natAdd 128 (Fin.castAdd 64 e)) q)
      = ⊤ * keepAt (k0_pay2221 (k0_pay2206 i)) (bScore i X) (i 2) (ix2 (blockOf p) (subOf q)) := by
    rw [Finset.sum_eq_single (blockOf p)]
    · rw [R.blk p ⟨(blockOf p).val, by omega⟩ _ rfl, if_pos (show p.val / 64 = (blockOf p).val from rfl), qSel_keep i X _ (blockOf p) rfl]
    · intro e _ he
      rw [R.blk p ⟨e.val, by have := e.isLt; omega⟩ _ rfl, if_neg (fun h => he (Fin.ext h.symm)), zero_mul]
    · intro h; exact absurd (Finset.mem_univ _) h
  have h5 : ∑ e : Fin 64, X.ks (ix3 0 p (Fin.natAdd 128 (Fin.natAdd 64 e))) * qSel i X (ix2 (Fin.natAdd 128 (Fin.natAdd 64 e)) q) = 0 :=
    Finset.sum_eq_zero fun e _ => by
      rw [qSel_zero i X _ e (by show 128 + (64 + e.val) = _; omega), mul_zero]
  rw [h1, h2, h3, h4, h5, add_zero]
  obtain ⟨hc, hn⟩ := hk (blockOf p) (subOf q) (le_trans (by show 64 * (p.val / 64) ≤ p.val; omega) hp)
  unfold colS
  rw [dif_pos p.isLt]
  unfold scoreS
  by_cases h : Chosen A (batch i) (posOf i (subOf q)) (kvHead i) (blockOf p)
  · rw [hc h, mul_zero, add_zero, if_pos ⟨h, hp⟩]
  · rw [hn h, if_neg (fun h' => h h'.1), perLog_mul_bot, mul_neg, mul_one, EReal.neg_top, EReal.add_bot]

theorem colS_after (p : ℕ) (hp : (posOf i (subOf q)).val < p) : colS A i q p = ⊥ := by
  unfold colS
  split
  · unfold scoreS; rw [if_neg (fun h => absurd h.2 (not_le.mpr hp)), perLog_mul_bot]
  · rfl

theorem colW_out (p : ℕ) (hp : ¬(p ≤ (posOf i (subOf q)).val ∧ (posOf i (subOf q)).val < p + 512)) : colW A i q p = ⊥ := by
  unfold colW
  split
  · unfold scoreW; rw [if_neg hp, perLog_mul_bot]
  · rfl
theorem colW_in (p : Fin 4096) (hp : p.val ≤ (posOf i (subOf q)).val ∧ (posOf i (subOf q)).val < p.val + 512) :
    colW A i q p.val = perLog * ∑ d, A.kw (batch i) p (kvHead i) d * A.q (batch i) (posOf i (subOf q)) (kvHead i) (headOf q) d := by
  unfold colW
  rw [dif_pos p.isLt]
  unfold scoreW
  rw [if_pos hp]

theorem mm_col {r k : ℕ} (a : FVec Ideal (M2 r k) .bf16) (b : FVec Ideal (M2 k 2048) .bf16) (c : Fin 2) (q' : Fin 1024) (p : Fin r)
    (h : q.val = 512 * (q'.val / 256) + 256 * c.val + q'.val % 256) : mm a (colHalf c b) (ix2 p q') = mm a b (ix2 p q) := by
  rw [mm_apply, mm_apply]
  exact Finset.sum_congr rfl fun e _ => by rw [colHalf_apply c b e q' q h]

/-- A half of the selected branch's own tile, at a column. -/
theorem own_score (r : Fin 2) (p : Fin 256) {n : ℕ} (t : IVec (M2 1 n) 32) (q' : Fin n) (ht : t (ix2 0 q') = BitVec.ofNat 32 (posOf i (subOf q)).val)
    (m : FVec Ideal (M2 256 n) .f32) (s : ℕ → EReal) (hs : ∀ k, (posOf i (subOf q)).val < k → s k = ⊥)
    (hm : 512 * (qTile i).val + 256 * r.val + p.val ≤ (posOf i (subOf q)).val → m (ix2 p q') = s (512 * (qTile i).val + 256 * r.val + p.val)) :
    masked (causal (Scalar.addi (s0 i) (BitVec.ofNat 32 (256 * r.val))) t) m (ix2 p q') = s (512 * (qTile i).val + 256 * r.val + p.val) := by
  have := (qTile i).isLt; have := r.isLt; have := p.isLt
  rw [own_eq, masked_apply _ _ p q' (causal_apply _ t p q' _ ht (by omega) (posOf i (subOf q)).isLt)]
  split
  · next h => exact hm h
  · next h => exact (hs _ (by omega)).symm

include R in
theorem selS_apply (hk : Kept A i X) (r : Fin 2) (p : Fin 256) : selS i X r (ix2 p q) = colS A i q (512 * (qTile i).val + 256 * r.val + p.val) := by
  have h1 := (qTile i).isLt; have h2 := r.isLt; have h3 := p.isLt
  refine own_score q r p (tp i) q (tp_apply i q) _ _ (colS_after q) fun h => ?_
  rw [mm_apply, ← key_sum R q hk ⟨512 * (qTile i).val + 256 * r.val + p.val, by omega⟩ h]
  exact Finset.sum_congr rfl fun e _ => by rw [ksHalf_apply i X r p e ⟨512 * (qTile i).val + 256 * r.val + p.val, by omega⟩ rfl]

include R in
theorem selS'_apply (hk : Kept A i X) (hq : 256 ≤ q.val % 512) (r : Fin 2) (p : Fin 256) :
    selS' i X r (ix2 p (halfCol q)) = colS A i q (512 * (qTile i).val + 256 * r.val + p.val) := by
  have h1 := (qTile i).isLt; have h2 := r.isLt; have h3 := p.isLt
  refine own_score q r p _ _ ((colHalf_apply 1 (tp i) 0 _ q (halfCol_right hq)).trans (tp_apply i q)) _ _ (colS_after q) fun h => ?_
  rw [mm_col q _ _ 1 _ p (halfCol_right hq), mm_apply, ← key_sum R q hk ⟨512 * (qTile i).val + 256 * r.val + p.val, by omega⟩ h]
  exact Finset.sum_congr rfl fun e _ => by rw [ksHalf_apply i X r p e ⟨512 * (qTile i).val + 256 * r.val + p.val, by omega⟩ rfl]

include R in
/-- A window's key by the queries. -/
theorem win_sum (p : Fin 4096) (hp : p.val ≤ (posOf i (subOf q)).val ∧ (posOf i (subOf q)).val < p.val + 512) :
    ∑ e, X.kw (ix2 p e) * qPair i X (ix2 e q) = colW A i q p.val := by
  rw [colW_in q p hp]
  exact own_pair R q (A.kw (batch i)) p (fun e => X.kw (ix2 p e)) (fun r d e he => R.kw p r d e he)

theorem posOf_sub : (posOf i (subOf q)).val = 512 * (qTile i).val + q.val % 512 := rfl

include R in
theorem winS_apply (r : Fin 2) (p : Fin 256) : winS i X r (ix2 p q) = colW A i q (512 * (qTile i).val + 256 * r.val + p.val) := by
  have h1 := (qTile i).isLt; have h2 := r.isLt; have h3 := p.isLt
  have hq := posOf_sub (i := i) q
  refine own_score q r p (tp i) q (tp_apply i q) _ _ (fun k hk => colW_out q k (fun h => by omega)) fun h => ?_
  rw [mm_apply, ← win_sum R q ⟨512 * (qTile i).val + 256 * r.val + p.val, by omega⟩ ⟨h, by show _ < 512 * (qTile i).val + 256 * r.val + p.val + 512; omega⟩]
  exact Finset.sum_congr rfl fun e _ => by rw [kwHalf_apply X _ _ (off9_eq i r) _ p e ⟨512 * (qTile i).val + 256 * r.val + p.val, by omega⟩ rfl]

include R in
theorem winS'_apply (hq' : 256 ≤ q.val % 512) (r : Fin 2) (p : Fin 256) :
    winS' i X r (ix2 p (halfCol q)) = colW A i q (512 * (qTile i).val + 256 * r.val + p.val) := by
  have h1 := (qTile i).isLt; have h2 := r.isLt; have h3 := p.isLt
  have hq := posOf_sub (i := i) q
  refine own_score q r p _ _ ((colHalf_apply 1 (tp i) 0 _ q (halfCol_right hq')).trans (tp_apply i q)) _ _ (fun k hk => colW_out q k (fun h => by omega)) fun h => ?_
  rw [mm_col q _ _ 1 _ p (halfCol_right hq'), mm_apply,
    ← win_sum R q ⟨512 * (qTile i).val + 256 * r.val + p.val, by omega⟩ ⟨h, by show _ < 512 * (qTile i).val + 256 * r.val + p.val + 512; omega⟩]
  exact Finset.sum_congr rfl fun e _ => by rw [kwHalf_apply X _ _ (off9_eq i r) _ p e ⟨512 * (qTile i).val + 256 * r.val + p.val, by omega⟩ rfl]

/-- A half of the tile before, at a column. -/
theorem prev_score (hi : 0 < (qTile i).val) (r : Fin 2) (p : Fin 256) {n : ℕ} (t : IVec (M2 1 n) 32) (q' : Fin n)
    (ht : t (ix2 0 q') = BitVec.ofNat 32 (posOf i (subOf q)).val) (m : FVec Ideal (M2 256 n) .f32)
    (hm : (posOf i (subOf q)).val < 512 * ((qTile i).val - 1) + 256 * r.val + p.val + 512 → m (ix2 p q') = colW A i q (512 * ((qTile i).val - 1) + 256 * r.val + p.val)) :
    masked (recent (s0 i) (Scalar.addi (sPrev i) (BitVec.ofNat 32 (256 * r.val))) t) m (ix2 p q') = colW A i q (512 * ((qTile i).val - 1) + 256 * r.val + p.val) := by
  have h1 := (qTile i).isLt; have h2 := r.isLt; have h3 := p.isLt
  have hq := posOf_sub (i := i) q
  rw [prev_eq, s0_eq, masked_apply _ _ p q' (recent_apply _ _ t p q' _ ht (by omega) (by omega) (posOf i (subOf q)).isLt)]
  split
  · next h => exact hm h.1
  · next h => exact (colW_out q _ (fun h' => h ⟨h'.2, by omega⟩)).symm

include R in
theorem preS_apply (hi : 0 < (qTile i).val) (r : Fin 2) (p : Fin 256) :
    preS i X r (ix2 p q) = colW A i q (512 * ((qTile i).val - 1) + 256 * r.val + p.val) := by
  have h1 := (qTile i).isLt; have h2 := r.isLt; have h3 := p.isLt
  have hq := posOf_sub (i := i) q
  refine prev_score q hi r p (tp i) q (tp_apply i q) _ fun h => ?_
  rw [mm_apply, ← win_sum R q ⟨512 * ((qTile i).val - 1) + 256 * r.val + p.val, by omega⟩ ⟨by show 512 * ((qTile i).val - 1) + 256 * r.val + p.val ≤ _; omega, h⟩]
  exact Finset.sum_congr rfl fun e _ => by rw [kwHalf_apply X _ _ (off7_eq i r) _ p e ⟨512 * ((qTile i).val - 1) + 256 * r.val + p.val, by omega⟩ rfl]

include R in
theorem preS'_apply (hi : 0 < (qTile i).val) (hq' : q.val % 512 < 256) (r : Fin 2) (p : Fin 256) :
    preS' i X r (ix2 p (halfCol q)) = colW A i q (512 * ((qTile i).val - 1) + 256 * r.val + p.val) := by
  have h1 := (qTile i).isLt; have h2 := r.isLt; have h3 := p.isLt
  have hq := posOf_sub (i := i) q
  refine prev_score q hi r p _ _ ((colHalf_apply 0 (tp i) 0 _ q (halfCol_left hq')).trans (tp_apply i q)) _ fun h => ?_
  rw [mm_col q _ _ 0 _ p (halfCol_left hq'), mm_apply,
    ← win_sum R q ⟨512 * ((qTile i).val - 1) + 256 * r.val + p.val, by omega⟩ ⟨by show 512 * ((qTile i).val - 1) + 256 * r.val + p.val ≤ _; omega, h⟩]
  exact Finset.sum_congr rfl fun e _ => by rw [kwHalf_apply X _ _ (off7_eq i r) _ p e ⟨512 * ((qTile i).val - 1) + 256 * r.val + p.val, by omega⟩ rfl]

theorem pre_none (hi : (qTile i).val = 0) (r : BitVec 32) (p : Fin 256) {n : ℕ} (t : IVec (M2 1 n) 32) (q' : Fin n) (m : FVec Ideal (M2 256 n) .f32) :
    masked (recent (s0 i) r t) m (ix2 p q') = ⊥ := by
  have h : recent (s0 i) r t (ix2 p q') = 1#1 ↔ False := by
    rw [s0_eq, iff_false]; exact recent_none _ r t p q' (by omega)
  rw [masked_apply _ _ p q' h, if_neg (fun h => h)]

include R in
theorem selReads (hk : Kept A i X) : SelReads i X q (colS A i q) (valsS A i) where
  trips := trips_eq i
  loopS k p := by
    have hk' : k.val < (i 2).val := lt_of_lt_of_eq k.isLt (trips_eq i)
    have h3 : (i 2).val < 8 := (i 2).isLt
    have hp := p.isLt
    have hq := posOf_sub (i := i) q
    have e : (qTile i).val = (i 2).val := rfl
    rw [mm_apply, ← key_sum R q hk ⟨512 * k.val + p.val, by omega⟩ (by show 512 * k.val + p.val ≤ _; omega)]
    exact Finset.sum_congr rfl fun e _ => by rw [ksTile_apply i X k p e ⟨512 * k.val + p.val, by omega⟩ rfl]
  loopV k r p := vsTile_apply i X _ R.vs k r p
  ownS p := selS_apply R q hk 0 p
  ownV r p := vHalf_apply X.vs _ R.vs _ _ (off6_eq i 0) _ r p (by have := (qTile i).isLt; have := p.isLt; show 512 * (qTile i).val + 0 + p.val < 4096; omega)
  ownS' h p := selS'_apply R q hk h 1 p
  ownV' r p := vHalf_apply X.vs _ R.vs _ _ (off6_eq i 1) _ r p (by have := (qTile i).isLt; have := p.isLt; show 512 * (qTile i).val + 256 + p.val < 4096; omega)

include R in
theorem winReads : WinReads i X q (colW A i q) (valsW A i) where
  noneS h p := pre_none h _ p _ _ _
  noneS' h _ p := pre_none h _ p _ _ _
  preS h p := preS_apply R q h 1 p
  preV h r p := vHalf_apply X.vw _ R.vw _ _ (off8_eq i 1) _ r p (by have := (qTile i).isLt; have := p.isLt; show 512 * ((qTile i).val - 1) + 256 + p.val < 4096; omega)
  preS' h h' p := preS'_apply R q h h' 0 p
  preV' h r p := vHalf_apply X.vw _ R.vw _ _ (off8_eq i 0) _ r p (by have := (qTile i).isLt; have := p.isLt; show 512 * ((qTile i).val - 1) + 0 + p.val < 4096; omega)
  ownS p := winS_apply R q 0 p
  ownV r p := vHalf_apply X.vw _ R.vw _ _ (off6_eq i 0) _ r p (by have := (qTile i).isLt; have := p.isLt; show 512 * (qTile i).val + 0 + p.val < 4096; omega)
  ownS' h p := winS'_apply R q h 1 p
  ownV' r p := vHalf_apply X.vw _ R.vw _ _ (off6_eq i 1) _ r p (by have := (qTile i).isLt; have := p.isLt; show 512 * (qTile i).val + 256 + p.val < 4096; omega)

/-! The keys that a column hasn't seen are masked, so its softmax is over all of them. -/

theorem norm_sel (r : Fin 80) (d : Fin 64) (hr : r.val = d.val) : norm (seenS i q) (colS A i q) (valsS A i r)
    = attn (scoreS A (batch i) (posOf i (subOf q)) (kvHead i) (headOf q)) (fun p => A.vs (batch i) p (kvHead i) d) := by
  have h1 : (qTile i).val < 8 := (qTile i).isLt
  have e : (i 2).val = (qTile i).val := rfl
  have hq := posOf_sub (i := i) q
  refine norm_eq_attn (n := 4096) ?_ ?_ ?_ ?_
  · intro p hp
    unfold seenS at hp
    split at hp <;> simp only [Finset.mem_range] at hp ⊢ <;> omega
  · intro p _ hn
    refine colS_after q p ?_
    unfold seenS at hn
    split at hn <;> simp only [Finset.mem_range] at hn <;> omega
  · intro p; unfold colS; rw [dif_pos p.isLt]
  · intro p; exact rowsOf_value _ r d hr p

theorem norm_win (r : Fin 80) (d : Fin 64) (hr : r.val = d.val) : norm (seenW i q) (colW A i q) (valsW A i r)
    = attn (scoreW A (batch i) (posOf i (subOf q)) (kvHead i) (headOf q)) (fun p => A.vw (batch i) p (kvHead i) d) := by
  have h1 : (qTile i).val < 8 := (qTile i).isLt
  have e : (i 2).val = (qTile i).val := rfl
  have hq := posOf_sub (i := i) q
  refine norm_eq_attn (n := 4096) ?_ ?_ ?_ ?_
  · intro p hp
    rw [Finset.mem_range]
    unfold seenW at hp
    split at hp <;> simp only [Finset.mem_union, tile, Finset.mem_Ico] at hp
    · rcases hp with hp | hp
      · have := mem_seenP i q hp; omega
      · omega
    · rcases hp with (hp | hp) | hp
      · have := mem_seenP i q hp; omega
      · omega
      · omega
  · intro p _ hn
    refine colW_out q p fun h => hn ?_
    unfold seenW seenP
    split <;> split <;> simp only [Finset.mem_union, tile, Finset.mem_Ico, Finset.notMem_empty, false_or] <;> omega
  · intro p; unfold colW; rw [dif_pos p.isLt]
  · intro p; exact rowsOf_value _ r d hr p

/-! The test of the two softmaxes. -/

theorem idx_S1 (a b : S1.Idx) : a = b := by
  funext k; fin_cases k; exact Subsingleton.elim (α := Fin 1) _ _

theorem flat_apply (x : FVec Ideal S1x2048 .f32) (q : Fin 2048) : shapeCast S1x1x2048 x shapeCasts_S1x2048_S1x1x2048 (ix3 0 0 q) = x (ix2 0 q) := by
  refine shapeCast_apply _ _ _ _ ?_
  rw [rowMajor_val3 _ (1 * 2048) 2048 rfl rfl, rowMajor_val2 _ 2048 rfl]
  show 0 * _ + q.val = 0 * _ + 0 * _ + q.val
  omega

theorem le_rowMax (x : FVec Ideal S1x2048 .f32) (q : Fin 2048) : x (ix2 0 q) ≤ extractAt ![0, 0, 0] (rowMax x) inpos_S1x1x1_p0_0_0 := by
  have hS : ∀ k : S1.Idx, x (ix2 0 q) ≤ multiReduction .maximumf [1, 2] S1 (shapeCast S1x1x2048 x shapeCasts_S1x2048_S1x1x2048) 0xFF800000#32 reduces_S1x1x2048_S1 (.inl rfl) rfl k := by
    intro k
    refine le_of_le_of_eq ?_ (multiReduction_maximumf_eq_fold _ _ _ _ _ k).symm
    refine (Finset.le_fold_max _).mpr (.inr ⟨ix3 0 0 q, ?_, (flat_apply x q).symm.le⟩)
    exact Finset.mem_filter.mpr ⟨Finset.mem_univ _, idx_S1 _ _⟩
  exact hS _
theorem rowMin_le (x : FVec Ideal S1x2048 .f32) (q : Fin 2048) : extractAt ![0, 0, 0] (shapeCast S1x1x1 (multiReduction .minimumf [1, 2] S1
    (shapeCast S1x1x2048 x shapeCasts_S1x2048_S1x1x2048) 0x7F800000#32 reduces_S1x1x2048_S1 (.inl rfl) rfl) shapeCasts_S1_S1x1x1) inpos_S1x1x1_p0_0_0 ≤ x (ix2 0 q) := by
  have hS : ∀ k : S1.Idx, multiReduction .minimumf [1, 2] S1 (shapeCast S1x1x2048 x shapeCasts_S1x2048_S1x1x2048) 0x7F800000#32 reduces_S1x1x2048_S1 (.inl rfl) rfl k ≤ x (ix2 0 q) := by
    intro k
    refine le_of_eq_of_le (multiReduction_minimumf_eq_fold _ _ _ _ _ k) ?_
    refine (Finset.fold_min_le _).mpr (.inr ⟨ix3 0 0 q, ?_, (flat_apply x q).le⟩)
    exact Finset.mem_filter.mpr ⟨Finset.mem_univ _, idx_S1 _ _⟩
  exact hS _

theorem neg_le_of {x : EReal} (h : 0 - x ≤ 60) : -60 ≤ x := by
  rw [sub_eq_add_neg, zero_add] at h
  exact EReal.neg_le.mp h

/-- Where the test passes, every column's lag and top are in the first softmax's range. -/
theorem excess_ok (h : ¬60 < excess i X) : (fastSel i X).2.2.1 (ix2 0 q) ≤ 60 ∧ (fastWin i X).2.2.1 (ix2 0 q) ≤ 60 ∧
    -60 ≤ (fastSel i X).2.2.2 (ix2 0 q) ∧ -60 ≤ (fastWin i X).2.2.2 (ix2 0 q) := by
  rw [not_lt] at h
  have h' : max (extractAt ![0, 0, 0] (rowMax (maximumf (fastSel i X).2.2.1 (fastWin i X).2.2.1)) inpos_S1x1x1_p0_0_0)
      (Ideal.ofBits .f32 0x00000000#32 - extractAt ![0, 0, 0] (shapeCast S1x1x1 (multiReduction .minimumf [1, 2] S1
        (shapeCast S1x1x2048 (minimumf (fastSel i X).2.2.2 (fastWin i X).2.2.2) shapeCasts_S1x2048_S1x1x2048) 0x7F800000#32 reduces_S1x1x2048_S1 (.inl rfl) rfl) shapeCasts_S1_S1x1x1) inpos_S1x1x1_p0_0_0) ≤ (60 : EReal) := h
  rw [lit_zero, max_le_iff] at h'
  have h1 : max ((fastSel i X).2.2.1 (ix2 0 q)) ((fastWin i X).2.2.1 (ix2 0 q)) ≤ (60 : EReal) :=
    (le_rowMax (maximumf (fastSel i X).2.2.1 (fastWin i X).2.2.1) q).trans h'.1
  have h2 : (-60 : EReal) ≤ min ((fastSel i X).2.2.2 (ix2 0 q)) ((fastWin i X).2.2.2 (ix2 0 q)) :=
    (neg_le_of h'.2).trans (rowMin_le (minimumf (fastSel i X).2.2.2 (fastWin i X).2.2.2) q)
  exact ⟨(max_le_iff.mp h1).1, (max_le_iff.mp h1).2, (le_min_iff.mp h2).1, (le_min_iff.mp h2).2⟩

theorem over_test (x : Ideal .f32) : Scalar.cmpi .ne (Scalar.extui (Scalar.cmpf .ogt x (Scalar.ofBits (F := Ideal) .f32 0x42700000#32)) : BitVec 32) 0#32 = 1#1 ↔ (60 : EReal) < x := by
  rw [test_iff]
  have h : Scalar.cmpf .ogt x (Scalar.ofBits (F := Ideal) .f32 0x42700000#32) = Ideal.cmp .ogt x (Ideal.ofBits .f32 0x42700000#32) := rfl
  rw [h, lit_sixty]; exact cmp_ogt _ _

def oneRow : Fin 80 := 64

include R in
theorem sums_sel (hk : Kept A i X) (r : Fin 80) (d : Fin 64) (hr : r.val = d.val) :
    (sums i X).1 (ix2 r q) * Ideal.div 1 ((sums i X).1 (ix2 oneRow q))
      = attn (scoreS A (batch i) (posOf i (subOf q)) (kvHead i) (headOf q)) (fun p => A.vs (batch i) p (kvHead i) d) := by
  rw [← norm_sel q r d hr]
  have h1 : valsS A i oneRow = fun _ => 1 := rowsOf_one _ _ rfl
  unfold sums
  by_cases h : 60 < excess i X
  · rw [if_pos ((over_test _).mpr h)]
    exact slow_final (slowSel_at i X q (selReads R q hk)) r oneRow h1
  · rw [if_neg (fun h' => h ((over_test _).mp h'))]
    obtain ⟨a, _, b, _⟩ := excess_ok q h
    exact fast_final (fastSel_at i X q (selReads R q hk)) a b r oneRow h1

include R in
theorem sums_win (r : Fin 80) (d : Fin 64) (hr : r.val = d.val) :
    (sums i X).2 (ix2 r q) * Ideal.div 1 ((sums i X).2 (ix2 oneRow q))
      = attn (scoreW A (batch i) (posOf i (subOf q)) (kvHead i) (headOf q)) (fun p => A.vw (batch i) p (kvHead i) d) := by
  rw [← norm_win q r d hr]
  have h1 : valsW A i oneRow = fun _ => 1 := rowsOf_one _ _ rfl
  unfold sums
  by_cases h : 60 < excess i X
  · rw [if_pos ((over_test _).mpr h)]
    exact slow_final (slowWin_at i X q (winReads R q)) r oneRow h1
  · rw [if_neg (fun h' => h ((over_test _).mp h'))]
    obtain ⟨_, a, _, b⟩ := excess_ok q h
    exact fast_final (fastWin_at i X q (winReads R q)) a b r oneRow h1

end

end Cert.KernelIdeal.Hand
-- ==== Proof.KernelIdeal.Compressed.lean ====
module

public import proofs.«01_k».proof.Proof.KernelIdeal.Sums

@[expose] public section

noncomputable section

/-! The kernel's compressed branch, its blocks' scores and the blocks that it keeps, as the specification's. -/

namespace Cert.KernelIdeal.Hand

open Idealize.ShloMosaic hiding ix2 ix1 ix3 ix4
open Idealize.SL.Sem Gen ValueIdx Cert.Words Cert.Spec

/-! One column's sums divided by the sum of its weights. -/

theorem shifted_final (S : Finset ℕ) (s v : ℕ → EReal) : part S s v (S.sup s) * Ideal.div 1 (part S s (fun _ => 1) (S.sup s)) = norm S s v :=
  slow_final (S := S) (s := s) (V := fun k => if k = 0 then v else fun _ => 1) (m := S.sup s)
    (acc := fun k => part S s (if k = 0 then v else fun _ => 1) (S.sup s)) ⟨rfl, fun _ => rfl⟩ 0 1 rfl
theorem unshifted_final (S : Finset ℕ) (s v : ℕ → EReal) (h1 : -60 ≤ S.sup s) (h2 : S.sup s ≤ 60) :
    part S s v 0 * Ideal.div 1 (part S s (fun _ => 1) 0) = norm S s v :=
  fast_final (S := S) (s := s) (V := fun k => if k = 0 then v else fun _ => 1) (m := 0) (hi := 0) (top := S.sup s)
    (acc := fun k => part S s (if k = 0 then v else fun _ => 1) 0)
    ⟨rfl, fun _ => ⟨⟨0, rfl⟩, fun p hp h => absurd ((Finset.le_sup hp).trans h2) (by rw [h]; exact not_le.mpr (EReal.coe_lt_top 60)), fun _ => rfl⟩⟩
    (by norm_num) h1 0 1 rfl

theorem sum_part (s v : ℕ → EReal) (m : EReal) (h : s 255 = ⊥) : ∑ p : Fin 256, v p.val * Ideal.exp2 (s p.val - m) = part (Finset.range 255) s v m := by
  unfold part
  rw [← Finset.sum_range (n := 256) (fun p => v p * Ideal.exp2 (s p - m)), Finset.sum_range_succ, h]
  have e : Ideal.exp2 (⊥ - m) = 0 := by rw [sub_eq_add_neg, EReal.bot_add]; rfl
  rw [e, mul_zero, add_zero]
theorem sup_part (s : ℕ → EReal) (h : s 255 = ⊥) : (Finset.univ.sup fun p : Fin 256 => s p.val) = (Finset.range 255).sup s := by
  refine le_antisymm (Finset.sup_le fun p _ => ?_) (Finset.sup_le fun p hp => ?_)
  · by_cases hp : p.val < 255
    · exact Finset.le_sup (Finset.mem_range.mpr hp)
    · rw [show p.val = 255 by have := p.isLt; omega, h]; exact bot_le
  · have hp' := Finset.mem_range.mp hp
    exact Finset.le_sup (f := fun p : Fin 256 => s p.val) (Finset.mem_univ (⟨p, by omega⟩ : Fin 256))

/-- Softmax sums where nothing is visible. -/
theorem attn_none {ι : Type} [Fintype ι] (s v : ι → EReal) (h : ∀ p, s p = ⊥) : attn s v = 0 := by
  unfold attn
  rw [Finset.sum_eq_zero, zero_mul]
  intro p _
  have e : Ideal.exp (⊥ - Finset.univ.sup s) = 0 := by rw [sub_eq_add_neg, EReal.bot_add]; rfl
  rw [h p, e, mul_zero]

/-- Rows scaled by one over the row of weights, or zero where a column sees no key. -/
def scaled (M : FVec Ideal S144x2048 .f32) (has : IVec S1x2048 1) : FVec Ideal S128x2048 .f32 :=
  mulf (extractStridedSlice S128x2048 ![0, 0] M slices_S144x2048_o0_0_S128x2048)
    (broadcastTo S128x2048 (select has (divf (broadcast S1x2048 (Scalar.ofBits .f32 0x3F800000#32)) (extractStridedSlice S1x2048 ![128, 0] M slices_S144x2048_o128_0_S1x2048))
      (broadcast S1x2048 (Scalar.ofBits .f32 0x00000000#32))) broadcasts_S1x2048_S128x2048)

def one144 : Fin 144 := 128

theorem scaled_apply (M : FVec Ideal S144x2048 .f32) (has : IVec S1x2048 1) (q : Fin 2048) {P : Prop} [Decidable P] (h : has (ix2 0 q) = 1#1 ↔ P)
    (r : Fin 128) (r' : Fin 144) (hr : r'.val = r.val) : scaled M has (ix2 r q) = M (ix2 r' q) * (if P then Ideal.div 1 (M (ix2 one144 q)) else 0) := by
  have e1 : extractStridedSlice S128x2048 ![0, 0] M slices_S144x2048_o0_0_S128x2048 (ix2 r q) = M (ix2 r' q) := by
    refine extractStridedSlice_apply _ _ _ _ _ fun a => ?_
    fin_cases a
    · show r'.val = 0 + r.val; omega
    · exact (Nat.zero_add _).symm
  have e2 : extractStridedSlice S1x2048 ![128, 0] M slices_S144x2048_o128_0_S1x2048 (ix2 0 q) = M (ix2 one144 q) := by
    refine extractStridedSlice_apply _ _ _ _ _ fun a => ?_
    fin_cases a
    · rfl
    · exact (Nat.zero_add _).symm
  unfold scaled
  refine congrArg₂ (fun x y : EReal => x * y) e1 ((row_apply (k := 128) (n := 2048) _ r q).trans ?_)
  show Scalar.select (has (ix2 0 q)) (Ideal.div (Ideal.ofBits .f32 0x3F800000#32) (extractStridedSlice S1x2048 ![128, 0] M slices_S144x2048_o128_0_S1x2048 (ix2 0 q))) (Ideal.ofBits .f32 0x00000000#32) = _
  rw [select_eq h, e2, lit_one, lit_zero]

section
variable {A : Args} {i : grid0.Coords} {X : Ins Ideal} (R : Reads A i X) (q : Fin 2048)

/-- A column's scores of the compressed keys, as exponents of two. -/
def colC (A : Args) (i : grid0.Coords) (q : Fin 2048) (p : ℕ) : EReal :=
  if h : p < 255 then perLog * scoreC A (batch i) (posOf i (subOf q)) (kvHead i) (headOf q) ⟨p, h⟩ else ⊥

theorem vis_apply (p : Fin 256) : k0_pay2208 i (ix2 p q) = 1#1 ↔ 16 * p.val + 31 ≤ (posOf i (subOf q)).val := by
  have hp := p.isLt
  have ht := (posOf i (subOf q)).isLt
  have e : k0_pay2208 i (ix2 p q) = IntOp.cmpi .sle (IntOp.addi (IntOp.muli (BitVec.ofNat 32 (0 * 256 + p.val)) (BitVec.ofNat 32 16)) (BitVec.ofNat 32 31)) (tp i (ix2 0 q)) :=
    congrArg₂ (IntOp.cmpi .sle) (col_apply (addi (muli (iota .tc S256x1 32 [0] iota_S256x1_d0_w32) (broadcast S256x1 16#32)) (broadcast S256x1 31#32)) p q) (row_apply (tp i) p q)
  rw [e, tp_apply, mul_nat, add_nat, sle_nat (by omega) (by omega)]
  omega

theorem hasC_apply : hasC i (ix2 0 q) = 1#1 ↔ 31 ≤ (posOf i (subOf q)).val := by
  have ht := (posOf i (subOf q)).isLt
  show IntOp.cmpi .sge (tp i (ix2 0 q)) (BitVec.ofNat 32 31) = 1#1 ↔ _
  rw [tp_apply, sge_nat (by omega) (by omega)]

theorem kcRow_apply (p : Fin 256) (d : Fin 64) : shapeCast S256x64 (kcAll X) shapeCasts_S1x1x256x64_S256x64 (ix2 p d) = X.kc (ix4 0 0 p d) := by
  refine (shapeCast_apply _ _ (ix2 p d) (ix4 (0 : Fin 1) (0 : Fin 1) p d) ?_).trans (View.ld_unit_apply_of _ _ _ _ _ (ix4 0 0 p d) ?_)
  · rw [rowMajor_val4 _ (1 * 256 * 64) (256 * 64) 64 rfl rfl rfl, rowMajor_val2 _ 64 rfl]
    show 0 * _ + 0 * _ + p.val * 64 + d.val = p.val * 64 + d.val
    omega
  · intro a; fin_cases a
    · rfl
    · rfl
    · exact (Nat.zero_add _).symm
    · exact (Nat.zero_add _).symm
theorem vcRow_apply (d : Fin 64) (p : Fin 256) : shapeCast S64x256 (vcAll X) shapeCasts_S1x1x64x256_S64x256 (ix2 d p) = X.vc (ix4 0 0 d p) := by
  refine (shapeCast_apply _ _ (ix2 d p) (ix4 (0 : Fin 1) (0 : Fin 1) d p) ?_).trans (View.ld_unit_apply_of _ _ _ _ _ (ix4 0 0 d p) ?_)
  · rw [rowMajor_val4 _ (1 * 64 * 256) (64 * 256) 256 rfl rfl rfl, rowMajor_val2 _ 256 rfl]
    show 0 * _ + 0 * _ + d.val * 256 + p.val = d.val * 256 + p.val
    omega
  · intro a; fin_cases a
    · rfl
    · rfl
    · exact (Nat.zero_add _).symm
    · exact (Nat.zero_add _).symm

include R in
theorem cScore_apply (p : Fin 256) : cScore i X (ix2 p q) = colC A i q p.val := by
  have e : cScore i X = masked (k0_pay2208 i) (mm (shapeCast S256x64 (kcAll X) shapeCasts_S1x1x256x64_S256x64) (qAll X)) := rfl
  have hp := p.isLt
  have ht := (posOf i (subOf q)).isLt
  rw [e, masked_apply _ _ p q (vis_apply q p)]
  unfold colC
  by_cases h : p.val < 255
  · rw [dif_pos h]
    unfold scoreC
    by_cases hv : 16 * p.val + 31 ≤ (posOf i (subOf q)).val
    · rw [if_pos hv, if_pos hv, mm_apply, factor_sum perLog (EReal.coe_nonneg.mpr perLog_pos.le) (EReal.coe_ne_top _)]
      refine Finset.sum_congr rfl fun d _ => ?_
      rw [kcRow_apply, R.kc, dif_pos h, qAll_read R q d, ← mul_assoc, mul_comm]
    · rw [if_neg hv, if_neg hv, perLog_mul_bot]
  · rw [dif_neg h, if_neg (by omega)]

/-- The rows that the weights are summed with. -/
def rowsC (X : Ins Ideal) (r : Fin 144) (p : ℕ) : EReal := if h : p < 256 then k0_pay2211 (vcAll X) (ix2 r ⟨p, h⟩) else 0

theorem rowsC_apply (r : Fin 144) (p : Fin 256) : k0_pay2211 (vcAll X) (ix2 r p) = rowsC X r p.val := by unfold rowsC; rw [dif_pos p.isLt]

include R in
theorem rowsC_value (r : Fin 144) (d : Fin 64) (hr : r.val = d.val) (c : Fin 255) : rowsC X r c.val = A.vc (batch i) c (kvHead i) d := by
  have hc : c.val < 256 := by have := c.isLt; omega
  rw [← rowsC_apply r ⟨c.val, hc⟩]
  refine (stack_top (m := 144) (l := [⟨S64x256, _⟩, ⟨S16x256, _⟩]) _ concatenates_S64x256_S64x256_S16x256_S144x256_d0 r ⟨c.val, hc⟩ d hr).trans ?_
  rw [vcRow_apply, R.vc, dif_pos c.isLt]

theorem rowsC_overlap (r : Fin 144) (j : Fin 64) (hr : r.val = 64 + j.val) (c : Fin 255) : rowsC X r c.val = overlap j c := by
  have hc : c.val < 256 := by have := c.isLt; omega
  have hj := j.isLt
  rw [← rowsC_apply r ⟨c.val, hc⟩]
  refine (stack_second (m := 144) (l := [⟨S16x256, _⟩]) _ _ concatenates_S64x256_S64x256_S16x256_S144x256_d0 r ⟨c.val, hc⟩ j hr).trans ?_
  show ((((IntOp.andi (IntOp.cmpi .slt (IntOp.muli (BitVec.ofNat 32 (0 * 256 + c.val)) (BitVec.ofNat 32 16)) (IntOp.addi (IntOp.muli (BitVec.ofNat 32 (0 * 64 + j.val)) (BitVec.ofNat 32 64)) (BitVec.ofNat 32 64)))
    (IntOp.cmpi .sgt (IntOp.addi (IntOp.muli (BitVec.ofNat 32 (0 * 256 + c.val)) (BitVec.ofNat 32 16)) (BitVec.ofNat 32 32)) (IntOp.muli (BitVec.ofNat 32 (0 * 64 + j.val)) (BitVec.ofNat 32 64)))).setWidth 32).toInt : ℝ) : EReal) = _
  refine bit_real ?_
  rw [and_one, mul_nat, mul_nat, add_nat, add_nat, slt_nat (by omega) (by omega), sgt_nat (by omega) (by omega)]
  omega

theorem rowsC_one (p : ℕ) (hp : p < 256) : rowsC X one144 p = 1 := by
  rw [← rowsC_apply one144 ⟨p, hp⟩]
  refine (stack_third (m := 144) (l := []) _ _ _ concatenates_S64x256_S64x256_S16x256_S144x256_d0 one144 ⟨p, hp⟩ (0 : Fin 16) rfl).trans ?_
  show ((((IntOp.cmpi .eq (BitVec.ofNat 32 (0 * 16 + (0 : Fin 16).val)) (BitVec.ofNat 32 0)).setWidth 32).toInt : ℝ) : EReal) = 1
  rw [bit_real (p := True) (by decide), if_pos trivial]

theorem colC_end : colC A i q 255 = ⊥ := dif_neg (by omega)

/-- The sums of the rows, weighed. -/
def weighed (X : Ins Ideal) (i : grid0.Coords) (m : FVec Ideal S256x2048 .f32) : FVec Ideal S144x2048 .f32 :=
  mm (k0_pay2211 (vcAll X)) (truncf .bf16 (exp2 (subf (cScore i X) m)) bitsLt_bf16_f32)

include R in
theorem weighed_apply (m : FVec Ideal S256x2048 .f32) (x : EReal) (hm : ∀ p : Fin 256, m (ix2 p q) = x) (r : Fin 144) :
    weighed X i m (ix2 r q) = part (Finset.range 255) (colC A i q) (rowsC X r) x := by
  unfold weighed
  rw [mm_apply, ← sum_part _ _ _ (colC_end q)]
  refine Finset.sum_congr rfl fun p _ => ?_
  rw [rowsC_apply, ← cScore_apply R q p, ← hm p]
  rfl

theorem part_ones (x : EReal) : part (Finset.range 255) (colC A i q) (rowsC X one144) x = part (Finset.range 255) (colC A i q) (fun _ => 1) x := by
  unfold part
  refine Finset.sum_congr rfl fun p hp => ?_
  rw [rowsC_one p (by have := Finset.mem_range.mp hp; omega)]

theorem cOut_eq : cOut i X = if Scalar.cmpi .ne (Scalar.extui (Scalar.cmpf .ogt (k0_pay2217 (cScore i X) (hasC i)) (Scalar.ofBits (F := Ideal) .f32 0x42700000#32)) : BitVec 32) 0#32 = 1#1
    then scaled (weighed X i (rep 256 (colMax (cScore i X)))) (hasC i) else scaled (weighed X i (broadcast S256x2048 (Scalar.ofBits .f32 0x00000000#32))) (hasC i) := rfl

include R in
/-- Where the test passes, a column's largest score is in the unshifted softmax's range. -/
theorem top_ok (h31 : 31 ≤ (posOf i (subOf q)).val) (h : ¬60 < k0_pay2217 (cScore i X) (hasC i)) :
    -60 ≤ (Finset.range 255).sup (colC A i q) ∧ (Finset.range 255).sup (colC A i q) ≤ 60 := by
  rw [not_lt] at h
  have hm : colMax (cScore i X) (ix2 0 q) = (Finset.range 255).sup (colC A i q) := by
    rw [colMax_apply, ← sup_part _ (colC_end q)]
    exact congrArg _ (funext fun p => cScore_apply R q p)
  have h1 := (le_rowMax (select (hasC i) (absf (colMax (cScore i X))) (broadcast S1x2048 (Scalar.ofBits .f32 0x00000000#32))) q).trans h
  have h2 : select (hasC i) (absf (colMax (cScore i X))) (broadcast S1x2048 (Scalar.ofBits (F := Ideal) .f32 0x00000000#32)) (ix2 0 q)
      = max (colMax (cScore i X) (ix2 0 q)) (-(colMax (cScore i X) (ix2 0 q))) := by
    show Scalar.select (hasC i (ix2 0 q)) _ _ = _
    rw [(hasC_apply q).mpr h31]
    rfl
  rw [h2, hm, max_le_iff] at h1
  exact ⟨EReal.neg_le.mp h1.2, h1.1⟩

include R in
/-- The compressed branch's rows, each a softmax of the row. -/
theorem cOut_apply (r : Fin 128) (r' : Fin 144) (hr : r'.val = r.val) (v : Fin 255 → EReal) (hv : ∀ c : Fin 255, rowsC X r' c.val = v c) :
    cOut i X (ix2 r q) = attn (scoreC A (batch i) (posOf i (subOf q)) (kvHead i) (headOf q)) v := by
  have hn : norm (Finset.range 255) (colC A i q) (rowsC X r') = attn (scoreC A (batch i) (posOf i (subOf q)) (kvHead i) (headOf q)) v :=
    norm_eq_attn (n := 255) (Finset.Subset.refl _) (fun p hp hn => absurd hp hn) (fun p => by unfold colC; rw [dif_pos p.isLt]) hv
  by_cases h31 : 31 ≤ (posOf i (subOf q)).val
  · rw [← hn, cOut_eq]
    by_cases h : 60 < k0_pay2217 (cScore i X) (hasC i)
    · have hm : ∀ p : Fin 256, rep 256 (colMax (cScore i X)) (ix2 p q) = (Finset.range 255).sup (colC A i q) := by
        intro p
        rw [rep_apply, colMax_apply, ← sup_part _ (colC_end q)]
        exact congrArg _ (funext fun p => cScore_apply R q p)
      rw [if_pos ((over_test _).mpr h), scaled_apply _ _ q (hasC_apply q) r r' hr, if_pos h31, weighed_apply R q _ _ hm, weighed_apply R q _ _ hm, part_ones]
      exact shifted_final _ _ _
    · have hm : ∀ p : Fin 256, broadcast S256x2048 (Scalar.ofBits (F := Ideal) .f32 0x00000000#32) (ix2 p q) = (0 : EReal) := fun p => lit_zero
      rw [if_neg (fun h' => h ((over_test _).mp h')), scaled_apply _ _ q (hasC_apply q) r r' hr, if_pos h31, weighed_apply R q _ _ hm, weighed_apply R q _ _ hm, part_ones]
      exact unshifted_final _ _ _ (top_ok R q h31 h).1 (top_ok R q h31 h).2
  · rw [attn_none _ _ (fun c => by unfold scoreC; rw [if_neg (by omega)]), cOut_eq]
    split <;> rw [scaled_apply _ _ q (hasC_apply q) r r' hr, if_neg h31, mul_zero]

include R in
theorem cOut_value (r : Fin 128) (d : Fin 64) (hr : r.val = d.val) :
    cOut i X (ix2 r q) = attn (scoreC A (batch i) (posOf i (subOf q)) (kvHead i) (headOf q)) (fun c => A.vc (batch i) c (kvHead i) d) :=
  cOut_apply R q r ⟨r.val, by have := r.isLt; omega⟩ rfl _ (fun c => rowsC_value R _ d hr c)
include R in
theorem cOut_overlap (r : Fin 128) (j : Fin 64) (hr : r.val = 64 + j.val) :
    cOut i X (ix2 r q) = attn (scoreC A (batch i) (posOf i (subOf q)) (kvHead i) (headOf q)) (overlap j) :=
  cOut_apply R q r ⟨r.val, by have := r.isLt; omega⟩ rfl _ (fun c => rowsC_overlap _ j hr c)

/-- A head's column of a query. -/
def colAt (g : Fin 4) (u : Fin 512) : Fin 2048 := ⟨512 * g.val + u.val, by have := g.isLt; have := u.isLt; omega⟩
theorem headOf_colAt (g : Fin 4) (u : Fin 512) : headOf (colAt g u) = g := Fin.ext (by show (512 * g.val + u.val) / 512 = g.val; have := u.isLt; omega)
theorem subOf_colAt (g : Fin 4) (u : Fin 512) : subOf (colAt g u) = u := Fin.ext (by show (512 * g.val + u.val) % 512 = u.val; have := u.isLt; omega)

def lowRow (j : Fin 64) : Fin 128 := ⟨64 + j.val, by have := j.isLt; omega⟩

theorem low_apply (C : FVec Ideal S128x2048 .f32) (g : Fin 4) (off : ℕ) (ho : off = 512 * g.val) (h : S64x2048.Slices ![0, off] S64x512) (j : Fin 64) (u : Fin 512) :
    extractStridedSlice S64x512 ![0, off] (extractStridedSlice S64x2048 ![64, 0] C slices_S128x2048_o64_0_S64x2048) h (ix2 j u) = C (ix2 (lowRow j) (colAt g u)) := by
  refine (extractStridedSlice_apply _ _ _ _ (ix2 j (colAt g u)) fun a => ?_).trans (extractStridedSlice_apply _ _ _ _ _ fun a => ?_)
  · fin_cases a
    · exact (Nat.zero_add _).symm
    · subst ho; rfl
  · fin_cases a
    · rfl
    · exact (Nat.zero_add _).symm

include R in
/-- The blocks' importances. -/
theorem imp_apply (j : Fin 64) (u : Fin 512) : k0_pay2220 (cOut i X) (ix2 j u) = imp A (batch i) (posOf i u) (kvHead i) j := by
  have e : k0_pay2220 (cOut i X) (ix2 j u) = ((cOut i X (ix2 (lowRow j) (colAt 0 u)) + cOut i X (ix2 (lowRow j) (colAt 1 u))) + cOut i X (ix2 (lowRow j) (colAt 2 u)))
      + cOut i X (ix2 (lowRow j) (colAt 3 u)) := by
    rw [← low_apply (cOut i X) 0 0 rfl slices_S64x2048_o0_0_S64x512, ← low_apply (cOut i X) 1 512 rfl slices_S64x2048_o0_512_S64x512,
      ← low_apply (cOut i X) 2 1024 rfl slices_S64x2048_o0_1024_S64x512, ← low_apply (cOut i X) 3 1536 rfl slices_S64x2048_o0_1536_S64x512]
    rfl
  have hg : ∀ g : Fin 4, cOut i X (ix2 (lowRow j) (colAt g u)) = attn (scoreC A (batch i) (posOf i u) (kvHead i) g) (overlap j) := by
    intro g
    rw [cOut_overlap R _ _ j rfl, headOf_colAt, subOf_colAt]
  rw [e, hg, hg, hg, hg]
  unfold imp
  rw [Fin.sum_univ_four]

/-! The blocks' scores. -/

theorem valid_apply (j : Fin 64) (u : Fin 512) : k0_pay2221 (k0_pay2206 i) (ix2 j u) = 1#1 ↔ 64 * j.val ≤ (posOf i u).val := by
  have hj := j.isLt
  have ht := (posOf i u).isLt
  have e : k0_pay2221 (k0_pay2206 i) (ix2 j u) = IntOp.cmpi .sle (IntOp.muli (BitVec.ofNat 32 (0 * 64 + j.val)) (BitVec.ofNat 32 64)) (k0_pay2206 i (ix2 0 u)) :=
    congrArg₂ (IntOp.cmpi .sle) (col_apply (muli (iota .tc S64x1 32 [0] iota_S64x1_d0_w32) (broadcast S64x1 64#32)) j u) (row_apply (k0_pay2206 i) j u)
  rw [e, pos_apply, mul_nat, sle_nat (by omega) (by omega)]
  omega

/-- A position's block, by the kernel's division. -/
def blockWord (t : BitVec 32) : BitVec 32 :=
  Scalar.select (IntOp.andi (IntOp.cmpi .ne (IntOp.subi ((IntOp.cmpi .sgt t 0#32).setWidth 32) ((IntOp.cmpi .slt t 0#32).setWidth 32))
    (Scalar.subi (Scalar.extui (Scalar.cmpi .sgt 64#32 0#32)) (Scalar.extui (Scalar.cmpi .slt 64#32 0#32)))) (IntOp.cmpi .ne (IntOp.remsi .vector t 64#32) 0#32))
    (IntOp.subi (IntOp.divsi .vector t 64#32) 1#32) (IntOp.divsi .vector t 64#32)

theorem blockWord_eq (t : Fin 4096) : blockWord (BitVec.ofNat 32 t.val) = BitVec.ofNat 32 (t.val / 64) := by
  revert t; decide +kernel

theorem before_eq {a n : ℕ} (ha : a < 64) (hn : n < 64) : IntOp.cmpi .eq (BitVec.ofNat 32 a) (IntOp.subi (BitVec.ofNat 32 n) 1#32) = 1#1 ↔ a + 1 = n := by
  have h : ∀ a n : Fin 64, IntOp.cmpi .eq (BitVec.ofNat 32 a.val) (IntOp.subi (BitVec.ofNat 32 n.val) 1#32) = 1#1 ↔ a.val + 1 = n.val := by decide +kernel
  exact h ⟨a, ha⟩ ⟨n, hn⟩

include R in
theorem bScore_apply (j : Fin 64) (u : Fin 512) : bScore i X (ix2 j u) = score A (batch i) (posOf i u) (kvHead i) j := by
  have hj := j.isLt
  have ht := (posOf i u).isLt
  have e : bScore i X (ix2 j u) = Scalar.select
      (IntOp.andi (IntOp.ori (IntOp.ori (IntOp.cmpi .eq (BitVec.ofNat 32 (0 * 64 + j.val)) (BitVec.ofNat 32 0)) (IntOp.cmpi .eq (BitVec.ofNat 32 (0 * 64 + j.val)) (blockWord (k0_pay2206 i (ix2 0 u)))))
        (IntOp.cmpi .eq (BitVec.ofNat 32 (0 * 64 + j.val)) (IntOp.subi (blockWord (k0_pay2206 i (ix2 0 u))) 1#32))) (k0_pay2221 (k0_pay2206 i) (ix2 j u)))
      (Ideal.ofBits .f32 0x461C4000#32)
      (Scalar.select (k0_pay2221 (k0_pay2206 i) (ix2 j u)) (k0_pay2220 (cOut i X) (ix2 j u)) (Ideal.ofBits .f32 0xBF800000#32)) := rfl
  have hf : (IntOp.andi (IntOp.ori (IntOp.ori (IntOp.cmpi .eq (BitVec.ofNat 32 (0 * 64 + j.val)) (BitVec.ofNat 32 0)) (IntOp.cmpi .eq (BitVec.ofNat 32 (0 * 64 + j.val)) (blockWord (k0_pay2206 i (ix2 0 u)))))
        (IntOp.cmpi .eq (BitVec.ofNat 32 (0 * 64 + j.val)) (IntOp.subi (blockWord (k0_pay2206 i (ix2 0 u))) 1#32))) (k0_pay2221 (k0_pay2206 i) (ix2 j u))) = 1#1
      ↔ Forced (posOf i u) j ∧ 64 * j.val ≤ (posOf i u).val := by
    rw [and_one, or_one, or_one, valid_apply, pos_apply, blockWord_eq, eq_nat (by omega) (by omega), eq_nat (by omega) (by omega), before_eq (by omega) (by omega)]
    unfold Forced
    rw [show 0 * 64 + j.val = j.val by omega, or_assoc]
  rw [e, select_eq hf, select_eq (valid_apply j u), imp_apply R, lit_first, lit_neg_one]
  rfl

include R in
/-- The kernel keeps the blocks that the specification chooses. -/
theorem kept : Kept A i X := by
  intro j u hj
  have hc : colOf (bScore i X) u = score A (batch i) (posOf i u) (kvHead i) := funext fun k => bScore_apply R k u
  have h := keepAt_apply (bScore i X) (k0_pay2221 (k0_pay2206 i)) (qTile i) j u hj (valid_apply j u) (fun k => by rw [hc]; exact score_nonneg_iff A _ _ _ k)
  rw [hc] at h
  refine ⟨fun hC => h.trans (if_pos hC.1), fun hC => h.trans (if_neg fun hr => hC ⟨hr, hj⟩)⟩

end

end Cert.KernelIdeal.Hand
-- ==== Proof.KernelIdeal.Heads.lean ====
module

public import proofs.«01_k».proof.Proof.KernelIdeal.Compressed
public import proofs.«01_k».proof.Proof.KernelIdeal.Body

@[expose] public section

noncomputable section

/-! A grid point's block of the result holds the specification's attention. -/

namespace Cert.KernelIdeal.Hand

open Idealize.ShloMosaic hiding ix2 ix1 ix3 ix4
open Idealize.SL.Sem Gen ValueIdx Cert.Words Cert.Spec

/-- A head's three branches, gated and summed. -/
def gated (C S W : FVec Ideal S64x2048 .f32) (g0 g1 g2 : Vec Ideal S1x1x1x512 .f32) (off : ℕ) (h : S64x2048.Slices ![0, off] S64x512) : FVec Ideal S64x512 .bf16 :=
  truncf .bf16 (addf (addf
    (mulf (broadcastTo S64x512 (shapeCast S1x512 g0 shapeCasts_S1x1x1x512_S1x512) broadcasts_S1x512_S64x512) (extractStridedSlice S64x512 ![0, off] C h))
    (mulf (broadcastTo S64x512 (shapeCast S1x512 g1 shapeCasts_S1x1x1x512_S1x512) broadcasts_S1x512_S64x512) (extractStridedSlice S64x512 ![0, off] S h)))
    (mulf (broadcastTo S64x512 (shapeCast S1x512 g2 shapeCasts_S1x1x1x512_S1x512) broadcasts_S1x512_S64x512) (extractStridedSlice S64x512 ![0, off] W h))) bitsLt_bf16_f32

theorem gateRow_apply (X : Ins Ideal) (k : Fin 3) (g : Fin 4) (d : Fin 64) (u : Fin 512) :
    broadcastTo S64x512 (shapeCast S1x512 (gateOf X k g) shapeCasts_S1x1x1x512_S1x512) broadcasts_S1x512_S64x512 (ix2 d u) = X.gate (ix4 k 0 g u) := by
  refine (row_apply (k := 64) (n := 512) _ d u).trans ((shapeCast_apply _ _ (ix2 0 u) (ix4 (0 : Fin 1) (0 : Fin 1) (0 : Fin 1) u) ?_).trans (View.ld_unit_apply_of _ _ _ _ _ (ix4 k 0 g u) ?_))
  · rw [rowMajor_val4 _ (1 * 1 * 512) (1 * 512) 512 rfl rfl rfl, rowMajor_val2 _ 512 rfl]
    show 0 * _ + 0 * _ + 0 * _ + u.val = 0 * _ + u.val
    omega
  · intro a; fin_cases a
    · rfl
    · rfl
    · rfl
    · exact (Nat.zero_add _).symm

theorem headCol_apply (C : FVec Ideal S64x2048 .f32) (g : Fin 4) (off : ℕ) (ho : off = 512 * g.val) (h : S64x2048.Slices ![0, off] S64x512) (d : Fin 64) (u : Fin 512) :
    extractStridedSlice S64x512 ![0, off] C h (ix2 d u) = C (ix2 d (colAt g u)) := by
  refine extractStridedSlice_apply _ _ _ _ (ix2 d (colAt g u)) fun a => ?_
  fin_cases a
  · exact (Nat.zero_add _).symm
  · subst ho; rfl

theorem quotient_apply (M : FVec Ideal S80x2048 .f32) (d : Fin 64) (r : Fin 80) (hr : r.val = d.val) (q : Fin 2048) :
    k0_pay2329 M (ix2 d q) = M (ix2 r q) * Ideal.div 1 (M (ix2 oneRow q)) := by
  have e1 : extractStridedSlice S64x2048 ![0, 0] M slices_S80x2048_o0_0_S64x2048 (ix2 d q) = M (ix2 r q) := by
    refine extractStridedSlice_apply _ _ _ _ _ fun a => ?_
    fin_cases a
    · show r.val = 0 + d.val; omega
    · exact (Nat.zero_add _).symm
  have e2 : extractStridedSlice S1x2048 ![64, 0] M slices_S80x2048_o64_0_S1x2048 (ix2 0 q) = M (ix2 oneRow q) := by
    refine extractStridedSlice_apply _ _ _ _ _ fun a => ?_
    fin_cases a
    · rfl
    · exact (Nat.zero_add _).symm
  refine congrArg₂ (fun x y : EReal => x * y) e1 ((row_apply (k := 64) (n := 2048) _ d q).trans ?_)
  show Ideal.div (Ideal.ofBits .f32 0x3F800000#32) (extractStridedSlice S1x2048 ![64, 0] M slices_S80x2048_o64_0_S1x2048 (ix2 0 q)) = _
  rw [e2, lit_one]
theorem quotient_apply' (M : FVec Ideal S80x2048 .f32) (d : Fin 64) (r : Fin 80) (hr : r.val = d.val) (q : Fin 2048) :
    k0_pay2330 M (ix2 d q) = M (ix2 r q) * Ideal.div 1 (M (ix2 oneRow q)) := quotient_apply M d r hr q

theorem top_apply (C : FVec Ideal S128x2048 .f32) (d : Fin 64) (r : Fin 128) (hr : r.val = d.val) (q : Fin 2048) : k0_pay2219 C (ix2 d q) = C (ix2 r q) := by
  refine extractStridedSlice_apply ![0, 0] C slices_S128x2048_o0_0_S64x2048 (ix2 d q) (ix2 r q) fun a => ?_
  fin_cases a
  · show r.val = 0 + d.val; omega
  · exact (Nat.zero_add _).symm

section
variable {A : Args} {i : grid0.Coords} {X : Ins Ideal} (R : Reads A i X)

include R in
theorem gated_apply (g : Fin 4) (off : ℕ) (ho : off = 512 * g.val) (h : S64x2048.Slices ![0, off] S64x512) (d : Fin 64) (u : Fin 512) :
    gated (k0_pay2219 (cOut i X)) (k0_pay2329 (sums i X).1) (k0_pay2330 (sums i X).2) (gateOf X 0 g) (gateOf X 1 g) (gateOf X 2 g) off h (ix2 d u)
      = out A (batch i) (posOf i u) (kvHead i) g d := by
  have hd := d.isLt
  unfold gated out
  rw [truncf_apply, addf_apply, addf_apply, mulf_apply, mulf_apply, mulf_apply, gateRow_apply, gateRow_apply, gateRow_apply, headCol_apply _ g off ho, headCol_apply _ g off ho,
    headCol_apply _ g off ho, top_apply _ d ⟨d.val, by omega⟩ rfl, quotient_apply _ d ⟨d.val, by omega⟩ rfl, quotient_apply' _ d ⟨d.val, by omega⟩ rfl,
    cOut_value R _ _ d rfl, sums_sel R _ (kept R) _ d rfl, sums_win R _ _ d rfl, R.gate, R.gate, R.gate, headOf_colAt, subOf_colAt]

include R in
/-- The block at a head's row and a query. -/
theorem outOf_apply (g : Fin 4) (d : Fin 64) (u : Fin 512) : outOf i X (ix2 (rowQ g d) u) = out A (batch i) (posOf i u) (kvHead i) g d := by
  have hg := g.isLt
  have hd := d.isLt
  have key : ∀ (k : Fin 4) (H : FVec Ideal S64x512 .bf16) (hH : ∀ (d : Fin 64) (u : Fin 512), H (ix2 d u) = out A (batch i) (posOf i u) (kvHead i) k d) (off : ℕ), off = 64 * k.val →
      View.TileAt (Val := Elt Ideal) (S := S256x512) (e := .bf16) (ix2 (rowQ g d) u) ![off, 0] S64x512.size H (out A (batch i) (posOf i u) (kvHead i) g d) := by
    intro k H hH off ho x hx
    have h0 : 64 * g.val + d.val = off + (x 0).val := hx 0
    have h1 : u.val = 0 + (x 1).val := hx 1
    have hx0 : (x 0).val < 64 := (x 0).isLt
    have hgk : g = k := Fin.ext (by omega)
    subst hgk
    rw [ValueIdx.eq_ix2 x, show x 0 = d from Fin.ext (by omega), show x 1 = u from Fin.ext (by omega)]
    exact hH d u
  unfold outOf
  refine View.canon_eq_of_allAt _ _ _ (out_cover i X _) ?_
  unfold outPieces
  refine View.allAt_cons_unit _ _ _ _ _ (key 3 (head3 i X) (fun d u => gated_apply R 3 1536 rfl slices_S64x2048_o0_1536_S64x512 d u) 192 rfl) ?_
  refine View.allAt_cons_unit _ _ _ _ _ (key 2 (head2 i X) (fun d u => gated_apply R 2 1024 rfl slices_S64x2048_o0_1024_S64x512 d u) 128 rfl) ?_
  refine View.allAt_cons_unit _ _ _ _ _ (key 1 (head1 i X) (fun d u => gated_apply R 1 512 rfl slices_S64x2048_o0_512_S64x512 d u) 64 rfl) ?_
  refine View.allAt_cons_unit _ _ _ _ _ (key 0 (head0 i X) (fun d u => gated_apply R 0 0 rfl slices_S64x2048_o0_0_S64x512 d u) 0 rfl) (View.allAt_nil _ _)

end

end Cert.KernelIdeal.Hand
-- ==== Proof.KernelIdeal.HostK.lean ====
module

public import proofs.«01_k».proof.Proof.Gen.KernelIdeal.Frame
public import Idealize.ShloMosaic.Lib.StableHlo.Run

@[expose] public section

noncomputable section

/-! The arrays that the kernel call is given, as terms of the arguments. -/

namespace Cert.KernelIdeal.Hand

open Idealize.ShloMosaic Idealize.SL.Sem Gen Idealize.ShloMosaic.StableHlo

variable {F : FTy → Type} [FloatOps F]

/-- The queries: in units of a logarithm to base two, a row for each head and feature. -/
def qArr (x : Vec F S4x4096x4x4x64 .f32) : Vec F S1024x16384 .bf16 :=
  truncf .bf16 (transpose S1024x16384 [1, 0] (Host.divf (shapeCast S16384x1024 x shapeCasts_S4x4096x4x4x64_S16384x1024)
    (broadcastInDim S16384x1024 ![] bcast_S_S16384x1024 (Host.log (constant S_ .f32 0x40000000#32)))) transposes_S16384x1024_S1024x16384_1_0) bitsLt_bf16_f32
/-- The gates: a row for each branch and head. -/
def gateArr (x : Vec F S4x4096x3x4x4 .f32) : Vec F S3x4x4x16384 .f32 :=
  shapeCast S3x4x4x16384 (transpose S48x16384 [1, 0] (shapeCast S16384x48 x shapeCasts_S4x4096x3x4x4_S16384x48) transposes_S16384x48_S48x16384_1_0) shapeCasts_S48x16384_S3x4x4x16384
/-- The compressed keys and values, with one more of them, zero. -/
def padArr (x : Vec F S4x255x4x64 .f32) : Vec F S4x256x4x64 .f32 :=
  pad S4x256x4x64 ![0, 0, 0, 0] ![0, 1, 0, 0] ![0, 0, 0, 0] x (sitofp .f32 (constantI S_ 32 0#32 : IVec S_ 32)) pads_S4x255x4x64_S4x256x4x64_000_010_000_000 h_S_
def kcArr (x : Vec F S4x255x4x64 .f32) : Vec F S4x4x256x64 .bf16 :=
  truncf .bf16 (transpose S4x4x256x64 [0, 2, 1, 3] (padArr x) transposes_S4x256x4x64_S4x4x256x64_0_2_1_3) bitsLt_bf16_f32
def vcArr (x : Vec F S4x255x4x64 .f32) : Vec F S4x4x64x256 .bf16 :=
  truncf .bf16 (transpose S4x4x64x256 [0, 2, 3, 1] (padArr x) transposes_S4x256x4x64_S4x4x64x256_0_2_3_1) bitsLt_bf16_f32
/-- An array of one 32-bit number. -/
def allOf (v : IVec S_ 32) : IVec S16384x128 32 := broadcastInDim S16384x128 ![] bcast_S_S16384x128 v
/-- The remainder of the floor division by one number. -/
def modArr (x : IVec S16384x128 32) (n : IVec S_ 32) : IVec S16384x128 32 :=
  let d : IVec S_ 32 := select (cmpi .eq n (constantI S_ 32 0#32)) (constantI S_ 32 1#32) n
  let r : IVec S16384x128 32 := Host.remsi x (allOf d)
  select (andi (cmpi .ne (cmpi .slt r (allOf (constantI S_ 32 0#32))) (broadcastInDim S16384x128 ![] bcast_S_S16384x128 (cmpi .slt d (constantI S_ 32 0#32)))) (cmpi .ne r (allOf (constantI S_ 32 0#32))))
    (addi r (allOf d)) r
/-- The floor division by one number. -/
def divArr (x : IVec S16384x128 32) (n : IVec S_ 32) : IVec S16384x128 32 :=
  select (andi (cmpi .ne (signi x) (allOf (signi n))) (cmpi .ne (Host.remsi x (allOf n)) (allOf (constantI S_ 32 0#32))))
    (subi (Host.divsi x (allOf n)) (allOf (constantI S_ 32 1#32))) (Host.divsi x (allOf n))
/-- At a key's row and a block's column: whether the key is of the block. -/
def blkArr : Vec F S16384x128 .f32 :=
  select (cmpi .eq (divArr (modArr (iotaInDim S16384x128 32 0 : IVec S16384x128 32) (constantI S_ 32 4096#32)) (constantI S_ 32 64#32)) (iotaInDim S16384x128 32 1 : IVec S16384x128 32))
    (broadcastInDim S16384x128 ![] bcast_S_S16384x128 (constant S_ .f32 0x7F800000#32 : Vec F S_ .f32)) (broadcastInDim S16384x128 ![] bcast_S_S16384x128 (constant S_ .f32 0x00000000#32 : Vec F S_ .f32))
/-- Rows of keys. -/
def rowsArr (x : Vec F S4x4096x4x64 .f32) : Vec F S16384x256 .f32 := shapeCast S16384x256 x shapeCasts_S4x4096x4x64_S16384x256
def halfArr (h : Vec F S16384x128 .f32) : Vec F S1x16384x256 .bf16 :=
  broadcastInDim S1x16384x256 ![1, 2] bcast_S16384x256_S1x16384x256_1_2
    (truncf .bf16 (concatenate S16384x256 1 [⟨S16384x128, h⟩, ⟨S16384x128, blkArr⟩] concatenates_S16384x128_S16384x128_S16384x256_d1 : Vec F S16384x256 .f32) bitsLt_bf16_f32)
/-- The selected branch's keys, two heads beside the blocks. -/
def ksArr (x : Vec F S4x4096x4x64 .f32) : Vec F S2x16384x256 .bf16 :=
  concatenate S2x16384x256 0 [⟨S1x16384x256, halfArr (extractStridedSlice S16384x128 ![0, 0] (rowsArr x) slices_S16384x256_S16384x128_0_0)⟩,
    ⟨S1x16384x256, halfArr (extractStridedSlice S16384x128 ![0, 128] (rowsArr x) slices_S16384x256_S16384x128_0_128)⟩] concatenates_S1x16384x256_S1x16384x256_S2x16384x256_d0
/-- Keys and values of the two other branches. -/
def kwArr (x : Vec F S4x4096x4x64 .f32) : Vec F S16384x256 .bf16 := truncf .bf16 (rowsArr x) bitsLt_bf16_f32
def vtArr (x : Vec F S4x4096x4x64 .f32) : Vec F S256x16384 .bf16 := truncf .bf16 (transpose S256x16384 [1, 0] (rowsArr x) transposes_S16384x256_S256x16384_1_0) bitsLt_bf16_f32

/-- What a stretch of operations leaves of a buffer that none of them writes. -/
theorem keep {W : List (Ref sig .tc)} {ops : List (HloOp τ sig (Elt F))} (h : ops.Forall fun op => op.writes ⊆ (W.map (Proc.devRef (τ := τ) .tc)).toFinset)
    (V0 : Valuation τ sig (Elt F)) (r : Ref sig .tc) (hr : r ∉ W) : after ops V0 (Proc.devRef .tc r) = V0 (Proc.devRef .tc r) :=
  after_of_writes_sub ops V0 h hr

abbrev written0 : List (Ref sig .tc) := [main_v0, main_cst, main_v1, main_v2, main_v3, main_v4, main_v5, main_v6, main_v7, main_c]
theorem writes0 : (hostOps0 : List (HloOp τ sig (Elt F))).Forall fun op => op.writes ⊆ (written0.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
abbrev written1 : List (Ref sig .tc) := [main_call0_v0, main_v8]
theorem writes1 : (hostOps0_1 : List (HloOp τ sig (Elt F))).Forall fun op => op.writes ⊆ (written1.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
abbrev written2 : List (Ref sig .tc) := [main_v9, main_v10, main_c_0]
theorem writes2 : (hostOps0_2 : List (HloOp τ sig (Elt F))).Forall fun op => op.writes ⊆ (written2.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
abbrev written3 : List (Ref sig .tc) := [main_call1_v0, main_v11]
theorem writes3 : (hostOps0_3 : List (HloOp τ sig (Elt F))).Forall fun op => op.writes ⊆ (written3.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
abbrev written4 : List (Ref sig .tc) := [main_v12, main_v13, main_v14, main_c_1]
theorem writes4 : (hostOps0_4 : List (HloOp τ sig (Elt F))).Forall fun op => op.writes ⊆ (written4.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
abbrev written5 : List (Ref sig .tc) := [main_call2_v0, main_call2_c, main_call2_v1, main_call2_c_0, main_call2_v2, main_call2_v3, main_call2_v4, main_call2_c_1, main_call2_v5, main_call2_v6, main_call2_c_2, main_call2_v7, main_call2_v8, main_call2_c_3, main_call2_v9, main_call2_v10, main_call2_v11, main_call2_v12, main_call2_v13, main_call2_v14, main_v15]
theorem writes5 : (hostOps0_5 : List (HloOp τ sig (Elt F))).Forall fun op => op.writes ⊆ (written5.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
abbrev written6 : List (Ref sig .tc) := [main_v16, main_c_2]
theorem writes6 : (hostOps0_6 : List (HloOp τ sig (Elt F))).Forall fun op => op.writes ⊆ (written6.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
abbrev written7 : List (Ref sig .tc) := [main_call3_v0, main_call3_v1, main_call3_v2, main_call3_v3, main_call3_v4, main_call3_v5, main_call3_v6, main_call3_v7, main_call3_v8, main_call3_c, main_call3_v9, main_call3_v10, main_call3_v11, main_call3_c_0, main_call3_v12, main_call3_v13, main_v17]
theorem writes7 : (hostOps0_7 : List (HloOp τ sig (Elt F))).Forall fun op => op.writes ⊆ (written7.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
abbrev written8 : List (Ref sig .tc) := [main_v18, main_cst_3, main_cst_4]
theorem writes8 : (hostOps0_8 : List (HloOp τ sig (Elt F))).Forall fun op => op.writes ⊆ (written8.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
abbrev written9 : List (Ref sig .tc) := [main_call4_v0, main_call4_v1, main_v19]
theorem writes9 : (hostOps0_9 : List (HloOp τ sig (Elt F))).Forall fun op => op.writes ⊆ (written9.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
abbrev written10 : List (Ref sig .tc) := [main_v20, main_v21, main_v22, main_v23, main_v24, main_v25, main_v26, main_v27, main_v28, main_v29, main_v30, main_v31, main_v32, main_v33, main_v34, main_v35, main_v36, main_v37, main_v38, main_v39, main_v40]
theorem writes10 : (hostOps0_10 : List (HloOp τ sig (Elt F))).Forall fun op => op.writes ⊆ (written10.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

variable (m : (ℓ : Loc nD τ sig) → Buf (Elt F) ℓ) (c : Dev nD)

/-- The buffers after each stretch. -/
def val0 : Valuation τ sig (Elt F) := after hostOps0 (fun b => m (c, b))
def val1 : Valuation τ sig (Elt F) := after hostOps0_1 (val0 m c)
def val2 : Valuation τ sig (Elt F) := after hostOps0_2 (val1 m c)
def val3 : Valuation τ sig (Elt F) := after hostOps0_3 (val2 m c)
def val4 : Valuation τ sig (Elt F) := after hostOps0_4 (val3 m c)
def val5 : Valuation τ sig (Elt F) := after hostOps0_5 (val4 m c)
def val6 : Valuation τ sig (Elt F) := after hostOps0_6 (val5 m c)
def val7 : Valuation τ sig (Elt F) := after hostOps0_7 (val6 m c)
def val8 : Valuation τ sig (Elt F) := after hostOps0_8 (val7 m c)
def val9 : Valuation τ sig (Elt F) := after hostOps0_9 (val8 m c)
def val10 : Valuation τ sig (Elt F) := after hostOps0_10 (val9 m c)

theorem after_app (l₁ l₂ : List (HloOp τ sig (Elt F))) (V0 : Valuation τ sig (Elt F)) : after (l₁ ++ l₂) V0 = after l₂ (after l₁ V0) := by
  induction l₁ generalizing V0 with
  | nil => rfl
  | cons op l ih => exact ih _

theorem V_eq (b : Ref sig .tc) : V m c b = val10 m c (Proc.devRef .tc b) := by
  unfold V
  rw [List.flatten_cons, List.flatten_cons, List.flatten_cons, List.flatten_cons, List.flatten_cons, List.flatten_cons, List.flatten_cons, List.flatten_cons,
    List.flatten_cons, List.flatten_cons, List.flatten_cons, List.flatten_nil, after_app, after_app, after_app, after_app, after_app, after_app, after_app, after_app,
    after_app, after_app, after_app]
  rfl

/-- An argument before the last stretch. -/
theorem arg_val9 (r : Ref sig .tc) (h : r ∉ written0 ++ written1 ++ written2 ++ written3 ++ written4 ++ written5 ++ written6 ++ written7 ++ written8 ++ written9) :
    val9 m c (Proc.devRef .tc r) = m (c, Proc.devRef .tc r) := by
  simp only [List.mem_append, not_or] at h
  obtain ⟨⟨⟨⟨⟨⟨⟨⟨⟨h0, h1⟩, h2⟩, h3⟩, h4⟩, h5⟩, h6⟩, h7⟩, h8⟩, h9⟩ := h
  exact (keep writes9 _ r h9).trans ((keep writes8 _ r h8).trans ((keep writes7 _ r h7).trans ((keep writes6 _ r h6).trans ((keep writes5 _ r h5).trans
    ((keep writes4 _ r h4).trans ((keep writes3 _ r h3).trans ((keep writes2 _ r h2).trans ((keep writes1 _ r h1).trans (keep writes0 _ r h0)))))))))

/-- What stands after the first stretch and is not written again. -/
theorem first_val9 (r : Ref sig .tc) (h : r ∉ written1 ++ written2 ++ written3 ++ written4 ++ written5 ++ written6 ++ written7 ++ written8 ++ written9) :
    val9 m c (Proc.devRef .tc r) = val0 m c (Proc.devRef .tc r) := by
  simp only [List.mem_append, not_or] at h
  obtain ⟨⟨⟨⟨⟨⟨⟨⟨h1, h2⟩, h3⟩, h4⟩, h5⟩, h6⟩, h7⟩, h8⟩, h9⟩ := h
  exact (keep writes9 _ r h9).trans ((keep writes8 _ r h8).trans ((keep writes7 _ r h7).trans ((keep writes6 _ r h6).trans ((keep writes5 _ r h5).trans
    ((keep writes4 _ r h4).trans ((keep writes3 _ r h3).trans ((keep writes2 _ r h2).trans (keep writes1 _ r h1))))))))
/-- What stands after the fifth stretch and is not written again. -/
theorem fifth_val9 (r : Ref sig .tc) (h : r ∉ written5 ++ written6 ++ written7 ++ written8 ++ written9) :
    val9 m c (Proc.devRef .tc r) = val4 m c (Proc.devRef .tc r) := by
  simp only [List.mem_append, not_or] at h
  obtain ⟨⟨⟨⟨h5, h6⟩, h7⟩, h8⟩, h9⟩ := h
  exact (keep writes9 _ r h9).trans ((keep writes8 _ r h8).trans ((keep writes7 _ r h7).trans ((keep writes6 _ r h6).trans (keep writes5 _ r h5))))

set_option maxRecDepth 16384
set_option maxHeartbeats 4000000

theorem V_q : V m c main_v5 = qArr (m (c, Proc.devRef .tc main_arg0)) := by
  rw [V_eq]
  refine (keep writes10 _ main_v5 (by decide)).trans ((first_val9 m c main_v5 (by decide)).trans ?_)
  unfold val0
  after_results_simp
  all_goals rfl

theorem V_gate : V m c main_v40 = gateArr (m (c, Proc.devRef .tc main_arg1)) := by
  rw [V_eq]
  have e : val9 m c (Proc.devRef .tc main_v7) = (transpose S48x16384 [1, 0] (shapeCast S16384x48 (m (c, Proc.devRef .tc main_arg1)) shapeCasts_S4x4096x3x4x4_S16384x48) transposes_S16384x48_S48x16384_1_0 : Vec F S48x16384 .f32) := by
    refine (first_val9 m c main_v7 (by decide)).trans ?_
    unfold val0
    after_results_simp
    all_goals rfl
  have e' : val10 m c (Proc.devRef .tc main_v40) = (shapeCast S3x4x4x16384 (val9 m c (Proc.devRef .tc main_v7) : Vec F S48x16384 .f32) shapeCasts_S48x16384_S3x4x4x16384 : Vec F S3x4x4x16384 .f32) := by
    unfold val10
    after_results_simp
    all_goals rfl
  rw [e', e]
  rfl

theorem V_kc : V m c main_v10 = kcArr (m (c, Proc.devRef .tc main_arg2)) := by
  rw [V_eq]
  refine (keep writes10 _ main_v10 (by decide)).trans ((fifth_val9 m c main_v10 (by decide)).trans ((keep writes4 _ main_v10 (by decide)).trans ((keep writes3 _ main_v10 (by decide)).trans ?_)))
  have e0 : val0 m c (Proc.devRef .tc main_c) = (constantI S_ 32 0#32 : IVec S_ 32) := by
    unfold val0
    after_results_simp
  have e1 : val0 m c (Proc.devRef .tc main_arg2) = m (c, Proc.devRef .tc main_arg2) := keep writes0 _ main_arg2 (by decide)
  have e2 : val1 m c (Proc.devRef .tc main_v8) = padArr (m (c, Proc.devRef .tc main_arg2)) := by
    unfold val1
    after_results_simp
    rw [e0, e1]
    rfl
  show after hostOps0_2 (val1 m c) (Proc.devRef .tc main_v10) = _
  after_results_simp
  rw [e2]
  rfl

theorem V_vc : V m c main_v13 = vcArr (m (c, Proc.devRef .tc main_arg3)) := by
  rw [V_eq]
  refine (keep writes10 _ main_v13 (by decide)).trans ((fifth_val9 m c main_v13 (by decide)).trans ?_)
  have e0 : val2 m c (Proc.devRef .tc main_c_0) = (constantI S_ 32 0#32 : IVec S_ 32) := by
    unfold val2
    after_results_simp
  have e1 : val2 m c (Proc.devRef .tc main_arg3) = m (c, Proc.devRef .tc main_arg3) :=
    (keep writes2 _ main_arg3 (by decide)).trans ((keep writes1 _ main_arg3 (by decide)).trans (keep writes0 _ main_arg3 (by decide)))
  have e2 : val3 m c (Proc.devRef .tc main_v11) = padArr (m (c, Proc.devRef .tc main_arg3)) := by
    unfold val3
    after_results_simp
    rw [e0, e1]
    rfl
  show after hostOps0_4 (val3 m c) (Proc.devRef .tc main_v13) = _
  after_results_simp
  rw [e2]
  rfl

theorem V_vs : V m c main_v34 = vtArr (m (c, Proc.devRef .tc main_arg5)) := by
  rw [V_eq]
  show after hostOps0_10 (val9 m c) (Proc.devRef .tc main_v34) = _
  after_results_simp
  rw [arg_val9 m c main_arg5 (by decide)]
  rfl
theorem V_kw : V m c main_v36 = kwArr (m (c, Proc.devRef .tc main_arg6)) := by
  rw [V_eq]
  show after hostOps0_10 (val9 m c) (Proc.devRef .tc main_v36) = _
  after_results_simp
  rw [arg_val9 m c main_arg6 (by decide)]
  rfl
theorem V_vw : V m c main_v39 = vtArr (m (c, Proc.devRef .tc main_arg7)) := by
  rw [V_eq]
  show after hostOps0_10 (val9 m c) (Proc.devRef .tc main_v39) = _
  after_results_simp
  rw [arg_val9 m c main_arg7 (by decide)]
  rfl

theorem val_mod : val5 m c (Proc.devRef .tc main_v15) = modArr (iotaInDim S16384x128 32 0 : IVec S16384x128 32) (constantI S_ 32 4096#32) := by
  have e0 : val4 m c (Proc.devRef .tc main_v14) = (iotaInDim S16384x128 32 0 : IVec S16384x128 32) := by
    unfold val4
    after_results_simp
  have e1 : val4 m c (Proc.devRef .tc main_c_1) = (constantI S_ 32 4096#32 : IVec S_ 32) := by
    unfold val4
    after_results_simp
  unfold val5
  after_results_simp
  rw [e0, e1]
  simp only [TRef.ofBuf_toBuf]
  unfold modArr allOf
  generalize (iotaInDim S16384x128 32 0 : IVec S16384x128 32) = x
  rfl

theorem val_div : val7 m c (Proc.devRef .tc main_v17) = divArr (modArr (iotaInDim S16384x128 32 0 : IVec S16384x128 32) (constantI S_ 32 4096#32)) (constantI S_ 32 64#32) := by
  have e0 : val6 m c (Proc.devRef .tc main_v15) = modArr (iotaInDim S16384x128 32 0 : IVec S16384x128 32) (constantI S_ 32 4096#32) :=
    (keep writes6 _ main_v15 (by decide)).trans (val_mod m c)
  have e1 : val6 m c (Proc.devRef .tc main_c_2) = (constantI S_ 32 64#32 : IVec S_ 32) := by
    unfold val6
    after_results_simp
  unfold val7
  after_results_simp
  rw [e0, e1]
  simp only [TRef.ofBuf_toBuf]
  unfold divArr allOf
  generalize modArr (iotaInDim S16384x128 32 0 : IVec S16384x128 32) (constantI S_ 32 4096#32) = x
  rfl

theorem val_blk : val9 m c (Proc.devRef .tc main_v19) = (blkArr : Vec F S16384x128 .f32) := by
  have e0 : val7 m c (Proc.devRef .tc main_v16) = (iotaInDim S16384x128 32 1 : IVec S16384x128 32) := by
    refine (keep writes7 _ main_v16 (by decide)).trans ?_
    show after hostOps0_6 (val5 m c) (Proc.devRef .tc main_v16) = _
    after_results_simp
  have e1 : val8 m c (Proc.devRef .tc main_v18) = (cmpi .eq (divArr (modArr (iotaInDim S16384x128 32 0 : IVec S16384x128 32) (constantI S_ 32 4096#32)) (constantI S_ 32 64#32))
      (iotaInDim S16384x128 32 1 : IVec S16384x128 32) : IVec S16384x128 1) := by
    unfold val8
    after_results_simp
    rw [e0, val_div]
  have e2 : val8 m c (Proc.devRef .tc main_cst_3) = (constant S_ .f32 0x7F800000#32 : Vec F S_ .f32) := by
    unfold val8
    after_results_simp
  have e3 : val8 m c (Proc.devRef .tc main_cst_4) = (constant S_ .f32 0x00000000#32 : Vec F S_ .f32) := by
    unfold val8
    after_results_simp
  unfold val9
  after_results_simp
  rw [e1, e2, e3]
  unfold blkArr
  rfl

theorem V_ks : V m c main_v31 = ksArr (m (c, Proc.devRef .tc main_arg4)) := by
  rw [V_eq]
  show after hostOps0_10 (val9 m c) (Proc.devRef .tc main_v31) = _
  after_results
  rw [arg_val9 m c main_arg4 (by decide), val_blk]
  rfl

end Cert.KernelIdeal.Hand
-- ==== Proof.KernelIdeal.HostV.lean ====
module

public import proofs.«01_k».proof.Proof.KernelIdeal.HostK
public import proofs.«01_k».proof.Proof.KernelIdeal.Ints
public import Idealize.ShloMosaic.Lib.KernelVsHost
public import Idealize.ShloMosaic.Lib.Routing.Words
public import Idealize.ShloMosaic.Lib.Pointwise.Reshape

@[expose] public section

noncomputable section

/-! The arrays that the kernel call is given, read at an index. -/

namespace Cert.KernelIdeal.Hand

open Idealize.ShloMosaic hiding ix1 ix2 ix3 ix4 ix5 eq_ix1 eq_ix2 eq_ix3 eq_ix4 eq_ix5 truncf_apply
open Idealize.SL.Sem Gen ValueIdx Cert.Words

/-- Division by the logarithm of two. -/
theorem div_log (x : EReal) : Ideal.div x (Ideal.log (Ideal.ofBits .f32 0x40000000#32)) = x * perLog := by
  have e : Ideal.ofBits .f32 0x40000000#32 = ((2 : ℝ) : EReal) := by
    simp [Ideal.ofBits, Ideal.ieee]; norm_num; exact congrArg (fun x : ℝ => (x : EReal)) (by norm_num : (8388608 : ℝ) * (1 / 4194304) = 2)
  rw [e]
  show Ideal.div x (if (2 : ℝ) ≤ 0 then ⊥ else ((Real.log 2 : ℝ) : EReal)) = _
  rw [if_neg (by norm_num), Ideal.div_coe (Real.log_pos (by norm_num)).ne', one_div]
  rfl

theorem qArr_apply (x : Vec Ideal S4x4096x4x4x64 .f32) (k : S1024x16384.Idx) (b : Fin 4) (t : Fin 4096) (h g : Fin 4) (d : Fin 64)
    (hr : (k 0).val = (h.val * 4 + g.val) * 64 + d.val) (hc : (k 1).val = b.val * 4096 + t.val) : qArr x k = x (ix5 b t h g d) * perLog := by
  unfold qArr
  rw [truncf_apply]
  refine (transpose_apply [1, 0] _ _ k (ix2 (k 1 : Fin 16384) (k 0 : Fin 1024)) (fun a => by fin_cases a <;> rfl)).trans ?_
  refine Eq.trans ?_ (div_log (x (ix5 b t h g d)))
  refine congrArg (fun y => Ideal.div y (Ideal.log (Ideal.ofBits .f32 0x40000000#32))) (shapeCast_apply _ _ _ (ix5 b t h g d) ?_)
  refine (rowMajor_val5 _ (4096 * 4 * 4 * 64) (4 * 4 * 64) (4 * 64) 64 rfl rfl rfl rfl).trans (Eq.trans ?_ (rowMajor_val2 (d := ![16384, 1024]) _ 1024 rfl).symm)
  show b.val * (4096 * 4 * 4 * 64) + t.val * (4 * 4 * 64) + h.val * (4 * 64) + g.val * 64 + d.val = (k 1).val * 1024 + (k 0).val
  omega

theorem gateArr_apply (x : Vec Ideal S4x4096x3x4x4 .f32) (k : S3x4x4x16384.Idx) (b : Fin 4) (t : Fin 4096) (n : Fin 3) (h g : Fin 4)
    (h0 : (k 0).val = n.val) (h1 : (k 1).val = h.val) (h2 : (k 2).val = g.val) (h3 : (k 3).val = b.val * 4096 + t.val) : gateArr x k = x (ix5 b t n h g) := by
  have hn := n.isLt
  have hh := h.isLt
  have hg := g.isLt
  unfold gateArr
  refine (shapeCast_apply _ _ k (ix2 (⟨n.val * 16 + h.val * 4 + g.val, by omega⟩ : Fin 48) (k 3 : Fin 16384)) ?_).trans ?_
  · rw [rowMajor_val2 _ 16384 rfl, rowMajor_val4 _ (4 * 4 * 16384) (4 * 16384) 16384 rfl rfl rfl]
    show (n.val * 16 + h.val * 4 + g.val) * 16384 + (k 3).val = (k 0).val * (4 * 4 * 16384) + (k 1).val * (4 * 16384) + (k 2).val * 16384 + (k 3).val
    omega
  refine (transpose_apply [1, 0] _ _ _ (ix2 (k 3 : Fin 16384) (⟨n.val * 16 + h.val * 4 + g.val, by omega⟩ : Fin 48)) (fun a => by fin_cases a <;> rfl)).trans ?_
  refine shapeCast_apply _ _ _ (ix5 b t n h g) ?_
  refine (rowMajor_val5 _ (4096 * 3 * 4 * 4) (3 * 4 * 4) (4 * 4) 4 rfl rfl rfl rfl).trans (Eq.trans ?_ (rowMajor_val2 (d := ![16384, 48]) _ 48 rfl).symm)
  show b.val * (4096 * 3 * 4 * 4) + t.val * (3 * 4 * 4) + n.val * (4 * 4) + h.val * 4 + g.val = (k 3).val * 48 + (n.val * 16 + h.val * 4 + g.val)
  omega

theorem padArr_apply (x : Vec Ideal S4x255x4x64 .f32) (b h : Fin 4) (c : Fin 256) (d : Fin 64) :
    padArr x (ix4 b c h d) = if hc : c.val < 255 then x (ix4 b ⟨c.val, hc⟩ h d) else (0 : EReal) := by
  unfold padArr
  by_cases hc : c.val < 255
  · rw [dif_pos hc]
    refine pad_apply_of_inside _ _ _ x _ _ _ _ (ix4 b ⟨c.val, hc⟩ h d) fun a => ?_
    fin_cases a
    · show b.val = 0 + b.val * (0 + 1); omega
    · show c.val = 0 + c.val * (0 + 1); omega
    · show h.val = 0 + h.val * (0 + 1); omega
    · show d.val = 0 + d.val * (0 + 1); omega
  · rw [dif_neg hc]
    refine (pad_apply_of_not_inside ![0, 0, 0, 0] ![0, 1, 0, 0] ![0, 0, 0, 0] x _ pads_S4x255x4x64_S4x256x4x64_000_010_000_000 _ (ix4 b c h d) 1 ?_).trans ?_
    · show ¬(0 ≤ c.val ∧ (c.val - 0) % (0 + 1) = 0 ∧ (c.val - 0) / (0 + 1) < 255)
      omega
    · show (((0#32 : BitVec 32).toInt : ℝ) : EReal) = 0
      simp

theorem kcArr_apply (x : Vec Ideal S4x255x4x64 .f32) (k : S4x4x256x64.Idx) (b h : Fin 4) (c : Fin 256) (d : Fin 64) (h0 : (k 0).val = b.val) (h1 : (k 1).val = h.val)
    (h2 : (k 2).val = c.val) (h3 : (k 3).val = d.val) : kcArr x k = if hc : c.val < 255 then x (ix4 b ⟨c.val, hc⟩ h d) else (0 : EReal) := by
  unfold kcArr
  rw [truncf_apply]
  refine (transpose_apply [0, 2, 1, 3] _ _ k (ix4 b c h d) (fun a => ?_)).trans (padArr_apply x b h c d)
  fin_cases a
  · exact h0.symm
  · exact h1.symm
  · exact h2.symm
  · exact h3.symm

theorem vcArr_apply (x : Vec Ideal S4x255x4x64 .f32) (k : S4x4x64x256.Idx) (b h : Fin 4) (c : Fin 256) (d : Fin 64) (h0 : (k 0).val = b.val) (h1 : (k 1).val = h.val)
    (h2 : (k 2).val = d.val) (h3 : (k 3).val = c.val) : vcArr x k = if hc : c.val < 255 then x (ix4 b ⟨c.val, hc⟩ h d) else (0 : EReal) := by
  unfold vcArr
  rw [truncf_apply]
  refine (transpose_apply [0, 2, 3, 1] _ _ k (ix4 b c h d) (fun a => ?_)).trans (padArr_apply x b h c d)
  fin_cases a
  · exact h0.symm
  · exact h1.symm
  · exact h2.symm
  · exact h3.symm

/-- Rows of keys, by key and head. -/
theorem rowsArr_apply (x : Vec Ideal S4x4096x4x64 .f32) (k : S16384x256.Idx) (b : Fin 4) (p : Fin 4096) (h : Fin 4) (d : Fin 64)
    (h0 : (k 0).val = b.val * 4096 + p.val) (h1 : (k 1).val = h.val * 64 + d.val) : rowsArr x k = x (ix4 b p h d) := by
  unfold rowsArr
  refine shapeCast_apply _ _ k (ix4 b p h d) ?_
  rw [rowMajor_val4 _ (4096 * 4 * 64) (4 * 64) 64 rfl rfl rfl, rowMajor_val2 _ 256 rfl]
  show b.val * (4096 * 4 * 64) + p.val * (4 * 64) + h.val * 64 + d.val = (k 0).val * 256 + (k 1).val
  omega

theorem kwArr_apply (x : Vec Ideal S4x4096x4x64 .f32) (k : S16384x256.Idx) (b : Fin 4) (p : Fin 4096) (h : Fin 4) (d : Fin 64)
    (h0 : (k 0).val = b.val * 4096 + p.val) (h1 : (k 1).val = h.val * 64 + d.val) : kwArr x k = x (ix4 b p h d) := rowsArr_apply x k b p h d h0 h1

theorem vtArr_apply (x : Vec Ideal S4x4096x4x64 .f32) (k : S256x16384.Idx) (b : Fin 4) (p : Fin 4096) (h : Fin 4) (d : Fin 64)
    (h0 : (k 0).val = h.val * 64 + d.val) (h1 : (k 1).val = b.val * 4096 + p.val) : vtArr x k = x (ix4 b p h d) := by
  unfold vtArr
  rw [truncf_apply]
  exact (transpose_apply [1, 0] _ _ k (ix2 (k 1 : Fin 16384) (k 0 : Fin 256)) (fun a => by fin_cases a <;> rfl)).trans (rowsArr_apply x _ b p h d h1 h0)

/-- A number is not below zero. -/
theorem not_neg (a : ℕ) (ha : a < 2 ^ 31) : IntOp.cmpi .slt (BitVec.ofNat 32 a) 0#32 = 0#1 :=
  eq_zero_of_ne_one fun h => absurd ((slt_nat ha (by norm_num : (0 : ℕ) < 2 ^ 31)).mp h) (Nat.not_lt_zero a)

theorem modArr_apply (x : IVec S16384x128 32) (n a : ℕ) (hn0 : 0 < n) (hn : n < 2 ^ 31) (ha : a < 2 ^ 31) (k : S16384x128.Idx) (hx : x k = BitVec.ofNat 32 a) :
    modArr x (constantI S_ 32 (BitVec.ofNat 32 n)) k = BitVec.ofNat 32 (a % n) := by
  have hd : Scalar.select (IntOp.cmpi .eq (BitVec.ofNat 32 n) 0#32) 1#32 (BitVec.ofNat 32 n) = BitVec.ofNat 32 n := by
    rw [eq_zero_of_ne_one fun h => absurd ((eq_nat hn (by norm_num : (0 : ℕ) < 2 ^ 31)).mp h) hn0.ne']; rfl
  have hr : IntOp.remsi .host (x k) (BitVec.ofNat 32 n) = BitVec.ofNat 32 (a % n) := by rw [hx]; exact Routing.remsi_word _ ha hn0 hn
  show Scalar.select (IntOp.andi (IntOp.cmpi .ne (IntOp.cmpi .slt (IntOp.remsi .host (x k) (Scalar.select (IntOp.cmpi .eq (BitVec.ofNat 32 n) 0#32) 1#32 (BitVec.ofNat 32 n))) 0#32)
      (IntOp.cmpi .slt (Scalar.select (IntOp.cmpi .eq (BitVec.ofNat 32 n) 0#32) 1#32 (BitVec.ofNat 32 n)) 0#32))
      (IntOp.cmpi .ne (IntOp.remsi .host (x k) (Scalar.select (IntOp.cmpi .eq (BitVec.ofNat 32 n) 0#32) 1#32 (BitVec.ofNat 32 n))) 0#32)) _ _ = _
  rw [hd, hr, not_neg n hn, not_neg (a % n) (lt_of_le_of_lt (Nat.mod_le _ _) ha)]
  have e : ∀ y : BitVec 1, IntOp.andi (IntOp.cmpi .ne (0#1 : BitVec 1) 0#1) y = 0#1 := by decide
  rw [e]
  exact hr ▸ congrArg (IntOp.remsi .host (x k)) hd

theorem sign_pos (a : ℕ) (h0 : 0 < a) (ha : a < 2 ^ 31) : (if BitVec.ofNat 32 a = 0 then (0 : BitVec 32) else if (BitVec.ofNat 32 a).msb then -1 else 1) = 1 := by
  have e1 : BitVec.ofNat 32 a ≠ 0 := by
    intro h
    have := congrArg BitVec.toNat h
    rw [BitVec.toNat_ofNat, Nat.mod_eq_of_lt (by omega)] at this
    exact h0.ne' this
  have e2 : (BitVec.ofNat 32 a).msb = false := by
    rw [BitVec.msb_eq_false_iff_two_mul_lt, BitVec.toNat_ofNat, Nat.mod_eq_of_lt (by omega)]
    omega
  rw [if_neg e1, e2]; rfl

theorem divArr_apply (x : IVec S16384x128 32) (n a : ℕ) (hn0 : 0 < n) (hn : n < 2 ^ 31) (ha : a < 2 ^ 31) (k : S16384x128.Idx) (hx : x k = BitVec.ofNat 32 a) :
    divArr x (constantI S_ 32 (BitVec.ofNat 32 n)) k = BitVec.ofNat 32 (a / n) := by
  have hq : IntOp.divsi .host (x k) (BitVec.ofNat 32 n) = BitVec.ofNat 32 (a / n) := by rw [hx]; exact Routing.divsi_word _ ha hn0 hn
  have hr : IntOp.remsi .host (x k) (BitVec.ofNat 32 n) = BitVec.ofNat 32 (a % n) := by rw [hx]; exact Routing.remsi_word _ ha hn0 hn
  have key : IntOp.andi (IntOp.cmpi .ne (if x k = 0 then (0 : BitVec 32) else if (x k).msb then -1 else 1)
      (if BitVec.ofNat 32 n = 0 then (0 : BitVec 32) else if (BitVec.ofNat 32 n).msb then -1 else 1))
      (IntOp.cmpi .ne (IntOp.remsi .host (x k) (BitVec.ofNat 32 n)) 0#32) = 0#1 := by
    rw [hr, sign_pos n hn0 hn]
    by_cases h0 : a = 0
    · subst h0
      rw [Nat.zero_mod]
      have : ∀ y : BitVec 1, IntOp.andi y (IntOp.cmpi .ne (BitVec.ofNat 32 0) 0#32) = 0#1 := by decide
      exact this _
    · rw [hx, sign_pos a (by omega) ha]
      have : ∀ y : BitVec 1, IntOp.andi (IntOp.cmpi .ne (1 : BitVec 32) 1) y = 0#1 := by decide
      exact this _
  show Scalar.select (IntOp.andi (IntOp.cmpi .ne (if x k = 0 then (0 : BitVec 32) else if (x k).msb then -1 else 1)
      (if BitVec.ofNat 32 n = 0 then (0 : BitVec 32) else if (BitVec.ofNat 32 n).msb then -1 else 1))
      (IntOp.cmpi .ne (IntOp.remsi .host (x k) (BitVec.ofNat 32 n)) 0#32)) _ (IntOp.divsi .host (x k) (BitVec.ofNat 32 n)) = _
  rw [key]
  exact hq

/-- Whether a key is of a block, as infinity or zero. -/
theorem blkArr_apply (b : Fin 4) (p : Fin 4096) (j : Fin 128) (k : S16384x128.Idx) (h0 : (k 0).val = b.val * 4096 + p.val) (h1 : (k 1).val = j.val) :
    (blkArr : Vec Ideal S16384x128 .f32) k = if p.val / 64 = j.val then (⊤ : EReal) else 0 := by
  have hb := b.isLt
  have hp := p.isLt
  have hj := j.isLt
  have e1 : modArr (iotaInDim S16384x128 32 0 : IVec S16384x128 32) (constantI S_ 32 4096#32) k = BitVec.ofNat 32 p.val := by
    refine (modArr_apply _ 4096 (b.val * 4096 + p.val) (by norm_num) (by norm_num) (by omega) k (congrArg (BitVec.ofNat 32) h0)).trans (congrArg (BitVec.ofNat 32) ?_)
    omega
  have e2 := divArr_apply (modArr (iotaInDim S16384x128 32 0 : IVec S16384x128 32) (constantI S_ 32 4096#32)) 64 p.val (by norm_num) (by norm_num) (by omega) k e1
  show Scalar.select (IntOp.cmpi .eq (divArr (modArr (iotaInDim S16384x128 32 0 : IVec S16384x128 32) (constantI S_ 32 4096#32)) (constantI S_ 32 64#32) k) (BitVec.ofNat 32 (k 1).val))
    (Ideal.ofBits .f32 0x7F800000#32) (Ideal.ofBits .f32 0x00000000#32) = _
  rw [show divArr (modArr (iotaInDim S16384x128 32 0 : IVec S16384x128 32) (constantI S_ 32 4096#32)) (constantI S_ 32 64#32) k = BitVec.ofNat 32 (p.val / 64) from e2, h1, lit_top, lit_zero]
  exact select_eq (eq_nat (by omega) (by omega)) _ _

theorem halfArr_low (x : Vec Ideal S16384x128 .f32) (n : Fin 1) (p : Fin 16384) (e : Fin 256) (e' : Fin 128) (he : e.val = e'.val) : halfArr x (ix3 n p e) = x (ix2 p e') := by
  unfold halfArr
  refine (broadcastInDim_apply _ _ _ (ix3 n p e) (ix2 p e) (fun a => by fin_cases a <;> rfl)).trans ?_
  rw [truncf_apply]
  refine concatenate_apply_piece 1 _ _ (ix2 p e) 0 (by simp) S16384x128 x rfl rfl 0 rfl (ix2 p e') ?_ ?_
  · intro b hb; fin_cases b
    · rfl
    · exact absurd rfl hb
  · show 0 + e'.val = e.val; omega
theorem halfArr_high (x : Vec Ideal S16384x128 .f32) (n : Fin 1) (p : Fin 16384) (e : Fin 256) (e' : Fin 128) (he : e.val = 128 + e'.val) :
    halfArr x (ix3 n p e) = (blkArr : Vec Ideal S16384x128 .f32) (ix2 p e') := by
  unfold halfArr
  refine (broadcastInDim_apply _ _ _ (ix3 n p e) (ix2 p e) (fun a => by fin_cases a <;> rfl)).trans ?_
  rw [truncf_apply]
  refine concatenate_apply_piece 1 _ _ (ix2 p e) 1 (by simp) S16384x128 blkArr rfl rfl 128 (by simp) (ix2 p e') ?_ ?_
  · intro b hb; fin_cases b
    · rfl
    · exact absurd rfl hb
  · show 128 + e'.val = e.val; omega

/-- The two layers of the selected branch's keys. -/
theorem ksArr_layer (x : Vec Ideal S4x4096x4x64 .f32) (w : Fin 2) (p : Fin 16384) (e : Fin 256) : ksArr x (ix3 w p e)
    = if w.val = 0 then halfArr (extractStridedSlice S16384x128 ![0, 0] (rowsArr x) slices_S16384x256_S16384x128_0_0) (ix3 0 p e)
      else halfArr (extractStridedSlice S16384x128 ![0, 128] (rowsArr x) slices_S16384x256_S16384x128_0_128) (ix3 0 p e) := by
  have hw := w.isLt
  unfold ksArr
  by_cases h : w.val = 0
  · rw [if_pos h]
    refine concatenate_apply_piece 0 _ _ (ix3 w p e) 0 (by simp) S1x16384x256 _ rfl rfl 0 rfl (ix3 0 p e) ?_ ?_
    · intro b hb; fin_cases b
      · exact absurd rfl hb
      · rfl
      · rfl
    · show 0 + 0 = w.val; omega
  · rw [if_neg h]
    refine concatenate_apply_piece 0 _ _ (ix3 w p e) 1 (by simp) S1x16384x256 _ rfl rfl 1 (by simp) (ix3 0 p e) ?_ ?_
    · intro b hb; fin_cases b
      · exact absurd rfl hb
      · rfl
      · rfl
    · show 1 + 0 = w.val; omega

theorem ksArr_key (x : Vec Ideal S4x4096x4x64 .f32) (k : S2x16384x256.Idx) (b : Fin 4) (p : Fin 4096) (h : Fin 4) (w r : ℕ) (d : Fin 64) (hr : r < 2) (hh : h.val = 2 * w + r)
    (h0 : (k 0).val = w) (h1 : (k 1).val = b.val * 4096 + p.val) (h2 : (k 2).val = 64 * r + d.val) : ksArr x k = x (ix4 b p h d) := by
  have hd := d.isLt
  have hw : (k 0).val < 2 := (k 0).isLt
  rw [eq_ix3 k]
  refine (ksArr_layer x (k 0) (k 1) (k 2)).trans ?_
  by_cases hz : (k 0).val = 0
  · rw [if_pos hz]
    refine (halfArr_low _ 0 (k 1) (k 2) ⟨(k 2).val, by omega⟩ rfl).trans ?_
    refine (extractStridedSlice_apply _ _ _ _ (ix2 (k 1 : Fin 16384) (k 2 : Fin 256)) fun a => ?_).trans (rowsArr_apply x _ b p h d h1 ?_)
    · fin_cases a
      · exact (Nat.zero_add _).symm
      · exact (Nat.zero_add _).symm
    · show (k 2).val = _
      omega
  · rw [if_neg hz]
    refine (halfArr_low _ 0 (k 1) (k 2) ⟨(k 2).val, by omega⟩ rfl).trans ?_
    refine (extractStridedSlice_apply _ _ _ _ (ix2 (k 1 : Fin 16384) (⟨128 + (k 2).val, by omega⟩ : Fin 256)) fun a => ?_).trans (rowsArr_apply x _ b p h d h1 ?_)
    · fin_cases a
      · exact (Nat.zero_add _).symm
      · rfl
    · show 128 + (k 2).val = _
      omega

theorem ksArr_blk (x : Vec Ideal S4x4096x4x64 .f32) (k : S2x16384x256.Idx) (b : Fin 4) (p : Fin 4096) (j : Fin 128)
    (h1 : (k 1).val = b.val * 4096 + p.val) (h2 : (k 2).val = 128 + j.val) : ksArr x k = if p.val / 64 = j.val then (⊤ : EReal) else 0 := by
  rw [eq_ix3 k]
  refine (ksArr_layer x (k 0) (k 1) (k 2)).trans ?_
  by_cases hz : (k 0).val = 0
  · rw [if_pos hz]
    exact (halfArr_high _ 0 (k 1) (k 2) j h2).trans (blkArr_apply b p j _ h1 rfl)
  · rw [if_neg hz]
    exact (halfArr_high _ 0 (k 1) (k 2) j h2).trans (blkArr_apply b p j _ h1 rfl)

end Cert.KernelIdeal.Hand
-- ==== Proof.KernelIdeal.Value.lean ====
module

public import proofs.«01_k».proof.Proof.KernelIdeal.Heads
public import proofs.«01_k».proof.Proof.KernelIdeal.Frame
public import proofs.«01_k».proof.Proof.KernelIdeal.HostV
public import Idealize.ShloMosaic.Lib.Pipeline.ValueKit.Geometry

@[expose] public section

noncomputable section

/-! The kernel's result is the specification's attention of its arguments. -/

namespace Cert.KernelIdeal.Hand

open Idealize.ShloMosaic hiding ix1 ix2 ix3 ix4 ix5
open Idealize.SL.Sem Gen ValueIdx Cert.Words Cert.Spec

/-- The arguments, by their coordinates. -/
def given (m : (ℓ : Loc nD τ sig) → Buf (Elt Ideal) ℓ) (c : Dev nD) : Args where
  q b t h g d := (m (c, Proc.devRef .tc main_arg0) : Vec Ideal S4x4096x4x4x64 .f32) (ix5 b t h g d)
  gate b t k h g := (m (c, Proc.devRef .tc main_arg1) : Vec Ideal S4x4096x3x4x4 .f32) (ix5 b t k h g)
  kc b p h d := (m (c, Proc.devRef .tc main_arg2) : Vec Ideal S4x255x4x64 .f32) (ix4 b p h d)
  vc b p h d := (m (c, Proc.devRef .tc main_arg3) : Vec Ideal S4x255x4x64 .f32) (ix4 b p h d)
  ks b p h d := (m (c, Proc.devRef .tc main_arg4) : Vec Ideal S4x4096x4x64 .f32) (ix4 b p h d)
  vs b p h d := (m (c, Proc.devRef .tc main_arg5) : Vec Ideal S4x4096x4x64 .f32) (ix4 b p h d)
  kw b p h d := (m (c, Proc.devRef .tc main_arg6) : Vec Ideal S4x4096x4x64 .f32) (ix4 b p h d)
  vw b p h d := (m (c, Proc.devRef .tc main_arg7) : Vec Ideal S4x4096x4x64 .f32) (ix4 b p h d)

/-! Where each window's block lies. -/

theorem place0 : ∀ t : Fin cfg0.N, win0_0.index t = ![(grid0.coords t 1).val, 8 * (grid0.coords t 0).val + (grid0.coords t 2).val] :=
  (by decide +kernel : ∀ t : Fin grid0.N, win0_0.index t = ![(grid0.coords t 1).val, 8 * (grid0.coords t 0).val + (grid0.coords t 2).val])
theorem place1 : ∀ t : Fin cfg0.N, win0_1.index t = ![0, (grid0.coords t 1).val, 0, 8 * (grid0.coords t 0).val + (grid0.coords t 2).val] :=
  (by decide +kernel : ∀ t : Fin grid0.N, win0_1.index t = ![0, (grid0.coords t 1).val, 0, 8 * (grid0.coords t 0).val + (grid0.coords t 2).val])
theorem place2 : ∀ t : Fin cfg0.N, win0_2.index t = ![(grid0.coords t 0).val, (grid0.coords t 1).val, 0, 0] :=
  (by decide +kernel : ∀ t : Fin grid0.N, win0_2.index t = ![(grid0.coords t 0).val, (grid0.coords t 1).val, 0, 0])
theorem place3 : ∀ t : Fin cfg0.N, win0_3.index t = ![(grid0.coords t 0).val, (grid0.coords t 1).val, 0, 0] :=
  (by decide +kernel : ∀ t : Fin grid0.N, win0_3.index t = ![(grid0.coords t 0).val, (grid0.coords t 1).val, 0, 0])
theorem place4 : ∀ t : Fin cfg0.N, win0_4.index t = ![(grid0.coords t 1).val / 2, (grid0.coords t 0).val, 0] :=
  (by decide +kernel : ∀ t : Fin grid0.N, win0_4.index t = ![(grid0.coords t 1).val / 2, (grid0.coords t 0).val, 0])
theorem place5 : ∀ t : Fin cfg0.N, win0_5.index t = ![(grid0.coords t 1).val, (grid0.coords t 0).val] :=
  (by decide +kernel : ∀ t : Fin grid0.N, win0_5.index t = ![(grid0.coords t 1).val, (grid0.coords t 0).val])
theorem place6 : ∀ t : Fin cfg0.N, win0_6.index t = ![(grid0.coords t 0).val, (grid0.coords t 1).val / 2] :=
  (by decide +kernel : ∀ t : Fin grid0.N, win0_6.index t = ![(grid0.coords t 0).val, (grid0.coords t 1).val / 2])
theorem place7 : ∀ t : Fin cfg0.N, win0_7.index t = ![(grid0.coords t 1).val, (grid0.coords t 0).val] :=
  (by decide +kernel : ∀ t : Fin grid0.N, win0_7.index t = ![(grid0.coords t 1).val, (grid0.coords t 0).val])
theorem place8 : ∀ t : Fin cfg0.N, win0_8.index t = ![(grid0.coords t 1).val, 8 * (grid0.coords t 0).val + (grid0.coords t 2).val] :=
  (by decide +kernel : ∀ t : Fin grid0.N, win0_8.index t = ![(grid0.coords t 1).val, 8 * (grid0.coords t 0).val + (grid0.coords t 2).val])

section
variable (m : (ℓ : Loc nD τ sig) → Buf (Elt Ideal) ℓ) (c : Dev nD) (t : Fin cfg0.N)

theorem read0 (y : S256x512.Idx) : (insAt m c t).q y = qArr (m (c, Proc.devRef .tc main_arg0)) ((win0_0.blk t).view.emb y) := congrFun (V_q m c) _
theorem read1 (y : S3x1x4x512.Idx) : (insAt m c t).gate y = gateArr (m (c, Proc.devRef .tc main_arg1)) ((win0_1.blk t).view.emb y) := congrFun (V_gate m c) _
theorem read2 (y : S1x1x256x64.Idx) : (insAt m c t).kc y = kcArr (m (c, Proc.devRef .tc main_arg2)) ((win0_2.blk t).view.emb y) := congrFun (V_kc m c) _
theorem read3 (y : S1x1x64x256.Idx) : (insAt m c t).vc y = vcArr (m (c, Proc.devRef .tc main_arg3)) ((win0_3.blk t).view.emb y) := congrFun (V_vc m c) _
theorem read4 (y : S1x4096x256.Idx) : (insAt m c t).ks y = ksArr (m (c, Proc.devRef .tc main_arg4)) ((win0_4.blk t).view.emb y) := congrFun (V_ks m c) _
theorem read5 (y : S64x4096.Idx) : (insAt m c t).vs y = vtArr (m (c, Proc.devRef .tc main_arg5)) ((win0_5.blk t).view.emb y) := congrFun (V_vs m c) _
theorem read6 (y : S4096x128.Idx) : (insAt m c t).kw y = kwArr (m (c, Proc.devRef .tc main_arg6)) ((win0_6.blk t).view.emb y) := congrFun (V_kw m c) _
theorem read7 (y : S64x4096.Idx) : (insAt m c t).vw y = vtArr (m (c, Proc.devRef .tc main_arg7)) ((win0_7.blk t).view.emb y) := congrFun (V_vw m c) _

/-- A grid point reads its arguments' parts. -/
theorem reads : Reads (given m c) (grid0.coords t) (insAt m c t) where
  q g d u := by
    refine (read0 m c t _).trans (qArr_apply _ _ (batch (grid0.coords t)) (posOf (grid0.coords t) u) (kvHead (grid0.coords t)) g d ?_ ?_)
    · blk_simp [place0]
      show (kvHead (grid0.coords t)).val * 256 + (64 * g.val + d.val) = _
      omega
    · blk_simp [place0]
      show (8 * (batch (grid0.coords t)).val + (qTile (grid0.coords t)).val) * 512 + u.val = (batch (grid0.coords t)).val * 4096 + (512 * (qTile (grid0.coords t)).val + u.val)
      omega
  gate k g u := by
    refine (read1 m c t _).trans (gateArr_apply _ _ (batch (grid0.coords t)) (posOf (grid0.coords t) u) k (kvHead (grid0.coords t)) g ?_ ?_ ?_ ?_)
    · blk_simp [place1]
    · blk_simp [place1]
      rfl
    · blk_simp [place1]
    · blk_simp [place1]
      show (8 * (batch (grid0.coords t)).val + (qTile (grid0.coords t)).val) * 512 + u.val = (batch (grid0.coords t)).val * 4096 + (512 * (qTile (grid0.coords t)).val + u.val)
      omega
  kc e d := by
    refine (read2 m c t _).trans (kcArr_apply _ _ (batch (grid0.coords t)) (kvHead (grid0.coords t)) e d ?_ ?_ ?_ ?_)
    · blk_simp [place2]
      rfl
    · blk_simp [place2]
      rfl
    · blk_simp [place2]
    · blk_simp [place2]
  vc d e := by
    refine (read3 m c t _).trans (vcArr_apply _ _ (batch (grid0.coords t)) (kvHead (grid0.coords t)) e d ?_ ?_ ?_ ?_)
    · blk_simp [place3]
      rfl
    · blk_simp [place3]
      rfl
    · blk_simp [place3]
    · blk_simp [place3]
  ks p r d e he := by
    refine (read4 m c t _).trans (ksArr_key _ _ (batch (grid0.coords t)) p (pairHead (kvHead (grid0.coords t)) r) ((kvHead (grid0.coords t)).val / 2) r.val d r.isLt rfl ?_ ?_ ?_)
    · blk_simp [place4]
      rfl
    · blk_simp [place4]
      rfl
    · blk_simp [place4]
      exact he
  blk p j e he := by
    refine (read4 m c t _).trans (ksArr_blk _ _ (batch (grid0.coords t)) p j ?_ ?_)
    · blk_simp [place4]
      rfl
    · blk_simp [place4]
      exact he
  vs d p := by
    refine (read5 m c t _).trans (vtArr_apply _ _ (batch (grid0.coords t)) p (kvHead (grid0.coords t)) d ?_ ?_)
    · blk_simp [place5]
      rfl
    · blk_simp [place5]
      rfl
  kw p r d e he := by
    refine (read6 m c t _).trans (kwArr_apply _ _ (batch (grid0.coords t)) p (pairHead (kvHead (grid0.coords t)) r) d ?_ ?_)
    · blk_simp [place6]
      rfl
    · blk_simp [place6]
      show (kvHead (grid0.coords t)).val / 2 * 128 + e.val = (2 * ((kvHead (grid0.coords t)).val / 2) + r.val) * 64 + d.val
      omega
  vw d p := by
    refine (read7 m c t _).trans (vtArr_apply _ _ (batch (grid0.coords t)) p (kvHead (grid0.coords t)) d ?_ ?_)
    · blk_simp [place7]
      rfl
    · blk_simp [place7]
      rfl

end

/-- The specification's attention as the kernel lays it out: a row for each head and feature, a column for each query. -/
def laidOut (A : Args) : Vec Ideal S1024x16384 .bf16 := fun k =>
  out A ⟨(k 1).val / 4096, by have : (k 1).val < 16384 := (k 1).isLt; omega⟩ ⟨(k 1).val % 4096, Nat.mod_lt _ (by omega)⟩
    ⟨(k 0).val / 256, by have : (k 0).val < 1024 := (k 0).isLt; omega⟩ ⟨(k 0).val / 64 % 4, Nat.mod_lt _ (by omega)⟩ ⟨(k 0).val % 64, Nat.mod_lt _ (by omega)⟩

theorem laidOut_apply (A : Args) (k : S1024x16384.Idx) (b : Fin 4) (t : Fin 4096) (h g : Fin 4) (d : Fin 64)
    (hr : (k 0).val = (h.val * 4 + g.val) * 64 + d.val) (hc : (k 1).val = b.val * 4096 + t.val) : laidOut A k = out A b t h g d := by
  have hb := b.isLt
  have ht := t.isLt
  have hh := h.isLt
  have hg := g.isLt
  have hd := d.isLt
  unfold laidOut
  exact congr (congr (congr (congr (congrArg (out A) (Fin.ext (show (k 1).val / 4096 = b.val by omega))) (Fin.ext (show (k 1).val % 4096 = t.val by omega)))
    (Fin.ext (show (k 0).val / 256 = h.val by omega))) (Fin.ext (show (k 0).val / 64 % 4 = g.val by omega))) (Fin.ext (show (k 0).val % 64 = d.val by omega))

variable (m : (ℓ : Loc nD τ sig) → Buf (Elt Ideal) ℓ)

/-- What the kernel's run leaves in the result. -/
theorem final (c : Dev nD) : (dats m 0 c).arrAt 8 cfg0.N = laidOut (given m c) := by
  refine (dats m 0 c).arrAt_eq_of_covers 8 _ (by decide +kernel) fun t hf y => ?_
  blk_simp
  rw [after_8]
  obtain ⟨r, u, rfl⟩ : ∃ (r : Fin 256) (u : Fin 512), y = ix2 r u := ⟨y 0, y 1, ValueIdx.eq_ix2 y⟩
  have hr := r.isLt
  obtain ⟨g, d, rfl⟩ : ∃ (g : Fin 4) (d : Fin 64), r = rowQ g d := ⟨⟨r.val / 64, by omega⟩, ⟨r.val % 64, Nat.mod_lt _ (by omega)⟩, Fin.ext (by show r.val = 64 * (r.val / 64) + r.val % 64; omega)⟩
  refine (outOf_apply (reads m c t) g d u).trans (laidOut_apply _ _ _ _ _ _ _ ?_ ?_).symm
  · blk_simp [place8]
    show (kvHead (grid0.coords t)).val * 256 + (64 * g.val + d.val) = _
    omega
  · blk_simp [place8]
    show (8 * (batch (grid0.coords t)).val + (qTile (grid0.coords t)).val) * 512 + u.val = (batch (grid0.coords t)).val * 4096 + (512 * (qTile (grid0.coords t)).val + u.val)
    omega

theorem run_value (ρ : Dev nD → PrngReg) : θ_run defs (onTc (τ := τ) (main (F := Ideal))) ⟨m, fun _ => 0, ρ⟩ (fun r => ∀ c : Dev nD,
    r.2.mem ((c.tc : Thread nD τ).loc main_v41) = laidOut (given m c)) :=
  (θ_run defs _ _).mono (fun r h c => ((h c).1 8).trans (final m c)) (run_post m ρ)

end Cert.KernelIdeal.Hand
-- ==== Proof.KernelIdeal.TopK.lean ====
module

public import proofs.«01_k».proof.Proof.KernelIdeal.Spec
public import Idealize.ShloMosaic.Lib.SortFacts

@[expose] public section

noncomputable section

/-! A stable descending sort puts each block at its rank. -/

namespace Cert.Spec

open Idealize.ShloMosaic

/-- The ranking order as a test. -/
def before (f : Fin 64 → EReal) (i j : Fin 64) : Bool := @decide (Before f i j) (Classical.propDecidable _)
theorem before_iff (f : Fin 64 → EReal) (i j : Fin 64) : before f i j = true ↔ Before f i j := @decide_eq_true_iff _ (Classical.propDecidable _)

theorem sortedFrom_eq {n : ℕ} (R R' : Fin n → Fin n → Bool) (h : sortPositions n R = sortPositions n R') : sortedFrom R = sortedFrom R' := by
  funext k
  unfold sortedFrom
  rw [List.get_of_eq h]
  rfl

/-- The sort's own comparison and the ranking order, ties by position, sort alike. -/
theorem stableSort_ranked (f : Fin 64 → EReal) (R : Fin 64 → Fin 64 → Bool) (hR : ∀ i j, R i j = true ↔ f j < f i) (l : List (Fin 64))
    (hl : l.Pairwise (· < ·)) : stableSort R l = stableSort (before f) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    rw [Bool.eq_iff_iff, hR, before_iff]
    constructor
    · exact Or.inl
    · rintro (h | ⟨_, h⟩)
      · exact h
      · exact absurd h (not_lt.mpr hab.le)

theorem before_irrefl (f : Fin 64 → EReal) (i : Fin 64) : ¬Before f i i := by
  rintro (h | ⟨_, h⟩) <;> exact lt_irrefl _ h
theorem before_trans (f : Fin 64 → EReal) {i j k : Fin 64} (h : Before f i j) (h' : Before f j k) : Before f i k := by
  rcases h with h | ⟨e, h⟩ <;> rcases h' with h' | ⟨e', h'⟩
  · exact .inl (h'.trans h)
  · exact .inl (e' ▸ h)
  · exact .inl (e ▸ h')
  · exact .inr ⟨e.trans e', h.trans h'⟩
theorem before_total (f : Fin 64 → EReal) {i j : Fin 64} (h : i ≠ j) : Before f i j ∨ Before f j i := by
  rcases lt_trichotomy (f i) (f j) with h1 | h1 | h1
  · exact .inr (.inl h1)
  · rcases lt_or_gt_of_ne h with h2 | h2
    · exact .inl (.inr ⟨h1, h2⟩)
    · exact .inr (.inr ⟨h1.symm, h2⟩)
  · exact .inl (.inl h1)

/-- A sort by a strict total order leaves its positions in that order. -/
theorem sortedFrom_ordered {n : ℕ} (B : Fin n → Fin n → Bool) (hi : ∀ a, B a a = false) (ht : ∀ a b c, B a b = true → B b c = true → B a c = true)
    (hc : ∀ a b, a ≠ b → B a b = true ∨ B b a = true) {i j : Fin n} (h : i < j) : B (sortedFrom B i) (sortedFrom B j) = true := by
  have ha : ∀ a b, B a b = true → B b a = false := fun a b hab => by
    cases hba : B b a
    · rfl
    · exact absurd (ht a b a hab hba) (by rw [hi]; exact Bool.false_ne_true)
  have h1 := sortedFrom_noInversion B B ha (fun _ _ h => h) (fun a b c hab hbc => by
    by_cases e : a = b
    · exact e ▸ hbc
    by_cases e' : b = c
    · exact e' ▸ hab
    have h2 := (hc a b e).resolve_left (by rw [hab]; exact Bool.false_ne_true)
    have h3 := (hc b c e').resolve_left (by rw [hbc]; exact Bool.false_ne_true)
    exact ha c a (ht c b a h3 h2)) i j h
  exact (hc _ _ fun e => h.ne (sortedFrom_injective B e)).resolve_right (by rw [h1]; exact Bool.false_ne_true)

theorem sortedFrom_before (f : Fin 64 → EReal) (R : Fin 64 → Fin 64 → Bool) (hR : ∀ i j, R i j = true ↔ f j < f i) {m n : Fin 64} (h : m < n) :
    Before f (sortedFrom R m) (sortedFrom R n) := by
  have e : sortedFrom R = sortedFrom (before f) := by
    refine sortedFrom_eq _ _ ?_
    unfold sortPositions
    exact stableSort_ranked f R hR (List.finRange 64) (List.pairwise_lt_finRange 64)
  rw [e, ← before_iff]
  refine sortedFrom_ordered (before f) (fun a => ?_) (fun a b c h1 h2 => ?_) (fun a b hab => ?_) h
  · rw [Bool.eq_false_iff]; exact fun hc => before_irrefl f a ((before_iff f a a).mp hc)
  · exact (before_iff f a c).mpr (before_trans f ((before_iff f a b).mp h1) ((before_iff f b c).mp h2))
  · exact (before_total f hab).imp (before_iff f a b).mpr (before_iff f b a).mpr

/-- The rank of the block that the sort puts at `n` is `n`. -/
theorem rank_sortedFrom (f : Fin 64 → EReal) (R : Fin 64 → Fin 64 → Bool) (hR : ∀ i j, R i j = true ↔ f j < f i) (n : Fin 64) :
    rank f (sortedFrom R n) = n.val := by
  classical
  have e : (Finset.univ.filter fun i => Before f i (sortedFrom R n)) = (Finset.univ.filter fun m : Fin 64 => m < n).image (sortedFrom R) := by
    ext i
    simp only [Finset.mem_filter, Finset.mem_univ, true_and, Finset.mem_image]
    constructor
    · intro h
      obtain ⟨m, rfl⟩ := sortedFrom_surjective R i
      refine ⟨m, ?_, rfl⟩
      by_contra hc
      rcases lt_or_eq_of_le (not_lt.mp hc) with h' | h'
      · exact before_irrefl f _ (before_trans f h (sortedFrom_before f R hR h'))
      · subst h'; exact before_irrefl f _ h
    · rintro ⟨m, hm, rfl⟩
      exact sortedFrom_before f R hR hm
  unfold rank
  have e2 : (Finset.univ.filter fun i => Before f i (sortedFrom R n)).card = n.val := by
    rw [e, Finset.card_image_of_injective _ (sortedFrom_injective R)]
    have : (Finset.univ.filter fun m : Fin 64 => m < n) = Finset.Iio n := by ext; simp
    rw [this, Fin.card_Iio]
  convert e2

/-- A block is among the first sixteen of the sort exactly where its rank is less than sixteen. -/
theorem exists_sorted_iff (f : Fin 64 → EReal) (R : Fin 64 → Fin 64 → Bool) (hR : ∀ i j, R i j = true ↔ f j < f i) (j : Fin 64) :
    (∃ n : Fin 16, sortedFrom R ⟨n.val, by have := n.isLt; omega⟩ = j) ↔ rank f j < 16 := by
  constructor
  · rintro ⟨n, rfl⟩
    rw [rank_sortedFrom f R hR]; exact n.isLt
  · intro h
    obtain ⟨m, rfl⟩ := sortedFrom_surjective R j
    rw [rank_sortedFrom f R hR] at h
    exact ⟨⟨m.val, h⟩, rfl⟩

end Cert.Spec
-- ==== Proof.Reference.Soft.lean ====
module

public import proofs.«01_k».proof.Proof.KernelIdeal.Spec
public import proofs.«01_k».proof.Proof.KernelIdeal.Ints
public import proofs.«01_k».proof.Proof.KernelIdeal.TopK
public import Idealize.ShloMosaic.PureOps.Ideal.Laws

@[expose] public section

noncomputable section

/-! A masked softmax as the reference writes it, and the maximum, the integer words and the sort it uses. -/

namespace Cert.Spec

open Idealize.ShloMosaic Cert.Words
open Cert.KernelIdeal.Hand (attn sum_factor)

/-- The exponential of a score above the greatest one. -/
def above {n : ℕ} (s : Fin n → EReal) (c : Fin n) : EReal := Ideal.exp (s c - Finset.univ.sup s)

/-- A key's weight: its exponential over their sum, or over one where the sum is zero. -/
def prob {n : ℕ} (s : Fin n → EReal) (c : Fin n) : EReal :=
  Ideal.div (above s c) (if 0 < ∑ c, above s c then ∑ c, above s c else 1)

theorem exp_le_one {x : EReal} (h : x ≤ 0) : Ideal.exp x ≤ 1 := by
  induction x with
  | bot => exact zero_le_one
  | top => exact absurd h (by simp)
  | coe r =>
    show ((Real.exp r : ℝ) : EReal) ≤ 1
    exact_mod_cast Real.exp_le_one_iff.mpr (by exact_mod_cast h)

theorem sub_le_zero {a b : EReal} (h : a ≤ b) : a - b ≤ 0 := by
  induction b with
  | bot => rw [le_bot_iff.mp h]; simp
  | top => rw [sub_eq_add_neg, EReal.neg_top, EReal.add_bot]; exact bot_le
  | coe b =>
    induction a with
    | bot => simp
    | top => exact absurd h (by simp)
    | coe a =>
      have h' : a ≤ b := by exact_mod_cast h
      rw [← EReal.coe_sub]; exact_mod_cast sub_nonpos.mpr h'

theorem above_le_one {n : ℕ} (s : Fin n → EReal) (c : Fin n) : above s c ≤ 1 :=
  exp_le_one (sub_le_zero (Finset.le_sup (Finset.mem_univ c)))
theorem above_nonneg {n : ℕ} (s : Fin n → EReal) (c : Fin n) : 0 ≤ above s c := exp_nonneg _

theorem sum_above_nonneg {n : ℕ} (s : Fin n → EReal) : 0 ≤ ∑ c, above s c := Finset.sum_nonneg fun c _ => above_nonneg s c

/-- The weighted values' sum is the softmax-weighted mean. -/
theorem sum_prob {n : ℕ} (s v : Fin n → EReal) : ∑ c, v c * prob s c = attn s v := by
  have hz := sum_above_nonneg s
  show _ = (∑ c, v c * above s c) * (∑ c, above s c)⁻¹
  unfold prob
  by_cases h : 0 < ∑ c, above s c
  · have h0 : (∑ c, above s c) ≠ 0 := h.ne'
    have hi0 : 0 ≤ (∑ c, above s c)⁻¹ := EReal.inv_nonneg_of_nonneg hz
    have hit : (∑ c, above s c)⁻¹ ≠ ⊤ := by
      intro e
      generalize (∑ c, above s c) = z at *
      induction z with
      | bot => simp at h
      | top => simp at e
      | coe r =>
        rw [← EReal.coe_inv] at e
        exact EReal.coe_ne_top _ e
    rw [sum_factor _ hi0 hit]
    refine Finset.sum_congr rfl fun c _ => ?_
    rw [if_pos h]
    show v c * (if _ = 0 then _ else _) = _
    rw [if_neg h0, mul_assoc]
  · have h0 : ∑ c, above s c = 0 := le_antisymm (not_lt.mp h) hz
    have he : ∀ c, above s c = 0 := fun c => by
      refine le_antisymm ?_ (above_nonneg s c)
      rw [← h0]
      exact Finset.single_le_sum (f := above s) (fun c _ => above_nonneg s c) (Finset.mem_univ c)
    rw [if_neg h]
    have h1 : ∀ c, Ideal.div (above s c) 1 = 0 := fun c => by
      show (if (1 : EReal) = 0 then _ else _) = _
      rw [if_neg one_ne_zero, he, zero_mul]
    rw [Finset.sum_eq_zero fun c _ => by rw [h1, mul_zero], h0, Finset.sum_eq_zero fun c _ => by rw [he, mul_zero], zero_mul]

theorem masked_exp {c : BitVec 1} {p : Prop} (h : c = 1#1 ↔ p) {s m : EReal} (hs : ¬p → s = ⊥) : Scalar.select c (Ideal.exp (s - m)) 0 = Ideal.exp (s - m) := by
  classical
  rw [select_eq h]
  by_cases hp : p
  · rw [if_pos hp]
  · rw [if_neg hp, hs hp, EReal.bot_sub]; rfl

/-- The reference's division, from its parts. -/
theorem div_eq_prob {n : ℕ} (s : Fin n → EReal) (c : Fin n) {e z : EReal} (he : e = above s c) (hz : z = ∑ c, above s c) :
    Ideal.div e (Scalar.select (Ideal.cmp .ogt z 0) z 1) = prob s c := by
  rw [select_eq (cmp_ogt _ _), he, hz]; rfl

/-- A maximum over one axis, from `-inf`. -/
theorem hostMax {s t u : Shape} {a : Fin s.rank} (x : FVec Ideal s .f32) (init : FVec Ideal u .f32) (h' : s.ReducesTo [a] t) (h : s.Reduces [a] t)
    (hu : 0 < u.numel) (hi : init (Shape.Idx.first hu) = (⊥ : EReal)) (j : t.Idx) (f : Fin (s.size a) → EReal) (hf : ∀ k, x (h.lift j k) = f k) :
    Host.reduce FloatOps.maximumf x init h' hu j = Finset.univ.sup f := by
  rw [Host.reduce_eq_fold_single FloatOps.maximumf x init h' h hu j, hi]
  have : x ∘ h.lift j = f := funext hf
  rw [this]
  rfl

/-- A disjunction over one axis. -/
theorem hostOr {s t u : Shape} {a : Fin s.rank} (x : IVec s 1) (init : IVec u 1) (h' : s.ReducesTo [a] t) (h : s.Reduces [a] t)
    (hu : 0 < u.numel) (hi : init (Shape.Idx.first hu) = 0#1) (j : t.Idx) : Host.reduce IntOp.ori x init h' hu j = 1#1 ↔ ∃ k, x (h.lift j k) = 1#1 := by
  haveI : Std.Commutative (IntOp.ori : BitVec 1 → BitVec 1 → BitVec 1) := ⟨by decide⟩
  haveI : Std.Associative (IntOp.ori : BitVec 1 → BitVec 1 → BitVec 1) := ⟨by decide⟩
  classical
  rw [Host.reduce_eq_fold_single IntOp.ori x init h' h hu j, hi]
  have key : ∀ S : Finset (Fin (s.size a)), S.fold IntOp.ori 0#1 (x ∘ h.lift j) = 1#1 ↔ ∃ k ∈ S, x (h.lift j k) = 1#1 := by
    intro S
    induction S using Finset.induction_on with
    | empty => simp
    | insert b S hb ih =>
      rw [Finset.fold_insert hb, or_one, ih]
      simp
  rw [key]; simp

/-- A bit as a number. -/
theorem bit_nat {c : BitVec 1} {p : Prop} [Decidable p] (h : c = 1#1 ↔ p) : ((c.toNat : ℝ) : EReal) = if p then 1 else 0 := by
  by_cases hp : p
  · rw [if_pos hp, h.mpr hp]; norm_num
  · rw [if_neg hp, ValueIdx.eq_zero_of_ne_one fun hc => hp (h.mp hc)]; norm_num

/-- A quotient by sixty-four. -/
theorem div64 {n : ℕ} (hn : n < 4096) : IntOp.divsi .host (BitVec.ofNat 32 n) 64#32 = BitVec.ofNat 32 (n / 64) := by
  have h : ∀ m : Fin 4096, IntOp.divsi .host (BitVec.ofNat 32 m.val) 64#32 = BitVec.ofNat 32 (m.val / 64) := by decide +kernel
  exact h ⟨n, hn⟩

/-- The block before a query's, in words. -/
theorem eq_prev {a n : ℕ} (ha : a < 64) (hn : n < 64) : IntOp.cmpi .eq (BitVec.ofNat 32 a) (IntOp.subi (BitVec.ofNat 32 n) 1#32) = 1#1 ↔ a + 1 = n := by
  have h : ∀ a n : Fin 64, IntOp.cmpi .eq (BitVec.ofNat 32 a.val) (IntOp.subi (BitVec.ofNat 32 n.val) 1#32) = 1#1 ↔ a.val + 1 = n.val := by decide +kernel
  exact h ⟨a, ha⟩ ⟨n, hn⟩

/-- The window's start, in words that may be negative. -/
theorem gt_back {a n : ℕ} (ha : a < 4096) (hn : n < 4096) : IntOp.cmpi .sgt (BitVec.ofNat 32 a) (IntOp.subi (BitVec.ofNat 32 n) 512#32) = 1#1 ↔ n < a + 512 := by
  have hs : Affine.IsInt (IntOp.subi (BitVec.ofNat 32 n) 512#32) ((n : ℤ) - 512) :=
    Affine.subi (isNat (by omega)) (isNat (a := 512) (by omega)) (by omega)
  exact ⟨fun h => by by_contra hc; exact Affine.sgt_fails (isNat (by omega)) hs (by omega) h, fun h => Affine.sgt_holds (isNat (by omega)) hs (by omega)⟩

/-- A slice's index in the array it is cut from the start of. -/
def place {s t : Shape} (h : s.Slices (fun _ => 0) t) (i : t.Idx) : s.Idx := fun a => ⟨0 + (i (a.cast h.1.symm)).val,
  Nat.lt_of_lt_of_le (Nat.add_lt_add_left (i _).isLt _) (h.2 a)⟩

/-- The greatest entries along an axis, by the sort. -/
theorem topK_fst {s t : Shape} {α : Type} (d : ℕ) (hd : d < s.rank) (gt : α → α → BitVec 1) (x : s.Idx → α) (h : s.Slices (fun _ => 0) t) (i : t.Idx)
    (ix : Fin (s.size ⟨d, hd⟩) → s.Idx) (hix : ∀ k, (place h i).along ⟨d, hd⟩ k = ix k) (n : Fin (s.size ⟨d, hd⟩)) (hn : place h i ⟨d, hd⟩ = n) :
    (Host.topK t d gt x h).1 i = x (ix (sortedFrom (fun k k' => gt (x (ix k)) (x (ix k')) == 1#1) n)) := by
  obtain rfl : (fun k => (place h i).along ⟨d, hd⟩ k) = ix := funext hix
  subst hn
  unfold Host.topK Host.sort2
  simp only [dif_pos hd]
  rfl

/-- … and their places. -/
theorem topK_snd {s t : Shape} {α : Type} (d : ℕ) (hd : d < s.rank) (gt : α → α → BitVec 1) (x : s.Idx → α) (h : s.Slices (fun _ => 0) t) (i : t.Idx)
    (ix : Fin (s.size ⟨d, hd⟩) → s.Idx) (hix : ∀ k, (place h i).along ⟨d, hd⟩ k = ix k) (n : Fin (s.size ⟨d, hd⟩)) (hn : place h i ⟨d, hd⟩ = n) :
    (Host.topK t d gt x h).2 i = BitVec.ofNat 32 (sortedFrom (fun k k' => gt (x (ix k)) (x (ix k')) == 1#1) n).val := by
  obtain rfl : (fun k => (place h i).along ⟨d, hd⟩ k) = ix := funext hix
  subst hn
  unfold Host.topK Host.sort2
  simp only [dif_pos hd]
  show BitVec.ofNat 32 ((Function.update (place h i) ⟨d, hd⟩ _) ⟨d, hd⟩).val = _
  rw [Function.update_self]; rfl

end Cert.Spec
-- ==== Proof.Reference.Compressed.lean ====
module

public import proofs.«01_k».proof.Proof.Reference.Soft
public import proofs.«01_k».proof.Proof.Gen.ReferenceIdeal.Read

@[expose] public section

set_option maxHeartbeats 1000000

noncomputable section

/-! The reference's compressed attention, its block scores and its best sixteen blocks, as the specification's. -/

namespace Cert.ReferenceIdeal.Value

open Cert.ReferenceIdeal Cert.ReferenceIdeal.Gen Cert.ReferenceIdeal.Read Idealize.ShloMosaic Cert.Words Cert.Spec
open ValueIdx (ix4 ix5 eq_ix4 eq_ix5)
open Cert.KernelIdeal.Hand (attn)

/-- The arguments by their coordinates. -/
def argsOf (x0 : FVec Ideal S4x4096x4x4x64 .f32) (x1 : FVec Ideal S4x4096x3x4x4 .f32) (x2 x3 : FVec Ideal S4x255x4x64 .f32)
    (x4 x5 x6 x7 : FVec Ideal S4x4096x4x64 .f32) : Args where
  q b t h g d := x0 (ix5 b t h g d)
  gate b t k h g := x1 (ix5 b t k h g)
  kc b c h d := x2 (ix4 b c h d)
  vc b c h d := x3 (ix4 b c h d)
  ks b p h d := x4 (ix4 b p h d)
  vs b p h d := x5 (ix4 b p h d)
  kw b p h d := x6 (ix4 b p h d)
  vw b p h d := x7 (ix4 b p h d)

variable (x0 : FVec Ideal S4x4096x4x4x64 .f32) (x1 : FVec Ideal S4x4096x3x4x4 .f32) (x2 x3 : FVec Ideal S4x255x4x64 .f32)
variable (x4 x5 x6 x7 : FVec Ideal S4x4096x4x64 .f32)

theorem start (i : S255.Idx) : val_main_v3 (F := Ideal) i = BitVec.ofNat 32 ((i 0).val * 16) := by
  rw [val_main_v3_apply, val_main_v1_apply, val_main_v2_apply]; exact mul_nat

theorem first (i : S64.Idx) : val_main_v38 (F := Ideal) i = BitVec.ofNat 32 ((i 0).val * 64) := by
  rw [val_main_v38_apply, val_main_v36_apply, val_main_v37_apply]; exact mul_nat

theorem ends (i : S4096x255.Idx) : val_main_v14 (F := Ideal) i = 1#1 ↔ 16 * (i 1).val + 31 ≤ (i 0).val := by
  have h1 : (i 1).val < 255 := (i 1).isLt
  have h0 : (i 0).val < 4096 := (i 0).isLt
  rw [val_main_v14_apply, val_main_v12_apply, val_main_v10_apply, val_main_v8_apply, val_main_v6_apply, val_main_v7_apply, val_main_v9_apply,
    start, val_main_v13_apply, val_main_v11_apply, val_main_v0_apply]
  show IntOp.cmpi .sle (IntOp.subi (IntOp.addi (BitVec.ofNat 32 ((i 1).val * 16)) (BitVec.ofNat 32 32)) (BitVec.ofNat 32 1)) (BitVec.ofNat 32 (i 0).val) = 1#1 ↔ _
  rw [add_nat, sub_nat (by omega), sle_nat (by omega) (by omega)]
  omega

theorem mask (i : S4x4096x4x4x255.Idx) : val_main_v16 (F := Ideal) i = 1#1 ↔ 16 * (i 4).val + 31 ≤ (i 1).val := by
  rw [val_main_v16_apply, val_main_v15_apply, ends]

theorem dots (i : S4x4096x4x4x255.Idx) : val_main_v5 (F := Ideal) x0 x2 i = ∑ d, (argsOf x0 x1 x2 x3 x4 x5 x6 x7).kc (i 0) (i 4) (i 2) d * (argsOf x0 x1 x2 x3 x4 x5 x6 x7).q (i 0) (i 1) (i 2) (i 3) d := by
  rw [val_main_v5_apply, val_main_v4_apply]
  exact Finset.sum_congr rfl fun d _ => congrArg₂ (· * ·) (congrArg x2 (eq_ix4 _)) (congrArg x0 (eq_ix5 _))

theorem scores (i : S4x4096x4x4x255.Idx) : val_main_v18 (F := Ideal) x0 x2 i = scoreC (argsOf x0 x1 x2 x3 x4 x5 x6 x7) (i 0) (i 1) (i 2) (i 3) (i 4) := by
  rw [val_main_v18_apply, val_main_v17_apply, dots x0 x1 x2 x3 x4 x5 x6 x7]
  refine (select_eq (mask i) _ _).trans ?_
  unfold scoreC
  congr 1

theorem greatest (j : S4x4096x4x4.Idx) : val_main_v19 (F := Ideal) x0 x2 j = Finset.univ.sup (scoreC (argsOf x0 x1 x2 x3 x4 x5 x6 x7) (j 0) (j 1) (j 2) (j 3)) := by
  unfold val_main_v19
  refine hostMax (a := 4) _ _ _ (by decide) _ lit_bot j _ fun k => ?_
  rw [scores x0 x1 x2 x3 x4 x5 x6 x7]; rfl

theorem exps (i : S4x4096x4x4x255.Idx) : val_main_v25 (F := Ideal) x0 x2 i = above (scoreC (argsOf x0 x1 x2 x3 x4 x5 x6 x7) (i 0) (i 1) (i 2) (i 3)) (i 4) := by
  rw [val_main_v25_apply, val_main_v23_apply, val_main_v22_apply, val_main_v24_apply, val_main_v21_apply, val_main_v20_apply,
    scores x0 x1 x2 x3 x4 x5 x6 x7, greatest x0 x1 x2 x3 x4 x5 x6 x7]
  show Scalar.select _ _ (Ideal.ofBits .f32 0x00000000#32) = _
  rw [lit_zero]
  refine masked_exp (mask i) fun h => ?_
  exact if_neg h

theorem total (j : S4x4096x4x4.Idx) : val_main_v26 (F := Ideal) x0 x2 j = ∑ c, above (scoreC (argsOf x0 x1 x2 x3 x4 x5 x6 x7) (j 0) (j 1) (j 2) (j 3)) c := by
  rw [val_main_v26_apply]
  show Ideal.ofBits .f32 0x00000000#32 + _ = _
  rw [lit_zero, zero_add]
  exact Finset.sum_congr rfl fun k _ => exps x0 x1 x2 x3 x4 x5 x6 x7 _

theorem weights (i : S4x4096x4x4x255.Idx) : val_main_v33 (F := Ideal) x0 x2 i = prob (scoreC (argsOf x0 x1 x2 x3 x4 x5 x6 x7) (i 0) (i 1) (i 2) (i 3)) (i 4) := by
  rw [val_main_v33_apply, val_main_v32_apply, val_main_v31_apply, val_main_v29_apply, val_main_v27_apply, val_main_v28_apply, val_main_v30_apply]
  show Ideal.div _ (Scalar.select (Ideal.cmp .ogt _ (Ideal.ofBits .f32 0x00000000#32)) _ (Ideal.ofBits .f32 0x3F800000#32)) = _
  rw [lit_zero, lit_one]
  exact div_eq_prob _ _ (exps x0 x1 x2 x3 x4 x5 x6 x7 i) (total x0 x1 x2 x3 x4 x5 x6 x7 _)

/-- The compressed attention. -/
theorem outC (i : S4x4096x4x4x64.Idx) : val_main_v35 (F := Ideal) x0 x2 x3 i = attn (scoreC (argsOf x0 x1 x2 x3 x4 x5 x6 x7) (i 0) (i 1) (i 2) (i 3)) (fun c => (argsOf x0 x1 x2 x3 x4 x5 x6 x7).vc (i 0) c (i 2) (i 4)) := by
  rw [val_main_v35_apply, val_main_v34_apply, ← sum_prob]
  exact Finset.sum_congr rfl fun c _ => congrArg₂ (· * ·) (congrArg x3 (eq_ix4 _)) (weights x0 x1 x2 x3 x4 x5 x6 x7 _)

theorem overlaps (i : S255x64.Idx) : val_main_v54 (F := Ideal) i = overlap (i 1) (i 0) := by
  have h0 : (i 0).val < 255 := (i 0).isLt
  have h1 : (i 1).val < 64 := (i 1).isLt
  rw [val_main_v54_apply, val_main_v53_apply, val_main_v45_apply, val_main_v43_apply, val_main_v39_apply, val_main_v44_apply, val_main_v42_apply, val_main_v40_apply,
    val_main_v41_apply, val_main_v52_apply, val_main_v50_apply, val_main_v48_apply, val_main_v46_apply, val_main_v47_apply, val_main_v51_apply, val_main_v49_apply,
    start, first]
  refine bit_nat ?_
  rw [and_one]
  show IntOp.cmpi .slt (BitVec.ofNat 32 ((i 0).val * 16)) (IntOp.addi (BitVec.ofNat 32 ((i 1).val * 64)) (BitVec.ofNat 32 64)) = 1#1 ∧
    IntOp.cmpi .sgt (IntOp.addi (BitVec.ofNat 32 ((i 0).val * 16)) (BitVec.ofNat 32 32)) (BitVec.ofNat 32 ((i 1).val * 64)) = 1#1 ↔ _
  rw [add_nat, add_nat, slt_nat (by omega) (by omega), sgt_nat (by omega) (by omega)]
  omega

theorem imps (i : S4x4096x4x64.Idx) : val_main_v56 (F := Ideal) x0 x2 i = imp (argsOf x0 x1 x2 x3 x4 x5 x6 x7) (i 0) (i 1) (i 2) (i 3) := by
  rw [val_main_v56_apply]
  show Ideal.ofBits .f32 0x00000000#32 + _ = _
  rw [lit_zero, zero_add]
  refine Finset.sum_congr rfl fun g _ => ?_
  rw [val_main_v55_apply, ← sum_prob]
  refine Finset.sum_congr rfl fun c _ => ?_
  rw [weights x0 x1 x2 x3 x4 x5 x6 x7, overlaps]
  exact mul_comm _ _

theorem begun (i : S4096x64.Idx) : val_main_v61 (F := Ideal) i = 1#1 ↔ 64 * (i 1).val ≤ (i 0).val := by
  have h0 : (i 0).val < 4096 := (i 0).isLt
  have h1 : (i 1).val < 64 := (i 1).isLt
  rw [val_main_v61_apply, val_main_v59_apply, val_main_v57_apply, first, val_main_v60_apply, val_main_v58_apply, val_main_v0_apply]
  show IntOp.cmpi .sle (BitVec.ofNat 32 ((i 1).val * 64)) (BitVec.ofNat 32 (i 0).val) = 1#1 ↔ _
  rw [sle_nat (by omega) (by omega)]; omega

theorem current (i : S4096.Idx) : val_main_v63 (F := Ideal) i = BitVec.ofNat 32 ((i 0).val / 64) := by
  rw [val_main_v63_apply, val_main_v0_apply, val_main_v62_apply]; exact div64 (i 0).isLt

theorem forced (i : S4096x64.Idx) : val_main_v80 (F := Ideal) i = 1#1 ↔ Forced (i 0) (i 1) := by
  have h0 : (i 0).val < 4096 := (i 0).isLt
  have h1 : (i 1).val < 64 := (i 1).isLt
  rw [val_main_v80_apply, val_main_v73_apply, val_main_v72_apply, val_main_v67_apply, val_main_v65_apply, val_main_v66_apply, val_main_v36_apply,
    val_main_v71_apply, val_main_v69_apply, val_main_v68_apply, val_main_v36_apply, val_main_v70_apply, val_main_v64_apply, current,
    val_main_v79_apply, val_main_v77_apply, val_main_v74_apply, val_main_v36_apply, val_main_v78_apply, val_main_v76_apply, val_main_v64_apply, current, val_main_v75_apply,
    or_one, or_one]
  show (IntOp.cmpi .eq (BitVec.ofNat 32 (i 1).val) (BitVec.ofNat 32 0) = 1#1 ∨ IntOp.cmpi .eq (BitVec.ofNat 32 (i 1).val) (BitVec.ofNat 32 ((i 0).val / 64)) = 1#1) ∨
    IntOp.cmpi .eq (BitVec.ofNat 32 (i 1).val) (IntOp.subi (BitVec.ofNat 32 ((i 0).val / 64)) 1#32) = 1#1 ↔ _
  rw [eq_nat (by omega) (by omega), eq_nat (by omega) (by omega), eq_prev h1 (by omega), or_assoc]; rfl

/-- The block scores. -/
theorem blocks (i : S4x4096x4x64.Idx) : val_main_v85 (F := Ideal) x0 x2 i = score (argsOf x0 x1 x2 x3 x4 x5 x6 x7) (i 0) (i 1) (i 2) (i 3) := by
  have hf : val_main_call1_v1 (F := Ideal) i = 1#1 ↔ Forced (i 1) (i 3) ∧ 64 * (i 3).val ≤ (i 1).val := by
    rw [val_main_call1_v1_apply, val_main_v82_apply, val_main_v81_apply, and_one, forced, begun]; exact Iff.rfl
  have hv : val_main_call0_v1 (F := Ideal) i = 1#1 ↔ 64 * (i 3).val ≤ (i 1).val := by
    rw [val_main_call0_v1_apply, val_main_v83_apply, begun]
  rw [val_main_v85_apply, val_main_v84_apply, imps x0 x1 x2 x3 x4 x5 x6 x7, val_main_call1_v2_apply, val_main_call0_v2_apply]
  haveI : Decidable (Forced (i 1) (i 3)) := by unfold Forced; infer_instance
  refine (select_eq hf _ _).trans ?_
  rw [select_eq hv]
  unfold score
  congr 1
  · exact lit_first
  · congr 1; exact lit_neg_one

end Cert.ReferenceIdeal.Value
-- ==== Proof.Reference.Selected.lean ====
module

public import proofs.«01_k».proof.Proof.Reference.Compressed

@[expose] public section

set_option maxHeartbeats 1000000

noncomputable section

/-! The reference's selected and sliding-window attention, and its result, as the specification's. -/

namespace Cert.ReferenceIdeal.Value

open Cert.ReferenceIdeal Cert.ReferenceIdeal.Gen Cert.ReferenceIdeal.Read Idealize.ShloMosaic Cert.Words Cert.Spec
open ValueIdx (ix4 ix5 eq_ix4 eq_ix5)
open Cert.KernelIdeal.Hand (attn)

variable (x0 : FVec Ideal S4x4096x4x4x64 .f32) (x1 : FVec Ideal S4x4096x3x4x4 .f32) (x2 x3 : FVec Ideal S4x255x4x64 .f32)
variable (x4 x5 x6 x7 : FVec Ideal S4x4096x4x64 .f32)

/-- The order the sort uses at a query's group of heads. -/
def order (b : Fin 4) (t : Fin 4096) (h : Fin 4) (i j : Fin 64) : Bool :=
  FloatOps.cmpfTotal (F := Ideal) (φ := .f32) .gt (val_main_v85 (F := Ideal) x0 x2 (ix4 b t h i)) (val_main_v85 (F := Ideal) x0 x2 (ix4 b t h j)) == 1#1

theorem order_iff (b : Fin 4) (t : Fin 4096) (h : Fin 4) (i j : Fin 64) :
    order x0 x2 b t h i j = true ↔ score (argsOf x0 x1 x2 x3 x4 x5 x6 x7) b t h j < score (argsOf x0 x1 x2 x3 x4 x5 x6 x7) b t h i := by
  unfold order
  rw [beq_iff_eq, blocks x0 x1 x2 x3 x4 x5 x6 x7, blocks x0 x1 x2 x3 x4 x5 x6 x7]
  exact cmp_ogt _ _

/-- The block that ranks `n`-th. -/
def nth (b : Fin 4) (t : Fin 4096) (h : Fin 4) (n : Fin 16) : Fin 64 := sortedFrom (order x0 x2 b t h) ⟨n.val, by have := n.isLt; omega⟩

theorem along_eq (i : S4x4096x4x16.Idx) (k : Fin 64) : (place sliceFits_S4x4096x4x64_S4x4096x4x16 i).along 3 k = ix4 (i 0) (i 1) (i 2) k := by
  funext a
  match a with
  | ⟨0, _⟩ => exact Fin.ext (Nat.zero_add _)
  | ⟨1, _⟩ => exact Fin.ext (Nat.zero_add _)
  | ⟨2, _⟩ => exact Fin.ext (Nat.zero_add _)
  | ⟨3, _⟩ => rfl

theorem axis3 : 3 < S4x4096x4x64.rank := by decide
theorem last_lt (i : S4x4096x4x16.Idx) : (i 3).val < 64 := lt_trans (i 3).isLt (by decide)
theorem place_last (i : S4x4096x4x16.Idx) : place sliceFits_S4x4096x4x64_S4x4096x4x16 i ⟨3, axis3⟩ = (⟨(i 3).val, last_lt i⟩ : Fin 64) := Fin.ext (Nat.zero_add _)

theorem best (i : S4x4096x4x16.Idx) : val_main_values (F := Ideal) x0 x2 i = val_main_v85 (F := Ideal) x0 x2 (ix4 (i 0) (i 1) (i 2) (nth x0 x2 (i 0) (i 1) (i 2) (i 3))) := by
  have h := topK_fst (s := S4x4096x4x64) (t := S4x4096x4x16) 3 axis3 (FloatOps.cmpfTotal (F := Ideal) (φ := .f32) .gt) (val_main_v85 (F := Ideal) x0 x2)
    sliceFits_S4x4096x4x64_S4x4096x4x16 i (fun k => ix4 (i 0) (i 1) (i 2) k) (along_eq i) ⟨(i 3).val, last_lt i⟩ (place_last i)
  unfold val_main_values
  exact h

theorem which (i : S4x4096x4x16.Idx) : val_main_indices (F := Ideal) x0 x2 i = BitVec.ofNat 32 (nth x0 x2 (i 0) (i 1) (i 2) (i 3)).val := by
  have h := topK_snd (s := S4x4096x4x64) (t := S4x4096x4x16) 3 axis3 (FloatOps.cmpfTotal (F := Ideal) (φ := .f32) .gt) (val_main_v85 (F := Ideal) x0 x2)
    sliceFits_S4x4096x4x64_S4x4096x4x16 i (fun k => ix4 (i 0) (i 1) (i 2) k) (along_eq i) ⟨(i 3).val, last_lt i⟩ (place_last i)
  unfold val_main_indices
  exact h

include x1 x3 x4 x5 x6 x7 in
theorem hit (i : S4x4096x4x64x16.Idx) : val_main_v96 (F := Ideal) x0 x2 i = 1#1 ↔
    nth x0 x2 (i 0) (i 1) (i 2) (i 4) = i 3 ∧ 64 * (nth x0 x2 (i 0) (i 1) (i 2) (i 4)).val ≤ (i 1).val := by
  have h3 : (i 3).val < 64 := (i 3).isLt
  rw [val_main_v96_apply, and_one, val_main_v91_apply, val_main_v89_apply, val_main_v86_apply, which, val_main_v90_apply, val_main_v88_apply, val_main_v87_apply, val_main_v36_apply,
    val_main_v95_apply, val_main_v94_apply, val_main_v93_apply, best, val_main_v92_apply, blocks x0 x1 x2 x3 x4 x5 x6 x7]
  refine and_congr ?_ ?_
  · refine (eq_nat (lt_trans (Fin.isLt _) (by decide)) (lt_trans h3 (by decide))).trans ?_
    exact Fin.ext_iff.symm
  · show Ideal.cmp .oge _ (Ideal.ofBits .f32 0x00000000#32) = 1#1 ↔ _
    rw [cmp_oge, lit_zero]
    exact score_nonneg_iff (argsOf x0 x1 x2 x3 x4 x5 x6 x7) (i 0) (i 1) (i 2) _

/-- A block is chosen. -/
theorem chosen (i : S4x4096x4x64.Idx) : val_main_v97 (F := Ideal) x0 x2 i = 1#1 ↔ Chosen (argsOf x0 x1 x2 x3 x4 x5 x6 x7) (i 0) (i 1) (i 2) (i 3) := by
  unfold val_main_v97
  rw [hostOr (a := 4) _ _ _ (by decide) _ rfl]
  refine (exists_congr fun k => hit x0 x1 x2 x3 x4 x5 x6 x7 _).trans ?_
  show (∃ n : Fin 16, nth x0 x2 (i 0) (i 1) (i 2) n = i 3 ∧ 64 * (nth x0 x2 (i 0) (i 1) (i 2) n).val ≤ (i 1).val) ↔ _
  unfold Chosen
  rw [← exists_sorted_iff _ (order x0 x2 (i 0) (i 1) (i 2)) (order_iff x0 x1 x2 x3 x4 x5 x6 x7 (i 0) (i 1) (i 2)) (i 3)]
  constructor
  · rintro ⟨n, hn, hv⟩; exact ⟨⟨n, hn⟩, hn ▸ hv⟩
  · rintro ⟨⟨n, hn⟩, hv⟩; exact ⟨n, hn, by rw [show nth x0 x2 (i 0) (i 1) (i 2) n = i 3 from hn]; exact hv⟩

theorem spread (i : S4x4096x4x4096.Idx) : val_main_v100 (F := Ideal) x0 x2 i = 1#1 ↔ Chosen (argsOf x0 x1 x2 x3 x4 x5 x6 x7) (i 0) (i 1) (i 2) (blockOf (i 3)) := by
  have h0 : (i 0).val < 4 := (i 0).isLt
  have h1 : (i 1).val < 4096 := (i 1).isLt
  have h2 : (i 2).val < 4 := (i 2).isLt
  have h3 : (i 3).val < 4096 := (i 3).isLt
  rw [val_main_v100_apply, val_main_v99_apply, val_main_v98_apply, chosen x0 x1 x2 x3 x4 x5 x6 x7]
  generalize hk : idx_main_v98 (idx_main_v99 (idx_main_v100 i)) = k
  have e0 : k 0 = i 0 := by
    rw [← hk]; refine Fin.ext ?_
    show ((((i 0).val * 4096 + (i 1).val) * 4 + (i 2).val) * 4096 + (i 3).val) / 67108864 = (i 0).val
    omega
  have e1 : k 1 = i 1 := by
    rw [← hk]; refine Fin.ext ?_
    show ((((i 0).val * 4096 + (i 1).val) * 4 + (i 2).val) * 4096 + (i 3).val) / 16384 % 4096 = (i 1).val
    omega
  have e2 : k 2 = i 2 := by
    rw [← hk]; refine Fin.ext ?_
    show ((((i 0).val * 4096 + (i 1).val) * 4 + (i 2).val) * 4096 + (i 3).val) / 4096 % 4 = (i 2).val
    omega
  have e3 : k 3 = blockOf (i 3) := by
    rw [← hk]; refine Fin.ext ?_
    show ((((i 0).val * 4096 + (i 1).val) * 4 + (i 2).val) * 4096 + (i 3).val) / 64 % 64 = (i 3).val / 64
    omega
  rw [e0, e1, e2, e3]

theorem by_query (i : S4096x4096.Idx) : val_main_v105 (F := Ideal) i = 1#1 ↔ (i 1).val ≤ (i 0).val := by
  have h0 : (i 0).val < 4096 := (i 0).isLt
  have h1 : (i 1).val < 4096 := (i 1).isLt
  rw [val_main_v105_apply, val_main_v103_apply, val_main_v101_apply, val_main_v0_apply, val_main_v104_apply, val_main_v102_apply, val_main_v0_apply]
  exact sle_nat (a := (i 1).val) (b := (i 0).val) (by omega) (by omega)

theorem maskS (i : S4x4096x4x4x4096.Idx) : val_main_v112 (F := Ideal) x0 x2 i = 1#1 ↔
    Chosen (argsOf x0 x1 x2 x3 x4 x5 x6 x7) (i 0) (i 1) (i 2) (blockOf (i 4)) ∧ (i 4).val ≤ (i 1).val := by
  rw [val_main_v112_apply, val_main_v111_apply, val_main_v108_apply, and_one, spread x0 x1 x2 x3 x4 x5 x6 x7, val_main_v107_apply, val_main_v106_apply, by_query]
  exact Iff.rfl

theorem dotsS (i : S4x4096x4x4x4096.Idx) : val_main_v110 (F := Ideal) x0 x4 i = ∑ d, (argsOf x0 x1 x2 x3 x4 x5 x6 x7).ks (i 0) (i 4) (i 2) d * (argsOf x0 x1 x2 x3 x4 x5 x6 x7).q (i 0) (i 1) (i 2) (i 3) d := by
  rw [val_main_v110_apply, val_main_v109_apply]
  exact Finset.sum_congr rfl fun d _ => congrArg₂ (· * ·) (congrArg x4 (eq_ix4 _)) (congrArg x0 (eq_ix5 _))

theorem scoresS (i : S4x4096x4x4x4096.Idx) : val_main_v114 (F := Ideal) x0 x2 x4 i = scoreS (argsOf x0 x1 x2 x3 x4 x5 x6 x7) (i 0) (i 1) (i 2) (i 3) (i 4) := by
  classical
  rw [val_main_v114_apply, val_main_v113_apply, dotsS x0 x1 x2 x3 x4 x5 x6 x7]
  refine (select_eq (maskS x0 x1 x2 x3 x4 x5 x6 x7 i) _ _).trans ?_
  unfold scoreS
  congr 1

theorem greatestS (j : S4x4096x4x4.Idx) : val_main_v115 (F := Ideal) x0 x2 x4 j = Finset.univ.sup (scoreS (argsOf x0 x1 x2 x3 x4 x5 x6 x7) (j 0) (j 1) (j 2) (j 3)) := by
  unfold val_main_v115
  refine hostMax (a := 4) _ _ _ (by decide) _ lit_bot j _ fun k => ?_
  rw [scoresS x0 x1 x2 x3 x4 x5 x6 x7]; rfl

theorem expsS (i : S4x4096x4x4x4096.Idx) : val_main_v121 (F := Ideal) x0 x2 x4 i = above (scoreS (argsOf x0 x1 x2 x3 x4 x5 x6 x7) (i 0) (i 1) (i 2) (i 3)) (i 4) := by
  rw [val_main_v121_apply, val_main_v119_apply, val_main_v118_apply, val_main_v120_apply, val_main_v117_apply, val_main_v116_apply,
    scoresS x0 x1 x2 x3 x4 x5 x6 x7, greatestS x0 x1 x2 x3 x4 x5 x6 x7]
  show Scalar.select _ _ (Ideal.ofBits .f32 0x00000000#32) = _
  rw [lit_zero]
  refine masked_exp (maskS x0 x1 x2 x3 x4 x5 x6 x7 i) fun h => ?_
  exact if_neg h

theorem totalS (j : S4x4096x4x4.Idx) : val_main_v122 (F := Ideal) x0 x2 x4 j = ∑ c, above (scoreS (argsOf x0 x1 x2 x3 x4 x5 x6 x7) (j 0) (j 1) (j 2) (j 3)) c := by
  rw [val_main_v122_apply]
  show Ideal.ofBits .f32 0x00000000#32 + _ = _
  rw [lit_zero, zero_add]
  exact Finset.sum_congr rfl fun k _ => expsS x0 x1 x2 x3 x4 x5 x6 x7 _

theorem weightsS (i : S4x4096x4x4x4096.Idx) : val_main_v129 (F := Ideal) x0 x2 x4 i = prob (scoreS (argsOf x0 x1 x2 x3 x4 x5 x6 x7) (i 0) (i 1) (i 2) (i 3)) (i 4) := by
  rw [val_main_v129_apply, val_main_v128_apply, val_main_v127_apply, val_main_v125_apply, val_main_v123_apply, val_main_v124_apply, val_main_v126_apply]
  show Ideal.div _ (Scalar.select (Ideal.cmp .ogt _ (Ideal.ofBits .f32 0x00000000#32)) _ (Ideal.ofBits .f32 0x3F800000#32)) = _
  rw [lit_zero, lit_one]
  exact div_eq_prob _ _ (expsS x0 x1 x2 x3 x4 x5 x6 x7 i) (totalS x0 x1 x2 x3 x4 x5 x6 x7 _)

/-- The selected attention. -/
theorem outS (i : S4x4096x4x4x64.Idx) : val_main_v131 (F := Ideal) x0 x2 x4 x5 i = attn (scoreS (argsOf x0 x1 x2 x3 x4 x5 x6 x7) (i 0) (i 1) (i 2) (i 3)) (fun p => (argsOf x0 x1 x2 x3 x4 x5 x6 x7).vs (i 0) p (i 2) (i 4)) := by
  rw [val_main_v131_apply, val_main_v130_apply, ← sum_prob]
  exact Finset.sum_congr rfl fun c _ => congrArg₂ (· * ·) (congrArg x5 (eq_ix4 _)) (weightsS x0 x1 x2 x3 x4 x5 x6 x7 _)

theorem near (i : S4096x4096.Idx) : val_main_v144 (F := Ideal) i = 1#1 ↔ (i 1).val ≤ (i 0).val ∧ (i 0).val < (i 1).val + 512 := by
  have h0 : (i 0).val < 4096 := (i 0).isLt
  have h1 : (i 1).val < 4096 := (i 1).isLt
  rw [val_main_v144_apply, and_one, val_main_v136_apply, val_main_v134_apply, val_main_v132_apply, val_main_v0_apply, val_main_v135_apply, val_main_v133_apply, val_main_v0_apply,
    val_main_v143_apply, val_main_v141_apply, val_main_v137_apply, val_main_v0_apply, val_main_v142_apply, val_main_v140_apply, val_main_v138_apply, val_main_v0_apply, val_main_v139_apply]
  exact and_congr (sle_nat (a := (i 1).val) (b := (i 0).val) (by omega) (by omega)) (gt_back h1 h0)

theorem maskW (i : S4x4096x4x4x4096.Idx) : val_main_v148 (F := Ideal) i = 1#1 ↔ (i 4).val ≤ (i 1).val ∧ (i 1).val < (i 4).val + 512 := by
  rw [val_main_v148_apply, val_main_v147_apply, near]

theorem dotsW (i : S4x4096x4x4x4096.Idx) : val_main_v146 (F := Ideal) x0 x6 i = ∑ d, (argsOf x0 x1 x2 x3 x4 x5 x6 x7).kw (i 0) (i 4) (i 2) d * (argsOf x0 x1 x2 x3 x4 x5 x6 x7).q (i 0) (i 1) (i 2) (i 3) d := by
  rw [val_main_v146_apply, val_main_v145_apply]
  exact Finset.sum_congr rfl fun d _ => congrArg₂ (· * ·) (congrArg x6 (eq_ix4 _)) (congrArg x0 (eq_ix5 _))

theorem scoresW (i : S4x4096x4x4x4096.Idx) : val_main_v150 (F := Ideal) x0 x6 i = scoreW (argsOf x0 x1 x2 x3 x4 x5 x6 x7) (i 0) (i 1) (i 2) (i 3) (i 4) := by
  rw [val_main_v150_apply, val_main_v149_apply, dotsW x0 x1 x2 x3 x4 x5 x6 x7]
  refine (select_eq (maskW i) _ _).trans ?_
  unfold scoreW
  congr 1

theorem greatestW (j : S4x4096x4x4.Idx) : val_main_v151 (F := Ideal) x0 x6 j = Finset.univ.sup (scoreW (argsOf x0 x1 x2 x3 x4 x5 x6 x7) (j 0) (j 1) (j 2) (j 3)) := by
  unfold val_main_v151
  refine hostMax (a := 4) _ _ _ (by decide) _ lit_bot j _ fun k => ?_
  rw [scoresW x0 x1 x2 x3 x4 x5 x6 x7]; rfl

theorem expsW (i : S4x4096x4x4x4096.Idx) : val_main_v157 (F := Ideal) x0 x6 i = above (scoreW (argsOf x0 x1 x2 x3 x4 x5 x6 x7) (i 0) (i 1) (i 2) (i 3)) (i 4) := by
  rw [val_main_v157_apply, val_main_v155_apply, val_main_v154_apply, val_main_v156_apply, val_main_v153_apply, val_main_v152_apply,
    scoresW x0 x1 x2 x3 x4 x5 x6 x7, greatestW x0 x1 x2 x3 x4 x5 x6 x7]
  show Scalar.select _ _ (Ideal.ofBits .f32 0x00000000#32) = _
  rw [lit_zero]
  refine masked_exp (maskW i) fun h => ?_
  exact if_neg h

theorem totalW (j : S4x4096x4x4.Idx) : val_main_v158 (F := Ideal) x0 x6 j = ∑ c, above (scoreW (argsOf x0 x1 x2 x3 x4 x5 x6 x7) (j 0) (j 1) (j 2) (j 3)) c := by
  rw [val_main_v158_apply]
  show Ideal.ofBits .f32 0x00000000#32 + _ = _
  rw [lit_zero, zero_add]
  exact Finset.sum_congr rfl fun k _ => expsW x0 x1 x2 x3 x4 x5 x6 x7 _

theorem weightsW (i : S4x4096x4x4x4096.Idx) : val_main_v165 (F := Ideal) x0 x6 i = prob (scoreW (argsOf x0 x1 x2 x3 x4 x5 x6 x7) (i 0) (i 1) (i 2) (i 3)) (i 4) := by
  rw [val_main_v165_apply, val_main_v164_apply, val_main_v163_apply, val_main_v161_apply, val_main_v159_apply, val_main_v160_apply, val_main_v162_apply]
  show Ideal.div _ (Scalar.select (Ideal.cmp .ogt _ (Ideal.ofBits .f32 0x00000000#32)) _ (Ideal.ofBits .f32 0x3F800000#32)) = _
  rw [lit_zero, lit_one]
  exact div_eq_prob _ _ (expsW x0 x1 x2 x3 x4 x5 x6 x7 i) (totalW x0 x1 x2 x3 x4 x5 x6 x7 _)

/-- The sliding-window attention. -/
theorem outW (i : S4x4096x4x4x64.Idx) : val_main_v167 (F := Ideal) x0 x6 x7 i = attn (scoreW (argsOf x0 x1 x2 x3 x4 x5 x6 x7) (i 0) (i 1) (i 2) (i 3)) (fun p => (argsOf x0 x1 x2 x3 x4 x5 x6 x7).vw (i 0) p (i 2) (i 4)) := by
  rw [val_main_v167_apply, val_main_v166_apply, ← sum_prob]
  exact Finset.sum_congr rfl fun c _ => congrArg₂ (· * ·) (congrArg x7 (eq_ix4 _)) (weightsW x0 x1 x2 x3 x4 x5 x6 x7 _)

/-- Splitting off an axis of size one keeps the other coordinates. -/
theorem gateAt (i : S4x4096x4x4.Idx) (j : S4x4096x1x4x4.Idx) (k : Fin 3)
    (h0 : (j 0).val = ((((i 0).val * 4096 + (i 1).val) * 4 + (i 2).val) * 4 + (i 3).val) / 65536) (h1 : (j 1).val = ((((i 0).val * 4096 + (i 1).val) * 4 + (i 2).val) * 4 + (i 3).val) / 16 % 4096)
    (h3 : (j 3).val = ((((i 0).val * 4096 + (i 1).val) * 4 + (i 2).val) * 4 + (i 3).val) / 4 % 4) (h4 : (j 4).val = ((((i 0).val * 4096 + (i 1).val) * 4 + (i 2).val) * 4 + (i 3).val) % 4)
    (m : S4x4096x3x4x4.Idx) (m0 : (m 0).val = (j 0).val) (m1 : (m 1).val = (j 1).val) (m2 : (m 2).val = k.val) (m3 : (m 3).val = (j 3).val) (m4 : (m 4).val = (j 4).val) :
    x1 m = (argsOf x0 x1 x2 x3 x4 x5 x6 x7).gate (i 0) (i 1) k (i 2) (i 3) := by
  have b0 : (i 0).val < 4 := (i 0).isLt
  have b1 : (i 1).val < 4096 := (i 1).isLt
  have b2 : (i 2).val < 4 := (i 2).isLt
  have b3 : (i 3).val < 4 := (i 3).isLt
  refine congrArg x1 (funext fun a => Fin.ext ?_)
  match a with
  | ⟨0, _⟩ => exact (m0.trans h0).trans (show _ = (i 0).val by omega)
  | ⟨1, _⟩ => exact (m1.trans h1).trans (show _ = (i 1).val by omega)
  | ⟨2, _⟩ => exact m2
  | ⟨3, _⟩ => exact (m3.trans h3).trans (show _ = (i 2).val by omega)
  | ⟨4, _⟩ => exact (m4.trans h4).trans (show _ = (i 3).val by omega)

theorem gate0 (i : S4x4096x4x4x64.Idx) : val_main_v171 (F := Ideal) x1 i = (argsOf x0 x1 x2 x3 x4 x5 x6 x7).gate (i 0) (i 1) 0 (i 2) (i 3) := by
  rw [val_main_v171_apply, val_main_v170_apply, val_main_v169_apply, val_main_v168_apply]
  exact gateAt x0 x1 x2 x3 x4 x5 x6 x7 (idx_main_v170 (idx_main_v171 i)) (idx_main_v169 (idx_main_v170 (idx_main_v171 i))) 0 rfl rfl rfl rfl _ rfl rfl rfl rfl rfl
theorem gate1 (i : S4x4096x4x4x64.Idx) : val_main_v176 (F := Ideal) x1 i = (argsOf x0 x1 x2 x3 x4 x5 x6 x7).gate (i 0) (i 1) 1 (i 2) (i 3) := by
  rw [val_main_v176_apply, val_main_v175_apply, val_main_v174_apply, val_main_v173_apply]
  exact gateAt x0 x1 x2 x3 x4 x5 x6 x7 (idx_main_v175 (idx_main_v176 i)) (idx_main_v174 (idx_main_v175 (idx_main_v176 i))) 1 rfl rfl rfl rfl _ rfl rfl rfl rfl rfl
theorem gate2 (i : S4x4096x4x4x64.Idx) : val_main_v182 (F := Ideal) x1 i = (argsOf x0 x1 x2 x3 x4 x5 x6 x7).gate (i 0) (i 1) 2 (i 2) (i 3) := by
  rw [val_main_v182_apply, val_main_v181_apply, val_main_v180_apply, val_main_v179_apply]
  exact gateAt x0 x1 x2 x3 x4 x5 x6 x7 (idx_main_v181 (idx_main_v182 i)) (idx_main_v180 (idx_main_v181 (idx_main_v182 i))) 2 rfl rfl rfl rfl _ rfl rfl rfl rfl rfl

/-- The gated sum of the three. -/
theorem gated (i : S4x4096x4x4x64.Idx) : val_main_v184 (F := Ideal) x0 x1 x2 x3 x4 x5 x6 x7 i = out (argsOf x0 x1 x2 x3 x4 x5 x6 x7) (i 0) (i 1) (i 2) (i 3) (i 4) := by
  rw [val_main_v184_apply, val_main_v178_apply, val_main_v172_apply, val_main_v177_apply, val_main_v183_apply, gate0 x0 x1 x2 x3 x4 x5 x6 x7, gate1 x0 x1 x2 x3 x4 x5 x6 x7,
    gate2 x0 x1 x2 x3 x4 x5 x6 x7, outC x0 x1 x2 x3 x4 x5 x6 x7, outS x0 x1 x2 x3 x4 x5 x6 x7, outW x0 x1 x2 x3 x4 x5 x6 x7]
  rfl

/-- The reference's result, by its rows (a head's dimension) and columns (a batch's query). -/
theorem result (i : S1024x16384.Idx) (b : Fin 4) (t : Fin 4096) (h g : Fin 4) (d : Fin 64) (hr : (i 0).val = (h.val * 4 + g.val) * 64 + d.val) (hc : (i 1).val = b.val * 4096 + t.val) :
    val_main_v187 (F := Ideal) x0 x1 x2 x3 x4 x5 x6 x7 i = out (argsOf x0 x1 x2 x3 x4 x5 x6 x7) b t h g d := by
  have b0 := b.isLt
  have b1 := t.isLt
  have b2 := h.isLt
  have b3 := g.isLt
  have b4 := d.isLt
  rw [val_main_v187_apply, val_main_v186_apply, val_main_v185_apply]
  refine (gated x0 x1 x2 x3 x4 x5 x6 x7 _).trans ?_
  generalize hk : idx_main_v185 (idx_main_v186 i) = k
  have e0 : k 0 = b := by
    rw [← hk]; refine Fin.ext ?_
    show ((i 1).val * 1024 + (i 0).val) / 4194304 = _
    omega
  have e1 : k 1 = t := by
    rw [← hk]; refine Fin.ext ?_
    show ((i 1).val * 1024 + (i 0).val) / 1024 % 4096 = _
    omega
  have e2 : k 2 = h := by
    rw [← hk]; refine Fin.ext ?_
    show ((i 1).val * 1024 + (i 0).val) / 256 % 4 = _
    omega
  have e3 : k 3 = g := by
    rw [← hk]; refine Fin.ext ?_
    show ((i 1).val * 1024 + (i 0).val) / 64 % 4 = _
    omega
  have e4 : k 4 = d := by
    rw [← hk]; refine Fin.ext ?_
    show ((i 1).val * 1024 + (i 0).val) % 64 = _
    omega
  rw [e0, e1, e2, e3, e4]

end Cert.ReferenceIdeal.Value
-- ==== Proof.Half.Spec.lean ====
module

public import Idealize.ShloMosaic.Lib.Pointwise

@[expose] public section

noncomputable section

/-! A row of the feed-forward half layer: the row plus one half of the gated feed-forward network of the normed row. -/

namespace Cert.Ffn

open Idealize.ShloMosaic

/-- The row over its root mean square, by the gain. -/
def normed (x g : Fin 1024 → EReal) (d : Fin 1024) : EReal :=
  x d * Ideal.rsqrt (Ideal.div (∑ k, x k * x k) (Ideal.ofBits .f32 0x44800000#32) + Ideal.ofBits .f32 0x358637BD#32) * g d

/-- A product of the normed row with one column of the first weights. -/
def proj (y : Fin 1024 → EReal) (W : Fin 1024 → Fin 5632 → EReal) (j : Fin 5632) : EReal := ∑ d, y d * W d j

/-- A column of the first half of the first weights. -/
def lo (j : Fin 2816) : Fin 5632 := ⟨j.val, by omega⟩
/-- The partner of a column, in the second half of the first weights. -/
def hi (j : Fin 2816) : Fin 5632 := ⟨2816 + j.val, by omega⟩

/-- `a · σ(a) · b`. -/
def gated (a b : EReal) : EReal := a * Ideal.logistic a * b

/-- The activations of a normed row. -/
def act (y : Fin 1024 → EReal) (W : Fin 1024 → Fin 5632 → EReal) (j : Fin 2816) : EReal :=
  gated (proj y W (lo j)) (proj y W (hi j))

/-- The half layer's row. -/
def row (x g : Fin 1024 → EReal) (W : Fin 1024 → Fin 5632 → EReal) (U : Fin 2816 → Fin 1024 → EReal) (e : Fin 1024) : EReal :=
  x e + Ideal.ofBits .f32 0x3F000000#32 * ∑ j, act (normed x g) W j * U j e

/-- Rows of equal arguments are equal. -/
theorem row_congr {x x' g g' : Fin 1024 → EReal} {W W' : Fin 1024 → Fin 5632 → EReal} {U U' : Fin 2816 → Fin 1024 → EReal} (e : Fin 1024)
    (hx : ∀ d, x d = x' d) (hg : ∀ d, g d = g' d) (hW : ∀ d j, W d j = W' d j) (hU : ∀ j e, U j e = U' j e) : row x g W U e = row x' g' W' U' e := by
  obtain rfl : x = x' := funext hx
  obtain rfl : g = g' := funext hg
  obtain rfl : W = W' := funext fun d => funext (hW d)
  obtain rfl : U = U' := funext fun j => funext (hU j)
  rfl

/-- A row with its share of the mixer's projection added. -/
def mixed (h o : Fin 1024 → EReal) (w : Fin 1024 → Fin 1024 → EReal) (d : Fin 1024) : EReal := h d + ∑ k : Fin 1024, o k * w k d

/-- The half layer of every position of every sequence, one sequence under another. -/
def laid (x : Fin 4 → Fin 4096 → Fin 1024 → EReal) (g : Fin 1024 → EReal) (W : Fin 1024 → Fin 5632 → EReal) (U : Fin 2816 → Fin 1024 → EReal) :
    (⟨2, ![16384, 1024]⟩ : Shape).Idx → EReal := fun k =>
  row (x ⟨(k 0).val / 4096, by have : (k 0).val < 16384 := (k 0).isLt; omega⟩ ⟨(k 0).val % 4096, Nat.mod_lt _ (by omega)⟩) g W U (k 1)

/-- The half layer at a position of a sequence. -/
theorem laid_apply (x : Fin 4 → Fin 4096 → Fin 1024 → EReal) (g : Fin 1024 → EReal) (W : Fin 1024 → Fin 5632 → EReal) (U : Fin 2816 → Fin 1024 → EReal)
    (k : (⟨2, ![16384, 1024]⟩ : Shape).Idx) (b : Fin 4) (t : Fin 4096) (e : Fin 1024) (hr : (k 0).val = b.val * 4096 + t.val) (hc : (k 1).val = e.val) :
    laid x g W U k = row (x b t) g W U e := by
  have hb := b.isLt
  have ht := t.isLt
  unfold laid
  exact congr (congrArg (fun y => row y g W U) (congr (congrArg x (Fin.ext (show (k 0).val / 4096 = b.val by omega))) (Fin.ext (show (k 0).val % 4096 = t.val by omega)))) (Fin.ext hc)

end Cert.Ffn
-- ==== Proof.Half.Tile.lean ====
module

public import proofs.«01_k».proof.Proof.Half.Spec
public import proofs.«01_k».proof.Proof.Gen.HalfIdeal.Skeleton
public import Idealize.ShloMosaic.Lib.Pipeline.ValueKit.Tiles

@[expose] public section

set_option maxHeartbeats 1000000

noncomputable section

/-! The kernel's tiles at an index: the normed rows, a tile of activations, a tile of the result. -/

namespace Cert.HalfIdeal.Hand

open Cert.HalfIdeal Cert.HalfIdeal.Gen Idealize.ShloMosaic Idealize.SL.Sem

/-- The rows themselves. -/
theorem x_apply (x : FVec Ideal S512x1024 .f32) (r : Fin 512) (d : Fin 1024) : k0_pay4 x (ix2 r d) = x (ix2 r d) := by
  pointwise [k0_pay4]

/-- The normed rows. -/
theorem normed_apply (x : FVec Ideal S512x1024 .f32) (g : FVec Ideal S1x1x1x1024 .f32) (r : Fin 512) (d : Fin 1024) :
    k0_pay5 (F := Ideal) x g (ix2 r d) = Ffn.normed (fun k => x (ix2 r k)) (fun k => g (ix4 0 0 0 k)) d := by
  pointwise [k0_pay5, k0_pay4]
  rfl

/-- A tile of activations, from a tile of each half of the weights. -/
theorem gated_apply (y : FVec Ideal S512x1024 .bf16) (w u : FVec Ideal S1x1x1024x256 .f32) (r : Fin 512) (j : Fin 256) :
    k0_pay7 (F := Ideal) y w u (ix2 r j) = Ffn.gated (∑ d : Fin 1024, y (ix2 r d) * w (ix4 0 0 d j)) (∑ d : Fin 1024, y (ix2 r d) * u (ix4 0 0 d j)) := by
  pointwise [k0_pay7]
  rfl

section
variable (x : FVec Ideal S512x1024 .f32) (a : FVec Ideal S512x2816 .bf16) (u : FVec Ideal S1x1x2816x256 .f32) (r : Fin 512) (e : Fin 256)

/-- What a result tile holds at its column `e`, column `e'` of the row. -/
def tileAt (e' : Fin 1024) : EReal := x (ix2 r e') + Ideal.ofBits .f32 0x3F000000#32 * ∑ j : Fin 2816, a (ix2 r j) * u (ix4 0 0 j e)

/-- The first tile of the result. -/
theorem out_apply0 : k0_pay22 (F := Ideal) x a u (ix2 r e) = tileAt x a u r e ⟨e.val, by omega⟩ := by
  pointwise [k0_pay22, tileAt]

/-- The second tile of the result. -/
theorem out_apply1 : k0_pay1 (F := Ideal) x a u (ix2 r e) = tileAt x a u r e ⟨256 + e.val, by omega⟩ := by
  pointwise [k0_pay1, tileAt]

/-- The third tile of the result. -/
theorem out_apply2 : k0_pay2 (F := Ideal) x a u (ix2 r e) = tileAt x a u r e ⟨512 + e.val, by omega⟩ := by
  pointwise [k0_pay2, tileAt]

/-- The fourth tile of the result. -/
theorem out_apply3 : k0_pay3 (F := Ideal) x a u (ix2 r e) = tileAt x a u r e ⟨768 + e.val, by omega⟩ := by
  pointwise [k0_pay3, tileAt]

end

/-- A tile of the first weights, read from the whole. -/
theorem ld_in (X : FVec Ideal S1x1x1024x5632 .f32) (o : ℕ) (inb : ∀ a, (![0, 0, 0, o] : Fin 4 → ℕ) a + (![1, 1, 1024, 256] : Fin 4 → ℕ) a ≤ S1x1x1024x5632.size a) (d : Fin 1024) (x : Fin 256)
    (j : Fin 5632) (h : j.val = o + x.val) : View.ld (Val := Elt Ideal) (e' := .f32) X (Rect.unit (s := S1x1x1024x5632) ![0, 0, 0, o] ![1, 1, 1024, 256] inb) (ix4 (0 : Fin 1) (0 : Fin 1) d x) = X (ix4 0 0 d j) :=
  View.ld_unit_apply_of _ _ _ _ _ _ fun a => by
    fin_cases a
    · rfl
    · rfl
    · exact (Nat.zero_add _).symm
    · exact h

/-- A tile of the second weights, read from the whole. -/
theorem ld_out (X : FVec Ideal S1x1x2816x1024 .f32) (o : ℕ) (inb : ∀ a, (![0, 0, 0, o] : Fin 4 → ℕ) a + (![1, 1, 2816, 256] : Fin 4 → ℕ) a ≤ S1x1x2816x1024.size a) (d : Fin 2816) (x : Fin 256)
    (j : Fin 1024) (h : j.val = o + x.val) : View.ld (Val := Elt Ideal) (e' := .f32) X (Rect.unit (s := S1x1x2816x1024) ![0, 0, 0, o] ![1, 1, 2816, 256] inb) (ix4 (0 : Fin 1) (0 : Fin 1) d x) = X (ix4 0 0 d j) :=
  View.ld_unit_apply_of _ _ _ _ _ _ fun a => by
    fin_cases a
    · rfl
    · rfl
    · exact (Nat.zero_add _).symm
    · exact h

section
variable (y : FVec Ideal S512x1024 .bf16) (Y : Fin 1024 → EReal) (W : FVec Ideal S1x1x1024x5632 .f32) (r : Fin 512)

/-- A tile of activations of rows `y` is the specification's. -/
theorem act_tile (hY : ∀ d, y (ix2 r d) = Y d) (o o' : ℕ) (inb : ∀ a, (![0, 0, 0, o] : Fin 4 → ℕ) a + (![1, 1, 1024, 256] : Fin 4 → ℕ) a ≤ S1x1x1024x5632.size a)
    (inb' : ∀ a, (![0, 0, 0, o'] : Fin 4 → ℕ) a + (![1, 1, 1024, 256] : Fin 4 → ℕ) a ≤ S1x1x1024x5632.size a) (ho : o' = 2816 + o) (j : Fin 256) (J : Fin 2816) (hJ : J.val = o + j.val) :
    k0_pay7 (F := Ideal) y (View.ld (Val := Elt Ideal) (e' := .f32) W (Rect.unit (s := S1x1x1024x5632) ![0, 0, 0, o] ![1, 1, 1024, 256] inb)) (View.ld (Val := Elt Ideal) (e' := .f32) W (Rect.unit (s := S1x1x1024x5632) ![0, 0, 0, o'] ![1, 1, 1024, 256] inb')) (ix2 r j)
      = Ffn.act Y (fun d j => W (ix4 0 0 d j)) J := by
  refine (gated_apply _ _ _ _ _).trans (congrArg₂ Ffn.gated (Finset.sum_congr rfl fun d _ => congrArg₂ (· * ·) (hY d) ?_) (Finset.sum_congr rfl fun d _ => congrArg₂ (· * ·) (hY d) ?_))
  · exact ld_in W o inb d j (Ffn.lo J) hJ
  · exact ld_in W o' inb' d j (Ffn.hi J) (by show 2816 + J.val = _; omega)

end

section
variable (x : FVec Ideal S512x1024 .f32) (a : FVec Ideal S512x2816 .bf16) (g : Fin 1024 → EReal) (W : Fin 1024 → Fin 5632 → EReal) (U : FVec Ideal S1x1x2816x1024 .f32) (r : Fin 512)

/-- A result tile, with the specification's activations, is the specification's. -/
theorem out_tile (ha : ∀ j, a (ix2 r j) = Ffn.act (Ffn.normed (fun k => x (ix2 r k)) g) W j) (o : ℕ)
    (inb : ∀ a, (![0, 0, 0, o] : Fin 4 → ℕ) a + (![1, 1, 2816, 256] : Fin 4 → ℕ) a ≤ S1x1x2816x1024.size a) (e : Fin 256) (e' E : Fin 1024) (hE : E.val = o + e.val) (h' : e'.val = o + e.val) :
    tileAt x a (View.ld (Val := Elt Ideal) (e' := .f32) U (Rect.unit (s := S1x1x2816x1024) ![0, 0, 0, o] ![1, 1, 2816, 256] inb)) r e e'
      = Ffn.row (fun k => x (ix2 r k)) g W (fun j e => U (ix4 0 0 j e)) E := by
  obtain rfl : e' = E := Fin.ext (h'.trans hE.symm)
  exact congrArg (fun s : EReal => x (ix2 r e') + Ideal.ofBits .f32 0x3F000000#32 * s) (Finset.sum_congr rfl fun j _ => congrArg₂ (· * ·) (ha j) (ld_out U o inb j e e' hE))

end

end Cert.HalfIdeal.Hand
-- ==== Proof.Half.Body.lean ====
module

public import proofs.«01_k».proof.Proof.Half.Tile
public import proofs.«01_k».proof.Proof.Gen.HalfIdeal.Value
public import Idealize.ShloMosaic.Lib.Pipeline.ValueKit

@[expose] public section

set_option maxHeartbeats 4000000

noncomputable section

/-! A grid point's result block: the specification's row of each of its rows. -/

namespace Cert.HalfIdeal.Hand

open Cert.HalfIdeal Cert.HalfIdeal.Gen Idealize.ShloMosaic Idealize.ShloMosaic.TcCoe Idealize.SL.Sem

/-- An index of a matrix is its row and its column. -/
theorem col_split {n m : ℕ} (y : (⟨2, ![n, m]⟩ : Shape).Idx) : y = ix2 (y 0) (y 1) := ValueIdx.eq_ix2 y

/-- A grid point's result block at a row and a column. -/
theorem block_apply (c : Dev nD) (i : grid0.Coords) (arg1 : Memref sig .tc .vmem S512x1024 .f32) (harg1 : arg1.IsWhole) (arg2 : Memref sig .tc .vmem S1x1x1x1024 .f32) (harg2 : arg2.IsWhole) (arg3 : Memref sig .tc .vmem S1x1x1024x5632 .f32) (harg3 : arg3.IsWhole) (arg4 : Memref sig .tc .vmem S1x1x2816x1024 .f32) (harg4 : arg4.IsWhole) (arg5 : Memref sig .tc .vmem S512x1024 .f32) (harg5 : arg5.IsWhole) (arg6 : Memref sig .tc .vmem S512x2816 .bf16) (harg6 : arg6.IsWhole)
    (x0 : Vec Ideal S512x1024 .f32) (x1 : Vec Ideal S1x1x1x1024 .f32) (x2 : Vec Ideal S1x1x1024x5632 .f32) (x3 : Vec Ideal S1x1x2816x1024 .f32) (r : Fin 512) (e : Fin 1024) :
    out0_A_4 c i arg1 harg1 arg2 harg2 arg3 harg3 arg4 harg4 arg5 harg5 arg6 harg6 x0 x1 x2 x3 (ix2 r e)
      = Ffn.row (fun k => x0 (ix2 r k)) (fun k => x1 (ix4 0 0 0 k)) (fun d j => x2 (ix4 0 0 d j)) (fun j e => x3 (ix4 0 0 j e)) e := by
  frame_out
  rw [View.readCov_eq_canon_ld _ _ _ (fun y => View.cover_of_tiled_head _ _ _ (by rfl) y), View.ld_unit_zero]
  on_goal 2 => exact funext fun a => by fin_cases a <;> rfl
  have hx : k0_pay4 (F := Ideal) x0 = x0 := funext fun y => by rw [col_split y]; exact x_apply x0 _ _
  rw [hx]
  generalize hL : View.canon (Val := Elt Ideal) (s := S512x2816) (e := .bf16) _ = A
  have hA : ∀ j, A (ix2 r j) = Ffn.act (Ffn.normed (fun k => x0 (ix2 r k)) (fun k => x1 (ix4 0 0 0 k))) (fun d j => x2 (ix4 0 0 d j)) j := by
    intro j
    rw [← hL]
    canon_tiles x h
    all_goals
      obtain rfl : x 0 = r := Fin.ext h0.symm
      rw [col_split x]
      refine act_tile (k0_pay5 x0 x1) _ x2 _ (fun d => normed_apply x0 x1 _ d) _ _ _ _ rfl _ j ?_
      first | exact h1 | exact h1.trans (Nat.zero_add _).symm
  clear hL
  canon_tiles x h
  all_goals
    obtain rfl : x 0 = r := Fin.ext h0.symm
    rw [col_split x]
  · refine (out_apply3 _ _ _ _ _).trans (out_tile x0 A _ _ x3 _ hA _ _ _ _ e h1 rfl)
  · refine (out_apply2 _ _ _ _ _).trans (out_tile x0 A _ _ x3 _ hA _ _ _ _ e h1 rfl)
  · refine (out_apply1 _ _ _ _ _).trans (out_tile x0 A _ _ x3 _ hA _ _ _ _ e h1 rfl)
  · refine (out_apply0 _ _ _ _ _).trans (out_tile x0 A _ _ x3 _ hA _ _ _ _ e (h1.trans (Nat.zero_add _).symm) (Nat.zero_add _).symm)

end Cert.HalfIdeal.Hand
-- ==== Proof.Half.Value.lean ====
module

public import proofs.«01_k».proof.Proof.Half.Body
public import Idealize.ShloMosaic.Lib.StableHlo.Run
public import Idealize.ShloMosaic.Lib.Pointwise.Reshape
public import Idealize.ShloMosaic.Lib.Pipeline.ValueKit.Geometry

@[expose] public section

set_option maxHeartbeats 1000000

noncomputable section

/-! What the half layer's run leaves: the specification's rows of its arguments. -/

namespace Cert.HalfIdeal.Hand

open Cert.HalfIdeal Cert.HalfIdeal.Gen Idealize.ShloMosaic Idealize.ShloMosaic.TcCoe Idealize.SL.Sem Idealize.ShloMosaic.StableHlo

variable (m : (ℓ : Loc nD τ sig) → Buf (Elt Ideal) ℓ) (c : Dev nD)

/-- The residual rows that the call is given. -/
theorem V_x : V m c main_v1 = shapeCast S16384x1024 (m (c, Proc.devRef .tc main_arg0) : Vec Ideal S4x4096x1024 .f32) shapeCasts_S4x4096x1024_S16384x1024 := by
  unfold V
  after_results_simp
  all_goals rfl

/-- The gains that the call is given. -/
theorem V_g : V m c main_v0 = shapeCast S2x2x1x1024 (m (c, Proc.devRef .tc main_arg1) : Vec Ideal S2x2x1024 .f32) shapeCasts_S2x2x1024_S2x2x1x1024 := by
  unfold V
  after_results_simp
  all_goals rfl

/-! Where each window's block lies. -/

/-- The residual's block is the grid point's. -/
theorem place0 : ∀ t : Fin cfg0.N, win0_0.index t = ![(grid0.coords t 0).val, 0] :=
  (by decide +kernel : ∀ t : Fin grid0.N, win0_0.index t = ![(grid0.coords t 0).val, 0])
/-- The gains have one block. -/
theorem place1 : ∀ t : Fin cfg0.N, win0_1.index t = ![1, 0, 0, 0] :=
  (by decide +kernel : ∀ t : Fin grid0.N, win0_1.index t = ![1, 0, 0, 0])
/-- The first weights have one block. -/
theorem place2 : ∀ t : Fin cfg0.N, win0_2.index t = ![1, 0, 0, 0] :=
  (by decide +kernel : ∀ t : Fin grid0.N, win0_2.index t = ![1, 0, 0, 0])
/-- The second weights have one block. -/
theorem place3 : ∀ t : Fin cfg0.N, win0_3.index t = ![1, 0, 0, 0] :=
  (by decide +kernel : ∀ t : Fin grid0.N, win0_3.index t = ![1, 0, 0, 0])
/-- The result's block is the grid point's. -/
theorem place4 : ∀ t : Fin cfg0.N, win0_4.index t = ![(grid0.coords t 0).val, 0] :=
  (by decide +kernel : ∀ t : Fin grid0.N, win0_4.index t = ![(grid0.coords t 0).val, 0])

/-! The arguments by their coordinates, and a grid point's rows. -/

/-- The rows that are normed. -/
def rows (b : Fin 4) (t : Fin 4096) (d : Fin 1024) : EReal := (m (c, Proc.devRef .tc main_arg0) : Vec Ideal S4x4096x1024 .f32) (ix3 b t d)
/-- The gain. -/
def gain (d : Fin 1024) : EReal := (m (c, Proc.devRef .tc main_arg1) : Vec Ideal S2x2x1024 .f32) (ix3 1 0 d)
/-- The first weights. -/
def win (d : Fin 1024) (j : Fin 5632) : EReal := (m (c, Proc.devRef .tc main_arg2) : Vec Ideal S2x2x1024x5632 .f32) (ix4 1 0 d j)
/-- The second weights. -/
def wout (j : Fin 2816) (e : Fin 1024) : EReal := (m (c, Proc.devRef .tc main_arg3) : Vec Ideal S2x2x2816x1024 .f32) (ix4 1 0 j e)

/-- The sequence that a grid point's rows belong to. -/
def batchOf (i : grid0.Coords) : Fin 4 := ⟨(i 0).val / 8, by have : (i 0).val < 32 := (i 0).isLt; omega⟩
/-- The position of a grid point's row in its sequence. -/
def posOf (i : grid0.Coords) (r : Fin 512) : Fin 4096 := ⟨512 * ((i 0).val % 8) + r.val, by omega⟩

variable (t : Fin cfg0.N)

/-- A grid point's residual rows. -/
theorem read0 (r : Fin 512) (d : Fin 1024) : (iblk m c 0 t : Vec Ideal S512x1024 .f32) (ix2 r d) = rows m c (batchOf (grid0.coords t)) (posOf (grid0.coords t) r) d := by
  refine (congrFun (V_x m c) ((win0_0.blk t).view.emb (ix2 r d))).trans (shapeCast_apply _ _ _ (ix3 _ _ _) ?_)
  refine (rowMajor_val3 _ (4096 * 1024) 1024 rfl rfl).trans (Eq.trans ?_ (rowMajor_val2 (d := ![16384, 1024]) _ 1024 rfl).symm)
  blk_simp [place0]
  show (grid0.coords t 0).val / 8 * (4096 * 1024) + (512 * ((grid0.coords t 0).val % 8) + r.val) * 1024 + d.val = ((grid0.coords t 0).val * 512 + r.val) * 1024 + d.val
  omega

/-- A grid point's gain. -/
theorem read1 (d : Fin 1024) : (iblk m c 1 t : Vec Ideal S1x1x1x1024 .f32) (ix4 0 0 0 d) = gain m c d := by
  refine (congrFun (V_g m c) ((win0_1.blk t).view.emb (ix4 0 0 0 d))).trans (shapeCast_apply _ _ _ (ix3 _ _ _) ?_)
  refine (rowMajor_val3 _ (2 * 1024) 1024 rfl rfl).trans (Eq.trans ?_ (rowMajor_val4 (d := ![2, 2, 1, 1024]) _ (2 * 1 * 1024) (1 * 1024) 1024 rfl rfl rfl).symm)
  blk_simp [place1]
  show 1 * (2 * 1024) + 0 * 1024 + d.val = (1 + 0) * (2 * 1024) + 0 * 1024 + 0 * 1024 + d.val
  omega

/-- A grid point's first weights. -/
theorem read2 (d : Fin 1024) (j : Fin 5632) : (iblk m c 2 t : Vec Ideal S1x1x1024x5632 .f32) (ix4 0 0 d j) = win m c d j := by
  refine (congrFun (V_main_arg2 m c) ((win0_2.blk t).view.emb (ix4 0 0 d j))).trans ?_
  refine congrArg (m (c, Proc.devRef .tc main_arg2) : Vec Ideal S2x2x1024x5632 .f32) (funext fun a => Fin.ext ?_)
  fin_cases a <;> blk_simp [place2] <;> rfl

/-- A grid point's second weights. -/
theorem read3 (j : Fin 2816) (e : Fin 1024) : (iblk m c 3 t : Vec Ideal S1x1x2816x1024 .f32) (ix4 0 0 j e) = wout m c j e := by
  refine (congrFun (V_main_arg3 m c) ((win0_3.blk t).view.emb (ix4 0 0 j e))).trans ?_
  refine congrArg (m (c, Proc.devRef .tc main_arg3) : Vec Ideal S2x2x2816x1024 .f32) (funext fun a => Fin.ext ?_)
  fin_cases a <;> blk_simp [place3] <;> rfl

/-- What the half layer's run leaves in the result. -/
theorem final : (dats m 0 c).arrAt 4 cfg0.N = Ffn.laid (rows m c) (gain m c) (win m c) (wout m c) := by
  refine (dats m 0 c).arrAt_eq_of_covers 4 _ (by decide +kernel) fun t hf y => ?_
  blk_simp
  rw [after0_4]
  obtain ⟨r, e, rfl⟩ : ∃ (r : Fin 512) (e : Fin 1024), y = ix2 r e := ⟨y 0, y 1, ValueIdx.eq_ix2 y⟩
  unfold outsAt0
  refine (block_apply ..).trans ((Ffn.row_congr e (read0 m c t r) (read1 m c t) (read2 m c t) (read3 m c t)).trans (Ffn.laid_apply _ _ _ _ _ _ _ _ ?_ ?_).symm)
  · blk_simp [place4]
    show (grid0.coords t 0).val * 512 + r.val = (grid0.coords t 0).val / 8 * 4096 + (512 * ((grid0.coords t 0).val % 8) + r.val)
    omega
  · blk_simp [place4]

end Cert.HalfIdeal.Hand
-- ==== Proof.Half.Reference.lean ====
module

public import proofs.«01_k».proof.Proof.Half.Spec
public import proofs.«01_k».proof.Proof.Gen.HalfReferenceIdeal.Read

@[expose] public section

set_option maxHeartbeats 1000000

noncomputable section

/-! The reference's half layer is the specification's. -/

namespace Cert.HalfReferenceIdeal.Hand

open Cert.HalfReferenceIdeal Cert.HalfReferenceIdeal.Gen Cert.HalfReferenceIdeal.Read Idealize.ShloMosaic

variable (x0 : FVec Ideal S4x4096x1024 .f32) (x1 : FVec Ideal S2x2x1024 .f32) (x2 : FVec Ideal S2x2x1024x5632 .f32) (x3 : FVec Ideal S2x2x2816x1024 .f32)

/-- The second layer's first half: its rows. -/
def rows (b : Fin 4) (t : Fin 4096) (d : Fin 1024) : EReal := x0 (ix3 b t d)
/-- Its gain. -/
def gain (d : Fin 1024) : EReal := x1 (ix3 1 0 d)
/-- Its first weights. -/
def win (d : Fin 1024) (j : Fin 5632) : EReal := x2 (ix4 1 0 d j)
/-- Its second weights. -/
def wout (j : Fin 2816) (e : Fin 1024) : EReal := x3 (ix4 1 0 j e)

/-- The normed rows. -/
theorem normed (i : S4x4096x1024.Idx) : val_main_v14 (F := Ideal) x0 x1 i = Ffn.normed (rows x0 (i 0) (i 1)) (gain x1) (i 2) := by
  rw [val_main_v14_apply, val_main_v11_apply, val_main_v10_apply, val_main_v9_apply, val_main_v8_apply, val_main_v6_apply, val_main_v4_apply,
    val_main_v3_apply, val_main_v13_apply, val_main_v12_apply, val_main_v1_apply, val_main_v0_apply, val_main_v7_apply, val_main_v5_apply]
  have e0 : val_main_cst (F := Ideal) (Shape.Idx.first h_S_) = 0 := Ideal.ofBits_zero_f32
  rw [e0, zero_add]
  refine congrArg₂ (· * ·) (congrArg₂ (· * ·) (congrArg x0 (eq_ix3 _)) (congrArg (fun s : EReal => Ideal.rsqrt (Ideal.div s _ + _)) (Finset.sum_congr rfl fun k _ => ?_))) (congrArg x1 (funext fun a => Fin.ext ?_))
  · rw [val_main_v2_apply]
    exact congrArg₂ (· * ·) (congrArg x0 (eq_ix3 _)) (congrArg x0 (eq_ix3 _))
  · have h := (i 2).isLt
    match a with
    | ⟨0, _⟩ => rfl
    | ⟨1, _⟩ => rfl
    | ⟨2, _⟩ => first | rfl | exact Nat.mod_eq_of_lt h

/-- The first weights. -/
theorem first (k : S1024x5632.Idx) : val_main_v16 (F := Ideal) x2 k = win x2 (k 0) (k 1) := by
  rw [val_main_v16_apply, val_main_v15_apply]
  have h0 : (k 0).val < 1024 := (k 0).isLt
  have h1 : (k 1).val < 5632 := (k 1).isLt
  refine congrArg x2 (funext fun a => Fin.ext ?_)
  match a with
  | ⟨0, _⟩ => rfl
  | ⟨1, _⟩ => rfl
  | ⟨2, _⟩ => show ((k 0).val * 5632 + (k 1).val) / 5632 % 1024 = (k 0).val; omega
  | ⟨3, _⟩ => show ((k 0).val * 5632 + (k 1).val) % 5632 = (k 1).val; omega

/-- The second weights. -/
theorem second (k : S2816x1024.Idx) : val_main_v18 (F := Ideal) x3 k = wout x3 (k 0) (k 1) := by
  rw [val_main_v18_apply, val_main_v17_apply]
  have h0 : (k 0).val < 2816 := (k 0).isLt
  have h1 : (k 1).val < 1024 := (k 1).isLt
  refine congrArg x3 (funext fun a => Fin.ext ?_)
  match a with
  | ⟨0, _⟩ => rfl
  | ⟨1, _⟩ => rfl
  | ⟨2, _⟩ => show ((k 0).val * 1024 + (k 1).val) / 1024 % 2816 = (k 0).val; omega
  | ⟨3, _⟩ => show ((k 0).val * 1024 + (k 1).val) % 1024 = (k 1).val; omega

/-- The products with the first weights. -/
theorem proj (i : S4x4096x5632.Idx) : val_main_v19 (F := Ideal) x0 x1 x2 i = Ffn.proj (Ffn.normed (rows x0 (i 0) (i 1)) (gain x1)) (win x2) (i 2) := by
  rw [val_main_v19_apply]
  exact Finset.sum_congr rfl fun k _ => congrArg₂ (· * ·) (normed x0 x1 _) (first x2 _)

/-- The activations. -/
theorem act (i : S4x4096x2816.Idx) : val_main_v23 (F := Ideal) x0 x1 x2 i = Ffn.act (Ffn.normed (rows x0 (i 0) (i 1)) (gain x1)) (win x2) (i 2) := by
  rw [val_main_v23_apply, val_main_v22_apply, val_main_call0_v5_apply, val_main_call0_v4_apply, val_main_call0_v3_apply, val_main_call0_v2_apply,
    val_main_call0_v1_apply, val_main_call0_v0_apply, val_main_v20_apply, val_main_v21_apply, proj, proj]
  show _ * Ideal.div (Ideal.ofBits .f32 0x3F800000#32) (Ideal.ofBits .f32 0x3F800000#32 + Ideal.exp (-_)) * _ = _
  rw [Ideal.ofBits_one_f32]
  rfl

/-- The half layer. -/
theorem layer (i : S4x4096x1024.Idx) : val_main_v27 (F := Ideal) x0 x1 x2 x3 i = Ffn.row (rows x0 (i 0) (i 1)) (gain x1) (win x2) (wout x3) (i 2) := by
  rw [val_main_v27_apply, val_main_v26_apply, val_main_v25_apply, val_main_v24_apply]
  refine congrArg₂ (· + ·) (congrArg x0 (eq_ix3 _)) (congrArg (Ideal.ofBits .f32 0x3F000000#32 * ·) (Finset.sum_congr rfl fun k _ => ?_))
  exact congrArg₂ (· * ·) (act x0 x1 x2 _) (second x3 _)

/-- The result is the half layer of every position. -/
theorem result : val_main_v28 (F := Ideal) x0 x1 x2 x3 = Ffn.laid (rows x0) (gain x1) (win x2) (wout x3) := by
  funext k
  rw [val_main_v28_apply, layer]
  have h0 : (k 0).val < 16384 := (k 0).isLt
  have h1 : (k 1).val < 1024 := (k 1).isLt
  refine (Ffn.laid_apply _ _ _ _ _ _ _ _ ?_ ?_).symm
  · show (k 0).val = ((k 0).val * 1024 + (k 1).val) / 4194304 * 4096 + ((k 0).val * 1024 + (k 1).val) / 1024 % 4096; omega
  · show (k 1).val = ((k 0).val * 1024 + (k 1).val) % 1024; omega

end Cert.HalfReferenceIdeal.Hand
-- ==== Proof.Mix.Body.lean ====
module

public import proofs.«01_k».proof.Proof.Half.Body
public import proofs.«01_k».proof.Proof.Gen.MixIdeal.Value

@[expose] public section

set_option maxHeartbeats 4000000

noncomputable section

/-! A grid point's result block of the half layer with the mixer's projection: the specification's row of each of
its rows. The tiles are those of the half layer alone, on the rows with the projection added. -/

namespace Cert.MixIdeal.Hand

open Cert.MixIdeal Cert.MixIdeal.Gen Idealize.ShloMosaic Idealize.ShloMosaic.TcCoe Idealize.SL.Sem
open Cert.HalfIdeal.Hand (col_split act_tile out_tile out_apply0 out_apply1 out_apply2 out_apply3)

/-- The rows with the projection added. -/
theorem x_apply (x : FVec Ideal S512x1024 .f32) (o : FVec Ideal S1024x512 .bf16) (w : FVec Ideal S1024x1024 .bf16) (r : Fin 512) (d : Fin 1024) :
    k0_pay1 (F := Ideal) x o w (ix2 r d) = Ffn.mixed (fun k => x (ix2 r k)) (fun k => o (ix2 k r)) (fun k d => w (ix2 k d)) d := by
  pointwise [k0_pay1]
  rfl

/-- The normed rows. -/
theorem normed_apply (x : FVec Ideal S512x1024 .f32) (o : FVec Ideal S1024x512 .bf16) (w : FVec Ideal S1024x1024 .bf16) (g : FVec Ideal S1x1x1x1024 .f32) (r : Fin 512) (d : Fin 1024) :
    k0_pay2 (F := Ideal) x o w g (ix2 r d) = Ffn.normed (fun k => k0_pay1 (F := Ideal) x o w (ix2 r k)) (fun k => g (ix4 0 0 0 k)) d := by
  unfold k0_pay2
  generalize k0_pay1 (F := Ideal) x o w = y
  pointwise []
  rfl

/-- A grid point's result block at a row and a column. -/
theorem block_apply (c : Dev nD) (i : grid0.Coords) (arg1 : Memref sig .tc .vmem S512x1024 .f32) (harg1 : arg1.IsWhole) (arg2 : Memref sig .tc .vmem S1x1x1x1024 .f32) (harg2 : arg2.IsWhole) (arg3 : Memref sig .tc .vmem S1x1x1024x5632 .f32) (harg3 : arg3.IsWhole) (arg4 : Memref sig .tc .vmem S1x1x2816x1024 .f32) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S512x1024 .f32) (harg7 : arg7.IsWhole) (arg8 : Memref sig .tc .vmem S512x2816 .bf16) (harg8 : arg8.IsWhole)
    (x0 : Vec Ideal S512x1024 .f32) (x1 : Vec Ideal S1x1x1x1024 .f32) (x2 : Vec Ideal S1x1x1024x5632 .f32) (x3 : Vec Ideal S1x1x2816x1024 .f32) (x4 : Vec Ideal S1024x512 .bf16) (x5 : Vec Ideal S1024x1024 .bf16) (r : Fin 512) (e : Fin 1024) :
    out0_A_6 c i arg1 harg1 arg2 harg2 arg3 harg3 arg4 harg4 arg5 harg5 arg6 harg6 arg7 harg7 arg8 harg8 x0 x1 x2 x3 x4 x5 (ix2 r e)
      = Ffn.row (fun k => k0_pay1 (F := Ideal) x0 x4 x5 (ix2 r k)) (fun k => x1 (ix4 0 0 0 k)) (fun d j => x2 (ix4 0 0 d j)) (fun j e => x3 (ix4 0 0 j e)) e := by
  frame_out
  rw [View.readCov_eq_canon_ld _ _ _ (fun y => View.cover_of_tiled_head _ _ _ (by rfl) y), View.ld_unit_zero]
  on_goal 2 => exact funext fun a => by fin_cases a <;> rfl
  generalize hL : View.canon (Val := Elt Ideal) (s := S512x2816) (e := .bf16) _ = A
  have hA : ∀ j, A (ix2 r j) = Ffn.act (Ffn.normed (fun k => k0_pay1 (F := Ideal) x0 x4 x5 (ix2 r k)) (fun k => x1 (ix4 0 0 0 k))) (fun d j => x2 (ix4 0 0 d j)) j := by
    intro j
    rw [← hL]
    canon_tiles x h
    all_goals
      obtain rfl : x 0 = r := Fin.ext h0.symm
      rw [col_split x]
      refine act_tile (k0_pay2 x0 x4 x5 x1) _ x2 _ (fun d => normed_apply x0 x4 x5 x1 _ d) _ _ _ _ rfl _ j ?_
      first | exact h1 | exact h1.trans (Nat.zero_add _).symm
  clear hL
  canon_tiles x h
  all_goals
    obtain rfl : x 0 = r := Fin.ext h0.symm
    rw [col_split x]
  · exact (out_apply3 (k0_pay1 (F := Ideal) x0 x4 x5) A _ _ _).trans (out_tile (k0_pay1 (F := Ideal) x0 x4 x5) A _ _ x3 _ hA _ _ _ _ e h1 rfl)
  · exact (out_apply2 (k0_pay1 (F := Ideal) x0 x4 x5) A _ _ _).trans (out_tile (k0_pay1 (F := Ideal) x0 x4 x5) A _ _ x3 _ hA _ _ _ _ e h1 rfl)
  · exact (out_apply1 (k0_pay1 (F := Ideal) x0 x4 x5) A _ _ _).trans (out_tile (k0_pay1 (F := Ideal) x0 x4 x5) A _ _ x3 _ hA _ _ _ _ e h1 rfl)
  · exact (out_apply0 (k0_pay1 (F := Ideal) x0 x4 x5) A _ _ _).trans (out_tile (k0_pay1 (F := Ideal) x0 x4 x5) A _ _ x3 _ hA _ _ _ _ e (h1.trans (Nat.zero_add _).symm) (Nat.zero_add _).symm)

end Cert.MixIdeal.Hand
-- ==== Proof.Mix.Value.lean ====
module

public import proofs.«01_k».proof.Proof.Mix.Body
public import Idealize.ShloMosaic.Lib.StableHlo.Run
public import Idealize.ShloMosaic.Lib.Pointwise.Reshape
public import Idealize.ShloMosaic.Lib.Pipeline.ValueKit.Geometry

@[expose] public section

set_option maxHeartbeats 1000000

noncomputable section

/-! What the run of the half layer with the mixer's projection leaves: the specification's rows of its arguments. -/

namespace Cert.MixIdeal.Hand

open Cert.MixIdeal Cert.MixIdeal.Gen Idealize.ShloMosaic Idealize.ShloMosaic.TcCoe Idealize.SL.Sem Idealize.ShloMosaic.StableHlo

variable (m : (ℓ : Loc nD τ sig) → Buf (Elt Ideal) ℓ) (c : Dev nD)

/-- The residual rows that the call is given. -/
theorem V_x : V m c main_v4 = shapeCast S16384x1024 (m (c, Proc.devRef .tc main_arg0) : Vec Ideal S4x4096x1024 .f32) shapeCasts_S4x4096x1024_S16384x1024 := by
  unfold V
  after_results_simp
  all_goals rfl

/-- The gains that the call is given. -/
theorem V_g : V m c main_v0 = shapeCast S2x2x1x1024 (m (c, Proc.devRef .tc main_arg3) : Vec Ideal S2x2x1024 .f32) shapeCasts_S2x2x1024_S2x2x1x1024 := by
  unfold V
  after_results_simp
  all_goals rfl

/-- The mixer's output that the call is given, its rows as columns. -/
theorem V_o : V m c main_v3 = (truncf .bf16 (transpose S1024x16384 [1, 0] (shapeCast S16384x1024 (m (c, Proc.devRef .tc main_arg1) : Vec Ideal S4x4096x1024 .f32) shapeCasts_S4x4096x1024_S16384x1024) transposes_S16384x1024_S1024x16384_1_0) bitsLt_bf16_f32 : FVec Ideal S1024x16384 .bf16) := by
  unfold V
  after_results_simp
  all_goals rfl

/-- The mixer's weights that the call is given. -/
theorem V_w : V m c main_v6 = (truncf .bf16 (shapeCast S1024x1024 (m (c, Proc.devRef .tc main_arg2) : Vec Ideal S1x1024x1024 .f32) shapeCasts_S1x1024x1024_S1024x1024) bitsLt_bf16_f32 : FVec Ideal S1024x1024 .bf16) := by
  unfold V
  after_results_simp
  all_goals rfl

/-! Where each window's block lies. -/

/-- The residual's block is the grid point's. -/
theorem place0 : ∀ t : Fin cfg0.N, win0_0.index t = ![(grid0.coords t 0).val, 0] :=
  (by decide +kernel : ∀ t : Fin grid0.N, win0_0.index t = ![(grid0.coords t 0).val, 0])
/-- The gains have one block. -/
theorem place1 : ∀ t : Fin cfg0.N, win0_1.index t = ![1, 1, 0, 0] :=
  (by decide +kernel : ∀ t : Fin grid0.N, win0_1.index t = ![1, 1, 0, 0])
/-- The first weights have one block. -/
theorem place2 : ∀ t : Fin cfg0.N, win0_2.index t = ![1, 1, 0, 0] :=
  (by decide +kernel : ∀ t : Fin grid0.N, win0_2.index t = ![1, 1, 0, 0])
/-- The second weights have one block. -/
theorem place3 : ∀ t : Fin cfg0.N, win0_3.index t = ![1, 1, 0, 0] :=
  (by decide +kernel : ∀ t : Fin grid0.N, win0_3.index t = ![1, 1, 0, 0])
/-- The mixer's block of columns is the grid point's. -/
theorem place4 : ∀ t : Fin cfg0.N, win0_4.index t = ![0, (grid0.coords t 0).val] :=
  (by decide +kernel : ∀ t : Fin grid0.N, win0_4.index t = ![0, (grid0.coords t 0).val])
/-- The mixer's weights have one block. -/
theorem place5 : ∀ t : Fin cfg0.N, win0_5.index t = ![0, 0] :=
  (by decide +kernel : ∀ t : Fin grid0.N, win0_5.index t = ![0, 0])
/-- The result's block is the grid point's. -/
theorem place6 : ∀ t : Fin cfg0.N, win0_6.index t = ![(grid0.coords t 0).val, 0] :=
  (by decide +kernel : ∀ t : Fin grid0.N, win0_6.index t = ![(grid0.coords t 0).val, 0])

/-! The arguments by their coordinates, and a grid point's rows. -/

/-- The residual stream. -/
def resid (b : Fin 4) (t : Fin 4096) (d : Fin 1024) : EReal := (m (c, Proc.devRef .tc main_arg0) : Vec Ideal S4x4096x1024 .f32) (ix3 b t d)
/-- The mixer's output. -/
def mixer (b : Fin 4) (t : Fin 4096) (k : Fin 1024) : EReal := (m (c, Proc.devRef .tc main_arg1) : Vec Ideal S4x4096x1024 .f32) (ix3 b t k)
/-- The mixer's output weights. -/
def wmix (k d : Fin 1024) : EReal := (m (c, Proc.devRef .tc main_arg2) : Vec Ideal S1x1024x1024 .f32) (ix3 0 k d)
/-- The rows that are normed. -/
def rows (b : Fin 4) (t : Fin 4096) (d : Fin 1024) : EReal := Ffn.mixed (resid m c b t) (mixer m c b t) (wmix m c) d
/-- The gain. -/
def gain (d : Fin 1024) : EReal := (m (c, Proc.devRef .tc main_arg3) : Vec Ideal S2x2x1024 .f32) (ix3 1 1 d)
/-- The first weights. -/
def win (d : Fin 1024) (j : Fin 5632) : EReal := (m (c, Proc.devRef .tc main_arg4) : Vec Ideal S2x2x1024x5632 .f32) (ix4 1 1 d j)
/-- The second weights. -/
def wout (j : Fin 2816) (e : Fin 1024) : EReal := (m (c, Proc.devRef .tc main_arg5) : Vec Ideal S2x2x2816x1024 .f32) (ix4 1 1 j e)

/-- The sequence that a grid point's rows belong to. -/
def batchOf (i : grid0.Coords) : Fin 4 := ⟨(i 0).val / 8, by have : (i 0).val < 32 := (i 0).isLt; omega⟩
/-- The position of a grid point's row in its sequence. -/
def posOf (i : grid0.Coords) (r : Fin 512) : Fin 4096 := ⟨512 * ((i 0).val % 8) + r.val, by omega⟩

variable (t : Fin cfg0.N)

/-- A grid point's residual rows. -/
theorem read0 (r : Fin 512) (d : Fin 1024) : (iblk m c 0 t : Vec Ideal S512x1024 .f32) (ix2 r d) = resid m c (batchOf (grid0.coords t)) (posOf (grid0.coords t) r) d := by
  refine (congrFun (V_x m c) ((win0_0.blk t).view.emb (ix2 r d))).trans (shapeCast_apply _ _ _ (ix3 _ _ _) ?_)
  refine (rowMajor_val3 _ (4096 * 1024) 1024 rfl rfl).trans (Eq.trans ?_ (rowMajor_val2 (d := ![16384, 1024]) _ 1024 rfl).symm)
  blk_simp [place0]
  show (grid0.coords t 0).val / 8 * (4096 * 1024) + (512 * ((grid0.coords t 0).val % 8) + r.val) * 1024 + d.val = ((grid0.coords t 0).val * 512 + r.val) * 1024 + d.val
  omega

/-- A grid point's gain. -/
theorem read1 (d : Fin 1024) : (iblk m c 1 t : Vec Ideal S1x1x1x1024 .f32) (ix4 0 0 0 d) = gain m c d := by
  refine (congrFun (V_g m c) ((win0_1.blk t).view.emb (ix4 0 0 0 d))).trans (shapeCast_apply _ _ _ (ix3 _ _ _) ?_)
  refine (rowMajor_val3 _ (2 * 1024) 1024 rfl rfl).trans (Eq.trans ?_ (rowMajor_val4 (d := ![2, 2, 1, 1024]) _ (2 * 1 * 1024) (1 * 1024) 1024 rfl rfl rfl).symm)
  blk_simp [place1]
  show 1 * (2 * 1024) + 1 * 1024 + d.val = (1 + 0) * (2 * 1024) + (1 + 0) * 1024 + 0 * 1024 + d.val
  omega

/-- A grid point's first weights. -/
theorem read2 (d : Fin 1024) (j : Fin 5632) : (iblk m c 2 t : Vec Ideal S1x1x1024x5632 .f32) (ix4 0 0 d j) = win m c d j := by
  refine (congrFun (V_main_arg4 m c) ((win0_2.blk t).view.emb (ix4 0 0 d j))).trans ?_
  refine congrArg (m (c, Proc.devRef .tc main_arg4) : Vec Ideal S2x2x1024x5632 .f32) (funext fun a => Fin.ext ?_)
  fin_cases a <;> blk_simp [place2] <;> rfl

/-- A grid point's second weights. -/
theorem read3 (j : Fin 2816) (e : Fin 1024) : (iblk m c 3 t : Vec Ideal S1x1x2816x1024 .f32) (ix4 0 0 j e) = wout m c j e := by
  refine (congrFun (V_main_arg5 m c) ((win0_3.blk t).view.emb (ix4 0 0 j e))).trans ?_
  refine congrArg (m (c, Proc.devRef .tc main_arg5) : Vec Ideal S2x2x2816x1024 .f32) (funext fun a => Fin.ext ?_)
  fin_cases a <;> blk_simp [place3] <;> rfl

/-- A grid point's columns of the mixer's output. -/
theorem read4 (k : Fin 1024) (r : Fin 512) : (iblk m c 4 t : Vec Ideal S1024x512 .bf16) (ix2 k r) = mixer m c (batchOf (grid0.coords t)) (posOf (grid0.coords t) r) k := by
  refine (congrFun (V_o m c) ((win0_4.blk t).view.emb (ix2 k r))).trans ?_
  show transpose S1024x16384 [1, 0] (shapeCast S16384x1024 (m (c, Proc.devRef .tc main_arg1) : Vec Ideal S4x4096x1024 .f32) shapeCasts_S4x4096x1024_S16384x1024) transposes_S16384x1024_S1024x16384_1_0 ((win0_4.blk t).view.emb (ix2 k r)) = _
  have hi : (grid0.coords t 0).val < 32 := (grid0.coords t 0).isLt
  refine (transpose_apply [1, 0] _ _ _ (ix2 (⟨(grid0.coords t 0).val * 512 + r.val, by omega⟩ : Fin 16384) k) (fun a => by fin_cases a <;> blk_simp [place4] <;> rfl)).trans (shapeCast_apply _ _ _ (ix3 _ _ _) ?_)
  refine (rowMajor_val3 _ (4096 * 1024) 1024 rfl rfl).trans (Eq.trans ?_ (rowMajor_val2 (d := ![16384, 1024]) _ 1024 rfl).symm)
  show (grid0.coords t 0).val / 8 * (4096 * 1024) + (512 * ((grid0.coords t 0).val % 8) + r.val) * 1024 + k.val = ((grid0.coords t 0).val * 512 + r.val) * 1024 + k.val
  omega

/-- A grid point's weights of the mixer. -/
theorem read5 (k d : Fin 1024) : (iblk m c 5 t : Vec Ideal S1024x1024 .bf16) (ix2 k d) = wmix m c k d := by
  refine (congrFun (V_w m c) ((win0_5.blk t).view.emb (ix2 k d))).trans ?_
  show shapeCast S1024x1024 (m (c, Proc.devRef .tc main_arg2) : Vec Ideal S1x1024x1024 .f32) shapeCasts_S1x1024x1024_S1024x1024 ((win0_5.blk t).view.emb (ix2 k d)) = _
  refine shapeCast_apply _ _ _ (ix3 _ _ _) ?_
  refine (rowMajor_val3 _ (1024 * 1024) 1024 rfl rfl).trans (Eq.trans ?_ (rowMajor_val2 (d := ![1024, 1024]) _ 1024 rfl).symm)
  blk_simp [place5]
  show 0 * (1024 * 1024) + k.val * 1024 + d.val = k.val * 1024 + d.val
  omega

/-- A block's rows with the projection added. -/
theorem readX (r : Fin 512) (d : Fin 1024) : k0_pay1 (F := Ideal) (iblk m c 0 t) (iblk m c 4 t) (iblk m c 5 t) (ix2 r d) = rows m c (batchOf (grid0.coords t)) (posOf (grid0.coords t) r) d :=
  (x_apply _ _ _ r d).trans (congrArg₂ (· + ·) (read0 m c t r d) (Finset.sum_congr rfl fun k _ => congrArg₂ (· * ·) (read4 m c t k r) (read5 m c t k d)))

/-- What the run of the half layer with the mixer's projection leaves in the result. -/
theorem final : (dats m 0 c).arrAt 6 cfg0.N = Ffn.laid (rows m c) (gain m c) (win m c) (wout m c) := by
  refine (dats m 0 c).arrAt_eq_of_covers 6 _ (by decide +kernel) fun t hf y => ?_
  blk_simp
  rw [after0_6]
  obtain ⟨r, e, rfl⟩ : ∃ (r : Fin 512) (e : Fin 1024), y = ix2 r e := ⟨y 0, y 1, ValueIdx.eq_ix2 y⟩
  unfold outsAt0
  refine (block_apply ..).trans ((Ffn.row_congr e (readX m c t r) (read1 m c t) (read2 m c t) (read3 m c t)).trans (Ffn.laid_apply _ _ _ _ _ _ _ _ ?_ ?_).symm)
  · blk_simp [place6]
    show (grid0.coords t 0).val * 512 + r.val = (grid0.coords t 0).val / 8 * 4096 + (512 * ((grid0.coords t 0).val % 8) + r.val)
    omega
  · blk_simp [place6]

end Cert.MixIdeal.Hand
-- ==== Proof.Mix.Reference.lean ====
module

public import proofs.«01_k».proof.Proof.Half.Spec
public import proofs.«01_k».proof.Proof.Gen.MixReferenceIdeal.Read

@[expose] public section

set_option maxHeartbeats 1000000

noncomputable section

/-! The reference's half layer with the mixer's projection is the specification's. -/

namespace Cert.MixReferenceIdeal.Hand

open Cert.MixReferenceIdeal Cert.MixReferenceIdeal.Gen Cert.MixReferenceIdeal.Read Idealize.ShloMosaic

variable (x0 x1 : FVec Ideal S4x4096x1024 .f32) (x2 : FVec Ideal S1x1024x1024 .f32) (x3 : FVec Ideal S2x2x1024 .f32) (x4 : FVec Ideal S2x2x1024x5632 .f32) (x5 : FVec Ideal S2x2x2816x1024 .f32)

/-- The second layer's second half: its rows with the mixer's projection added. -/
def rows (b : Fin 4) (t : Fin 4096) (d : Fin 1024) : EReal := Ffn.mixed (fun d => x0 (ix3 b t d)) (fun k => x1 (ix3 b t k)) (fun k d => x2 (ix3 0 k d)) d
/-- Its gain. -/
def gain (d : Fin 1024) : EReal := x3 (ix3 1 1 d)
/-- Its first weights. -/
def win (d : Fin 1024) (j : Fin 5632) : EReal := x4 (ix4 1 1 d j)
/-- Its second weights. -/
def wout (j : Fin 2816) (e : Fin 1024) : EReal := x5 (ix4 1 1 j e)

/-- The rows with the projection added. -/
theorem mixed (i : S4x4096x1024.Idx) : val_main_v2 (F := Ideal) x0 x1 x2 i = rows x0 x1 x2 (i 0) (i 1) (i 2) := by
  rw [val_main_v2_apply, val_main_v1_apply]
  refine congrArg₂ (· + ·) (congrArg x0 (eq_ix3 _)) (Finset.sum_congr rfl fun k _ => congrArg₂ (· * ·) (congrArg x1 (eq_ix3 _)) ?_)
  rw [val_main_v0_apply]
  have hk : k.val < 1024 := k.isLt
  have h2 : (i 2).val < 1024 := (i 2).isLt
  refine congrArg x2 (funext fun a => Fin.ext ?_)
  match a with
  | ⟨0, _⟩ => rfl
  | ⟨1, _⟩ => show (k.val * 1024 + (i 2).val) / 1024 % 1024 = k.val; omega
  | ⟨2, _⟩ => show (k.val * 1024 + (i 2).val) % 1024 = (i 2).val; omega

/-- The normed rows. -/
theorem normed (i : S4x4096x1024.Idx) : val_main_v17 (F := Ideal) x0 x1 x2 x3 i = Ffn.normed (rows x0 x1 x2 (i 0) (i 1)) (gain x3) (i 2) := by
  rw [val_main_v17_apply, val_main_v14_apply, val_main_v13_apply, val_main_v12_apply, val_main_v11_apply, val_main_v9_apply, val_main_v7_apply,
    val_main_v6_apply, val_main_v16_apply, val_main_v15_apply, val_main_v4_apply, val_main_v3_apply, val_main_v10_apply, val_main_v8_apply]
  have e0 : val_main_cst (F := Ideal) (Shape.Idx.first h_S_) = 0 := Ideal.ofBits_zero_f32
  rw [e0, zero_add]
  refine congrArg₂ (· * ·) (congrArg₂ (· * ·) (mixed x0 x1 x2 i) (congrArg (fun s : EReal => Ideal.rsqrt (Ideal.div s _ + _)) (Finset.sum_congr rfl fun k _ => ?_))) (congrArg x3 (funext fun a => Fin.ext ?_))
  · rw [val_main_v5_apply]
    exact congrArg₂ (· * ·) (mixed x0 x1 x2 _) (mixed x0 x1 x2 _)
  · have h := (i 2).isLt
    match a with
    | ⟨0, _⟩ => rfl
    | ⟨1, _⟩ => rfl
    | ⟨2, _⟩ => first | rfl | exact Nat.mod_eq_of_lt h

/-- The first weights. -/
theorem first (k : S1024x5632.Idx) : val_main_v19 (F := Ideal) x4 k = win x4 (k 0) (k 1) := by
  rw [val_main_v19_apply, val_main_v18_apply]
  have h0 : (k 0).val < 1024 := (k 0).isLt
  have h1 : (k 1).val < 5632 := (k 1).isLt
  refine congrArg x4 (funext fun a => Fin.ext ?_)
  match a with
  | ⟨0, _⟩ => rfl
  | ⟨1, _⟩ => rfl
  | ⟨2, _⟩ => show ((k 0).val * 5632 + (k 1).val) / 5632 % 1024 = (k 0).val; omega
  | ⟨3, _⟩ => show ((k 0).val * 5632 + (k 1).val) % 5632 = (k 1).val; omega

/-- The second weights. -/
theorem second (k : S2816x1024.Idx) : val_main_v21 (F := Ideal) x5 k = wout x5 (k 0) (k 1) := by
  rw [val_main_v21_apply, val_main_v20_apply]
  have h0 : (k 0).val < 2816 := (k 0).isLt
  have h1 : (k 1).val < 1024 := (k 1).isLt
  refine congrArg x5 (funext fun a => Fin.ext ?_)
  match a with
  | ⟨0, _⟩ => rfl
  | ⟨1, _⟩ => rfl
  | ⟨2, _⟩ => show ((k 0).val * 1024 + (k 1).val) / 1024 % 2816 = (k 0).val; omega
  | ⟨3, _⟩ => show ((k 0).val * 1024 + (k 1).val) % 1024 = (k 1).val; omega

/-- The products with the first weights. -/
theorem proj (i : S4x4096x5632.Idx) : val_main_v22 (F := Ideal) x0 x1 x2 x3 x4 i = Ffn.proj (Ffn.normed (rows x0 x1 x2 (i 0) (i 1)) (gain x3)) (win x4) (i 2) := by
  rw [val_main_v22_apply]
  exact Finset.sum_congr rfl fun k _ => congrArg₂ (· * ·) (normed x0 x1 x2 x3 _) (first x4 _)

/-- The activations. -/
theorem act (i : S4x4096x2816.Idx) : val_main_v26 (F := Ideal) x0 x1 x2 x3 x4 i = Ffn.act (Ffn.normed (rows x0 x1 x2 (i 0) (i 1)) (gain x3)) (win x4) (i 2) := by
  rw [val_main_v26_apply, val_main_v25_apply, val_main_call0_v5_apply, val_main_call0_v4_apply, val_main_call0_v3_apply, val_main_call0_v2_apply,
    val_main_call0_v1_apply, val_main_call0_v0_apply, val_main_v23_apply, val_main_v24_apply, proj, proj]
  show _ * Ideal.div (Ideal.ofBits .f32 0x3F800000#32) (Ideal.ofBits .f32 0x3F800000#32 + Ideal.exp (-_)) * _ = _
  rw [Ideal.ofBits_one_f32]
  rfl

/-- The half layer. -/
theorem layer (i : S4x4096x1024.Idx) : val_main_v30 (F := Ideal) x0 x1 x2 x3 x4 x5 i = Ffn.row (rows x0 x1 x2 (i 0) (i 1)) (gain x3) (win x4) (wout x5) (i 2) := by
  rw [val_main_v30_apply, val_main_v29_apply, val_main_v28_apply, val_main_v27_apply]
  refine congrArg₂ (· + ·) (mixed x0 x1 x2 i) (congrArg (Ideal.ofBits .f32 0x3F000000#32 * ·) (Finset.sum_congr rfl fun k _ => ?_))
  exact congrArg₂ (· * ·) (act x0 x1 x2 x3 x4 _) (second x5 _)

/-- The result is the half layer of every position. -/
theorem result : val_main_v31 (F := Ideal) x0 x1 x2 x3 x4 x5 = Ffn.laid (rows x0 x1 x2) (gain x3) (win x4) (wout x5) := by
  funext k
  rw [val_main_v31_apply, layer]
  have h0 : (k 0).val < 16384 := (k 0).isLt
  have h1 : (k 1).val < 1024 := (k 1).isLt
  refine (Ffn.laid_apply _ _ _ _ _ _ _ _ ?_ ?_).symm
  · show (k 0).val = ((k 0).val * 1024 + (k 1).val) / 4194304 * 4096 + ((k 0).val * 1024 + (k 1).val) / 1024 % 4096; omega
  · show (k 1).val = ((k 0).val * 1024 + (k 1).val) % 1024; omega

end Cert.MixReferenceIdeal.Hand
-- ==== Proof.Proj.Spec.lean ====
module

public import proofs.«01_k».proof.Proof.Half.Spec

@[expose] public section

noncomputable section

/-! The projection of the mLSTM mixer: the normed row by the input weights, and the five arrays that its columns make. -/

namespace Cert.Mlstm

open Idealize.ShloMosaic

/-- A product of the normed row with one column of the input weights. -/
def proj (y : Fin 1024 → EReal) (W : Fin 1024 → Fin 3088 → EReal) (j : Fin 3088) : EReal := ∑ d, y d * W d j

/-- The queries: the first columns, over eight. -/
def query (y : Fin 1024 → EReal) (W : Fin 1024 → Fin 3088 → EReal) (j : Fin 512) : EReal :=
  proj y W ⟨j.val, by omega⟩ * Ideal.ofBits .f32 0x3E000000#32

/-- The keys: the next columns. -/
def key (y : Fin 1024 → EReal) (W : Fin 1024 → Fin 3088 → EReal) (j : Fin 512) : EReal := proj y W ⟨512 + j.val, by omega⟩

/-- The values: the columns after the keys. -/
def value (y : Fin 1024 → EReal) (W : Fin 1024 → Fin 3088 → EReal) (j : Fin 1024) : EReal := proj y W ⟨1024 + j.val, by omega⟩

/-- The output's gate: the last columns. -/
def outGate (y : Fin 1024 → EReal) (W : Fin 1024 → Fin 3088 → EReal) (j : Fin 1024) : EReal := proj y W ⟨2064 + j.val, by omega⟩

/-- The heads' input gates in the first rows of one half, their forget gates in the first rows of the other, zero elsewhere. -/
def gates (y : Fin 1024 → EReal) (W : Fin 1024 → Fin 3088 → EReal) (j : Fin 256) : EReal :=
  if j.val < 8 then proj y W ⟨2048 + j.val % 8, by omega⟩
  else if 128 ≤ j.val ∧ j.val < 136 then proj y W ⟨2056 + j.val % 8, by omega⟩
  else 0

/-- The sequence that a row of all positions belongs to. -/
def seqOf (n : Fin 16384) : Fin 4 := ⟨n.val / 4096, by omega⟩
/-- Its position in the sequence. -/
def posOf (n : Fin 16384) : Fin 4096 := ⟨n.val % 4096, Nat.mod_lt _ (by omega)⟩

/-- A row's values of every position, each position a row. -/
def asRows {w : ℕ} (f : Fin 4 → Fin 4096 → Fin w → EReal) : (⟨2, ![16384, w]⟩ : Shape).Idx → EReal := fun k => f (seqOf (k 0)) (posOf (k 0)) (k 1)
/-- A row's values of every position, each position a column. -/
def asCols {w : ℕ} (f : Fin 4 → Fin 4096 → Fin w → EReal) : (⟨2, ![w, 16384]⟩ : Shape).Idx → EReal := fun k => f (seqOf (k 1)) (posOf (k 1)) (k 0)

/-- The values at a position of a sequence, the position a row. -/
theorem asRows_apply {w : ℕ} (f : Fin 4 → Fin 4096 → Fin w → EReal) (k : (⟨2, ![16384, w]⟩ : Shape).Idx) (b : Fin 4) (t : Fin 4096) (e : Fin w)
    (hr : (k 0).val = b.val * 4096 + t.val) (hc : (k 1).val = e.val) : asRows f k = f b t e := by
  have hb := b.isLt
  have ht := t.isLt
  exact congr (congr (congrArg f (Fin.ext (show (k 0).val / 4096 = b.val by omega))) (Fin.ext (show (k 0).val % 4096 = t.val by omega))) (Fin.ext hc)

/-- The values at a position of a sequence, the position a column. -/
theorem asCols_apply {w : ℕ} (f : Fin 4 → Fin 4096 → Fin w → EReal) (k : (⟨2, ![w, 16384]⟩ : Shape).Idx) (b : Fin 4) (t : Fin 4096) (e : Fin w)
    (hr : (k 1).val = b.val * 4096 + t.val) (hc : (k 0).val = e.val) : asCols f k = f b t e := by
  have hb := b.isLt
  have ht := t.isLt
  exact congr (congr (congrArg f (Fin.ext (show (k 1).val / 4096 = b.val by omega))) (Fin.ext (show (k 1).val % 4096 = t.val by omega))) (Fin.ext hc)

/-- The pattern is one eighth. -/
theorem eighth : Ideal.ofBits .f32 0x3E000000#32 = (((1 : ℝ) / 8 : ℝ) : EReal) := by
  simp [Ideal.ofBits, Ideal.ieee, -EReal.coe_mul]; norm_num

/-- A factor of one eighth on every weight of a sum is one on the sum. -/
theorem sum_eighth {ι : Type} (S : Finset ι) (y w : ι → EReal) :
    ∑ d ∈ S, y d * (w d * Ideal.ofBits .f32 0x3E000000#32) = (∑ d ∈ S, y d * w d) * Ideal.ofBits .f32 0x3E000000#32 := by
  classical
  have h0 : (0 : EReal) ≤ Ideal.ofBits .f32 0x3E000000#32 := by rw [eighth]; exact EReal.coe_nonneg.mpr (by norm_num)
  have ht : Ideal.ofBits .f32 0x3E000000#32 ≠ ⊤ := by rw [eighth]; exact EReal.coe_ne_top _
  induction S using Finset.induction_on with
  | empty => simp
  | insert a S ha ih => rw [Finset.sum_insert ha, Finset.sum_insert ha, EReal.right_distrib_of_nonneg_of_ne_top h0 ht, ih, mul_assoc]

end Cert.Mlstm
-- ==== Proof.Proj.Body.lean ====
module

public import proofs.«01_k».proof.Proof.Proj.Spec
public import proofs.«01_k».proof.Proof.Gen.ProjIdeal.Value
public import Idealize.ShloMosaic.Lib.Pipeline.ValueKit

@[expose] public section

set_option maxHeartbeats 1000000

noncomputable section

/-! A grid point's five result blocks: products of its normed rows with the columns of the prepared weights. -/

namespace Cert.ProjIdeal.Hand

open Cert.ProjIdeal Cert.ProjIdeal.Gen Idealize.ShloMosaic Idealize.ShloMosaic.TcCoe Idealize.SL.Sem

/-- The normed rows. -/
theorem normed_apply (x : FVec Ideal S512x1024 .f32) (g : FVec Ideal S1x1024 .f32) (r : Fin 512) (d : Fin 1024) :
    k0_pay3 (F := Ideal) x g (ix2 r d) = Ffn.normed (fun k => x (ix2 r k)) (fun k => g (ix2 0 k)) d := by
  pointwise [k0_pay3]
  rfl

section
variable (x : FVec Ideal S512x1024 .f32) (g : FVec Ideal S1x1024 .f32) (y : FVec Ideal S512x1024 .bf16) (r : Fin 512)

/-- The queries' product. -/
theorem query_apply (w : FVec Ideal S1024x512 .bf16) (j : Fin 512) :
    k0_pay4 (F := Ideal) x g w (ix2 j r) = ∑ d : Fin 1024, k0_pay3 (F := Ideal) x g (ix2 r d) * w (ix2 d j) := by
  unfold k0_pay4
  generalize k0_pay3 (F := Ideal) x g = y
  pointwise []

/-- The keys' product. -/
theorem key_apply (w : FVec Ideal S1024x512 .bf16) (j : Fin 512) :
    k0_pay5 (F := Ideal) x g w (ix2 r j) = ∑ d : Fin 1024, k0_pay3 (F := Ideal) x g (ix2 r d) * w (ix2 d j) := by
  unfold k0_pay5
  generalize k0_pay3 (F := Ideal) x g = y
  pointwise []

/-- The values' product. -/
theorem value_apply (w : FVec Ideal S1024x1024 .bf16) (j : Fin 1024) :
    k0_pay6 (F := Ideal) x g w (ix2 j r) = ∑ d : Fin 1024, k0_pay3 (F := Ideal) x g (ix2 r d) * w (ix2 d j) := by
  unfold k0_pay6
  generalize k0_pay3 (F := Ideal) x g = y
  pointwise []

/-- The output gate's product. -/
theorem outGate_apply (w : FVec Ideal S1024x1024 .bf16) (j : Fin 1024) :
    k0_pay1 (F := Ideal) y w (ix2 j r) = ∑ d : Fin 1024, y (ix2 r d) * w (ix2 d j) := by
  pointwise [k0_pay1]

/-- The gates' product. -/
theorem gates_apply (w : FVec Ideal S1024x256 .bf16) (j : Fin 256) :
    k0_pay2 (F := Ideal) y w (ix2 j r) = ∑ d : Fin 1024, y (ix2 r d) * w (ix2 d j) := by
  pointwise [k0_pay2]

end

/-- Some columns of the prepared weights, read from the whole. -/
theorem ld_cols (X : FVec Ideal S1024x3328 .bf16) (o n : ℕ) (inb : ∀ a, (![0, o] : Fin 2 → ℕ) a + (![1024, n] : Fin 2 → ℕ) a ≤ S1024x3328.size a) (d : Fin 1024) (j : Fin n)
    (J : Fin 3328) (h : J.val = o + j.val) : View.ld (Val := Elt Ideal) (e' := .bf16) X (Rect.unit (s := S1024x3328) ![0, o] ![1024, n] inb) (ix2 d j) = X (ix2 d J) :=
  View.ld_unit_apply_of _ _ _ _ _ _ fun a => by
    fin_cases a
    · exact (Nat.zero_add _).symm
    · exact h

section
variable (x0 : Vec Ideal S512x1024 .f32) (x1 : Vec Ideal S1x1024 .f32) (x2 : Vec Ideal S1024x3328 .bf16) (r : Fin 512)

/-- A row's product with one column of the prepared weights. -/
def made (J : Fin 3328) : EReal := ∑ d : Fin 1024, Ffn.normed (fun k => x0 (ix2 r k)) (fun k => x1 (ix2 0 k)) d * x2 (ix2 d J)

/-- Two offsets of zero. -/
theorem offsets : (![0, 0] : Fin 2 → ℕ) = fun _ => 0 := funext fun a => by fin_cases a <;> rfl

/-- The rows are read whole. -/
theorem whole_x : View.ld (Val := Elt Ideal) (e' := .f32) x0 r0_0 = x0 := View.ld_unit_zero offsets _ _
/-- The gain is read whole. -/
theorem whole_g : View.ld (Val := Elt Ideal) (e' := .f32) x1 r0_1 = x1 := View.ld_unit_zero offsets _ _

/-- The queries' block. -/
theorem block_q (j : Fin 512) : out0_3 x0 x1 x2 (ix2 j r) = made x0 x1 x2 r ⟨j.val, by omega⟩ := by
  unfold out0_3
  rw [whole_x, whole_g, View.canon_unit_zero offsets]
  exact (query_apply _ _ _ _ _).trans (Finset.sum_congr rfl fun d _ => congrArg₂ (· * ·) (normed_apply _ _ _ _) (ld_cols _ _ _ _ _ _ _ (Nat.zero_add _).symm))

/-- The keys' block. -/
theorem block_k (j : Fin 512) : out0_4 x0 x1 x2 (ix2 r j) = made x0 x1 x2 r ⟨512 + j.val, by omega⟩ := by
  unfold out0_4
  rw [whole_x, whole_g, View.canon_unit_zero offsets]
  exact (key_apply _ _ _ _ _).trans (Finset.sum_congr rfl fun d _ => congrArg₂ (· * ·) (normed_apply _ _ _ _) (ld_cols _ _ _ _ _ _ _ rfl))

/-- The values' block. -/
theorem block_v (j : Fin 1024) : out0_5 x0 x1 x2 (ix2 j r) = made x0 x1 x2 r ⟨1024 + j.val, by omega⟩ := by
  unfold out0_5
  rw [whole_x, whole_g, View.canon_unit_zero offsets]
  exact (value_apply _ _ _ _ _).trans (Finset.sum_congr rfl fun d _ => congrArg₂ (· * ·) (normed_apply _ _ _ _) (ld_cols _ _ _ _ _ _ _ rfl))

/-- The output gate's block. -/
theorem block_og (j : Fin 1024) : out0_6 x0 x1 x2 (ix2 j r) = made x0 x1 x2 r ⟨2048 + j.val, by omega⟩ := by
  unfold out0_6 k0_pay7
  rw [whole_x, whole_g, View.canon_unit_zero offsets]
  exact (outGate_apply _ _ _ _).trans (Finset.sum_congr rfl fun d _ => congrArg₂ (· * ·) (normed_apply _ _ _ _) (ld_cols _ _ _ _ _ _ _ rfl))

/-- The gates' block. -/
theorem block_g (j : Fin 256) : out0_7 x0 x1 x2 (ix2 j r) = made x0 x1 x2 r ⟨3072 + j.val, by omega⟩ := by
  unfold out0_7 k0_pay7
  rw [whole_x, whole_g, View.canon_unit_zero offsets]
  exact (gates_apply _ _ _ _).trans (Finset.sum_congr rfl fun d _ => congrArg₂ (· * ·) (normed_apply _ _ _ _) (ld_cols _ _ _ _ _ _ _ rfl))

end

end Cert.ProjIdeal.Hand
-- ==== Proof.Proj.Value.lean ====
module

public import proofs.«01_k».proof.Proof.Proj.Body
public import Idealize.ShloMosaic.Lib.StableHlo.Run
public import Idealize.ShloMosaic.Lib.Claim
public import Idealize.ShloMosaic.Lib.Pointwise.Reshape
public import Idealize.ShloMosaic.Lib.Pipeline.ValueKit.Geometry

@[expose] public section

set_option maxHeartbeats 1000000

noncomputable section

/-! What the projection's run leaves: the specification's five arrays of its arguments. -/

namespace Cert.ProjIdeal.Hand

open Cert.ProjIdeal Cert.ProjIdeal.Gen Idealize.ShloMosaic Idealize.ShloMosaic.TcCoe Idealize.SL.Sem Idealize.ShloMosaic.StableHlo

/-- The weights as a matrix. -/
def flat (w : FVec Ideal S1x1024x3088 .f32) : FVec Ideal S1024x3088 .f32 := shapeCast S1024x3088 w shapeCasts_S1x1024x3088_S1024x3088

/-- The queries' weights over eight. -/
def scaled (w : FVec Ideal S1024x3088 .f32) : FVec Ideal S1024x512 .f32 :=
  mulf (extractStridedSlice S1024x512 ![0, 0] w slices_S1024x3088_S1024x512_0_0) (broadcastInDim S1024x512 ![] bcast_S_S1024x512 (constant S_ .f32 0x3E000000#32 : FVec Ideal S_ .f32))

/-- Columns of zeros. -/
def zeros : FVec Ideal S1024x120 .f32 := broadcastInDim S1024x120 ![] bcast_S_S1024x120 (constant S_ .f32 0x00000000#32 : FVec Ideal S_ .f32)

/-- The prepared weights. -/
def prepared (w : FVec Ideal S1024x3088 .f32) : FVec Ideal S1024x3328 .f32 :=
  concatenate S1024x3328 1 [⟨S1024x512, scaled w⟩, ⟨S1024x512, extractStridedSlice S1024x512 ![0, 512] w slices_S1024x3088_S1024x512_0_512⟩,
    ⟨S1024x1024, extractStridedSlice S1024x1024 ![0, 1024] w slices_S1024x3088_S1024x1024_0_1024⟩, ⟨S1024x1024, extractStridedSlice S1024x1024 ![0, 2064] w slices_S1024x3088_S1024x1024_0_2064⟩,
    ⟨S1024x8, extractStridedSlice S1024x8 ![0, 2048] w slices_S1024x3088_S1024x8_0_2048⟩, ⟨S1024x120, zeros⟩, ⟨S1024x8, extractStridedSlice S1024x8 ![0, 2056] w slices_S1024x3088_S1024x8_0_2056⟩, ⟨S1024x120, zeros⟩]
    concatenates_S1024x512_S1024x512_S1024x1024_S1024x1024_S1024x8_S1024x120_S1024x8_S1024x120_S1024x3328_d1

/-- Their entries. -/
theorem zeros_apply (i : S1024x120.Idx) : zeros i = 0 := Ideal.ofBits_zero_f32

section
variable (w : FVec Ideal S1024x3088 .f32) (d : Fin 1024)

/-- The prepared weights' first columns. -/
theorem prepared_q (j : Fin 512) : prepared w (ix2 d (⟨j.val, by omega⟩ : Fin 3328)) = w (ix2 d (⟨j.val, by omega⟩ : Fin 3088)) * Ideal.ofBits .f32 0x3E000000#32 := by
  unfold prepared
  refine (concatenate_apply_piece 1 _ _ (ix2 d (⟨j.val, by omega⟩ : Fin 3328)) 0 (by simp) S1024x512 _ rfl rfl 0 rfl (ix2 d j) ?_ ?_).trans ?_
  · intro a ha; fin_cases a
    · rfl
    · exact absurd rfl ha
  · show 0 + j.val = j.val; omega
  · refine congrArg₂ (· * ·) (extractStridedSlice_apply ![0, 0] w _ _ (ix2 d (⟨j.val, by omega⟩ : Fin 3088)) fun a => ?_) rfl
    fin_cases a
    · exact (Nat.zero_add _).symm
    · exact (Nat.zero_add _).symm

/-- Their columns of the keys. -/
theorem prepared_k (j : Fin 512) : prepared w (ix2 d (⟨512 + j.val, by omega⟩ : Fin 3328)) = w (ix2 d (⟨512 + j.val, by omega⟩ : Fin 3088)) := by
  unfold prepared
  refine (concatenate_apply_piece 1 _ _ (ix2 d (⟨512 + j.val, by omega⟩ : Fin 3328)) 1 (by simp) S1024x512 _ rfl rfl 512 (by simp) (ix2 d j) ?_ rfl).trans ?_
  · intro a ha; fin_cases a
    · rfl
    · exact absurd rfl ha
  · refine extractStridedSlice_apply ![0, 512] w _ _ (ix2 d (⟨512 + j.val, by omega⟩ : Fin 3088)) fun a => ?_
    fin_cases a
    · exact (Nat.zero_add _).symm
    · rfl

/-- Their columns of the values. -/
theorem prepared_v (j : Fin 1024) : prepared w (ix2 d (⟨1024 + j.val, by omega⟩ : Fin 3328)) = w (ix2 d (⟨1024 + j.val, by omega⟩ : Fin 3088)) := by
  unfold prepared
  refine (concatenate_apply_piece 1 _ _ (ix2 d (⟨1024 + j.val, by omega⟩ : Fin 3328)) 2 (by simp) S1024x1024 _ rfl rfl 1024 (by simp) (ix2 d j) ?_ rfl).trans ?_
  · intro a ha; fin_cases a
    · rfl
    · exact absurd rfl ha
  · refine extractStridedSlice_apply ![0, 1024] w _ _ (ix2 d (⟨1024 + j.val, by omega⟩ : Fin 3088)) fun a => ?_
    fin_cases a
    · exact (Nat.zero_add _).symm
    · rfl

/-- Their columns of the output's gate. -/
theorem prepared_og (j : Fin 1024) : prepared w (ix2 d (⟨2048 + j.val, by omega⟩ : Fin 3328)) = w (ix2 d (⟨2064 + j.val, by omega⟩ : Fin 3088)) := by
  unfold prepared
  refine (concatenate_apply_piece 1 _ _ (ix2 d (⟨2048 + j.val, by omega⟩ : Fin 3328)) 3 (by simp) S1024x1024 _ rfl rfl 2048 (by simp) (ix2 d j) ?_ rfl).trans ?_
  · intro a ha; fin_cases a
    · rfl
    · exact absurd rfl ha
  · refine extractStridedSlice_apply ![0, 2064] w _ _ (ix2 d (⟨2064 + j.val, by omega⟩ : Fin 3088)) fun a => ?_
    fin_cases a
    · exact (Nat.zero_add _).symm
    · rfl

/-- Their columns of the gates. -/
theorem prepared_g (j : Fin 256) : prepared w (ix2 d (⟨3072 + j.val, by omega⟩ : Fin 3328))
    = if j.val < 8 then w (ix2 d (⟨2048 + j.val % 8, by omega⟩ : Fin 3088))
      else if 128 ≤ j.val ∧ j.val < 136 then w (ix2 d (⟨2056 + j.val % 8, by omega⟩ : Fin 3088)) else 0 := by
  have hj := j.isLt
  unfold prepared
  by_cases h : j.val < 8
  · rw [if_pos h]
    refine (concatenate_apply_piece 1 _ _ (ix2 d (⟨3072 + j.val, by omega⟩ : Fin 3328)) 4 (by simp) S1024x8 _ rfl rfl 3072 (by simp) (ix2 d (⟨j.val, h⟩ : Fin 8)) ?_ rfl).trans ?_
    · intro a ha; fin_cases a
      · rfl
      · exact absurd rfl ha
    · refine extractStridedSlice_apply ![0, 2048] w _ _ (ix2 d (⟨2048 + j.val % 8, by omega⟩ : Fin 3088)) fun a => ?_
      fin_cases a
      · exact (Nat.zero_add _).symm
      · show 2048 + j.val % 8 = 2048 + j.val; omega
  · rw [if_neg h]
    by_cases h' : j.val < 128
    · rw [if_neg (by omega)]
      refine (concatenate_apply_piece 1 _ _ (ix2 d (⟨3072 + j.val, by omega⟩ : Fin 3328)) 5 (by simp) S1024x120 _ rfl rfl 3080 (by simp) (ix2 d (⟨j.val - 8, by omega⟩ : Fin 120)) ?_ ?_).trans (zeros_apply _)
      · intro a ha; fin_cases a
        · rfl
        · exact absurd rfl ha
      · show 3080 + (j.val - 8) = 3072 + j.val; omega
    · by_cases h'' : j.val < 136
      · rw [if_pos (by omega)]
        refine (concatenate_apply_piece 1 _ _ (ix2 d (⟨3072 + j.val, by omega⟩ : Fin 3328)) 6 (by simp) S1024x8 _ rfl rfl 3200 (by simp) (ix2 d (⟨j.val - 128, by omega⟩ : Fin 8)) ?_ ?_).trans ?_
        · intro a ha; fin_cases a
          · rfl
          · exact absurd rfl ha
        · show 3200 + (j.val - 128) = 3072 + j.val; omega
        · refine extractStridedSlice_apply ![0, 2056] w _ _ (ix2 d (⟨2056 + j.val % 8, by omega⟩ : Fin 3088)) fun a => ?_
          fin_cases a
          · exact (Nat.zero_add _).symm
          · show 2056 + j.val % 8 = 2056 + (j.val - 128); omega
      · rw [if_neg (by omega)]
        refine (concatenate_apply_piece 1 _ _ (ix2 d (⟨3072 + j.val, by omega⟩ : Fin 3328)) 7 (by simp) S1024x120 _ rfl rfl 3208 (by simp) (ix2 d (⟨j.val - 136, by omega⟩ : Fin 120)) ?_ ?_).trans (zeros_apply _)
        · intro a ha; fin_cases a
          · rfl
          · exact absurd rfl ha
        · show 3208 + (j.val - 136) = 3072 + j.val; omega

end

variable (m : (ℓ : Loc nD τ sig) → Buf (Elt Ideal) ℓ) (c : Dev nD)

/-- The rows that the call is given. -/
theorem V_x : V m c main_v0 = shapeCast S16384x1024 (m (c, Proc.devRef .tc main_arg0) : Vec Ideal S4x4096x1024 .f32) shapeCasts_S4x4096x1024_S16384x1024 := by
  unfold V
  after_results_simp
  all_goals rfl

/-- The gain that the call is given. -/
theorem V_g : V m c main_v15 = shapeCast S1x1024 (shapeCast S1024 (extractStridedSlice S1x1024 ![0, 0] (m (c, Proc.devRef .tc main_arg1) : Vec Ideal S2x1024 .f32) slices_S2x1024_S1x1024_0_0) shapeCasts_S1x1024_S1024) shapeCasts_S1024_S1x1024 := by
  unfold V
  after_results_simp
  all_goals rfl

/-- The prepared weights that the call is given. -/
theorem V_w : V m c main_v14 = (truncf .bf16 (prepared (flat (m (c, Proc.devRef .tc main_arg2) : Vec Ideal S1x1024x3088 .f32))) bitsLt_bf16_f32 : FVec Ideal S1024x3328 .bf16) := by
  unfold V
  after_results_simp
  all_goals dsimp only [Matrix.cons_val]
  after_results_loop
  unfold prepared scaled zeros flat
  rfl

/-! Where each window's block lies. -/

/-- The rows' block is the grid point's. -/
theorem place0 : ∀ t : Fin cfg0.N, win0_0.index t = ![(grid0.coords t 0).val, 0] :=
  (by decide +kernel : ∀ t : Fin grid0.N, win0_0.index t = ![(grid0.coords t 0).val, 0])
/-- The gain has one block. -/
theorem place1 : ∀ t : Fin cfg0.N, win0_1.index t = ![0, 0] :=
  (by decide +kernel : ∀ t : Fin grid0.N, win0_1.index t = ![0, 0])
/-- The prepared weights have one block. -/
theorem place2 : ∀ t : Fin cfg0.N, win0_2.index t = ![0, 0] :=
  (by decide +kernel : ∀ t : Fin grid0.N, win0_2.index t = ![0, 0])
/-- The queries' block is the grid point's. -/
theorem place3 : ∀ t : Fin cfg0.N, win0_3.index t = ![0, (grid0.coords t 0).val] :=
  (by decide +kernel : ∀ t : Fin grid0.N, win0_3.index t = ![0, (grid0.coords t 0).val])
/-- The keys' block is the grid point's. -/
theorem place4 : ∀ t : Fin cfg0.N, win0_4.index t = ![(grid0.coords t 0).val, 0] :=
  (by decide +kernel : ∀ t : Fin grid0.N, win0_4.index t = ![(grid0.coords t 0).val, 0])
/-- The values' block is the grid point's. -/
theorem place5 : ∀ t : Fin cfg0.N, win0_5.index t = ![0, (grid0.coords t 0).val] :=
  (by decide +kernel : ∀ t : Fin grid0.N, win0_5.index t = ![0, (grid0.coords t 0).val])
/-- The output gate's block is the grid point's. -/
theorem place6 : ∀ t : Fin cfg0.N, win0_6.index t = ![0, (grid0.coords t 0).val] :=
  (by decide +kernel : ∀ t : Fin grid0.N, win0_6.index t = ![0, (grid0.coords t 0).val])
/-- The gates' block is the grid point's. -/
theorem place7 : ∀ t : Fin cfg0.N, win0_7.index t = ![0, (grid0.coords t 0).val] :=
  (by decide +kernel : ∀ t : Fin grid0.N, win0_7.index t = ![0, (grid0.coords t 0).val])

/-! The arguments by their coordinates, and a grid point's rows. -/

/-- The rows that are normed. -/
def rows (b : Fin 4) (t : Fin 4096) (d : Fin 1024) : EReal := (m (c, Proc.devRef .tc main_arg0) : Vec Ideal S4x4096x1024 .f32) (ix3 b t d)
/-- The gain. -/
def gain (d : Fin 1024) : EReal := (m (c, Proc.devRef .tc main_arg1) : Vec Ideal S2x1024 .f32) (ix2 0 d)
/-- The input weights. -/
def win (d : Fin 1024) (j : Fin 3088) : EReal := (m (c, Proc.devRef .tc main_arg2) : Vec Ideal S1x1024x3088 .f32) (ix3 0 d j)
/-- The normed rows. -/
def norms (b : Fin 4) (t : Fin 4096) : Fin 1024 → EReal := Ffn.normed (rows m c b t) (gain m c)

/-- The sequence that a grid point's rows belong to. -/
def batchOf (i : grid0.Coords) : Fin 4 := ⟨(i 0).val / 8, by have : (i 0).val < 32 := (i 0).isLt; omega⟩
/-- The position of a grid point's row in its sequence. -/
def posOf (i : grid0.Coords) (r : Fin 512) : Fin 4096 := ⟨512 * ((i 0).val % 8) + r.val, by omega⟩

/-- The weights by their coordinates. -/
theorem flat_apply (d : Fin 1024) (j : Fin 3088) : flat (m (c, Proc.devRef .tc main_arg2) : Vec Ideal S1x1024x3088 .f32) (ix2 d j) = win m c d j := by
  refine shapeCast_apply _ _ _ (ix3 _ _ _) ?_
  refine (rowMajor_val3 _ (1024 * 3088) 3088 rfl rfl).trans (Eq.trans ?_ (rowMajor_val2 (d := ![1024, 3088]) _ 3088 rfl).symm)
  show 0 * (1024 * 3088) + d.val * 3088 + j.val = d.val * 3088 + j.val
  omega

variable (t : Fin cfg0.N)

/-- A grid point's rows. -/
theorem read0 (r : Fin 512) (d : Fin 1024) : (iblk m c 0 t : Vec Ideal S512x1024 .f32) (ix2 r d) = rows m c (batchOf (grid0.coords t)) (posOf (grid0.coords t) r) d := by
  refine (congrFun (V_x m c) ((win0_0.blk t).view.emb (ix2 r d))).trans (shapeCast_apply _ _ _ (ix3 _ _ _) ?_)
  refine (rowMajor_val3 _ (4096 * 1024) 1024 rfl rfl).trans (Eq.trans ?_ (rowMajor_val2 (d := ![16384, 1024]) _ 1024 rfl).symm)
  blk_simp [place0]
  show (grid0.coords t 0).val / 8 * (4096 * 1024) + (512 * ((grid0.coords t 0).val % 8) + r.val) * 1024 + d.val = ((grid0.coords t 0).val * 512 + r.val) * 1024 + d.val
  omega

/-- A grid point's gain. -/
theorem read1 (d : Fin 1024) : (iblk m c 1 t : Vec Ideal S1x1024 .f32) (ix2 (0 : Fin 1) d) = gain m c d := by
  have e : (win0_1.blk t).view.emb (ix2 (0 : Fin 1) d) = (ix2 (0 : Fin 1) d : S1x1024.Idx) := funext fun a => Fin.ext (by fin_cases a <;> blk_simp [place1] <;> rfl)
  refine (congrFun (V_g m c) ((win0_1.blk t).view.emb (ix2 (0 : Fin 1) d))).trans ((congrArg _ e).trans ?_)
  rw [shapeCast_shapeCast]
  refine extractStridedSlice_apply ![0, 0] _ _ _ (ix2 (0 : Fin 2) d) fun a => ?_
  fin_cases a
  · rfl
  · exact (Nat.zero_add _).symm

/-- A grid point's prepared weights. -/
theorem read2 (d : Fin 1024) (J : Fin 3328) : (iblk m c 2 t : Vec Ideal S1024x3328 .bf16) (ix2 d J) = prepared (flat (m (c, Proc.devRef .tc main_arg2) : Vec Ideal S1x1024x3088 .f32)) (ix2 d J) := by
  have e : (win0_2.blk t).view.emb (ix2 d J) = (ix2 d J : S1024x3328.Idx) := funext fun a => Fin.ext (by fin_cases a <;> blk_simp [place2] <;> rfl)
  exact (congrFun (V_w m c) ((win0_2.blk t).view.emb (ix2 d J))).trans (congrArg (prepared (flat (m (c, Proc.devRef .tc main_arg2) : Vec Ideal S1x1024x3088 .f32))) e)

/-- A grid point's product of a row with a column of the prepared weights. -/
theorem made_eq (r : Fin 512) (J : Fin 3328) : made (iblk m c 0 t) (iblk m c 1 t) (iblk m c 2 t) r J
    = ∑ d : Fin 1024, norms m c (batchOf (grid0.coords t)) (posOf (grid0.coords t) r) d * prepared (flat (m (c, Proc.devRef .tc main_arg2) : Vec Ideal S1x1024x3088 .f32)) (ix2 d J) := by
  unfold made norms
  rw [show (fun k => (iblk m c 0 t : Vec Ideal S512x1024 .f32) (ix2 r k)) = rows m c (batchOf (grid0.coords t)) (posOf (grid0.coords t) r) from funext (read0 m c t r),
    show (fun k => (iblk m c 1 t : Vec Ideal S1x1024 .f32) (ix2 0 k)) = gain m c from funext (read1 m c t)]
  exact Finset.sum_congr rfl fun d _ => congrArg _ (read2 m c t d J)

/-- The queries that the run leaves. -/
theorem final_q : (dats m 0 c).arrAt 3 cfg0.N = Mlstm.asCols fun b t => Mlstm.query (norms m c b t) (win m c) := by
  refine (dats m 0 c).arrAt_eq_of_covers 3 _ (by decide +kernel) fun t hf y => ?_
  blk_simp
  rw [after0_3]
  obtain ⟨j, r, rfl⟩ : ∃ (j : Fin 512) (r : Fin 512), y = ix2 j r := ⟨y 0, y 1, ValueIdx.eq_ix2 y⟩
  refine (block_q _ _ _ r j).trans ((made_eq m c t r _).trans (Eq.trans ?_ (Mlstm.asCols_apply _ _ (batchOf (grid0.coords t)) (posOf (grid0.coords t) r) j ?_ ?_).symm))
  · refine (Finset.sum_congr rfl fun d _ => congrArg _ (prepared_q _ d j)).trans ((Mlstm.sum_eighth _ _ _).trans ?_)
    exact congrArg (· * _) (Finset.sum_congr rfl fun d _ => congrArg _ (flat_apply m c d _))
  · blk_simp [place3]
    show (grid0.coords t 0).val * 512 + r.val = (grid0.coords t 0).val / 8 * 4096 + (512 * ((grid0.coords t 0).val % 8) + r.val)
    omega
  · blk_simp [place3]

/-- The keys that the run leaves. -/
theorem final_k : (dats m 0 c).arrAt 4 cfg0.N = Mlstm.asRows fun b t => Mlstm.key (norms m c b t) (win m c) := by
  refine (dats m 0 c).arrAt_eq_of_covers 4 _ (by decide +kernel) fun t hf y => ?_
  blk_simp
  rw [after0_4]
  obtain ⟨r, j, rfl⟩ : ∃ (r : Fin 512) (j : Fin 512), y = ix2 r j := ⟨y 0, y 1, ValueIdx.eq_ix2 y⟩
  refine (block_k _ _ _ r j).trans ((made_eq m c t r _).trans (Eq.trans ?_ (Mlstm.asRows_apply _ _ (batchOf (grid0.coords t)) (posOf (grid0.coords t) r) j ?_ ?_).symm))
  · exact Finset.sum_congr rfl fun d _ => congrArg _ ((prepared_k _ d j).trans (flat_apply m c d _))
  · blk_simp [place4]
    show (grid0.coords t 0).val * 512 + r.val = (grid0.coords t 0).val / 8 * 4096 + (512 * ((grid0.coords t 0).val % 8) + r.val)
    omega
  · blk_simp [place4]

/-- The values that the run leaves. -/
theorem final_v : (dats m 0 c).arrAt 5 cfg0.N = Mlstm.asCols fun b t => Mlstm.value (norms m c b t) (win m c) := by
  refine (dats m 0 c).arrAt_eq_of_covers 5 _ (by decide +kernel) fun t hf y => ?_
  blk_simp
  rw [after0_5]
  obtain ⟨j, r, rfl⟩ : ∃ (j : Fin 1024) (r : Fin 512), y = ix2 j r := ⟨y 0, y 1, ValueIdx.eq_ix2 y⟩
  refine (block_v _ _ _ r j).trans ((made_eq m c t r _).trans (Eq.trans ?_ (Mlstm.asCols_apply _ _ (batchOf (grid0.coords t)) (posOf (grid0.coords t) r) j ?_ ?_).symm))
  · exact Finset.sum_congr rfl fun d _ => congrArg _ ((prepared_v _ d j).trans (flat_apply m c d _))
  · blk_simp [place5]
    show (grid0.coords t 0).val * 512 + r.val = (grid0.coords t 0).val / 8 * 4096 + (512 * ((grid0.coords t 0).val % 8) + r.val)
    omega
  · blk_simp [place5]

/-- The output's gate that the run leaves. -/
theorem final_og : (dats m 0 c).arrAt 6 cfg0.N = Mlstm.asCols fun b t => Mlstm.outGate (norms m c b t) (win m c) := by
  refine (dats m 0 c).arrAt_eq_of_covers 6 _ (by decide +kernel) fun t hf y => ?_
  blk_simp
  rw [after0_6]
  obtain ⟨j, r, rfl⟩ : ∃ (j : Fin 1024) (r : Fin 512), y = ix2 j r := ⟨y 0, y 1, ValueIdx.eq_ix2 y⟩
  refine (block_og _ _ _ r j).trans ((made_eq m c t r _).trans (Eq.trans ?_ (Mlstm.asCols_apply _ _ (batchOf (grid0.coords t)) (posOf (grid0.coords t) r) j ?_ ?_).symm))
  · exact Finset.sum_congr rfl fun d _ => congrArg _ ((prepared_og _ d j).trans (flat_apply m c d _))
  · blk_simp [place6]
    show (grid0.coords t 0).val * 512 + r.val = (grid0.coords t 0).val / 8 * 4096 + (512 * ((grid0.coords t 0).val % 8) + r.val)
    omega
  · blk_simp [place6]

/-- A row's products with the gates' columns. -/
theorem gates_sum (y : Fin 1024 → EReal) (j : Fin 256) :
    ∑ d, y d * prepared (flat (m (c, Proc.devRef .tc main_arg2) : Vec Ideal S1x1024x3088 .f32)) (ix2 d (⟨3072 + j.val, by omega⟩ : Fin 3328)) = Mlstm.gates y (win m c) j := by
  unfold Mlstm.gates
  simp only [prepared_g]
  split
  · exact Finset.sum_congr rfl fun d _ => congrArg _ (flat_apply m c d _)
  · split
    · exact Finset.sum_congr rfl fun d _ => congrArg _ (flat_apply m c d _)
    · exact Finset.sum_eq_zero fun d _ => mul_zero _

/-- The gates that the run leaves. -/
theorem final_g : (dats m 0 c).arrAt 7 cfg0.N = Mlstm.asCols fun b t => Mlstm.gates (norms m c b t) (win m c) := by
  refine (dats m 0 c).arrAt_eq_of_covers 7 _ (by decide +kernel) fun t hf y => ?_
  blk_simp
  rw [after0_7]
  obtain ⟨j, r, rfl⟩ : ∃ (j : Fin 256) (r : Fin 512), y = ix2 j r := ⟨y 0, y 1, ValueIdx.eq_ix2 y⟩
  refine (block_g _ _ _ r j).trans ((made_eq m c t r _).trans (Eq.trans ?_ (Mlstm.asCols_apply _ _ (batchOf (grid0.coords t)) (posOf (grid0.coords t) r) j ?_ ?_).symm))
  · exact gates_sum m c _ j
  · blk_simp [place7]
    show (grid0.coords t 0).val * 512 + r.val = (grid0.coords t 0).val / 8 * 4096 + (512 * ((grid0.coords t 0).val % 8) + r.val)
    omega
  · blk_simp [place7]

end Cert.ProjIdeal.Hand
-- ==== Proof.Proj.Reference.lean ====
module

public import proofs.«01_k».proof.Proof.Proj.Spec
public import proofs.«01_k».proof.Proof.Gen.ProjReferenceIdeal.Read
public import Idealize.ShloMosaic.Lib.Pipeline.Value

@[expose] public section

set_option maxHeartbeats 1000000

noncomputable section

/-! The reference's projection is the specification's. -/

namespace Cert.ProjReferenceIdeal.Hand

open Cert.ProjReferenceIdeal Cert.ProjReferenceIdeal.Gen Cert.ProjReferenceIdeal.Read Idealize.ShloMosaic

variable (x0 : FVec Ideal S4x4096x1024 .f32) (x1 : FVec Ideal S2x1024 .f32) (x2 : FVec Ideal S1x1024x3088 .f32)

/-- The first layer's rows. -/
def rows (b : Fin 4) (t : Fin 4096) (d : Fin 1024) : EReal := x0 (ix3 b t d)
/-- Its gain. -/
def gain (d : Fin 1024) : EReal := x1 (ix2 0 d)
/-- Its input weights. -/
def win (d : Fin 1024) (j : Fin 3088) : EReal := x2 (ix3 0 d j)
/-- Its normed rows. -/
def norms (b : Fin 4) (t : Fin 4096) : Fin 1024 → EReal := Ffn.normed (rows x0 b t) (gain x1)

/-- The normed rows. -/
theorem normed (i : S4x4096x1024.Idx) : val_main_v14 (F := Ideal) x0 x1 i = norms x0 x1 (i 0) (i 1) (i 2) := by
  rw [val_main_v14_apply, val_main_v11_apply, val_main_v10_apply, val_main_v9_apply, val_main_v8_apply, val_main_v6_apply, val_main_v4_apply,
    val_main_v3_apply, val_main_v13_apply, val_main_v12_apply, val_main_v1_apply, val_main_v0_apply, val_main_v7_apply, val_main_v5_apply]
  have e0 : val_main_cst (F := Ideal) (Shape.Idx.first h_S_) = 0 := Ideal.ofBits_zero_f32
  rw [e0, zero_add]
  refine congrArg₂ (· * ·) (congrArg₂ (· * ·) (congrArg x0 (eq_ix3 _)) (congrArg (fun s : EReal => Ideal.rsqrt (Ideal.div s _ + _)) (Finset.sum_congr rfl fun k _ => ?_))) (congrArg x1 (funext fun a => Fin.ext ?_))
  · rw [val_main_v2_apply]
    exact congrArg₂ (· * ·) (congrArg x0 (eq_ix3 _)) (congrArg x0 (eq_ix3 _))
  · have h := (i 2).isLt
    match a with
    | ⟨0, _⟩ => rfl
    | ⟨1, _⟩ => first | rfl | exact Nat.mod_eq_of_lt h

/-- The input weights. -/
theorem weights (k : S1024x3088.Idx) : val_main_v15 (F := Ideal) x2 k = win x2 (k 0) (k 1) := by
  rw [val_main_v15_apply]
  have h0 : (k 0).val < 1024 := (k 0).isLt
  have h1 : (k 1).val < 3088 := (k 1).isLt
  refine congrArg x2 (funext fun a => Fin.ext ?_)
  match a with
  | ⟨0, _⟩ => rfl
  | ⟨1, _⟩ => show ((k 0).val * 3088 + (k 1).val) / 3088 % 1024 = (k 0).val; omega
  | ⟨2, _⟩ => show ((k 0).val * 3088 + (k 1).val) % 3088 = (k 1).val; omega

/-- The products with the input weights. -/
theorem proj (i : S4x4096x3088.Idx) (b : Fin 4) (t : Fin 4096) (j : Fin 3088) (hb : (i 0).val = b.val) (ht : (i 1).val = t.val) (hj : (i 2).val = j.val) :
    val_main_v16 (F := Ideal) x0 x1 x2 i = Mlstm.proj (norms x0 x1 b t) (win x2) j := by
  obtain rfl : i 0 = b := Fin.ext hb
  obtain rfl : i 1 = t := Fin.ext ht
  obtain rfl : i 2 = j := Fin.ext hj
  rw [val_main_v16_apply]
  exact Finset.sum_congr rfl fun k _ => congrArg₂ (· * ·) (normed x0 x1 _) (weights x2 _)

/-- The queries. -/
theorem queries : val_main_v29 (F := Ideal) x0 x1 x2 = Mlstm.asCols fun b t => Mlstm.query (norms x0 x1 b t) (win x2) := by
  funext k
  have h0 : (k 0).val < 512 := (k 0).isLt
  have h1 : (k 1).val < 16384 := (k 1).isLt
  rw [val_main_v29_apply, val_main_v28_apply, val_main_v27_apply, val_main_v24_apply, val_main_v17_apply, val_main_v23_apply]
  refine congrArg (· * Ideal.ofBits .f32 0x3E000000#32) (proj x0 x1 x2 _ _ _ _ ?_ ?_ ?_)
  · show ((k 1).val * 512 + (k 0).val) / 2097152 = (k 1).val / 4096; omega
  · show ((k 1).val * 512 + (k 0).val) / 512 % 4096 = (k 1).val % 4096; omega
  · show ((k 1).val * 512 + (k 0).val) % 512 = (k 0).val; omega

/-- The keys. -/
theorem keys : val_main_v31 (F := Ideal) x0 x1 x2 = Mlstm.asRows fun b t => Mlstm.key (norms x0 x1 b t) (win x2) := by
  funext k
  have h0 : (k 0).val < 16384 := (k 0).isLt
  have h1 : (k 1).val < 512 := (k 1).isLt
  rw [val_main_v31_apply, val_main_v30_apply, val_main_v18_apply]
  refine proj x0 x1 x2 _ _ _ _ ?_ ?_ ?_
  · show ((k 0).val * 512 + (k 1).val) / 2097152 = (k 0).val / 4096; omega
  · show ((k 0).val * 512 + (k 1).val) / 512 % 4096 = (k 0).val % 4096; omega
  · show 512 + ((k 0).val * 512 + (k 1).val) % 512 = 512 + (k 1).val; omega

/-- The values. -/
theorem values : val_main_v34 (F := Ideal) x0 x1 x2 = Mlstm.asCols fun b t => Mlstm.value (norms x0 x1 b t) (win x2) := by
  funext k
  have h0 : (k 0).val < 1024 := (k 0).isLt
  have h1 : (k 1).val < 16384 := (k 1).isLt
  rw [val_main_v34_apply, val_main_v33_apply, val_main_v32_apply, val_main_v19_apply]
  refine proj x0 x1 x2 _ _ _ _ ?_ ?_ ?_
  · show ((k 1).val * 1024 + (k 0).val) / 4194304 = (k 1).val / 4096; omega
  · show ((k 1).val * 1024 + (k 0).val) / 1024 % 4096 = (k 1).val % 4096; omega
  · show 1024 + ((k 1).val * 1024 + (k 0).val) % 1024 = 1024 + (k 0).val; omega

/-- The output's gate. -/
theorem outGates : val_main_v37 (F := Ideal) x0 x1 x2 = Mlstm.asCols fun b t => Mlstm.outGate (norms x0 x1 b t) (win x2) := by
  funext k
  have h0 : (k 0).val < 1024 := (k 0).isLt
  have h1 : (k 1).val < 16384 := (k 1).isLt
  rw [val_main_v37_apply, val_main_v36_apply, val_main_v35_apply, val_main_v22_apply]
  refine proj x0 x1 x2 _ _ _ _ ?_ ?_ ?_
  · show ((k 1).val * 1024 + (k 0).val) / 4194304 = (k 1).val / 4096; omega
  · show ((k 1).val * 1024 + (k 0).val) / 1024 % 4096 = (k 1).val % 4096; omega
  · show 2064 + ((k 1).val * 1024 + (k 0).val) % 1024 = 2064 + (k 0).val; omega

/-- The joined gates at a position. -/
theorem joined (b : Fin 4) (t : Fin 4096) (j : Fin 256) : val_main_v26 (F := Ideal) x0 x1 x2 (ix3 b t j) = Mlstm.gates (norms x0 x1 b t) (win x2) j := by
  have hj := j.isLt
  unfold val_main_v26 Mlstm.gates
  by_cases h : j.val < 8
  · rw [if_pos h]
    refine (concatenate_apply_piece 2 _ _ (ix3 b t j) 0 (by simp) S4x4096x8 _ rfl rfl 0 rfl (ix3 b t (⟨j.val, h⟩ : Fin 8)) ?_ ?_).trans ?_
    · intro a ha; fin_cases a
      · rfl
      · rfl
      · exact absurd rfl ha
    · show 0 + j.val = j.val; omega
    · rw [val_main_v20_apply]
      exact proj x0 x1 x2 _ _ _ _ rfl rfl (by show 2048 + j.val = 2048 + j.val % 8; omega)
  · rw [if_neg h]
    by_cases h' : j.val < 128
    · rw [if_neg (by omega)]
      refine (concatenate_apply_piece 2 _ _ (ix3 b t j) 1 (by simp) S4x4096x120 _ rfl rfl 8 (by simp) (ix3 b t (⟨j.val - 8, by omega⟩ : Fin 120)) ?_ ?_).trans ?_
      · intro a ha; fin_cases a
        · rfl
        · rfl
        · exact absurd rfl ha
      · show 8 + (j.val - 8) = j.val; omega
      · rw [val_main_v25_apply]
        exact Ideal.ofBits_zero_f32
    · by_cases h'' : j.val < 136
      · rw [if_pos (by omega)]
        refine (concatenate_apply_piece 2 _ _ (ix3 b t j) 2 (by simp) S4x4096x8 _ rfl rfl 128 (by simp) (ix3 b t (⟨j.val - 128, by omega⟩ : Fin 8)) ?_ ?_).trans ?_
        · intro a ha; fin_cases a
          · rfl
          · rfl
          · exact absurd rfl ha
        · show 128 + (j.val - 128) = j.val; omega
        · rw [val_main_v21_apply]
          exact proj x0 x1 x2 _ _ _ _ rfl rfl (by show 2056 + (j.val - 128) = 2056 + j.val % 8; omega)
      · rw [if_neg (by omega)]
        refine (concatenate_apply_piece 2 _ _ (ix3 b t j) 3 (by simp) S4x4096x120 _ rfl rfl 136 (by simp) (ix3 b t (⟨j.val - 136, by omega⟩ : Fin 120)) ?_ ?_).trans ?_
        · intro a ha; fin_cases a
          · rfl
          · rfl
          · exact absurd rfl ha
        · show 136 + (j.val - 136) = j.val; omega
        · rw [val_main_v25_apply]
          exact Ideal.ofBits_zero_f32

/-- The gates. -/
theorem gates : val_main_v39 (F := Ideal) x0 x1 x2 = Mlstm.asCols fun b t => Mlstm.gates (norms x0 x1 b t) (win x2) := by
  funext k
  have h0 : (k 0).val < 256 := (k 0).isLt
  have h1 : (k 1).val < 16384 := (k 1).isLt
  rw [val_main_v39_apply, val_main_v38_apply]
  refine Eq.trans (congrArg (val_main_v26 (F := Ideal) x0 x1 x2) (funext fun a => Fin.ext ?_)) (joined x0 x1 x2 (Mlstm.seqOf (k 1)) (Mlstm.posOf (k 1)) (k 0))
  match a with
  | ⟨0, _⟩ => show ((k 1).val * 256 + (k 0).val) / 1048576 = (k 1).val / 4096; omega
  | ⟨1, _⟩ => show ((k 1).val * 256 + (k 0).val) / 256 % 4096 = (k 1).val % 4096; omega
  | ⟨2, _⟩ => show ((k 1).val * 256 + (k 0).val) % 256 = (k 0).val; omega

end Cert.ProjReferenceIdeal.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.MixIdeal.Value
public import proofs.«01_k».proof.Proof.Gen.Mix.Frame
public import proofs.«01_k».proof.Proof.Gen.MixIdeal.Frame
public import proofs.«01_k».proof.Proof.Gen.MixReferenceIdeal.Run
public import proofs.«01_k».proof.Proof.Gen.MixReferenceIdeal.Read
public import proofs.«01_k».proof.Proof.Gen.HalfIdeal.Value
public import proofs.«01_k».proof.Proof.Gen.Half.Frame
public import proofs.«01_k».proof.Proof.Gen.HalfIdeal.Frame
public import proofs.«01_k».proof.Proof.Gen.HalfReferenceIdeal.Run
public import proofs.«01_k».proof.Proof.Gen.HalfReferenceIdeal.Read
public import proofs.«01_k».proof.Proof.Gen.ProjIdeal.Value
public import proofs.«01_k».proof.Proof.Gen.Proj.Frame
public import proofs.«01_k».proof.Proof.Gen.ProjIdeal.Frame
public import proofs.«01_k».proof.Proof.Gen.ProjReferenceIdeal.Run
public import proofs.«01_k».proof.Proof.Gen.ProjReferenceIdeal.Read
public import proofs.«01_k».proof.Proof.Kernel.Frame
public import proofs.«01_k».proof.Proof.KernelIdeal.Frame
public import proofs.«01_k».proof.Proof.KernelIdeal.Value
public import proofs.«01_k».proof.Proof.Reference.Selected
public import proofs.«01_k».proof.Proof.Half.Value
public import proofs.«01_k».proof.Proof.Half.Reference
public import proofs.«01_k».proof.Proof.Mix.Value
public import proofs.«01_k».proof.Proof.Mix.Reference
public import proofs.«01_k».proof.Proof.Proj.Value
public import proofs.«01_k».proof.Proof.Proj.Reference
public import Idealize.ShloMosaic.Lib.Quiescent
public import Idealize.ShloMosaic.Adequacy
public import Idealize.ShloMosaic.Init

@[expose] public section

noncomputable section

namespace Cert.Proof

open Idealize.ShloMosaic Idealize.SL.Sem

/-- From any memory the reference's arguments stay, and every counter ends at zero. -/
theorem reference_stays : Cert.quiescent_ReferenceIdeal (hReferenceIdeal := Cert.ReferenceIdeal.Gen.facts) := by
  exact fun m ρ _ => (θ_run Cert.ReferenceIdeal.defs _ _).mono
    (fun r h => ⟨fun c => (h c).2, sem_eq_zero_of_no_sems (by decide) r.2⟩)
    (Cert.ReferenceIdeal.Value.run m ρ)

/-- The reference's result is the specification's attention of its arguments. -/
theorem reference_value (m : (ℓ : Loc Cert.ReferenceIdeal.nD Cert.ReferenceIdeal.τ Cert.ReferenceIdeal.sig) → Buf (Elt Ideal) ℓ) (c : Dev Cert.ReferenceIdeal.nD) :
    Cert.ReferenceIdeal.Read.val_main_v187 (F := Ideal) (m ((c.tc : Thread Cert.ReferenceIdeal.nD Cert.ReferenceIdeal.τ).loc Cert.ReferenceIdeal.main_arg0)) (m (c.tc.loc Cert.ReferenceIdeal.main_arg1)) (m (c.tc.loc Cert.ReferenceIdeal.main_arg2))
        (m (c.tc.loc Cert.ReferenceIdeal.main_arg3)) (m (c.tc.loc Cert.ReferenceIdeal.main_arg4)) (m (c.tc.loc Cert.ReferenceIdeal.main_arg5)) (m (c.tc.loc Cert.ReferenceIdeal.main_arg6)) (m (c.tc.loc Cert.ReferenceIdeal.main_arg7))
      = Cert.KernelIdeal.Hand.laidOut (Cert.ReferenceIdeal.Value.argsOf (m (c.tc.loc Cert.ReferenceIdeal.main_arg0)) (m (c.tc.loc Cert.ReferenceIdeal.main_arg1)) (m (c.tc.loc Cert.ReferenceIdeal.main_arg2))
        (m (c.tc.loc Cert.ReferenceIdeal.main_arg3)) (m (c.tc.loc Cert.ReferenceIdeal.main_arg4)) (m (c.tc.loc Cert.ReferenceIdeal.main_arg5)) (m (c.tc.loc Cert.ReferenceIdeal.main_arg6)) (m (c.tc.loc Cert.ReferenceIdeal.main_arg7))) := by
  funext k
  have h0 : (k 0).val < 1024 := (k 0).isLt
  have h1 : (k 1).val < 16384 := (k 1).isLt
  refine Cert.ReferenceIdeal.Value.result _ _ _ _ _ _ _ _ k _ _ _ _ _ ?_ ?_
  · show (k 0).val = ((k 0).val / 256 * 4 + (k 0).val / 64 % 4) * 64 + (k 0).val % 64
    omega
  · show (k 1).val = (k 1).val / 4096 * 4096 + (k 1).val % 4096
    omega

/-- The kernel and the reference, of the same arguments, leave the same result. -/
theorem same_result : Cert.algebraic_KernelIdeal_ReferenceIdeal (hKernelIdeal := Cert.KernelIdeal.Gen.facts) (hReferenceIdeal := Cert.ReferenceIdeal.Gen.facts) := by
  intro m ρ m' ρ' _ same
  refine ⟨fun c => Cert.KernelIdeal.Hand.laidOut (Cert.KernelIdeal.Hand.given m c), (θ_run Cert.KernelIdeal.defs _ _).mono (fun r h c => ⟨h.1 c, h.2 c⟩) (θ_run_and (Cert.KernelIdeal.Hand.run_value m ρ) (Cert.KernelIdeal.Hand.args_stay m ρ)),
    (θ_run Cert.ReferenceIdeal.defs _ _).mono (fun r h c => ⟨(h c).1.trans ((Cert.ReferenceIdeal.Read.val_main_v187_eq (Idealize.ShloMosaic.StableHlo.launchContents m' c)).trans ((reference_value m' c).trans ?_)), (h c).2⟩)
      (Cert.ReferenceIdeal.Value.run m' ρ')⟩
  obtain ⟨e0, e1, e2, e3, e4, e5, e6, e7⟩ := same c
  rw [e0, e1, e2, e3, e4, e5, e6, e7]
  rfl

/-- The second half layer, with the mixer's projection: from any memory the reference's arguments stay, and every counter ends at zero. -/
theorem mix_reference_stays : Cert.quiescent_MixReferenceIdeal (hMixReferenceIdeal := Cert.MixReferenceIdeal.Gen.facts) :=
  fun m ρ _ => (θ_run Cert.MixReferenceIdeal.defs _ _).mono (fun r h => ⟨fun c => (h c).2, sem_eq_zero_of_no_sems (by decide) r.2⟩) (Cert.MixReferenceIdeal.Value.run m ρ)

/-- The second half layer, with the mixer's projection: the kernel and the reference, of the same arguments, leave the same result. -/
theorem mix_same_result : Cert.algebraic_MixIdeal_MixReferenceIdeal (hMixIdeal := Cert.MixIdeal.Gen.facts) (hMixReferenceIdeal := Cert.MixReferenceIdeal.Gen.facts) := by
  intro m ρ m' ρ' _ same
  refine ⟨fun c => Cert.Ffn.laid (Cert.MixIdeal.Hand.rows m c) (Cert.MixIdeal.Hand.gain m c) (Cert.MixIdeal.Hand.win m c) (Cert.MixIdeal.Hand.wout m c),
    (θ_run Cert.MixIdeal.defs _ _).mono (fun r h c => ⟨(h c).1.trans (Cert.MixIdeal.Hand.final m c), (h c).2⟩) (Cert.MixIdeal.Value.run_blocks m ρ),
    (θ_run Cert.MixReferenceIdeal.defs _ _).mono (fun r h c => ⟨(h c).1.trans ((Cert.MixReferenceIdeal.Read.val_main_v31_eq m' c).trans ((Cert.MixReferenceIdeal.Hand.result _ _ _ _ _ _).trans ?_)), (h c).2⟩)
      (Cert.MixReferenceIdeal.Value.run m' ρ')⟩
  obtain ⟨e0, e1, e2, e3, e4, e5⟩ := same c
  unfold Cert.MixIdeal.Hand.rows Cert.MixIdeal.Hand.gain Cert.MixIdeal.Hand.win Cert.MixIdeal.Hand.wout Cert.MixIdeal.Hand.resid Cert.MixIdeal.Hand.mixer Cert.MixIdeal.Hand.wmix
  rw [e0, e1, e2, e3, e4, e5]
  rfl

/-- The first half layer: from any memory the reference's arguments stay, and every counter ends at zero. -/
theorem half_reference_stays : Cert.quiescent_HalfReferenceIdeal (hHalfReferenceIdeal := Cert.HalfReferenceIdeal.Gen.facts) :=
  fun m ρ _ => (θ_run Cert.HalfReferenceIdeal.defs _ _).mono (fun r h => ⟨fun c => (h c).2, sem_eq_zero_of_no_sems (by decide) r.2⟩) (Cert.HalfReferenceIdeal.Value.run m ρ)

/-- The first half layer: the kernel and the reference, of the same arguments, leave the same result. -/
theorem half_same_result : Cert.algebraic_HalfIdeal_HalfReferenceIdeal (hHalfIdeal := Cert.HalfIdeal.Gen.facts) (hHalfReferenceIdeal := Cert.HalfReferenceIdeal.Gen.facts) := by
  intro m ρ m' ρ' _ same
  refine ⟨fun c => Cert.Ffn.laid (Cert.HalfIdeal.Hand.rows m c) (Cert.HalfIdeal.Hand.gain m c) (Cert.HalfIdeal.Hand.win m c) (Cert.HalfIdeal.Hand.wout m c),
    (θ_run Cert.HalfIdeal.defs _ _).mono (fun r h c => ⟨(h c).1.trans (Cert.HalfIdeal.Hand.final m c), (h c).2⟩) (Cert.HalfIdeal.Value.run_blocks m ρ),
    (θ_run Cert.HalfReferenceIdeal.defs _ _).mono (fun r h c => ⟨(h c).1.trans ((Cert.HalfReferenceIdeal.Read.val_main_v28_eq m' c).trans ((Cert.HalfReferenceIdeal.Hand.result _ _ _ _).trans ?_)), (h c).2⟩)
      (Cert.HalfReferenceIdeal.Value.run m' ρ')⟩
  obtain ⟨e0, e1, e2, e3⟩ := same c
  unfold Cert.HalfIdeal.Hand.rows Cert.HalfIdeal.Hand.gain Cert.HalfIdeal.Hand.win Cert.HalfIdeal.Hand.wout
  rw [e0, e1, e2, e3]
  rfl

/-- The mLSTM mixer's projection: from any memory the reference's arguments stay, and every counter ends at zero. -/
theorem proj_reference_stays : Cert.quiescent_ProjReferenceIdeal (hProjReferenceIdeal := Cert.ProjReferenceIdeal.Gen.facts) :=
  fun m ρ _ => (θ_run Cert.ProjReferenceIdeal.defs _ _).mono (fun r h => ⟨fun c => (h c).2.2.2.2.2, sem_eq_zero_of_no_sems (by decide) r.2⟩) (Cert.ProjReferenceIdeal.Value.run m ρ)

/-- The mLSTM mixer's projection: of the same arguments the kernel and the reference have the same normed rows and weights. -/
theorem proj_same_arguments (m : (ℓ : Loc Cert.ProjIdeal.nD Cert.ProjIdeal.τ Cert.ProjIdeal.sig) → Buf (Elt Ideal) ℓ)
    (m' : (ℓ : Loc Cert.ProjReferenceIdeal.nD Cert.ProjReferenceIdeal.τ Cert.ProjReferenceIdeal.sig) → Buf (Elt Ideal) ℓ) (c : Dev Cert.ProjIdeal.nD)
    (e0 : m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0))
    (e1 : m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1))
    (e2 : m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)) :
    Cert.ProjReferenceIdeal.Hand.norms (m' (c.tc.loc Cert.ProjReferenceIdeal.main_arg0)) (m' (c.tc.loc Cert.ProjReferenceIdeal.main_arg1)) = Cert.ProjIdeal.Hand.norms m c
      ∧ Cert.ProjReferenceIdeal.Hand.win (m' (c.tc.loc Cert.ProjReferenceIdeal.main_arg2)) = Cert.ProjIdeal.Hand.win m c := by
  unfold Cert.ProjIdeal.Hand.norms Cert.ProjIdeal.Hand.rows Cert.ProjIdeal.Hand.gain Cert.ProjIdeal.Hand.win
  rw [e0, e1, e2]
  exact ⟨rfl, rfl⟩

/-- The mLSTM mixer's projection: the kernel and the reference, of the same arguments, leave the same five results. -/
theorem proj_same_result : Cert.algebraic_ProjIdeal_ProjReferenceIdeal (hProjIdeal := Cert.ProjIdeal.Gen.facts) (hProjReferenceIdeal := Cert.ProjReferenceIdeal.Gen.facts) := by
  intro m ρ m' ρ' _ same
  refine ⟨fun c => Cert.Mlstm.asCols fun b t => Cert.Mlstm.query (Cert.ProjIdeal.Hand.norms m c b t) (Cert.ProjIdeal.Hand.win m c),
    fun c => Cert.Mlstm.asRows fun b t => Cert.Mlstm.key (Cert.ProjIdeal.Hand.norms m c b t) (Cert.ProjIdeal.Hand.win m c),
    fun c => Cert.Mlstm.asCols fun b t => Cert.Mlstm.value (Cert.ProjIdeal.Hand.norms m c b t) (Cert.ProjIdeal.Hand.win m c),
    fun c => Cert.Mlstm.asCols fun b t => Cert.Mlstm.outGate (Cert.ProjIdeal.Hand.norms m c b t) (Cert.ProjIdeal.Hand.win m c),
    fun c => Cert.Mlstm.asCols fun b t => Cert.Mlstm.gates (Cert.ProjIdeal.Hand.norms m c b t) (Cert.ProjIdeal.Hand.win m c),
    (θ_run Cert.ProjIdeal.defs _ _).mono (fun r h c => ⟨(h c).1.trans (Cert.ProjIdeal.Hand.final_q m c), (h c).2.1.trans (Cert.ProjIdeal.Hand.final_k m c), (h c).2.2.1.trans (Cert.ProjIdeal.Hand.final_v m c),
      (h c).2.2.2.1.trans (Cert.ProjIdeal.Hand.final_og m c), (h c).2.2.2.2.1.trans (Cert.ProjIdeal.Hand.final_g m c), (h c).2.2.2.2.2⟩) (Cert.ProjIdeal.Value.run_blocks m ρ),
    (θ_run Cert.ProjReferenceIdeal.defs _ _).mono (fun r h c => ?_) (Cert.ProjReferenceIdeal.Value.run m' ρ')⟩
  obtain ⟨h1, h2, h3, h4, h5, h6⟩ := h c
  obtain ⟨e0, e1, e2⟩ := same c
  obtain ⟨en, ew⟩ := proj_same_arguments m m' c e0 e1 e2
  refine ⟨h1.trans ((Cert.ProjReferenceIdeal.Read.val_main_v29_eq _ _ _).trans ((Cert.ProjReferenceIdeal.Hand.queries _ _ _).trans ?_)),
    h2.trans ((Cert.ProjReferenceIdeal.Read.val_main_v31_eq _ _ _).trans ((Cert.ProjReferenceIdeal.Hand.keys _ _ _).trans ?_)),
    h3.trans ((Cert.ProjReferenceIdeal.Read.val_main_v34_eq _ _ _).trans ((Cert.ProjReferenceIdeal.Hand.values _ _ _).trans ?_)),
    h4.trans ((Cert.ProjReferenceIdeal.Read.val_main_v37_eq _ _ _).trans ((Cert.ProjReferenceIdeal.Hand.outGates _ _ _).trans ?_)),
    h5.trans ((Cert.ProjReferenceIdeal.Read.val_main_v39_eq _ _ _).trans ((Cert.ProjReferenceIdeal.Hand.gates _ _ _).trans ?_)), h6⟩
  all_goals rw [en, ew]

theorem claim : Cert.Claim := ⟨Cert.Kernel.Gen.facts, Cert.KernelIdeal.Gen.facts, Cert.ReferenceIdeal.Gen.facts,
  Cert.Mix.Gen.facts, Cert.MixIdeal.Gen.facts, Cert.MixReferenceIdeal.Gen.facts, Cert.Half.Gen.facts, Cert.HalfIdeal.Gen.facts, Cert.HalfReferenceIdeal.Gen.facts,
  Cert.Proj.Gen.facts, Cert.ProjIdeal.Gen.facts, Cert.ProjReferenceIdeal.Gen.facts,
  fun m ρ _ => Cert.Kernel.Hand.stays m ρ,
  fun m ρ _ => Cert.KernelIdeal.Hand.stays m ρ,
  reference_stays,
  fun m ρ _ => Cert.Mix.Gen.frame m ρ,
  fun m ρ _ => Cert.MixIdeal.Gen.frame m ρ,
  mix_reference_stays,
  fun m ρ _ => Cert.Half.Gen.frame m ρ,
  fun m ρ _ => Cert.HalfIdeal.Gen.frame m ρ,
  half_reference_stays,
  fun m ρ _ => Cert.Proj.Gen.frame m ρ,
  fun m ρ _ => Cert.ProjIdeal.Gen.frame m ρ,
  proj_reference_stays,
  IdealRules.named_const.statement Cert.KernelIdeal.κ "mask" .f32 0xF149F2CA#32 ⊥ rfl,
  same_result,
  trivial,
  mix_same_result,
  trivial,
  half_same_result,
  trivial,
  proj_same_result⟩

end Cert.Proof

end
